-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_all_finite2 [hPre_all_finite2 : Cert.Pre_all_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_all_finite2 [hPre_all_finite2 : Cert.Pre_all_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_all_finite8 [hPre_all_finite8 : Cert.Pre_all_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_all_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_all_finite8 [hPre_all_finite8 : Cert.Pre_all_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_all_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_all_finite10 [hPre_all_finite10 : Cert.Pre_all_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_all_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_all_finite10 [hPre_all_finite10 : Cert.Pre_all_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_all_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_all_finite12 [hPre_all_finite12 : Cert.Pre_all_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_all_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_all_finite12 [hPre_all_finite12 : Cert.Pre_all_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_all_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_all_finite14 [hPre_all_finite14 : Cert.Pre_all_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_all_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_all_finite14 [hPre_all_finite14 : Cert.Pre_all_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_all_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_all_finite2 [hKernel2Ideal : Cert.Kernel2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_all_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_all_finite2 [hReference2Ideal : Cert.Reference2Ideal.Facts] [hPre_all_finite2 : Cert.Pre_all_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_all_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_all_finite8 [hKernel8Ideal : Cert.Kernel8Ideal.Facts] [hPre_all_finite8 : Cert.Pre_all_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_all_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_all_finite8 [hReference8Ideal : Cert.Reference8Ideal.Facts] [hPre_all_finite8 : Cert.Pre_all_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_all_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel10Ideal_pre_all_finite10 [hKernel10Ideal : Cert.Kernel10Ideal.Facts] [hPre_all_finite10 : Cert.Pre_all_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_all_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_all_finite10 [hReference10Ideal : Cert.Reference10Ideal.Facts] [hPre_all_finite10 : Cert.Pre_all_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_all_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_all_finite12 [hKernel12Ideal : Cert.Kernel12Ideal.Facts] [hPre_all_finite12 : Cert.Pre_all_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_all_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_all_finite12 [hReference12Ideal : Cert.Reference12Ideal.Facts] [hPre_all_finite12 : Cert.Pre_all_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_all_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Kernel14Ideal_pre_all_finite14 [hKernel14Ideal : Cert.Kernel14Ideal.Facts] [hPre_all_finite14 : Cert.Pre_all_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_all_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_all_finite14 [hReference14Ideal : Cert.Reference14Ideal.Facts] [hPre_all_finite14 : Cert.Pre_all_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_all_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)) (v3 : (c : Dev Cert.KernelIdeal.nD) → Buf (Elt Ideal) ((c.tc : Thread Cert.KernelIdeal.nD Cert.KernelIdeal.τ).loc Cert.KernelIdeal.main_v37_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_v37_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_v118) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_all_finite2 [hKernel2Ideal : Cert.Kernel2Ideal.Facts] [hReference2Ideal : Cert.Reference2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_all_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_v48) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v86) = v0 c
          ∧ r.2.mem ((c.tc : Thread Cert.Reference5Ideal.nD Cert.Reference5Ideal.τ).loc Cert.Reference5Ideal.main_v88) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v51) = v0 c
          ∧ r.2.mem ((c.tc : Thread Cert.Reference7Ideal.nD Cert.Reference7Ideal.τ).loc Cert.Reference7Ideal.main_v52) = v1 c
          ∧ r.2.mem ((c.tc : Thread Cert.Reference7Ideal.nD Cert.Reference7Ideal.τ).loc Cert.Reference7Ideal.main_v53) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_all_finite8 [hKernel8Ideal : Cert.Kernel8Ideal.Facts] [hReference8Ideal : Cert.Reference8Ideal.Facts] [hPre_all_finite8 : Cert.Pre_all_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_all_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v40) = v0 c
          ∧ r.2.mem ((c.tc : Thread Cert.Reference8Ideal.nD Cert.Reference8Ideal.τ).loc Cert.Reference8Ideal.main_v41) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal_pre_all_finite10 [hKernel10Ideal : Cert.Kernel10Ideal.Facts] [hReference10Ideal : Cert.Reference10Ideal.Facts] [hPre_all_finite10 : Cert.Pre_all_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_all_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v40) = v0 c
          ∧ r.2.mem ((c.tc : Thread Cert.Reference10Ideal.nD Cert.Reference10Ideal.τ).loc Cert.Reference10Ideal.main_v41) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal_pre_all_finite12 [hKernel12Ideal : Cert.Kernel12Ideal.Facts] [hReference12Ideal : Cert.Reference12Ideal.Facts] [hPre_all_finite12 : Cert.Pre_all_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_all_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v40) = v0 c
          ∧ r.2.mem ((c.tc : Thread Cert.Reference12Ideal.nD Cert.Reference12Ideal.τ).loc Cert.Reference12Ideal.main_v41) = v1 c
          ∧ r.2.mem ((c.tc : Thread Cert.Reference12Ideal.nD Cert.Reference12Ideal.τ).loc Cert.Reference12Ideal.main_v42) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal_pre_all_finite14 [hKernel14Ideal : Cert.Kernel14Ideal.Facts] [hReference14Ideal : Cert.Reference14Ideal.Facts] [hPre_all_finite14 : Cert.Pre_all_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_all_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v39) = v0 c
          ∧ r.2.mem ((c.tc : Thread Cert.Reference14Ideal.nD Cert.Reference14Ideal.τ).loc Cert.Reference14Ideal.main_v40) = v1 c
          ∧ r.2.mem ((c.tc : Thread Cert.Reference14Ideal.nD Cert.Reference14Ideal.τ).loc Cert.Reference14Ideal.main_v41) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v16) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v16) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v2_0)) (v1 : (c : Dev Cert.Kernel18Ideal.nD) → Buf (Elt Ideal) ((c.tc : Thread Cert.Kernel18Ideal.nD Cert.Kernel18Ideal.τ).loc Cert.Kernel18Ideal.main_v2_1)) (v2 : (c : Dev Cert.Kernel18Ideal.nD) → Buf (Elt Ideal) ((c.tc : Thread Cert.Kernel18Ideal.nD Cert.Kernel18Ideal.τ).loc Cert.Kernel18Ideal.main_v2_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2_0) = v0 c
          ∧ r.2.mem ((c.tc : Thread Cert.Kernel18Ideal.nD Cert.Kernel18Ideal.τ).loc Cert.Kernel18Ideal.main_v2_1) = v1 c
          ∧ r.2.mem ((c.tc : Thread Cert.Kernel18Ideal.nD Cert.Kernel18Ideal.τ).loc Cert.Kernel18Ideal.main_v2_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v15) = v0 c
          ∧ r.2.mem ((c.tc : Thread Cert.Reference18Ideal.nD Cert.Reference18Ideal.τ).loc Cert.Reference18Ideal.main_v16) = v1 c
          ∧ r.2.mem ((c.tc : Thread Cert.Reference18Ideal.nD Cert.Reference18Ideal.τ).loc Cert.Reference18Ideal.main_v51) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v3_0)) (v1 : (c : Dev Cert.Kernel19Ideal.nD) → Buf (Elt Ideal) ((c.tc : Thread Cert.Kernel19Ideal.nD Cert.Kernel19Ideal.τ).loc Cert.Kernel19Ideal.main_v3_1)) (v2 : (c : Dev Cert.Kernel19Ideal.nD) → Buf (Elt Ideal) ((c.tc : Thread Cert.Kernel19Ideal.nD Cert.Kernel19Ideal.τ).loc Cert.Kernel19Ideal.main_v3_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_v3_1) = v1 c
          ∧ r.2.mem ((c.tc : Thread Cert.Kernel19Ideal.nD Cert.Kernel19Ideal.τ).loc Cert.Kernel19Ideal.main_v3_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v14) = v0 c
          ∧ r.2.mem ((c.tc : Thread Cert.Reference19Ideal.nD Cert.Reference19Ideal.τ).loc Cert.Reference19Ideal.main_v15) = v1 c
          ∧ r.2.mem ((c.tc : Thread Cert.Reference19Ideal.nD Cert.Reference19Ideal.τ).loc Cert.Reference19Ideal.main_v49) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_all_finite : Cert.Pre_all_finite.Facts) (hPre_all_finite2 : Cert.Pre_all_finite2.Facts) (hPre_all_finite8 : Cert.Pre_all_finite8.Facts) (hPre_all_finite10 : Cert.Pre_all_finite10.Facts) (hPre_all_finite12 : Cert.Pre_all_finite12.Facts) (hPre_all_finite14 : Cert.Pre_all_finite14.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Kernel2Ideal_pre_all_finite2 (hKernel2Ideal := hKernel2Ideal) (hPre_all_finite2 := hPre_all_finite2)
    ∧ quiescent_Reference2Ideal (hReference2Ideal := hReference2Ideal)
    ∧ quiescent_Reference2Ideal_pre_all_finite2 (hReference2Ideal := hReference2Ideal) (hPre_all_finite2 := hPre_all_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_all_finite8 (hKernel8Ideal := hKernel8Ideal) (hPre_all_finite8 := hPre_all_finite8)
    ∧ quiescent_Reference8Ideal (hReference8Ideal := hReference8Ideal)
    ∧ quiescent_Reference8Ideal_pre_all_finite8 (hReference8Ideal := hReference8Ideal) (hPre_all_finite8 := hPre_all_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_all_finite10 (hKernel10Ideal := hKernel10Ideal) (hPre_all_finite10 := hPre_all_finite10)
    ∧ quiescent_Reference10Ideal (hReference10Ideal := hReference10Ideal)
    ∧ quiescent_Reference10Ideal_pre_all_finite10 (hReference10Ideal := hReference10Ideal) (hPre_all_finite10 := hPre_all_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_all_finite12 (hKernel12Ideal := hKernel12Ideal) (hPre_all_finite12 := hPre_all_finite12)
    ∧ quiescent_Reference12Ideal (hReference12Ideal := hReference12Ideal)
    ∧ quiescent_Reference12Ideal_pre_all_finite12 (hReference12Ideal := hReference12Ideal) (hPre_all_finite12 := hPre_all_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_all_finite14 (hKernel14Ideal := hKernel14Ideal) (hPre_all_finite14 := hPre_all_finite14)
    ∧ quiescent_Reference14Ideal (hReference14Ideal := hReference14Ideal)
    ∧ quiescent_Reference14Ideal_pre_all_finite14 (hReference14Ideal := hReference14Ideal) (hPre_all_finite14 := hPre_all_finite14)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal_pre_all_finite2 (hKernel2Ideal := hKernel2Ideal) (hReference2Ideal := hReference2Ideal) (hPre_all_finite2 := hPre_all_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_all_finite8 (hKernel8Ideal := hKernel8Ideal) (hReference8Ideal := hReference8Ideal) (hPre_all_finite8 := hPre_all_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_all_finite10 (hKernel10Ideal := hKernel10Ideal) (hReference10Ideal := hReference10Ideal) (hPre_all_finite10 := hPre_all_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_all_finite12 (hKernel12Ideal := hKernel12Ideal) (hReference12Ideal := hReference12Ideal) (hPre_all_finite12 := hPre_all_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_all_finite14 (hKernel14Ideal := hKernel14Ideal) (hReference14Ideal := hReference14Ideal) (hPre_all_finite14 := hPre_all_finite14)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_all_finite.lean ====
abbrev S2x4096x2816 : Shape := ⟨3, ![2, 4096, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S4096x1024 : Shape := ⟨2, ![4096, 1024]⟩
abbrev S_ : Shape := ⟨0, ![]⟩

class Facts : Prop where
  bitsLt_bf16_f32 : FTy.bits .bf16 < FTy.bits .f32
  bcast_S_S2x4096x2816 : S_.BroadcastsInDim S2x4096x2816 (![] : Fin 0 → Fin S2x4096x2816.rank)
  reducesTo_S2x4096x2816_S_d0_1_2 : S2x4096x2816.ReducesTo [0, 1, 2] S_
  h_S_ : 0 < S_.numel
  bcast_S_S3x2816 : S_.BroadcastsInDim S3x2816 (![] : Fin 0 → Fin S3x2816.rank)
  reducesTo_S3x2816_S_d0_1 : S3x2816.ReducesTo [0, 1] S_
  bcast_S_S2816 : S_.BroadcastsInDim S2816 (![] : Fin 0 → Fin S2816.rank)
  reducesTo_S2816_S_d0 : S2816.ReducesTo [0] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S1024 .f32) (main_arg5 : FVec F S4096x1024 .f32) (main_v14 : IVec S_ 1) (main_v16 : FVec F S2816x1024 .f32) (main_cst_4 : FVec F S_ .f32) : IVec S_ 1 :=
  let main_v17 : FVec F S2816x1024 .f32 := broadcastInDim S2816x1024 ![] bcast_S_S2816x1024 main_cst_4
  let main_v18 : IVec S2816x1024 1 := cmpf .olt main_v16 main_v17
  let main_c_5 : IVec S_ 1 := constantI S_ 1 1#1
  let main_v19 : IVec S_ 1 := (fun x v => Host.reduce IntOp.andi x v reducesTo_S2816x1024_S_d0_1 h_S_) main_v18 main_c_5
  let main_v20 : IVec S_ 1 := andi main_v14 main_v19
  let main_v21 : FVec F S1024 .f32 := Host.absf main_arg4
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_c_7 : IVec S_ 1 := constantI S_ 1 1#1
  let main_v24 : IVec S_ 1 := (fun x v => Host.reduce IntOp.andi x v reducesTo_S1024_S_d0 h_S_) main_v23 main_c_7
  let main_v25 : IVec S_ 1 := andi main_v20 main_v24
  let main_v26 : FVec F S4096x1024 .f32 := Host.absf main_arg5
  let main_cst_8 : FVec F S_ .f32 := constant S_ .f32 0x7F800000#32
  let main_v27 : FVec F S4096x1024 .f32 := broadcastInDim S4096x1024 ![] bcast_S_S4096x1024 main_cst_8
  let main_v28 : IVec S4096x1024 1 := cmpf .olt main_v26 main_v27
  let main_c_9 : IVec S_ 1 := constantI S_ 1 1#1
  let main_v29 : IVec S_ 1 := (fun x v => Host.reduce IntOp.andi x v reducesTo_S4096x1024_S_d0_1 h_S_) main_v28 main_c_9
  let main_v30 : IVec S_ 1 := andi main_v25 main_v29
  main_v30

def fn {F : FTy → Type} [FloatOps F] (main_arg0 : FVec F S2x4096x2816 .bf16) (main_arg1 : FVec F S3x2816 .f32) (main_arg2 : FVec F S2816 .f32) (main_arg3 : FVec F S2816x1024 .bf16) (main_arg4 : FVec F S1024 .f32) (main_arg5 : FVec F S4096x1024 .f32) : IVec S_ 1 :=
  let main_v0 : FVec F S2x4096x2816 .f32 := (extf .f32 · bitsLt_bf16_f32) main_arg0
  let main_v1 : FVec F S2x4096x2816 .f32 := Host.absf main_v0
  let main_cst : FVec F S_ .f32 := constant S_ .f32 0x7F800000#32
  let main_v2 : FVec F S2x4096x2816 .f32 := broadcastInDim S2x4096x2816 ![] bcast_S_S2x4096x2816 main_cst
  let main_v3 : IVec S2x4096x2816 1 := cmpf .olt main_v1 main_v2
  let main_c : IVec S_ 1 := constantI S_ 1 1#1
  let main_v4 : IVec S_ 1 := (fun x v => Host.reduce IntOp.andi x v reducesTo_S2x4096x2816_S_d0_1_2 h_S_) main_v3 main_c
  let main_v5 : FVec F S3x2816 .f32 := Host.absf main_arg1
  let main_cst_0 : FVec F S_ .f32 := constant S_ .f32 0x7F800000#32
  let main_v6 : FVec F S3x2816 .f32 := broadcastInDim S3x2816 ![] bcast_S_S3x2816 main_cst_0
  let main_v7 : IVec S3x2816 1 := cmpf .olt main_v5 main_v6
  let main_c_1 : IVec S_ 1 := constantI S_ 1 1#1
  let main_v8 : IVec S_ 1 := (fun x v => Host.reduce IntOp.andi x v reducesTo_S3x2816_S_d0_1 h_S_) main_v7 main_c_1
  let main_v9 : IVec S_ 1 := andi main_v4 main_v8
  let main_v10 : FVec F S2816 .f32 := Host.absf main_arg2
  let main_cst_2 : FVec F S_ .f32 := constant S_ .f32 0x7F800000#32
  let main_v11 : FVec F S2816 .f32 := broadcastInDim S2816 ![] bcast_S_S2816 main_cst_2
  let main_v12 : IVec S2816 1 := cmpf .olt main_v10 main_v11
  let main_c_3 : IVec S_ 1 := constantI S_ 1 1#1
  let main_v13 : IVec S_ 1 := (fun x v => Host.reduce IntOp.andi x v reducesTo_S2816_S_d0 h_S_) main_v12 main_c_3
  let main_v14 : IVec S_ 1 := andi main_v9 main_v13
  let main_v15 : FVec F S2816x1024 .f32 := (extf .f32 · bitsLt_bf16_f32) main_arg3
  let main_v16 : FVec F S2816x1024 .f32 := Host.absf main_v15
  let main_cst_4 : FVec F S_ .f32 := constant S_ .f32 0x7F800000#32
  fn_part1 (F := F) main_arg4 main_arg5 main_v14 main_v16 main_cst_4
-- ==== Pre_all_finite10.lean ====
abbrev S4096x3072 : Shape := ⟨2, ![4096, 3072]⟩
abbrev S1024x3072 : Shape := ⟨2, ![1024, 3072]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  main_v20

def fn {F : FTy → Type} [FloatOps F] (main_arg0 : FVec F S4096x3072 .bf16) (main_arg1 : FVec F S1024x3072 .bf16) (main_arg2 : FVec F S4096x1024 .f32) (main_arg3 : FVec F S1024 .f32) (main_arg4 : FVec F S4096x1024 .f32) : IVec S_ 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_c : IVec S_ 1 := constantI S_ 1 1#1
  let main_v4 : IVec S_ 1 := (fun x v => Host.reduce IntOp.andi x v reducesTo_S4096x3072_S_d0_1 h_S_) main_v3 main_c
  let main_v5 : FVec F S1024x3072 .f32 := (extf .f32 · bitsLt_bf16_f32) main_arg1
  let main_v6 : FVec F S1024x3072 .f32 := Host.absf main_v5
  let main_cst_0 : FVec F S_ .f32 := constant S_ .f32 0x7F800000#32
  let main_v7 : FVec F S1024x3072 .f32 := broadcastInDim S1024x3072 ![] bcast_S_S1024x3072 main_cst_0
  let main_v8 : IVec S1024x3072 1 := cmpf .olt main_v6 main_v7
  let main_c_1 : IVec S_ 1 := constantI S_ 1 1#1
  let main_v9 : IVec S_ 1 := (fun x v => Host.reduce IntOp.andi x v reducesTo_S1024x3072_S_d0_1 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1024 .f32 := Host.absf main_arg3
  let main_cst_4 : FVec F S_ .f32 := constant S_ .f32 0x7F800000#32
  fn_part1 (F := F) main_v15 main_v16 main_cst_4
-- ==== Pre_all_finite12.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S4096x1024 .f32) (main_arg2 : FVec F S1024 .f32) (main_arg3 : FVec F S1024x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Pre_all_finite14.lean ====
abbrev S4096x1024 : Shape := ⟨2, ![4096, 1024]⟩
abbrev S1024 : Shape := ⟨1, ![1024]⟩
abbrev S2048x1024 : Shape := ⟨2, ![2048, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S4096x1024 .f32) (main_arg2 : FVec F S1024 .f32) (main_arg3 : FVec F S2048x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Pre_all_finite2.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S2x4096x2816 : S_.BroadcastsInDim S2x4096x2816 (![] : Fin 0 → Fin S2x4096x2816.rank)
  reducesTo_S2x4096x2816_S_d0_1_2 : S2x4096x2816.ReducesTo [0, 1, 2] S_
  h_S_ : 0 < S_.numel
  bcast_S_S4x1024x1408 : S_.BroadcastsInDim S4x1024x1408 (![] : Fin 0 → Fin S4x1024x1408.rank)
  reducesTo_S4x1024x1408_S_d0_1_2 : S4x1024x1408.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  main_v20

def fn {F : FTy → Type} [FloatOps F] (main_arg0 : FVec F S2x4096x2816 .bf16) (main_arg1 : FVec F S4x1024x1408 .bf16) (main_arg2 : FVec F S4096x1024 .f32) (main_arg3 : FVec F S1024 .f32) (main_arg4 : FVec F S4096x1024 .f32) : IVec S_ 1 :=
  let main_v0 : FVec F S2x4096x2816 .f32 := (extf .f32 · bitsLt_bf16_f32) main_arg0
  let main_v1 : FVec F S2x4096x2816 .f32 := Host.absf main_v0
  let main_cst : FVec F S_ .f32 := constant S_ .f32 0x7F800000#32
  let main_v2 : FVec F S2x4096x2816 .f32 := broadcastInDim S2x4096x2816 ![] bcast_S_S2x4096x2816 main_cst
  let main_v3 : IVec S2x4096x2816 1 := cmpf .olt main_v1 main_v2
  let main_c : IVec S_ 1 := constantI S_ 1 1#1
  let main_v4 : IVec S_ 1 := (fun x v => Host.reduce IntOp.andi x v reducesTo_S2x4096x2816_S_d0_1_2 h_S_) main_v3 main_c
  let main_v5 : FVec F S4x1024x1408 .f32 := (extf .f32 · bitsLt_bf16_f32) main_arg1
  let main_v6 : FVec F S4x1024x1408 .f32 := Host.absf main_v5
  let main_cst_0 : FVec F S_ .f32 := constant S_ .f32 0x7F800000#32
  let main_v7 : FVec F S4x1024x1408 .f32 := broadcastInDim S4x1024x1408 ![] bcast_S_S4x1024x1408 main_cst_0
  let main_v8 : IVec S4x1024x1408 1 := cmpf .olt main_v6 main_v7
  let main_c_1 : IVec S_ 1 := constantI S_ 1 1#1
  let main_v9 : IVec S_ 1 := (fun x v => Host.reduce IntOp.andi x v reducesTo_S4x1024x1408_S_d0_1_2 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1024 .f32 := Host.absf main_arg3
  let main_cst_4 : FVec F S_ .f32 := constant S_ .f32 0x7F800000#32
  fn_part1 (F := F) main_v15 main_v16 main_cst_4
-- ==== Pre_all_finite8.lean ====
abbrev S4096x6272 : Shape := ⟨2, ![4096, 6272]⟩
abbrev S1024x6272 : Shape := ⟨2, ![1024, 6272]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x6272 : S_.BroadcastsInDim S4096x6272 (![] : Fin 0 → Fin S4096x6272.rank)
  reducesTo_S4096x6272_S_d0_1 : S4096x6272.ReducesTo [0, 1] S_
  h_S_ : 0 < S_.numel
  bcast_S_S1024x6272 : S_.BroadcastsInDim S1024x6272 (![] : Fin 0 → Fin S1024x6272.rank)
  reducesTo_S1024x6272_S_d0_1 : S1024x6272.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  main_v20

def fn {F : FTy → Type} [FloatOps F] (main_arg0 : FVec F S4096x6272 .bf16) (main_arg1 : FVec F S1024x6272 .bf16) (main_arg2 : FVec F S4096x1024 .f32) (main_arg3 : FVec F S1024 .f32) (main_arg4 : FVec F S4096x1024 .f32) : IVec S_ 1 :=
  let main_v0 : FVec F S4096x6272 .f32 := (extf .f32 · bitsLt_bf16_f32) main_arg0
  let main_v1 : FVec F S4096x6272 .f32 := Host.absf main_v0
  let main_cst : FVec F S_ .f32 := constant S_ .f32 0x7F800000#32
  let main_v2 : FVec F S4096x6272 .f32 := broadcastInDim S4096x6272 ![] bcast_S_S4096x6272 main_cst
  let main_v3 : IVec S4096x6272 1 := cmpf .olt main_v1 main_v2
  let main_c : IVec S_ 1 := constantI S_ 1 1#1
  let main_v4 : IVec S_ 1 := (fun x v => Host.reduce IntOp.andi x v reducesTo_S4096x6272_S_d0_1 h_S_) main_v3 main_c
  let main_v5 : FVec F S1024x6272 .f32 := (extf .f32 · bitsLt_bf16_f32) main_arg1
  let main_v6 : FVec F S1024x6272 .f32 := Host.absf main_v5
  let main_cst_0 : FVec F S_ .f32 := constant S_ .f32 0x7F800000#32
  let main_v7 : FVec F S1024x6272 .f32 := broadcastInDim S1024x6272 ![] bcast_S_S1024x6272 main_cst_0
  let main_v8 : IVec S1024x6272 1 := cmpf .olt main_v6 main_v7
  let main_c_1 : IVec S_ 1 := constantI S_ 1 1#1
  let main_v9 : IVec S_ 1 := (fun x v => Host.reduce IntOp.andi x v reducesTo_S1024x6272_S_d0_1 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1024 .f32 := Host.absf main_arg3
  let main_cst_4 : FVec F S_ .f32 := constant S_ .f32 0x7F800000#32
  fn_part1 (F := F) main_v15 main_v16 main_cst_4
-- ==== Kernel.lean ====
abbrev S2x4096x2816 : Shape := ⟨3, ![2, 4096, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S4096x1024 : Shape := ⟨2, ![4096, 1024]⟩
abbrev S1x4096x2816 : Shape := ⟨3, ![1, 4096, 2816]⟩
abbrev S4096x2816 : Shape := ⟨2, ![4096, 2816]⟩
abbrev S_ : Shape := ⟨0, ![]⟩
abbrev S2x2816 : Shape := ⟨2, ![2, 2816]⟩
abbrev S4098x2816 : Shape := ⟨2, ![4098, 2816]⟩
abbrev S1x2816 : Shape := ⟨2, ![1, 2816]⟩
abbrev S1x1024 : Shape := ⟨2, ![1, 1024]⟩
abbrev S8x2816 : Shape := ⟨2, ![8, 2816]⟩
abbrev S256x1024 : Shape := ⟨2, ![256, 1024]⟩
abbrev S2x256x2816 : Shape := ⟨3, ![2, 256, 2816]⟩
abbrev S2x16x2816 : Shape := ⟨3, ![2, 16, 2816]⟩
abbrev S256x2816 : Shape := ⟨2, ![256, 2816]⟩
abbrev S256 : Shape := ⟨1, ![256]⟩
abbrev S256x1 : Shape := ⟨2, ![256, 1]⟩
abbrev S1x128 : Shape := ⟨2, ![1, 128]⟩
abbrev S1x256x128 : Shape := ⟨3, ![1, 256, 128]⟩
abbrev S256x128 : Shape := ⟨2, ![256, 128]⟩
abbrev S1x16x128 : Shape := ⟨3, ![1, 16, 128]⟩
abbrev S16x128 : Shape := ⟨2, ![16, 128]⟩
abbrev S8x128 : Shape := ⟨2, ![8, 128]⟩
abbrev S264x128 : Shape := ⟨2, ![264, 128]⟩
abbrev S128 : Shape := ⟨1, ![128]⟩

abbrev nBuf : Space → Nat
  | .hbm => 58
  | .vmem => 20
  | .smem => 0
  | _ => 0

abbrev bufTy : (tb : Table) → Fin (tcTables nBuf tb) → BufTy
  | .hbm, ⟨0, _⟩ => ⟨S2x4096x2816, .bf16⟩
  | .hbm, ⟨1, _⟩ => ⟨S3x2816, .f32⟩
  | .hbm, ⟨2, _⟩ => ⟨S2816, .f32⟩
  | .hbm, ⟨3, _⟩ => ⟨S2816x1024, .bf16⟩
  | .hbm, ⟨4, _⟩ => ⟨S1024, .f32⟩
  | .hbm, ⟨5, _⟩ => ⟨S4096x1024, .f32⟩
  | .hbm, ⟨6, _⟩ => ⟨S2x4096x2816, .f32⟩
  | .hbm, ⟨7, _⟩ => ⟨S2816x1024, .f32⟩
  | .hbm, ⟨8, _⟩ => ⟨S1x4096x2816, .f32⟩
  | .hbm, ⟨9, _⟩ => ⟨S4096x2816, .f32⟩
  | .hbm, ⟨10, _⟩ => ⟨S_, .f32⟩
  | .hbm, ⟨11, _⟩ => ⟨S2x2816, .f32⟩
  | .hbm, ⟨12, _⟩ => ⟨S4098x2816, .f32⟩
  | .hbm, ⟨13, _⟩ => ⟨S4096x2816, .f32⟩
  | .hbm, ⟨14, _⟩ => ⟨S1x2816, .f32⟩
  | .hbm, ⟨15, _⟩ => ⟨S2816, .f32⟩
  | .hbm, ⟨16, _⟩ => ⟨S1x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S1x2816, .f32⟩
  | .hbm, ⟨21, _⟩ => ⟨S2816, .f32⟩
  | .hbm, ⟨22, _⟩ => ⟨S1x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S1x2816, .f32⟩
  | .hbm, ⟨28, _⟩ => ⟨S2816, .f32⟩
  | .hbm, ⟨29, _⟩ => ⟨S1x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S1x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S1x4096x2816, .f32⟩
  | .hbm, ⟨46, _⟩ => ⟨S4096x2816, .f32⟩
  | .hbm, ⟨47, _⟩ => ⟨S4096x2816, .f32⟩
  | .hbm, ⟨48, _⟩ => ⟨S4096x1024, .f32⟩
  | .hbm, ⟨49, _⟩ => ⟨S1x1024, .f32⟩
  | .hbm, ⟨50, _⟩ => ⟨S_, .i32⟩
  | .hbm, ⟨51, _⟩ => ⟨S_, .f32⟩
  | .hbm, ⟨52, _⟩ => ⟨S8x2816, .f32⟩
  | .hbm, ⟨53, _⟩ => ⟨S1x2816, .f32⟩
  | .hbm, ⟨54, _⟩ => ⟨S2x4096x2816, .bf16⟩
  | .hbm, ⟨55, _⟩ => ⟨S4096x1024, .bf16⟩
  | .hbm, ⟨56, _⟩ => ⟨S1x1024, .f32⟩
  | .hbm, ⟨57, _⟩ => ⟨S8x2816, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S2816x1024, .bf16⟩
  | .local _ .vmem, ⟨6, _⟩ => ⟨S2x256x2816, .bf16⟩
  | .local _ .vmem, ⟨7, _⟩ => ⟨S2x256x2816, .bf16⟩
  | .local _ .vmem, ⟨8, _⟩ => ⟨S2x16x2816, .bf16⟩
  | .local _ .vmem, ⟨9, _⟩ => ⟨S2x16x2816, .bf16⟩
  | .local _ .vmem, ⟨10, _⟩ => ⟨S8x2816, .f32⟩
  | .local _ .vmem, ⟨11, _⟩ => ⟨S1x2816, .f32⟩
  | .local _ .vmem, ⟨12, _⟩ => ⟨S2x256x2816, .bf16⟩
  | .local _ .vmem, ⟨13, _⟩ => ⟨S2x256x2816, .bf16⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | .local _ .vmem, ⟨17, _⟩ => ⟨S8x2816, .f32⟩
  | .local _ .vmem, ⟨18, _⟩ => ⟨S256x2816, .f32⟩
  | .local _ .vmem, ⟨19, _⟩ => ⟨S8x2816, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c : Ref sig .tc := ⟨.hbm, 50, rfl⟩
abbrev main_call1_v0 : Ref sig .tc := ⟨.hbm, 51, rfl⟩
abbrev main_v35 : Ref sig .tc := ⟨.hbm, 52, rfl⟩
abbrev main_v36 : Ref sig .tc := ⟨.hbm, 53, rfl⟩
abbrev main_v37_0 : Ref sig .tc := ⟨.hbm, 54, rfl⟩
abbrev main_v37_1 : Ref sig .tc := ⟨.hbm, 55, rfl⟩
abbrev main_v37_2 : Ref sig .tc := ⟨.hbm, 56, rfl⟩
abbrev main_v37_3 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![c0_i32_0.toNat, v3.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x16x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2x4096x2816 : Shape := ⟨3, ![2, 4096, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S4096x1024 : Shape := ⟨2, ![4096, 1024]⟩
abbrev S1x4096x2816 : Shape := ⟨3, ![1, 4096, 2816]⟩
abbrev S4096x2816 : Shape := ⟨2, ![4096, 2816]⟩
abbrev S_ : Shape := ⟨0, ![]⟩
abbrev S2x2816 : Shape := ⟨2, ![2, 2816]⟩
abbrev S4098x2816 : Shape := ⟨2, ![4098, 2816]⟩
abbrev S1x2816 : Shape := ⟨2, ![1, 2816]⟩
abbrev S4096 : Shape := ⟨1, ![4096]⟩
abbrev S4096x1 : Shape := ⟨2, ![4096, 1]⟩
abbrev S1x1024 : Shape := ⟨2, ![1, 1024]⟩
abbrev S4x2816 : Shape := ⟨2, ![4, 2816]⟩
abbrev S8x2816 : Shape := ⟨2, ![8, 2816]⟩

abbrev nBuf : Space → Nat
  | .hbm => 171
  | .vmem => 0
  | .smem => 0
  | _ => 0

abbrev hbmTy0_0 (i : Nat) : BufTy := match i % 128 with
  | 0 => ⟨S2x4096x2816, .bf16⟩
  | 1 => ⟨S3x2816, .f32⟩
  | 2 => ⟨S2816, .f32⟩
  | 3 => ⟨S2816x1024, .bf16⟩
  | 4 => ⟨S1024, .f32⟩
  | 5 => ⟨S4096x1024, .f32⟩
  | 6 => ⟨S2816x1024, .f32⟩
  | 7 => ⟨S2x4096x2816, .f32⟩
  | 8 => ⟨S1x4096x2816, .f32⟩
  | 9 => ⟨S4096x2816, .f32⟩
  | 10 => ⟨S_, .f32⟩
  | 11 => ⟨S2x2816, .f32⟩
  | 12 => ⟨S4098x2816, .f32⟩
  | 13 => ⟨S_, .f32⟩
  | 14 => ⟨S2x2816, .f32⟩
  | 15 => ⟨S4096x2816, .f32⟩
  | 16 => ⟨S1x2816, .f32⟩
  | 17 => ⟨S2816, .f32⟩
  | 18 => ⟨S1x2816, .f32⟩
  | 19 => ⟨S4096x2816, .f32⟩
  | 20 => ⟨S4096x2816, .f32⟩
  | 21 => ⟨S4096x2816, .f32⟩
  | 22 => ⟨S1x2816, .f32⟩
  | 23 => ⟨S2816, .f32⟩
  | 24 => ⟨S1x2816, .f32⟩
  | 25 => ⟨S4096x2816, .f32⟩
  | 26 => ⟨S4096x2816, .f32⟩
  | 27 => ⟨S4096x2816, .f32⟩
  | 28 => ⟨S4096x2816, .f32⟩
  | 29 => ⟨S1x2816, .f32⟩
  | 30 => ⟨S2816, .f32⟩
  | 31 => ⟨S1x2816, .f32⟩
  | 32 => ⟨S4096x2816, .f32⟩
  | 33 => ⟨S4096x2816, .f32⟩
  | 34 => ⟨S4096x2816, .f32⟩
  | 35 => ⟨S1x2816, .f32⟩
  | 36 => ⟨S4096x2816, .f32⟩
  | 37 => ⟨S4096x2816, .f32⟩
  | 38 => ⟨S4096x2816, .f32⟩
  | 39 => ⟨S4096x2816, .f32⟩
  | 40 => ⟨S_, .f32⟩
  | 41 => ⟨S4096x2816, .f32⟩
  | 42 => ⟨S4096x2816, .f32⟩
  | 43 => ⟨S_, .f32⟩
  | 44 => ⟨S4096x2816, .f32⟩
  | 45 => ⟨S4096x2816, .f32⟩
  | 46 => ⟨S_, .f32⟩
  | 47 => ⟨S4096x2816, .f32⟩
  | 48 => ⟨S4096x2816, .f32⟩
  | 49 => ⟨S4096x2816, .f32⟩
  | 50 => ⟨S4096x2816, .f32⟩
  | 51 => ⟨S1x4096x2816, .f32⟩
  | 52 => ⟨S4096x2816, .f32⟩
  | 53 => ⟨S4096x2816, .f32⟩
  | 54 => ⟨S4096x1024, .f32⟩
  | 55 => ⟨S4096x1024, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x1024, .f32⟩
  | 71 => ⟨S4096x1024, .f32⟩
  | 72 => ⟨S1x1024, .f32⟩
  | 73 => ⟨S4096x1024, .f32⟩
  | 74 => ⟨S4096x1024, .f32⟩
  | 75 => ⟨S4096x1024, .f32⟩
  | 76 => ⟨S_, .f32⟩
  | 77 => ⟨S1024, .f32⟩
  | 78 => ⟨S1x1024, .f32⟩
  | 79 => ⟨S4096x1024, .f32⟩
  | 80 => ⟨S4096x1024, .f32⟩
  | 81 => ⟨S_, .f32⟩
  | 82 => ⟨S1024, .f32⟩
  | 83 => ⟨S4096x1024, .f32⟩
  | 84 => ⟨S_, .f32⟩
  | 85 => ⟨S4096, .f32⟩
  | 86 => ⟨S4096x1, .f32⟩
  | 87 => ⟨S4096x1024, .f32⟩
  | 88 => ⟨S4096x1024, .f32⟩
  | 89 => ⟨S4096x1, .f32⟩
  | 90 => ⟨S_, .f32⟩
  | 91 => ⟨S4096x1, .f32⟩
  | 92 => ⟨S4096x1, .f32⟩
  | 93 => ⟨S_, .f32⟩
  | 94 => ⟨S4096, .f32⟩
  | 95 => ⟨S4096x1024, .f32⟩
  | 96 => ⟨S4096x1024, .f32⟩
  | 97 => ⟨S4096x1024, .f32⟩
  | 98 => ⟨S4096x1024, .f32⟩
  | 99 => ⟨S4096x1024, .f32⟩
  | 100 => ⟨S4096x2816, .f32⟩
  | 101 => ⟨S4096x2816, .f32⟩
  | 102 => ⟨S4096x2816, .f32⟩
  | 103 => ⟨S1x4096x2816, .f32⟩
  | 104 => ⟨S_, .f32⟩
  | 105 => ⟨S2x4096x2816, .f32⟩
  | 106 => ⟨S4096x2816, .f32⟩
  | 107 => ⟨S4096x2816, .f32⟩
  | 108 => ⟨S4096x2816, .f32⟩
  | 109 => ⟨S4096x2816, .f32⟩
  | 110 => ⟨S_, .f32⟩
  | 111 => ⟨S2816, .f32⟩
  | 112 => ⟨S1x2816, .f32⟩
  | 113 => ⟨S_, .f32⟩
  | 114 => ⟨S2816, .f32⟩
  | 115 => ⟨S4096x2816, .f32⟩
  | 116 => ⟨S_, .f32⟩
  | 117 => ⟨S2816, .f32⟩
  | 118 => ⟨S1x2816, .f32⟩
  | 119 => ⟨S4096x2816, .f32⟩
  | 120 => ⟨S4096x2816, .f32⟩
  | 121 => ⟨S_, .f32⟩
  | 122 => ⟨S2816, .f32⟩
  | 123 => ⟨S1x2816, .f32⟩
  | 124 => ⟨S_, .f32⟩
  | 125 => ⟨S3x2816, .f32⟩
  | 126 => ⟨S_, .f32⟩
  | 127 => ⟨S4098x2816, .f32⟩
  | _ => ⟨S2x4096x2816, .bf16⟩

abbrev hbmTy0_1 (i : Nat) : BufTy := match i % 128 with
  | 0 => ⟨S4096x2816, .f32⟩
  | 1 => ⟨S_, .f32⟩
  | 2 => ⟨S2816, .f32⟩
  | 3 => ⟨S1x2816, .f32⟩
  | 4 => ⟨S4096x2816, .f32⟩
  | 5 => ⟨S4096x2816, .f32⟩
  | 6 => ⟨S_, .f32⟩
  | 7 => ⟨S2816, .f32⟩
  | 8 => ⟨S1x2816, .f32⟩
  | 9 => ⟨S_, .f32⟩
  | 10 => ⟨S3x2816, .f32⟩
  | 11 => ⟨S3x2816, .f32⟩
  | 12 => ⟨S_, .f32⟩
  | 13 => ⟨S4098x2816, .f32⟩
  | 14 => ⟨S4098x2816, .f32⟩
  | 15 => ⟨S4096x2816, .f32⟩
  | 16 => ⟨S_, .f32⟩
  | 17 => ⟨S2816, .f32⟩
  | 18 => ⟨S1x2816, .f32⟩
  | 19 => ⟨S4096x2816, .f32⟩
  | 20 => ⟨S4096x2816, .f32⟩
  | 21 => ⟨S_, .f32⟩
  | 22 => ⟨S2816, .f32⟩
  | 23 => ⟨S1x2816, .f32⟩
  | 24 => ⟨S_, .f32⟩
  | 25 => ⟨S3x2816, .f32⟩
  | 26 => ⟨S3x2816, .f32⟩
  | 27 => ⟨S_, .f32⟩
  | 28 => ⟨S4098x2816, .f32⟩
  | 29 => ⟨S4098x2816, .f32⟩
  | 30 => ⟨S2x2816, .f32⟩
  | 31 => ⟨S4096x2816, .f32⟩
  | 32 => ⟨S1x4096x2816, .f32⟩
  | 33 => ⟨S_, .f32⟩
  | 34 => ⟨S2x4096x2816, .f32⟩
  | 35 => ⟨S2x4096x2816, .f32⟩
  | 36 => ⟨S1x2816, .f32⟩
  | 37 => ⟨S_, .f32⟩
  | 38 => ⟨S4x2816, .f32⟩
  | 39 => ⟨S8x2816, .f32⟩
  | 40 => ⟨S2x4096x2816, .bf16⟩
  | 41 => ⟨S4096x1024, .bf16⟩
  | 42 => ⟨S1x1024, .f32⟩
  | _ => ⟨S2x4096x2816, .bf16⟩

abbrev hbmTy (i : Nat) : BufTy := match i / 128 with
  | 0 => hbmTy0_0 i
  | 1 => hbmTy0_1 i
  | _ => ⟨S2x4096x2816, .bf16⟩

abbrev bufTy : (tb : Table) → Fin (tcTables nBuf tb) → BufTy
  | .hbm, ⟨i, _⟩ => hbmTy i
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v30_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v30_1 : Ref sig .tc := ⟨.hbm, 49, rfl⟩
abbrev main_v30_0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_1 : Ref sig .tc := ⟨.hbm, 56, rfl⟩
abbrev main_v36 : Ref sig .tc := ⟨.hbm, 57, rfl⟩
abbrev main_v37 : Ref sig .tc := ⟨.hbm, 58, rfl⟩
abbrev main_cst_2 : Ref sig .tc := ⟨.hbm, 59, rfl⟩
abbrev main_v38 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_4 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_5 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_6 : Ref sig .tc := ⟨.hbm, 81, rfl⟩
abbrev main_v56 : Ref sig .tc := ⟨.hbm, 82, rfl⟩
abbrev main_v57 : Ref sig .tc := ⟨.hbm, 83, rfl⟩
abbrev main_cst_7 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_8 : Ref sig .tc := ⟨.hbm, 90, rfl⟩
abbrev main_v63 : Ref sig .tc := ⟨.hbm, 91, rfl⟩
abbrev main_v64 : Ref sig .tc := ⟨.hbm, 92, rfl⟩
abbrev main_cst_9 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_10 : Ref sig .tc := ⟨.hbm, 104, rfl⟩
abbrev main_v75 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v76 : Ref sig .tc := ⟨.hbm, 109, rfl⟩
abbrev main_cst_11 : Ref sig .tc := ⟨.hbm, 110, rfl⟩
abbrev main_v77 : Ref sig .tc := ⟨.hbm, 111, rfl⟩
abbrev main_v78 : Ref sig .tc := ⟨.hbm, 112, rfl⟩
abbrev main_cst_12 : Ref sig .tc := ⟨.hbm, 113, rfl⟩
abbrev main_v79 : Ref sig .tc := ⟨.hbm, 114, rfl⟩
abbrev main_v80 : Ref sig .tc := ⟨.hbm, 115, rfl⟩
abbrev main_cst_13 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_14 : Ref sig .tc := ⟨.hbm, 121, rfl⟩
abbrev main_v85 : Ref sig .tc := ⟨.hbm, 122, rfl⟩
abbrev main_v86 : Ref sig .tc := ⟨.hbm, 123, rfl⟩
abbrev main_cst_15 : Ref sig .tc := ⟨.hbm, 124, rfl⟩
abbrev main_v87 : Ref sig .tc := ⟨.hbm, 125, rfl⟩
abbrev main_cst_16 : Ref sig .tc := ⟨.hbm, 126, rfl⟩
abbrev main_v88 : Ref sig .tc := ⟨.hbm, 127, rfl⟩
abbrev main_v89 : Ref sig .tc := ⟨.hbm, 128, rfl⟩
abbrev main_cst_17 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_18 : Ref sig .tc := ⟨.hbm, 134, rfl⟩
abbrev main_v94 : Ref sig .tc := ⟨.hbm, 135, rfl⟩
abbrev main_v95 : Ref sig .tc := ⟨.hbm, 136, rfl⟩
abbrev main_cst_19 : Ref sig .tc := ⟨.hbm, 137, rfl⟩
abbrev main_v96 : Ref sig .tc := ⟨.hbm, 138, rfl⟩
abbrev main_v97 : Ref sig .tc := ⟨.hbm, 139, rfl⟩
abbrev main_cst_20 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_21 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_22 : Ref sig .tc := ⟨.hbm, 149, rfl⟩
abbrev main_v105 : Ref sig .tc := ⟨.hbm, 150, rfl⟩
abbrev main_v106 : Ref sig .tc := ⟨.hbm, 151, rfl⟩
abbrev main_cst_23 : Ref sig .tc := ⟨.hbm, 152, rfl⟩
abbrev main_v107 : Ref sig .tc := ⟨.hbm, 153, rfl⟩
abbrev main_v108 : Ref sig .tc := ⟨.hbm, 154, rfl⟩
abbrev main_cst_24 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_25 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_26 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩

abbrev nD : Nat := 1
abbrev τ : Topo := Topo.v7x

variable {F : FTy → Type} [FloatOps F]
-- ==== Kernel2.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1024 : Shape := ⟨1, ![1024]⟩
abbrev S1x1024 : Shape := ⟨2, ![1, 1024]⟩
abbrev S2x256x2816 : Shape := ⟨3, ![2, 256, 2816]⟩
abbrev S256x1024 : Shape := ⟨2, ![256, 1024]⟩
abbrev S1x256x1408 : Shape := ⟨3, ![1, 256, 1408]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S2x256x2816, .bf16⟩
  | .local _ .vmem, ⟨1, _⟩ => ⟨S2x256x2816, .bf16⟩
  | .local _ .vmem, ⟨2, _⟩ => ⟨S4x1024x1408, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1024 : Shape := ⟨1, ![1024]⟩
abbrev S1024x4x1408 : Shape := ⟨3, ![1024, 4, 1408]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S1x4096x2816 : Shape := ⟨3, ![1, 4096, 2816]⟩
abbrev S4096x2816 : Shape := ⟨2, ![4096, 2816]⟩

abbrev nBuf : Space → Nat
  | .hbm => 63
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x4x1408, .bf16⟩
  | .hbm, ⟨6, _⟩ => ⟨S1024x5632, .bf16⟩
  | .hbm, ⟨7, _⟩ => ⟨S1024x5632, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x5632, .f32⟩
  | .hbm, ⟨29, _⟩ => ⟨S1x4096x2816, .bf16⟩
  | .hbm, ⟨30, _⟩ => ⟨S4096x2816, .bf16⟩
  | .hbm, ⟨31, _⟩ => ⟨S1x4096x2816, .bf16⟩
  | .hbm, ⟨32, _⟩ => ⟨S4096x2816, .bf16⟩
  | .hbm, ⟨33, _⟩ => ⟨S4096x5632, .bf16⟩
  | .hbm, ⟨34, _⟩ => ⟨S4096x5632, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S1x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Kernel3.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S512x1024 : Shape := ⟨2, ![512, 1024]⟩
abbrev S1x512x1408 : Shape := ⟨3, ![1, 512, 1408]⟩
abbrev S1x1024x1408 : Shape := ⟨3, ![1, 1024, 1408]⟩
abbrev S1024x1408 : Shape := ⟨2, ![1024, 1408]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .bf16⟩
  | .local _ .vmem, ⟨0, _⟩ => ⟨S512x1024, .bf16⟩
  | .local _ .vmem, ⟨1, _⟩ => ⟨S512x1024, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x1024 : Shape := ⟨2, ![4096, 1024]⟩
abbrev S2x4096x2816 : Shape := ⟨3, ![2, 4096, 2816]⟩
abbrev S_ : Shape := ⟨0, ![]⟩
abbrev S1024x5632 : Shape := ⟨2, ![1024, 5632]⟩
abbrev S4096x5632 : Shape := ⟨2, ![4096, 5632]⟩
abbrev S1x4096x2816 : Shape := ⟨3, ![1, 4096, 2816]⟩
abbrev S4096x2816 : Shape := ⟨2, ![4096, 2816]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4096x1024, .f32⟩
  | .hbm, ⟨3, _⟩ => ⟨S_, .f32⟩
  | .hbm, ⟨4, _⟩ => ⟨S1024x5632, .f32⟩
  | .hbm, ⟨5, _⟩ => ⟨S4096x5632, .f32⟩
  | .hbm, ⟨6, _⟩ => ⟨S1x4096x2816, .bf16⟩
  | .hbm, ⟨7, _⟩ => ⟨S4096x2816, .bf16⟩
  | .hbm, ⟨8, _⟩ => ⟨S1x4096x2816, .bf16⟩
  | .hbm, ⟨9, _⟩ => ⟨S4096x2816, .bf16⟩
  | .hbm, ⟨10, _⟩ => ⟨S4096x5632, .bf16⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S1024x4x1408, .f32⟩
  | .hbm, ⟨15, _⟩ => ⟨S4x1024x1408, .f32⟩
  | .hbm, ⟨16, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S512x1408, .bf16⟩
  | .local _ .vmem, ⟨1, _⟩ => ⟨S512x1408, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S4096x3072 : Shape := ⟨2, ![4096, 3072]⟩
abbrev S3x1024 : Shape := ⟨2, ![3, 1024]⟩
abbrev S_ : Shape := ⟨0, ![]⟩
abbrev S8x1024 : Shape := ⟨2, ![8, 1024]⟩
abbrev S4096x128 : Shape := ⟨2, ![4096, 128]⟩
abbrev S4096x384 : Shape := ⟨2, ![4096, 384]⟩
abbrev S8x128 : Shape := ⟨2, ![8, 128]⟩
abbrev S1x128 : Shape := ⟨2, ![1, 128]⟩
abbrev S128x128 : Shape := ⟨2, ![128, 128]⟩
abbrev S16x128 : Shape := ⟨2, ![16, 128]⟩
abbrev S136x128 : Shape := ⟨2, ![136, 128]⟩
abbrev S128 : Shape := ⟨1, ![128]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S3x1024, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S4096x3072, .bf16⟩
  | .hbm, ⟨7, _⟩ => ⟨S8x1024, .f32⟩
  | .local _ .vmem, ⟨0, _⟩ => ⟨S4096x128, .bf16⟩
  | .local _ .vmem, ⟨1, _⟩ => ⟨S4096x128, .bf16⟩
  | .local _ .vmem, ⟨2, _⟩ => ⟨S4096x384, .bf16⟩
  | .local _ .vmem, ⟨3, _⟩ => ⟨S4096x384, .bf16⟩
  | .local _ .vmem, ⟨4, _⟩ => ⟨S8x128, .f32⟩
  | .local _ .vmem, ⟨5, _⟩ => ⟨S8x128, .f32⟩
  | .local _ .vmem, ⟨6, _⟩ => ⟨S4096x384, .bf16⟩
  | .local _ .vmem, ⟨7, _⟩ => ⟨S4096x384, .bf16⟩
  | .local _ .vmem, ⟨8, _⟩ => ⟨S8x128, .f32⟩
  | .local _ .vmem, ⟨9, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v7 : BitVec 32 := Scalar.addi c0_i32 c32_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v14 : BitVec 32 := Scalar.muli arg6 c128_i32
  v14
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v14 : BitVec 32 := Scalar.muli arg6 c128_i32
  let v15 : BitVec 32 := v14
  let v16 : Index := Scalar.indexCast v15
  let c0_13 : Index := 0#32
  ![v16.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v14 : BitVec 32 := Scalar.muli arg6 c128_i32
  let v15 : BitVec 32 := v14
  let v19 : Index := Scalar.indexCast v15
  let c128 : Index := 128#32
  ![v19.toNat, 128]
def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v14 : BitVec 32 := Scalar.muli arg6 c128_i32
  let v15 : BitVec 32 := v14
  let v22 : Index := Scalar.indexCast v15
  let c256 : Index := 256#32
  ![v22.toNat, 256]
def k0_off4 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v14 : BitVec 32 := Scalar.muli arg6 c128_i32
  let v15 : BitVec 32 := v14
  let v25 : Index := Scalar.indexCast v15
  let c0_14 : Index := 0#32
  ![v25.toNat, 0]
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v14 : BitVec 32 := Scalar.muli arg6 c128_i32
  let v15 : BitVec 32 := v14
  let c16_i32 : BitVec 32 := 16#32
  let v29 : BitVec 32 := Scalar.subi v15 c16_i32
  let c0_i32_15 : BitVec 32 := 0#32
  let v30 : BitVec 32 := Scalar.maxsi v29 c0_i32_15
  v30
def k0_off5 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v14 : BitVec 32 := Scalar.muli arg6 c128_i32
  let v15 : BitVec 32 := v14
  let c16_i32 : BitVec 32 := 16#32
  let v29 : BitVec 32 := Scalar.subi v15 c16_i32
  let c0_i32_15 : BitVec 32 := 0#32
  let v30 : BitVec 32 := Scalar.maxsi v29 c0_i32_15
  let v31 : BitVec 32 := v30
  let v33 : Index := Scalar.indexCast v31
  let c128_17 : Index := 128#32
  ![v33.toNat, 128]
def k0_mult3 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v14 : BitVec 32 := Scalar.muli arg6 c128_i32
  let v15 : BitVec 32 := v14
  let c16_i32_19 : BitVec 32 := 16#32
  let v39 : BitVec 32 := Scalar.subi v15 c16_i32_19
  let c0_i32_20 : BitVec 32 := 0#32
  let v40 : BitVec 32 := Scalar.maxsi v39 c0_i32_20
  v40
def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v14 : BitVec 32 := Scalar.muli arg6 c128_i32
  let v15 : BitVec 32 := v14
  let c16_i32_19 : BitVec 32 := 16#32
  let v39 : BitVec 32 := Scalar.subi v15 c16_i32_19
  let c0_i32_20 : BitVec 32 := 0#32
  let v40 : BitVec 32 := Scalar.maxsi v39 c0_i32_20
  let v41 : BitVec 32 := v40
  let v43 : Index := Scalar.indexCast v41
  let c256_22 : Index := 256#32
  ![v43.toNat, 256]
def k0_mult4 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v14 : BitVec 32 := Scalar.muli arg6 c128_i32
  let v15 : BitVec 32 := v14
  let c128_i32_25 : BitVec 32 := 128#32
  let v64 : BitVec 32 := Scalar.addi v15 c128_i32_25
  let c4080_i32 : BitVec 32 := 4080#32
  let v65 : BitVec 32 := Scalar.minsi v64 c4080_i32
  v65
def k0_off7 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v14 : BitVec 32 := Scalar.muli arg6 c128_i32
  let v15 : BitVec 32 := v14
  let c128_i32_25 : BitVec 32 := 128#32
  let v64 : BitVec 32 := Scalar.addi v15 c128_i32_25
  let c4080_i32 : BitVec 32 := 4080#32
  let v65 : BitVec 32 := Scalar.minsi v64 c4080_i32
  let v66 : BitVec 32 := v65
  let v68 : Index := Scalar.indexCast v66
  let c0_26 : Index := 0#32
  ![v68.toNat, 0]
def k0_mult5 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v14 : BitVec 32 := Scalar.muli arg6 c128_i32
  let v15 : BitVec 32 := v14
  let c128_i32_28 : BitVec 32 := 128#32
  let v74 : BitVec 32 := Scalar.addi v15 c128_i32_28
  let c4080_i32_29 : BitVec 32 := 4080#32
  let v75 : BitVec 32 := Scalar.minsi v74 c4080_i32_29
  v75
def k0_off8 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v14 : BitVec 32 := Scalar.muli arg6 c128_i32
  let v15 : BitVec 32 := v14
  let c128_i32_28 : BitVec 32 := 128#32
  let v74 : BitVec 32 := Scalar.addi v15 c128_i32_28
  let c4080_i32_29 : BitVec 32 := 4080#32
  let v75 : BitVec 32 := Scalar.minsi v74 c4080_i32_29
  let v76 : BitVec 32 := v75
  let v78 : Index := Scalar.indexCast v76
  let c0_31 : Index := 0#32
  ![v78.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S4096x1024 : Shape := ⟨2, ![4096, 1024]⟩
abbrev S4096x3072 : Shape := ⟨2, ![4096, 3072]⟩
abbrev S3x1024 : Shape := ⟨2, ![3, 1024]⟩
abbrev S4096x8x3x128 : Shape := ⟨4, ![4096, 8, 3, 128]⟩
abbrev S4096x8x1x128 : Shape := ⟨4, ![4096, 8, 1, 128]⟩
abbrev S4096x8x128 : Shape := ⟨3, ![4096, 8, 128]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩
abbrev S5x1024 : Shape := ⟨2, ![5, 1024]⟩
abbrev S8x1024 : Shape := ⟨2, ![8, 1024]⟩

abbrev nBuf : Space → Nat
  | .hbm => 110
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S3x1024, .f32⟩
  | .hbm, ⟨3, _⟩ => ⟨S4096x3072, .f32⟩
  | .hbm, ⟨4, _⟩ => ⟨S4096x8x3x128, .f32⟩
  | .hbm, ⟨5, _⟩ => ⟨S4096x8x1x128, .f32⟩
  | .hbm, ⟨6, _⟩ => ⟨S4096x8x128, .f32⟩
  | .hbm, ⟨7, _⟩ => ⟨S4096x1024, .f32⟩
  | .hbm, ⟨8, _⟩ => ⟨S4096x8x1x128, .f32⟩
  | .hbm, ⟨9, _⟩ => ⟨S4096x8x128, .f32⟩
  | .hbm, ⟨10, _⟩ => ⟨S4096x1024, .f32⟩
  | .hbm, ⟨11, _⟩ => ⟨S4096x8x1x128, .f32⟩
  | .hbm, ⟨12, _⟩ => ⟨S4096x8x128, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S2x1024, .f32⟩
  | .hbm, ⟨17, _⟩ => ⟨S4098x1024, .f32⟩
  | .hbm, ⟨18, _⟩ => ⟨S_, .f32⟩
  | .hbm, ⟨19, _⟩ => ⟨S2x1024, .f32⟩
  | .hbm, ⟨20, _⟩ => ⟨S4096x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S3x1024, .f32⟩
  | .hbm, ⟨55, _⟩ => ⟨S_, .f32⟩
  | .hbm, ⟨56, _⟩ => ⟨S4098x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S3x1024, .f32⟩
  | .hbm, ⟨68, _⟩ => ⟨S3x1024, .f32⟩
  | .hbm, ⟨69, _⟩ => ⟨S_, .f32⟩
  | .hbm, ⟨70, _⟩ => ⟨S4098x1024, .f32⟩
  | .hbm, ⟨71, _⟩ => ⟨S4098x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S_, .f32⟩
  | .hbm, ⟨82, _⟩ => ⟨S3x1024, .f32⟩
  | .hbm, ⟨83, _⟩ => ⟨S3x1024, .f32⟩
  | .hbm, ⟨84, _⟩ => ⟨S_, .f32⟩
  | .hbm, ⟨85, _⟩ => ⟨S4098x1024, .f32⟩
  | .hbm, ⟨86, _⟩ => ⟨S4098x1024, .f32⟩
  | .hbm, ⟨87, _⟩ => ⟨S2x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x8x128, .f32⟩
  | .hbm, ⟨92, _⟩ => ⟨S4096x8x1x128, .f32⟩
  | .hbm, ⟨93, _⟩ => ⟨S_, .f32⟩
  | .hbm, ⟨94, _⟩ => ⟨S4096x8x3x128, .f32⟩
  | .hbm, ⟨95, _⟩ => ⟨S4096x8x128, .f32⟩
  | .hbm, ⟨96, _⟩ => ⟨S4096x8x1x128, .f32⟩
  | .hbm, ⟨97, _⟩ => ⟨S_, .f32⟩
  | .hbm, ⟨98, _⟩ => ⟨S4096x8x3x128, .f32⟩
  | .hbm, ⟨99, _⟩ => ⟨S4096x8x3x128, .f32⟩
  | .hbm, ⟨100, _⟩ => ⟨S4096x8x128, .f32⟩
  | .hbm, ⟨101, _⟩ => ⟨S4096x8x1x128, .f32⟩
  | .hbm, ⟨102, _⟩ => ⟨S_, .f32⟩
  | .hbm, ⟨103, _⟩ => ⟨S4096x8x3x128, .f32⟩
  | .hbm, ⟨104, _⟩ => ⟨S4096x8x3x128, .f32⟩
  | .hbm, ⟨105, _⟩ => ⟨S4096x3072, .f32⟩
  | .hbm, ⟨106, _⟩ => ⟨S4096x3072, .bf16⟩
  | .hbm, ⟨107, _⟩ => ⟨S_, .f32⟩
  | .hbm, ⟨108, _⟩ => ⟨S5x1024, .f32⟩
  | .hbm, ⟨109, _⟩ => ⟨S8x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_1 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_2 : Ref sig .tc := ⟨.hbm, 50, rfl⟩
abbrev main_v44 : Ref sig .tc := ⟨.hbm, 51, rfl⟩
abbrev main_v45 : Ref sig .tc := ⟨.hbm, 52, rfl⟩
abbrev main_cst_3 : Ref sig .tc := ⟨.hbm, 53, rfl⟩
abbrev main_v46 : Ref sig .tc := ⟨.hbm, 54, rfl⟩
abbrev main_cst_4 : Ref sig .tc := ⟨.hbm, 55, rfl⟩
abbrev main_v47 : Ref sig .tc := ⟨.hbm, 56, rfl⟩
abbrev main_v48 : Ref sig .tc := ⟨.hbm, 57, rfl⟩
abbrev main_cst_5 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_6 : Ref sig .tc := ⟨.hbm, 63, rfl⟩
abbrev main_v53 : Ref sig .tc := ⟨.hbm, 64, rfl⟩
abbrev main_v54 : Ref sig .tc := ⟨.hbm, 65, rfl⟩
abbrev main_cst_7 : Ref sig .tc := ⟨.hbm, 66, rfl⟩
abbrev main_v55 : Ref sig .tc := ⟨.hbm, 67, rfl⟩
abbrev main_v56 : Ref sig .tc := ⟨.hbm, 68, rfl⟩
abbrev main_cst_8 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_10 : Ref sig .tc := ⟨.hbm, 78, rfl⟩
abbrev main_v64 : Ref sig .tc := ⟨.hbm, 79, rfl⟩
abbrev main_v65 : Ref sig .tc := ⟨.hbm, 80, rfl⟩
abbrev main_cst_11 : Ref sig .tc := ⟨.hbm, 81, rfl⟩
abbrev main_v66 : Ref sig .tc := ⟨.hbm, 82, rfl⟩
abbrev main_v67 : Ref sig .tc := ⟨.hbm, 83, rfl⟩
abbrev main_cst_12 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_13 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_14 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_15 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_16 : Ref sig .tc := ⟨.hbm, 107, rfl⟩
abbrev main_v87 : Ref sig .tc := ⟨.hbm, 108, rfl⟩
abbrev main_v88 : Ref sig .tc := ⟨.hbm, 109, rfl⟩

abbrev nD : Nat := 1
abbrev τ : Topo := Topo.v7x

variable {F : FTy → Type} [FloatOps F]
-- ==== Kernel6.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S4x1024x1408 : Shape := ⟨3, ![4, 1024, 1408]⟩
abbrev S3x2816 : Shape := ⟨2, ![3, 2816]⟩
abbrev S2816 : Shape := ⟨1, ![2816]⟩
abbrev S1x1024 : Shape := ⟨2, ![1, 1024]⟩
abbrev S_ : Shape := ⟨0, ![]⟩
abbrev S8x2816 : Shape := ⟨2, ![8, 2816]⟩
abbrev S1x2816 : Shape := ⟨2, ![1, 2816]⟩
abbrev S2x4096x2816 : Shape := ⟨3, ![2, 4096, 2816]⟩
abbrev S4096x2816 : Shape := ⟨2, ![4096, 2816]⟩
abbrev S256x1024 : Shape := ⟨2, ![256, 1024]⟩
abbrev S2x256x2816 : Shape := ⟨3, ![2, 256, 2816]⟩
abbrev S256x2816 : Shape := ⟨2, ![256, 2816]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S1x256x1408 : Shape := ⟨3, ![1, 256, 1408]⟩
abbrev S1x256x128 : Shape := ⟨3, ![1, 256, 128]⟩
abbrev S256x128 : Shape := ⟨2, ![256, 128]⟩
abbrev S8x128 : Shape := ⟨2, ![8, 128]⟩
abbrev S264x128 : Shape := ⟨2, ![264, 128]⟩
abbrev S1x128 : Shape := ⟨2, ![1, 128]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4x1024x1408, .bf16⟩
  | .hbm, ⟨3, _⟩ => ⟨S3x2816, .f32⟩
  | .hbm, ⟨4, _⟩ => ⟨S2816, .f32⟩
  | .hbm, ⟨5, _⟩ => ⟨S1x1024, .f32⟩
  | .hbm, ⟨6, _⟩ => ⟨S_, .i32⟩
  | .hbm, ⟨7, _⟩ => ⟨S_, .f32⟩
  | .hbm, ⟨8, _⟩ => ⟨S8x2816, .f32⟩
  | .hbm, ⟨9, _⟩ => ⟨S1x2816, .f32⟩
  | .hbm, ⟨10, _⟩ => ⟨S2x4096x2816, .bf16⟩
  | .hbm, ⟨11, _⟩ => ⟨S4096x1024, .bf16⟩
  | .hbm, ⟨12, _⟩ => ⟨S4096x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1408, .bf16⟩
  | .local _ .vmem, ⟨4, _⟩ => ⟨S8x2816, .f32⟩
  | .local _ .vmem, ⟨5, _⟩ => ⟨S1x2816, .f32⟩
  | .local _ .vmem, ⟨6, _⟩ => ⟨S2x256x2816, .bf16⟩
  | .local _ .vmem, ⟨7, _⟩ => ⟨S2x256x2816, .bf16⟩
  | .local _ .vmem, ⟨8, _⟩ => ⟨S256x1024, .bf16⟩
  | .local _ .vmem, ⟨9, _⟩ => ⟨S256x1024, .bf16⟩
  | .local _ .vmem, ⟨10, _⟩ => ⟨S256x2816, .bf16⟩
  | .local _ .vmem, ⟨11, _⟩ => ⟨S256x2816, .bf16⟩
  | .local _ .vmem, ⟨12, _⟩ => ⟨S8x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S4096x1024 : Shape := ⟨2, ![4096, 1024]⟩
abbrev S1024 : Shape := ⟨1, ![1024]⟩
abbrev S4x1024x1408 : Shape := ⟨3, ![4, 1024, 1408]⟩
abbrev S3x2816 : Shape := ⟨2, ![3, 2816]⟩
abbrev S2816 : Shape := ⟨1, ![2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩
abbrev S2x2816 : Shape := ⟨2, ![2, 2816]⟩
abbrev S4098x2816 : Shape := ⟨2, ![4098, 2816]⟩
abbrev S1x2816 : Shape := ⟨2, ![1, 2816]⟩
abbrev S1x4096x2816 : Shape := ⟨3, ![1, 4096, 2816]⟩
abbrev S2x4096x2816 : Shape := ⟨3, ![2, 4096, 2816]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4x1024x1408, .bf16⟩
  | .hbm, ⟨3, _⟩ => ⟨S3x2816, .f32⟩
  | .hbm, ⟨4, _⟩ => ⟨S2816, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x4x1408, .bf16⟩
  | .hbm, ⟨22, _⟩ => ⟨S1024x5632, .bf16⟩
  | .hbm, ⟨23, _⟩ => ⟨S1024x5632, .f32⟩
  | .hbm, ⟨24, _⟩ => ⟨S4096x5632, .f32⟩
  | .hbm, ⟨25, _⟩ => ⟨S4096x2816, .f32⟩
  | .hbm, ⟨26, _⟩ => ⟨S_, .f32⟩
  | .hbm, ⟨27, _⟩ => ⟨S2x2816, .f32⟩
  | .hbm, ⟨28, _⟩ => ⟨S4098x2816, .f32⟩
  | .hbm, ⟨29, _⟩ => ⟨S4096x2816, .f32⟩
  | .hbm, ⟨30, _⟩ => ⟨S1x2816, .f32⟩
  | .hbm, ⟨31, _⟩ => ⟨S2816, .f32⟩
  | .hbm, ⟨32, _⟩ => ⟨S1x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S1x2816, .f32⟩
  | .hbm, ⟨37, _⟩ => ⟨S2816, .f32⟩
  | .hbm, ⟨38, _⟩ => ⟨S1x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S1x2816, .f32⟩
  | .hbm, ⟨44, _⟩ => ⟨S2816, .f32⟩
  | .hbm, ⟨45, _⟩ => ⟨S1x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S1x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S_, .f32⟩
  | .hbm, ⟨55, _⟩ => ⟨S4096x2816, .f32⟩
  | .hbm, ⟨56, _⟩ => ⟨S4096x2816, .f32⟩
  | .hbm, ⟨57, _⟩ => ⟨S_, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S4096x2816, .f32⟩
  | .hbm, ⟨63, _⟩ => ⟨S4096x2816, .f32⟩
  | .hbm, ⟨64, _⟩ => ⟨S4096x2816, .f32⟩
  | .hbm, ⟨65, _⟩ => ⟨S1x4096x2816, .f32⟩
  | .hbm, ⟨66, _⟩ => ⟨S1x4096x2816, .f32⟩
  | .hbm, ⟨67, _⟩ => ⟨S2x4096x2816, .f32⟩
  | .hbm, ⟨68, _⟩ => ⟨S2x4096x2816, .bf16⟩
  | .hbm, ⟨69, _⟩ => ⟨S4096x1024, .bf16⟩
  | .hbm, ⟨70, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Kernel8.lean ====
abbrev S4096x6272 : Shape := ⟨2, ![4096, 6272]⟩
abbrev S1024x6272 : Shape := ⟨2, ![1024, 6272]⟩
abbrev S4096x1024 : Shape := ⟨2, ![4096, 1024]⟩
abbrev S1024 : Shape := ⟨1, ![1024]⟩
abbrev S1x1024 : Shape := ⟨2, ![1, 1024]⟩
abbrev S256x6272 : Shape := ⟨2, ![256, 6272]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x6272, .bf16⟩
  | .hbm, ⟨1, _⟩ => ⟨S1024x6272, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S256x6272, .bf16⟩
  | .local _ .vmem, ⟨1, _⟩ => ⟨S256x6272, .bf16⟩
  | .local _ .vmem, ⟨2, _⟩ => ⟨S1024x6272, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6272 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6272 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S4096x6272 : Shape := ⟨2, ![4096, 6272]⟩
abbrev S1024x6272 : Shape := ⟨2, ![1024, 6272]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x6272, .bf16⟩
  | .hbm, ⟨1, _⟩ => ⟨S1024x6272, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x6272, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x6272, .f32⟩
  | .hbm, ⟨27, _⟩ => ⟨S4096x6272, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel9.lean ====
abbrev S4096x1024 : Shape := ⟨2, ![4096, 1024]⟩
abbrev S4096x6272 : Shape := ⟨2, ![4096, 6272]⟩
abbrev S1024x6272 : Shape := ⟨2, ![1024, 6272]⟩
abbrev S512x1024 : Shape := ⟨2, ![512, 1024]⟩
abbrev S512x896 : Shape := ⟨2, ![512, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x6272, .bf16⟩
  | .hbm, ⟨2, _⟩ => ⟨S1024x6272, .bf16⟩
  | .local _ .vmem, ⟨0, _⟩ => ⟨S512x1024, .bf16⟩
  | .local _ .vmem, ⟨1, _⟩ => ⟨S512x1024, .bf16⟩
  | .local _ .vmem, ⟨2, _⟩ => ⟨S512x896, .bf16⟩
  | .local _ .vmem, ⟨3, _⟩ => ⟨S512x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S4096x6272 : Shape := ⟨2, ![4096, 6272]⟩
abbrev S_ : Shape := ⟨0, ![]⟩
abbrev S1024x6272 : Shape := ⟨2, ![1024, 6272]⟩
abbrev S6272x1024 : Shape := ⟨2, ![6272, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6272, .bf16⟩
  | .hbm, ⟨2, _⟩ => ⟨S4096x1024, .f32⟩
  | .hbm, ⟨3, _⟩ => ⟨S_, .f32⟩
  | .hbm, ⟨4, _⟩ => ⟨S1024x6272, .f32⟩
  | .hbm, ⟨5, _⟩ => ⟨S4096x6272, .f32⟩
  | .hbm, ⟨6, _⟩ => ⟨S4096x6272, .f32⟩
  | .hbm, ⟨7, _⟩ => ⟨S6272x1024, .f32⟩
  | .hbm, ⟨8, _⟩ => ⟨S1024x6272, .f32⟩
  | .hbm, ⟨9, _⟩ => ⟨S1024x6272, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x3072 : Shape := ⟨2, ![4096, 3072]⟩
abbrev S1024x3072 : Shape := ⟨2, ![1024, 3072]⟩
abbrev S4096x1024 : Shape := ⟨2, ![4096, 1024]⟩
abbrev S1024 : Shape := ⟨1, ![1024]⟩
abbrev S1x1024 : Shape := ⟨2, ![1, 1024]⟩
abbrev S256x3072 : Shape := ⟨2, ![256, 3072]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S256x3072, .bf16⟩
  | .local _ .vmem, ⟨1, _⟩ => ⟨S256x3072, .bf16⟩
  | .local _ .vmem, ⟨2, _⟩ => ⟨S1024x3072, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S4096x3072 : Shape := ⟨2, ![4096, 3072]⟩
abbrev S1024x3072 : Shape := ⟨2, ![1024, 3072]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x3072, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x3072, .f32⟩
  | .hbm, ⟨27, _⟩ => ⟨S4096x3072, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel11.lean ====
abbrev S4096x1024 : Shape := ⟨2, ![4096, 1024]⟩
abbrev S4096x3072 : Shape := ⟨2, ![4096, 3072]⟩
abbrev S1024x3072 : Shape := ⟨2, ![1024, 3072]⟩
abbrev S512x1024 : Shape := ⟨2, ![512, 1024]⟩
abbrev S512x1536 : Shape := ⟨2, ![512, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .f32⟩
  | .hbm, ⟨3, _⟩ => ⟨S_, .f32⟩
  | .hbm, ⟨4, _⟩ => ⟨S1024x3072, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x1024, .bf16⟩
  | .hbm, ⟨4, _⟩ => ⟨S1x1024, .f32⟩
  | .hbm, ⟨5, _⟩ => ⟨S4096x1024, .bf16⟩
  | .hbm, ⟨6, _⟩ => ⟨S4096x1024, .bf16⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference12Ideal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x1024, .bf16⟩
  | .hbm, ⟨4, _⟩ => ⟨S1024x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S4096x1024, .bf16⟩
  | .hbm, ⟨56, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4096x1024 : Shape := ⟨2, ![4096, 1024]⟩
abbrev S1024 : Shape := ⟨1, ![1024]⟩
abbrev S2048x1024 : Shape := ⟨2, ![2048, 1024]⟩
abbrev S1x1024 : Shape := ⟨2, ![1, 1024]⟩
abbrev S4096x2048 : Shape := ⟨2, ![4096, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S2048x1024, .bf16⟩
  | .hbm, ⟨4, _⟩ => ⟨S1x1024, .f32⟩
  | .hbm, ⟨5, _⟩ => ⟨S4096x2048, .f32⟩
  | .hbm, ⟨6, _⟩ => ⟨S4096x1024, .bf16⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S2048x1024, .bf16⟩
  | .local _ .vmem, ⟨6, _⟩ => ⟨S256x2048, .f32⟩
  | .local _ .vmem, ⟨7, _⟩ => ⟨S256x2048, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference14Ideal.lean ====
abbrev S4096x1024 : Shape := ⟨2, ![4096, 1024]⟩
abbrev S1024 : Shape := ⟨1, ![1024]⟩
abbrev S2048x1024 : Shape := ⟨2, ![2048, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S2048x1024, .bf16⟩
  | .hbm, ⟨4, _⟩ => ⟨S2048x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x2048, .f32⟩
  | .hbm, ⟨52, _⟩ => ⟨S4096x1024, .f32⟩
  | .hbm, ⟨53, _⟩ => ⟨S4096x2048, .f32⟩
  | .hbm, ⟨54, _⟩ => ⟨S4096x1024, .bf16⟩
  | .hbm, ⟨55, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel15.lean ====
abbrev S4096x2048 : Shape := ⟨2, ![4096, 2048]⟩
abbrev S4096x1024 : Shape := ⟨2, ![4096, 1024]⟩
abbrev S2048x1024 : Shape := ⟨2, ![2048, 1024]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x2048, .f32⟩
  | .hbm, ⟨3, _⟩ => ⟨S_, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4096x2048 : Shape := ⟨2, ![4096, 2048]⟩
abbrev S2048x1024 : Shape := ⟨2, ![2048, 1024]⟩
abbrev S4096x1024 : Shape := ⟨2, ![4096, 1024]⟩
abbrev S1024 : Shape := ⟨1, ![1024]⟩
abbrev S1x1024 : Shape := ⟨2, ![1, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .f32⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference16Ideal.lean ====
abbrev S4096x2048 : Shape := ⟨2, ![4096, 2048]⟩
abbrev S2048x1024 : Shape := ⟨2, ![2048, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1024, .f32⟩
  | .hbm, ⟨4, _⟩ => ⟨S4096x2048, .f32⟩
  | .hbm, ⟨5, _⟩ => ⟨S2048x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference17Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel18.lean ====
abbrev S4096x1024 : Shape := ⟨2, ![4096, 1024]⟩
abbrev S1024 : Shape := ⟨1, ![1024]⟩
abbrev S1024x3072 : Shape := ⟨2, ![1024, 3072]⟩
abbrev S3x1024 : Shape := ⟨2, ![3, 1024]⟩
abbrev S1x1024 : Shape := ⟨2, ![1, 1024]⟩
abbrev S_ : Shape := ⟨0, ![]⟩
abbrev S8x1024 : Shape := ⟨2, ![8, 1024]⟩
abbrev S4096x3072 : Shape := ⟨2, ![4096, 3072]⟩
abbrev S256x1024 : Shape := ⟨2, ![256, 1024]⟩
abbrev S256x3072 : Shape := ⟨2, ![256, 3072]⟩
abbrev S256 : Shape := ⟨1, ![256]⟩
abbrev S256x1 : Shape := ⟨2, ![256, 1]⟩
abbrev S256x128 : Shape := ⟨2, ![256, 128]⟩
abbrev S8x128 : Shape := ⟨2, ![8, 128]⟩
abbrev S1x128 : Shape := ⟨2, ![1, 128]⟩
abbrev S264x128 : Shape := ⟨2, ![264, 128]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .bf16⟩
  | .hbm, ⟨3, _⟩ => ⟨S3x1024, .f32⟩
  | .hbm, ⟨4, _⟩ => ⟨S1x1024, .f32⟩
  | .hbm, ⟨5, _⟩ => ⟨S_, .i32⟩
  | .hbm, ⟨6, _⟩ => ⟨S_, .f32⟩
  | .hbm, ⟨7, _⟩ => ⟨S8x1024, .f32⟩
  | .hbm, ⟨8, _⟩ => ⟨S4096x3072, .bf16⟩
  | .hbm, ⟨9, _⟩ => ⟨S4096x1024, .bf16⟩
  | .hbm, ⟨10, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S8x1024, .f32⟩
  | .local _ .vmem, ⟨5, _⟩ => ⟨S256x3072, .bf16⟩
  | .local _ .vmem, ⟨6, _⟩ => ⟨S256x3072, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S4096x1024 : Shape := ⟨2, ![4096, 1024]⟩
abbrev S1024 : Shape := ⟨1, ![1024]⟩
abbrev S1024x3072 : Shape := ⟨2, ![1024, 3072]⟩
abbrev S3x1024 : Shape := ⟨2, ![3, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩
abbrev S4096x8x3x128 : Shape := ⟨4, ![4096, 8, 3, 128]⟩
abbrev S4096x8x1x128 : Shape := ⟨4, ![4096, 8, 1, 128]⟩
abbrev S4096x8x128 : Shape := ⟨3, ![4096, 8, 128]⟩
abbrev S2x1024 : Shape := ⟨2, ![2, 1024]⟩
abbrev S4098x1024 : Shape := ⟨2, ![4098, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .bf16⟩
  | .hbm, ⟨3, _⟩ => ⟨S3x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x3072, .f32⟩
  | .hbm, ⟨21, _⟩ => ⟨S4096x3072, .f32⟩
  | .hbm, ⟨22, _⟩ => ⟨S4096x3072, .bf16⟩
  | .hbm, ⟨23, _⟩ => ⟨S4096x1024, .bf16⟩
  | .hbm, ⟨24, _⟩ => ⟨S4096x8x3x128, .f32⟩
  | .hbm, ⟨25, _⟩ => ⟨S4096x8x1x128, .f32⟩
  | .hbm, ⟨26, _⟩ => ⟨S4096x8x128, .f32⟩
  | .hbm, ⟨27, _⟩ => ⟨S4096x1024, .f32⟩
  | .hbm, ⟨28, _⟩ => ⟨S4096x8x1x128, .f32⟩
  | .hbm, ⟨29, _⟩ => ⟨S4096x8x128, .f32⟩
  | .hbm, ⟨30, _⟩ => ⟨S4096x1024, .f32⟩
  | .hbm, ⟨31, _⟩ => ⟨S4096x8x1x128, .f32⟩
  | .hbm, ⟨32, _⟩ => ⟨S4096x8x128, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S2x1024, .f32⟩
  | .hbm, ⟨37, _⟩ => ⟨S4098x1024, .f32⟩
  | .hbm, ⟨38, _⟩ => ⟨S4096x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩

abbrev nD : Nat := 1
abbrev τ : Topo := Topo.v7x

variable {F : FTy → Type} [FloatOps F]
-- ==== Kernel19.lean ====
abbrev S4096x1024 : Shape := ⟨2, ![4096, 1024]⟩
abbrev S1024 : Shape := ⟨1, ![1024]⟩
abbrev S1024x6272 : Shape := ⟨2, ![1024, 6272]⟩
abbrev S4x4096 : Shape := ⟨2, ![4, 4096]⟩
abbrev S4096 : Shape := ⟨1, ![4096]⟩
abbrev S1x1024 : Shape := ⟨2, ![1, 1024]⟩
abbrev S_ : Shape := ⟨0, ![]⟩
abbrev S8x4096 : Shape := ⟨2, ![8, 4096]⟩
abbrev S1x4096 : Shape := ⟨2, ![1, 4096]⟩
abbrev S4096x6272 : Shape := ⟨2, ![4096, 6272]⟩
abbrev S4096x4096 : Shape := ⟨2, ![4096, 4096]⟩
abbrev S256x1024 : Shape := ⟨2, ![256, 1024]⟩
abbrev S256x6272 : Shape := ⟨2, ![256, 6272]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩
abbrev S8x128 : Shape := ⟨2, ![8, 128]⟩
abbrev S1x128 : Shape := ⟨2, ![1, 128]⟩
abbrev S264x128 : Shape := ⟨2, ![264, 128]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6272, .bf16⟩
  | .hbm, ⟨3, _⟩ => ⟨S4x4096, .f32⟩
  | .hbm, ⟨4, _⟩ => ⟨S4096, .f32⟩
  | .hbm, ⟨5, _⟩ => ⟨S1x1024, .f32⟩
  | .hbm, ⟨6, _⟩ => ⟨S_, .i32⟩
  | .hbm, ⟨7, _⟩ => ⟨S_, .f32⟩
  | .hbm, ⟨8, _⟩ => ⟨S8x4096, .f32⟩
  | .hbm, ⟨9, _⟩ => ⟨S1x4096, .f32⟩
  | .hbm, ⟨10, _⟩ => ⟨S4096x6272, .f32⟩
  | .hbm, ⟨11, _⟩ => ⟨S4096x1024, .bf16⟩
  | .hbm, ⟨12, _⟩ => ⟨S4096x4096, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6272, .bf16⟩
  | .local _ .vmem, ⟨4, _⟩ => ⟨S8x4096, .f32⟩
  | .local _ .vmem, ⟨5, _⟩ => ⟨S1x4096, .f32⟩
  | .local _ .vmem, ⟨6, _⟩ => ⟨S256x6272, .f32⟩
  | .local _ .vmem, ⟨7, _⟩ => ⟨S256x6272, .f32⟩
  | .local _ .vmem, ⟨8, _⟩ => ⟨S256x1024, .bf16⟩
  | .local _ .vmem, ⟨9, _⟩ => ⟨S256x1024, .bf16⟩
  | .local _ .vmem, ⟨10, _⟩ => ⟨S256x4096, .f32⟩
  | .local _ .vmem, ⟨11, _⟩ => ⟨S256x4096, .f32⟩
  | .local _ .vmem, ⟨12, _⟩ => ⟨S8x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6272 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x6272 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S4096x1024 : Shape := ⟨2, ![4096, 1024]⟩
abbrev S1024 : Shape := ⟨1, ![1024]⟩
abbrev S1024x6272 : Shape := ⟨2, ![1024, 6272]⟩
abbrev S4x4096 : Shape := ⟨2, ![4, 4096]⟩
abbrev S4096 : Shape := ⟨1, ![4096]⟩
abbrev S_ : Shape := ⟨0, ![]⟩
abbrev S4096x1 : Shape := ⟨2, ![4096, 1]⟩
abbrev S1x1024 : Shape := ⟨2, ![1, 1024]⟩
abbrev S4096x6272 : Shape := ⟨2, ![4096, 6272]⟩
abbrev S4096x4096 : Shape := ⟨2, ![4096, 4096]⟩
abbrev S3x4096 : Shape := ⟨2, ![3, 4096]⟩
abbrev S4099x4096 : Shape := ⟨2, ![4099, 4096]⟩
abbrev S1x4096 : Shape := ⟨2, ![1, 4096]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6272, .bf16⟩
  | .hbm, ⟨3, _⟩ => ⟨S4x4096, .f32⟩
  | .hbm, ⟨4, _⟩ => ⟨S4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x6272, .f32⟩
  | .hbm, ⟨22, _⟩ => ⟨S4096x6272, .f32⟩
  | .hbm, ⟨23, _⟩ => ⟨S4096x1024, .bf16⟩
  | .hbm, ⟨24, _⟩ => ⟨S4096x4096, .f32⟩
  | .hbm, ⟨25, _⟩ => ⟨S_, .f32⟩
  | .hbm, ⟨26, _⟩ => ⟨S3x4096, .f32⟩
  | .hbm, ⟨27, _⟩ => ⟨S4099x4096, .f32⟩
  | .hbm, ⟨28, _⟩ => ⟨S4096x4096, .f32⟩
  | .hbm, ⟨29, _⟩ => ⟨S1x4096, .f32⟩
  | .hbm, ⟨30, _⟩ => ⟨S4096, .f32⟩
  | .hbm, ⟨31, _⟩ => ⟨S1x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S1x4096, .f32⟩
  | .hbm, ⟨36, _⟩ => ⟨S4096, .f32⟩
  | .hbm, ⟨37, _⟩ => ⟨S1x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S1x4096, .f32⟩
  | .hbm, ⟨43, _⟩ => ⟨S4096, .f32⟩
  | .hbm, ⟨44, _⟩ => ⟨S1x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S1x4096, .f32⟩
  | .hbm, ⟨50, _⟩ => ⟨S4096, .f32⟩
  | .hbm, ⟨51, _⟩ => ⟨S1x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S1x4096, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S4096x4096, .f32⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Proof.RmsNorm.lean ====
/-
  Extended reals that are real numbers, and the gradient of one row's RMS norm: for a row `x` and the cotangent `e` of
  the row divided by its root mean square, `normGrad x e`. It is what differentiating the mean of squares and the inverse
  root spells when both rows are real (`normGrad_eq`).
-/
module

public import Idealize.ShloMosaic.Lib.Pipeline.ValueKit
public import Idealize.ShloMosaic.Lib.IdealHost

@[expose] public section

noncomputable section

namespace Cert.FfnGrad

open Idealize.ShloMosaic

/-! ## Extended reals that are real numbers -/

theorem coe_finset_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

def IsReal (x : EReal) : Prop := ∃ r : ℝ, x = (r : EReal)

namespace IsReal

theorem coe (r : ℝ) : IsReal (r : EReal) := ⟨r, rfl⟩
theorem zero : IsReal 0 := ⟨0, by norm_cast⟩
theorem one : IsReal 1 := ⟨1, by norm_cast⟩
theorem mul {x y : EReal} : IsReal x → IsReal y → IsReal (x * y) := by
  rintro ⟨a, rfl⟩ ⟨b, rfl⟩; exact ⟨a * b, by push_cast; rfl⟩
theorem add {x y : EReal} : IsReal x → IsReal y → IsReal (x + y) := by
  rintro ⟨a, rfl⟩ ⟨b, rfl⟩; exact ⟨a + b, by push_cast; rfl⟩
theorem sub {x y : EReal} : IsReal x → IsReal y → IsReal (x - y) := by
  rintro ⟨a, rfl⟩ ⟨b, rfl⟩; exact ⟨a - b, by push_cast; rfl⟩
theorem sum {ι : Type} (s : Finset ι) (f : ι → EReal) (h : ∀ i, IsReal (f i)) : IsReal (∑ i ∈ s, f i) := by
  choose q hq using h
  exact ⟨∑ i ∈ s, q i, by simp only [hq, coe_finset_sum]⟩
theorem logistic {x : EReal} : IsReal x → IsReal (Ideal.logistic x) := by
  rintro ⟨a, rfl⟩; exact ⟨_, Ideal.logistic_coe a⟩
/-- A number whose absolute value is below infinity is real. -/
theorem of_abs_lt {x : EReal} (h : max x (-x) < ⊤) : IsReal x := by
  induction x using EReal.rec with
  | bot => simp at h
  | top => simp at h
  | coe r => exact ⟨r, rfl⟩

end IsReal

/-! ## The constants -/

/-- The number of lanes of the norm. -/
def lanes : EReal := Ideal.ofBits .f32 0x44800000#32
/-- The norm's epsilon. -/
def eps : EReal := Ideal.ofBits .f32 0x358637BD#32

theorem lanes_eq : lanes = ((1024 : ℝ) : EReal) := by
  simp [lanes, Ideal.ofBits, Ideal.ieee, -EReal.coe_mul]; norm_num

theorem eps_pos : ∃ e : ℝ, 0 < e ∧ eps = (e : EReal) := by
  refine ⟨_, ?_, by simp [eps, Ideal.ofBits, Ideal.ieee, -EReal.coe_mul]; rfl⟩
  positivity

theorem neg_half_eq : Ideal.ofBits .f32 0xBF000000#32 = ((-(1 / 2) : ℝ) : EReal) := by
  simp [Ideal.ofBits, Ideal.ieee, -EReal.coe_mul, -EReal.coe_neg]; norm_num

theorem div_lanes (x : EReal) : Ideal.div x lanes = x * ((1 / 1024 : ℝ) : EReal) := by
  rw [lanes_eq, Ideal.div_coe (by norm_num)]

/-! ## One row of the norm -/

/-- The mean square plus epsilon. -/
def rowMsq (x : Fin 1024 → EReal) : EReal := Ideal.div (∑ n, x n * x n) lanes + eps

/-- The inverse root mean square. -/
def rowInv (x : Fin 1024 → EReal) : EReal := Ideal.rsqrt (rowMsq x)

/-- The row's gradient, `e` the cotangent of `x n * rowInv x`. -/
def normGrad (x e : Fin 1024 → EReal) (n : Fin 1024) : EReal :=
  rowInv x * (e n - x n * rowInv x * Ideal.div (∑ j, e j * (x j * rowInv x)) lanes)

variable {x e : Fin 1024 → EReal} (hx : ∀ n, IsReal (x n)) (he : ∀ n, IsReal (e n))
include hx

/-- The mean square plus epsilon is a positive real, and its inverse root's value. -/
theorem rowInv_eq : ∃ v : ℝ, 0 < v ∧ rowMsq x = (v : EReal) ∧ rowInv x = (((Real.sqrt v)⁻¹ : ℝ) : EReal) := by
  choose q hq using hx
  obtain ⟨e, he, hE⟩ := eps_pos
  have hm : rowMsq x = (((∑ n, q n * q n) * (1 / 1024) + e : ℝ) : EReal) := by
    rw [rowMsq, div_lanes, hE]; simp only [hq, ← EReal.coe_mul, ← coe_finset_sum, ← EReal.coe_add]
  have hv : 0 < (∑ n, q n * q n) * (1 / 1024) + e :=
    add_pos_of_nonneg_of_pos (mul_nonneg (Finset.sum_nonneg fun n _ => mul_self_nonneg _) (by norm_num)) he
  refine ⟨_, hv, hm, ?_⟩
  rw [rowInv, hm, Ideal.rsqrt_coe, if_neg (not_lt.mpr hv.le), if_neg hv.ne']

theorem real_rowInv : IsReal (rowInv x) := by obtain ⟨v, _, _, h⟩ := rowInv_eq hx; exact ⟨_, h⟩

include he

theorem real_normGrad (n) : IsReal (normGrad x e n) := by
  refine (real_rowInv hx).mul ((he n).sub (((hx n).mul (real_rowInv hx)).mul ?_))
  rw [div_lanes]
  exact (IsReal.sum _ _ fun j => (he j).mul ((hx j).mul (real_rowInv hx))).mul (.coe _)

/-- The gradient as differentiating the mean of squares and the inverse root spells it. -/
theorem normGrad_eq (n) :
    e n * rowInv x
        + (x n * Ideal.div ((∑ j, x j * e j) * (Ideal.ofBits .f32 0xBF000000#32 * Ideal.div (rowInv x) (rowMsq x))) lanes
          + Ideal.div ((∑ j, x j * e j) * (Ideal.ofBits .f32 0xBF000000#32 * Ideal.div (rowInv x) (rowMsq x))) lanes * x n)
      = normGrad x e n := by
  obtain ⟨v, hv, hm, hr⟩ := rowInv_eq hx
  choose q hq using hx
  choose d hd using he
  unfold normGrad
  rw [div_lanes, div_lanes, hr, hm, Ideal.div_coe hv.ne', neg_half_eq]
  simp only [hq, hd]
  simp only [← EReal.coe_mul, ← coe_finset_sum, ← EReal.coe_add, ← EReal.coe_sub]
  congr 1
  have hs : (Real.sqrt v)⁻¹ * (1 / v) = (Real.sqrt v)⁻¹ ^ 3 := by
    have : (Real.sqrt v)⁻¹ ^ 2 = 1 / v := by rw [inv_pow, Real.sq_sqrt hv.le, one_div]
    rw [← this]; ring
  have h1 : ∑ j, d j * (q j * (Real.sqrt v)⁻¹) = (∑ j, q j * d j) * (Real.sqrt v)⁻¹ := by
    rw [Finset.sum_mul]; exact Finset.sum_congr rfl fun j _ => by ring
  rw [h1, hs]
  ring

end Cert.FfnGrad
-- ==== Proof.Spec.lean ====
/-
  The mathematics of the backward pass of one convolutional feed-forward block, as functions of six arrays over the
  extended reals: the widened activations `u` (gate half and linear half), the three taps `w` and the bias `b` of the
  causal depthwise convolution, the down projection `W`, the norm's gain `g` and the cotangent `d` of the norm's output.
  Both programs are shown to compute `dup0`, `dup1`, `df`, `dg` and `stats` of their arguments. Where every argument is
  a real number the two identities that need distributivity hold: `df_eq` (the norm) and `dgate_eq` (the gate).
-/
module

public import proofs.«01_k».proof.Proof.RmsNorm

@[expose] public section

noncomputable section

namespace Cert.FfnGrad

open Idealize.ShloMosaic

/-- The arguments, one function per array. -/
structure Args where
  u : Fin 2 → Fin 4096 → Fin 2816 → EReal
  w : Fin 3 → Fin 2816 → EReal
  b : Fin 2816 → EReal
  W : Fin 2816 → Fin 1024 → EReal
  g : Fin 1024 → EReal
  d : Fin 4096 → Fin 1024 → EReal

/-! ## The forward pass -/

variable (A : Args)

/-- The convolution's input `k` rows back, zero before the sequence. -/
def inp (k : ℕ) (t : Fin 4096) (c : Fin 2816) : EReal :=
  if h : k ≤ t.val then A.u 0 ⟨t.val - k, by omega⟩ c else 0

def gate (t : Fin 4096) (c : Fin 2816) : EReal :=
  inp A 2 t c * A.w 0 c + inp A 1 t c * A.w 1 c + inp A 0 t c * A.w 2 c + A.b c

def sg (t : Fin 4096) (c : Fin 2816) : EReal := Ideal.logistic (gate A t c)

def f (t : Fin 4096) (n : Fin 1024) : EReal := ∑ c, gate A t c * sg A t c * A.u 1 t c * A.W c n

/-- The mean square plus epsilon. -/
def msq (t : Fin 4096) : EReal := rowMsq (f A t)

def r (t : Fin 4096) : EReal := rowInv (f A t)

def fh (t : Fin 4096) (n : Fin 1024) : EReal := f A t n * r A t

/-! ## The backward pass -/

def dg (n : Fin 1024) : EReal := ∑ t, A.d t n * fh A t n

def df (t : Fin 4096) (n : Fin 1024) : EReal := normGrad (f A t) (fun j => A.d t j * A.g j) n

def da (t : Fin 4096) (c : Fin 2816) : EReal := ∑ n, df A t n * A.W c n

def dup1 (t : Fin 4096) (c : Fin 2816) : EReal := da A t c * gate A t c * sg A t c

def dgate (t : Fin 4096) (c : Fin 2816) : EReal :=
  da A t c * A.u 1 t c * (sg A t c * (1 + gate A t c * (1 - sg A t c)))

/-- The gate's cotangent `k` rows ahead, zero after the sequence. -/
def ahead (k : ℕ) (t : Fin 4096) (c : Fin 2816) : EReal :=
  if h : t.val + k < 4096 then dgate A ⟨t.val + k, h⟩ c else 0

def dup0 (t : Fin 4096) (c : Fin 2816) : EReal :=
  dgate A t c * A.w 2 c + ahead A 1 t c * A.w 1 c + ahead A 2 t c * A.w 0 c

/-- Rows 0 to 2: the taps' gradients. Row 3: the bias's. The rest: zero. -/
def stats (j : Fin 8) (c : Fin 2816) : EReal :=
  if j.val < 3 then ∑ t, dgate A t c * inp A (2 - j.val) t c else if j.val = 3 then ∑ t, dgate A t c else 0

/-! ## Every value is real when the arguments are -/

structure AllReal : Prop where
  u : ∀ p t c, IsReal (A.u p t c)
  w : ∀ k c, IsReal (A.w k c)
  b : ∀ c, IsReal (A.b c)
  W : ∀ c n, IsReal (A.W c n)
  g : ∀ n, IsReal (A.g n)
  d : ∀ t n, IsReal (A.d t n)

variable {A} (hA : AllReal A)
include hA

theorem real_inp (k t c) : IsReal (inp A k t c) := by
  unfold inp; split
  exacts [hA.u _ _ _, .zero]
theorem real_gate (t c) : IsReal (gate A t c) :=
  ((((real_inp hA _ _ _).mul (hA.w _ _)).add ((real_inp hA _ _ _).mul (hA.w _ _))).add ((real_inp hA _ _ _).mul (hA.w _ _))).add (hA.b _)
theorem real_sg (t c) : IsReal (sg A t c) := (real_gate hA t c).logistic
theorem real_f (t n) : IsReal (f A t n) :=
  .sum _ _ fun c => (((real_gate hA t c).mul (real_sg hA t c)).mul (hA.u _ _ _)).mul (hA.W _ _)

theorem real_r (t) : IsReal (r A t) := real_rowInv (real_f hA t)
theorem real_fh (t n) : IsReal (fh A t n) := (real_f hA t n).mul (real_r hA t)
theorem real_df (t n) : IsReal (df A t n) := real_normGrad (real_f hA t) (fun n => (hA.d t n).mul (hA.g n)) n
theorem real_da (t c) : IsReal (da A t c) := .sum _ _ fun n => (real_df hA t n).mul (hA.W _ _)

/-- The norm's gradient as differentiating the mean of squares and the inverse root spells it. -/
theorem df_eq (t n) :
    A.d t n * A.g n * r A t
        + (f A t n * Ideal.div ((∑ j, f A t j * (A.d t j * A.g j)) * (Ideal.ofBits .f32 0xBF000000#32 * Ideal.div (r A t) (msq A t))) lanes
          + Ideal.div ((∑ j, f A t j * (A.d t j * A.g j)) * (Ideal.ofBits .f32 0xBF000000#32 * Ideal.div (r A t) (msq A t))) lanes * f A t n)
      = df A t n :=
  normGrad_eq (real_f hA t) (fun n => (hA.d t n).mul (hA.g n)) n

/-- The gate's gradient as differentiating `x * sigmoid x` spells it. -/
theorem dgate_eq (t c) :
    da A t c * A.u 1 t c * sg A t c + gate A t c * (da A t c * A.u 1 t c) * (sg A t c * (1 - sg A t c)) = dgate A t c := by
  obtain ⟨x, hx⟩ := real_gate hA t c
  obtain ⟨s, hs⟩ := real_sg hA t c
  obtain ⟨y, hy⟩ := (real_da hA t c).mul (hA.u 1 t c)
  unfold dgate
  rw [hx, hs, hy]
  norm_cast
  congr 1
  ring

end Cert.FfnGrad
-- ==== Proof.Strip.lean ====
/-
  One strip of 128 lanes of a tile: what each vector the body computes from the strip's loads holds, entry by entry.
  The convolution's rotated rows, the gate and its sigmoid, the gate's cotangent and the eight sums over rows are stated
  once, for any strip.
-/
module

public import proofs.«01_k».proof.Proof.Spec
public import proofs.«01_k».proof.Proof.Gen.KernelIdeal.Skeleton

@[expose] public section

set_option maxRecDepth 16384

noncomputable section

namespace Cert.KernelIdeal.Grad

open Cert.KernelIdeal Cert.KernelIdeal.Gen Cert.FfnGrad Idealize.ShloMosaic Idealize.ShloMosaic.TcCoe

variable (v0 : BitVec 32) (w0 w1 w2 cb : Vec Ideal S1x128 .f32) (gp u1 : Vec Ideal S1x256x128 .bf16) (pv : Vec Ideal S1x16x128 .bf16)
  (da : Vec Ideal S256x128 .f32) (hd : Vec Ideal S8x128 .f32) (acc : Vec Ideal S1x128 .f32)

/-- The convolution's input `k` rows back within one strip of a tile: the tile's own rows, else the rows before it. -/
def gin (k : ℕ) (hk : k ≤ 2) (t : Fin 256) (c : Fin 128) : EReal :=
  if h : k ≤ t.val then gp (ix3 0 ⟨t.val - k, by omega⟩ c)
  else if Scalar.cmpi .sgt v0 0#32 = 1#1 then pv (ix3 0 ⟨16 + t.val - k, by omega⟩ c) else 0

/-- The gate, its sigmoid and its cotangent within one strip. -/
def sgate (t : Fin 256) (c : Fin 128) : EReal :=
  gin v0 gp pv 2 (by decide) t c * w0 (ix2 0 c) + gin v0 gp pv 1 (by decide) t c * w1 (ix2 0 c) + gin v0 gp pv 0 (by decide) t c * w2 (ix2 0 c) + cb (ix2 0 c)

def ssig (t : Fin 256) (c : Fin 128) : EReal := Ideal.logistic (sgate v0 w0 w1 w2 cb gp pv t c)

def sdgate (t : Fin 256) (c : Fin 128) : EReal :=
  da (ix2 t c) * u1 (ix3 0 t c)
    * (ssig v0 w0 w1 w2 cb gp pv t c * (1 + sgate v0 w0 w1 w2 cb gp pv t c * (1 - ssig v0 w0 w1 w2 cb gp pv t c)))

/-- The gate's cotangent `k` rows ahead: the tile's own rows, else the first rows of the tile after it. -/
def sahead (k : ℕ) (hk : k ≤ 2) (t : Fin 256) (c : Fin 128) : EReal :=
  if h : t.val + k < 256 then sdgate v0 w0 w1 w2 cb gp u1 pv da ⟨t.val + k, h⟩ c else hd (ix2 ⟨t.val + k - 256, by omega⟩ c)

theorem pay16_at (t : Fin 256) (c : Fin 128) : k0_pay16 gp (ix2 t c) = gin v0 gp pv 0 (by decide) t c := by
  pointwise [k0_pay16, gin]

theorem pay17_at (j : Fin 264) (c : Fin 128) : k0_pay17 v0 gp pv (ix2 j c) =
    if h : j.val < 8 then if Scalar.cmpi .sgt v0 0#32 = 1#1 then pv (ix3 0 ⟨8 + j.val, by omega⟩ c) else 0 else gp (ix3 0 ⟨j.val - 8, by omega⟩ c) := by
  pointwise [k0_pay17, k0_pay16]
  rfl

theorem pay18_at (t : Fin 256) (c : Fin 128) : k0_pay18 v0 gp pv (ix2 t c) = gin v0 gp pv 1 (by decide) t c := by
  pointwise [k0_pay18, gin]
  have e : (8 + t.val + 264 - 1) % 264 = 7 + t.val := by omega
  rw [pay17_at]
  simp only [e]
  by_cases h : 1 ≤ t.val
  · rw [dif_neg (by omega), dif_pos h]
    exact congrArg gp (congrArg (ix3 0 · c) (Fin.ext (by simp only; omega)))
  · rw [dif_pos (by omega), dif_neg h]
    simp only [show 8 + (7 + t.val) = 16 + t.val - 1 by omega]

theorem pay19_at (t : Fin 256) (c : Fin 128) : k0_pay19 v0 gp pv (ix2 t c) = gin v0 gp pv 2 (by decide) t c := by
  pointwise [k0_pay19, gin]
  have e : (8 + t.val + 264 - 2) % 264 = 6 + t.val := by omega
  rw [pay17_at]
  simp only [e]
  by_cases h : 2 ≤ t.val
  · rw [dif_neg (by omega), dif_pos h]
    exact congrArg gp (congrArg (ix3 0 · c) (Fin.ext (by simp only; omega)))
  · rw [dif_pos (by omega), dif_neg h]
    simp only [show 8 + (6 + t.val) = 16 + t.val - 2 by omega]

theorem pay22_at (t : Fin 256) (c : Fin 128) : k0_pay22 (k0_pay20 v0 w1 w2 gp pv) (k0_pay21 v0 w0 gp pv) cb (ix2 t c) = sgate v0 w0 w1 w2 cb gp pv t c := by
  pointwise [k0_pay22, k0_pay20, k0_pay21, sgate, k0_pay13, k0_pay14, k0_pay15]
  rw [pay16_at v0 gp pv, pay18_at, pay19_at]
  refine congrArg (· + cb (ix2 0 c)) ?_
  rw [add_comm, add_comm (gin _ _ _ 0 _ _ _ * _), ← add_assoc]

theorem pay23_at (t : Fin 256) (c : Fin 128) : k0_pay23 (k0_pay20 v0 w1 w2 gp pv) (k0_pay21 v0 w0 gp pv) cb (ix2 t c) = ssig v0 w0 w1 w2 cb gp pv t c := by
  unfold ssig
  rw [← pay22_at]
  pointwise [k0_pay23]
  rw [zero_sub]
  rfl

theorem pay24_at (t : Fin 256) (c : Fin 128) : k0_pay24 (k0_pay20 v0 w1 w2 gp pv) (k0_pay21 v0 w0 gp pv) cb da u1 (ix2 t c) = sdgate v0 w0 w1 w2 cb gp u1 pv da t c := by
  unfold sdgate
  rw [← pay22_at, ← pay23_at]
  pointwise [k0_pay24]

theorem pay25_at (z : Fin 1) (t : Fin 256) (c : Fin 128) :
    k0_pay25 (k0_pay13 w0) (k0_pay14 w1) (k0_pay15 w2) (k0_pay20 v0 w1 w2 gp pv) (k0_pay21 v0 w0 gp pv) cb da u1 hd (ix3 z t c)
      = sdgate v0 w0 w1 w2 cb gp u1 pv da t c * w2 (ix2 0 c) + sahead v0 w0 w1 w2 cb gp u1 pv da hd 1 (by decide) t c * w1 (ix2 0 c)
        + sahead v0 w0 w1 w2 cb gp u1 pv da hd 2 (by decide) t c * w0 (ix2 0 c) := by
  unfold sahead
  simp only [← pay24_at]
  pointwise [k0_pay25, k0_pay13, k0_pay14, k0_pay15]
  have e1 : (t.val + 264 - 263) % 264 = t.val + 1 := by omega
  have e2 : (t.val + 264 - 262) % 264 = t.val + 2 := by omega
  simp only [e1, e2]

theorem pay26_at (z : Fin 1) (t : Fin 256) (c : Fin 128) :
    k0_pay26 (k0_pay22 (k0_pay20 v0 w1 w2 gp pv) (k0_pay21 v0 w0 gp pv) cb) (k0_pay23 (k0_pay20 v0 w1 w2 gp pv) (k0_pay21 v0 w0 gp pv) cb) da (ix3 z t c)
      = da (ix2 t c) * sgate v0 w0 w1 w2 cb gp pv t c * ssig v0 w0 w1 w2 cb gp pv t c := by
  rw [← pay22_at, ← pay23_at]
  pointwise [k0_pay26]

theorem pay27_at (j : Fin 8) (c : Fin 128) :
    k0_pay27 (k0_pay24 (k0_pay20 v0 w1 w2 gp pv) (k0_pay21 v0 w0 gp pv) cb da u1) (ix2 j c) = sdgate v0 w0 w1 w2 cb gp u1 pv da ⟨j.val, by omega⟩ c := by
  rw [← pay24_at]
  pointwise [k0_pay27]

theorem pay28_at (z : Fin 1) (c : Fin 128) :
    k0_pay28 (k0_pay19 v0 gp pv) (k0_pay24 (k0_pay20 v0 w1 w2 gp pv) (k0_pay21 v0 w0 gp pv) cb da u1) acc (ix2 z c)
      = acc (ix2 0 c) + ∑ t, sdgate v0 w0 w1 w2 cb gp u1 pv da t c * gin v0 gp pv 2 (by decide) t c := by
  obtain rfl : z = 0 := Subsingleton.elim _ _
  simp only [← pay24_at, ← pay19_at]
  pointwise [k0_pay28]

theorem pay29_at (z : Fin 1) (c : Fin 128) :
    k0_pay29 (k0_pay18 v0 gp pv) (k0_pay24 (k0_pay20 v0 w1 w2 gp pv) (k0_pay21 v0 w0 gp pv) cb da u1) acc (ix2 z c)
      = acc (ix2 0 c) + ∑ t, sdgate v0 w0 w1 w2 cb gp u1 pv da t c * gin v0 gp pv 1 (by decide) t c := by
  obtain rfl : z = 0 := Subsingleton.elim _ _
  simp only [← pay24_at, ← pay18_at]
  pointwise [k0_pay29]

theorem pay30_at (z : Fin 1) (c : Fin 128) :
    k0_pay30 (k0_pay16 gp) (k0_pay24 (k0_pay20 v0 w1 w2 gp pv) (k0_pay21 v0 w0 gp pv) cb da u1) acc (ix2 z c)
      = acc (ix2 0 c) + ∑ t, sdgate v0 w0 w1 w2 cb gp u1 pv da t c * gin v0 gp pv 0 (by decide) t c := by
  obtain rfl : z = 0 := Subsingleton.elim _ _
  simp only [← pay24_at, ← pay16_at]
  pointwise [k0_pay30]

theorem pay32_at (z : Fin 1) (c : Fin 128) :
    k0_pay32 (k0_pay24 (k0_pay20 v0 w1 w2 gp pv) (k0_pay21 v0 w0 gp pv) cb da u1) (k0_pay31 acc) (ix2 z c)
      = acc (ix2 0 c) + ∑ t, sdgate v0 w0 w1 w2 cb gp u1 pv da t c := by
  obtain rfl : z = 0 := Subsingleton.elim _ _
  simp only [← pay24_at]
  pointwise [k0_pay32, k0_pay31]

end Cert.KernelIdeal.Grad
-- ==== Proof.Tile.lean ====
/-
  From one strip to one tile: a strip's loads are lanes of the tile's blocks, so what the strip stores is a block of
  the tile's outputs. `Holds` says what the tile's blocks hold, `Head` what the tile before it in the grid handed on,
  and `dupT`, `headT` and `statsT` what the tile leaves.
-/
module

public import proofs.«01_k».proof.Proof.Strip

@[expose] public section

set_option maxRecDepth 16384

noncomputable section

namespace Cert.KernelIdeal.Grad

open Cert.KernelIdeal Cert.KernelIdeal.Gen Cert.FfnGrad Idealize.ShloMosaic Idealize.ShloMosaic.TcCoe

/-- Row `t` of tile `T`. -/
def row (T : Fin 16) (t : Fin 256) : Fin 4096 := ⟨256 * T.val + t.val, by omega⟩

/-- Lane `c` of the strip at offset `o`. -/
def lane (o : ℕ) (ho : o + 128 ≤ 2816) (c : Fin 128) : Fin 2816 := ⟨o + c.val, by omega⟩

/-- What one grid point's blocks hold: tile `T` of the arrays the specification reads. -/
structure Holds (A : Args) (T : Fin 16) (v0 : BitVec 32) (X4 : Vec Ideal S2x256x2816 .bf16) (X5 : Vec Ideal S2x16x2816 .bf16)
    (X6 : Vec Ideal S8x2816 .f32) (X7 : Vec Ideal S1x2816 .f32) (DA : Vec Ideal S256x2816 .f32) : Prop where
  first : Scalar.cmpi .sgt v0 0#32 = 1#1 ↔ 0 < T.val
  up : ∀ p t c, X4 (ix3 p t c) = A.u p (row T t) c
  prev : ∀ (h : 0 < T.val) (j : Fin 16) c, X5 (ix3 0 j c) = A.u 0 ⟨256 * T.val - 16 + j.val, by omega⟩ c
  taps : ∀ (k : Fin 3) c, X6 (ix2 ⟨k.val, by omega⟩ c) = A.w k c
  bias : ∀ c, X7 (ix2 0 c) = A.b c
  da : ∀ t c, DA (ix2 t c) = da A (row T t) c

/-- The rows a tile is handed from the tile after it: the first eight of that tile's gate cotangent, zero past the sequence. -/
def Head (A : Args) (T : Fin 16) (hd : Vec Ideal S8x2816 .f32) : Prop :=
  ∀ (j : Fin 8) c, hd (ix2 j c) = if h : 256 * (T.val + 1) + j.val < 4096 then dgate A ⟨256 * (T.val + 1) + j.val, h⟩ c else 0

/-- The tile's block of the two activations' gradients. -/
def dupT (A : Args) (T : Fin 16) (i : S2x256x2816.Idx) : EReal :=
  if (i 0).val = 0 then dup0 A (row T (i 1)) (i 2) else dup1 A (row T (i 1)) (i 2)

/-- The tile's first eight rows of the gate's cotangent. -/
def headT (A : Args) (T : Fin 16) (i : S8x2816.Idx) : EReal := dgate A (row T ⟨(i 0).val, by have := (i 0).isLt; simp at this; omega⟩) (i 1)

/-- What a tile adds to the taps' and the bias's gradients. -/
def statsT (A : Args) (T : Fin 16) (j : ℕ) (c : Fin 2816) : EReal :=
  if j < 3 then ∑ t, dgate A (row T t) c * inp A (2 - j) (row T t) c else if j = 3 then ∑ t, dgate A (row T t) c else 0

/-- What the loads of one strip hold: lanes `o` to `o + 127` of tile `T`. -/
structure Loads (A : Args) (T : Fin 16) (o : ℕ) (ho : o + 128 ≤ 2816) (v0 : BitVec 32) (w0 w1 w2 cb : Vec Ideal S1x128 .f32) (gp u1 : Vec Ideal S1x256x128 .bf16)
    (pv : Vec Ideal S1x16x128 .bf16) (DS : Vec Ideal S256x128 .f32) : Prop where
  first : Scalar.cmpi .sgt v0 0#32 = 1#1 ↔ 0 < T.val
  w0 : ∀ c, w0 (ix2 0 c) = A.w 0 (lane o ho c)
  w1 : ∀ c, w1 (ix2 0 c) = A.w 1 (lane o ho c)
  w2 : ∀ c, w2 (ix2 0 c) = A.w 2 (lane o ho c)
  cb : ∀ c, cb (ix2 0 c) = A.b (lane o ho c)
  gp : ∀ t c, gp (ix3 0 t c) = A.u 0 (row T t) (lane o ho c)
  u1 : ∀ t c, u1 (ix3 0 t c) = A.u 1 (row T t) (lane o ho c)
  pv : ∀ (h : 0 < T.val) (j : Fin 16) c, pv (ix3 0 j c) = A.u 0 ⟨256 * T.val - 16 + j.val, by omega⟩ (lane o ho c)
  da : ∀ t c, DS (ix2 t c) = da A (row T t) (lane o ho c)

section blocks

variable {A : Args} {T : Fin 16} {v0 : BitVec 32} {X4 : Vec Ideal S2x256x2816 .bf16} {X5 : Vec Ideal S2x16x2816 .bf16}
    {X6 : Vec Ideal S8x2816 .f32} {X7 : Vec Ideal S1x2816 .f32} {DA : Vec Ideal S256x2816 .f32} (H : Holds A T v0 X4 X5 X6 X7 DA)
    (o : ℕ) (ho : o + 128 ≤ 2816)
    (i0 : ∀ a, (![0, o] : Fin 2 → ℕ) a + S1x128.size a ≤ S8x2816.size a) (i1 : ∀ a, (![1, o] : Fin 2 → ℕ) a + S1x128.size a ≤ S8x2816.size a)
    (i2 : ∀ a, (![2, o] : Fin 2 → ℕ) a + S1x128.size a ≤ S8x2816.size a)
    (i4 : ∀ a, (![0, 0, o] : Fin 3 → ℕ) a + S1x256x128.size a ≤ S2x256x2816.size a)
    (i4' : ∀ a, (![1, 0, o] : Fin 3 → ℕ) a + S1x256x128.size a ≤ S2x256x2816.size a)
    (i5 : ∀ a, (![0, 0, o] : Fin 3 → ℕ) a + S1x16x128.size a ≤ S2x16x2816.size a)
    (i7 : ∀ a, (![0, o] : Fin 2 → ℕ) a + S1x128.size a ≤ S1x2816.size a)
    (id : ∀ a, (![0, o] : Fin 2 → ℕ) a + S256x128.size a ≤ S256x2816.size a)

include H in
theorem loads : Loads A T o ho v0 (View.ld X6 (Rect.unit ![0, o] S1x128.size i0)) (View.ld X6 (Rect.unit ![1, o] S1x128.size i1)) (View.ld X6 (Rect.unit ![2, o] S1x128.size i2))
    (View.ld X7 (Rect.unit ![0, o] S1x128.size i7)) (View.ld X4 (Rect.unit ![0, 0, o] S1x256x128.size i4)) (View.ld X4 (Rect.unit ![1, 0, o] S1x256x128.size i4'))
    (View.ld X5 (Rect.unit ![0, 0, o] S1x16x128.size i5)) (View.ld DA (Rect.unit ![0, o] S256x128.size id)) where
  first := H.first
  w0 c := by pointwise []; exact H.taps 0 _
  w1 c := by pointwise []; exact H.taps 1 _
  w2 c := by pointwise []; exact H.taps 2 _
  cb c := by pointwise []; exact H.bias _
  gp t c := by pointwise []; exact H.up 0 t _
  u1 t c := by pointwise []; exact H.up 1 t _
  pv h j c := by pointwise []; exact H.prev h j _
  da t c := by pointwise []; exact H.da t _

end blocks

section emb

variable {o : ℕ} (ho : o + 128 ≤ 2816) (z : Fin 1) (c : Fin 128)
include ho

theorem emb_row (k : ℕ) (hk : k < 8) (i) :
    (Rect.unit (s := S8x2816) ![k, o] S1x128.size i).emb (ix2 z c) = ix2 ⟨k, hk⟩ (lane o ho c) := by
  funext a
  apply Fin.ext
  match a with
  | 0 => simp [Rect.emb, Rect.unit]
  | 1 => simp [Rect.emb, Rect.unit, lane]

theorem emb_rows (j : Fin 8) (i) :
    (Rect.unit (s := S8x2816) ![0, o] S8x128.size i).emb (ix2 j c) = ix2 j (lane o ho c) := by
  funext a
  apply Fin.ext
  match a with
  | 0 => simp [Rect.emb, Rect.unit]
  | 1 => simp [Rect.emb, Rect.unit, lane]

theorem emb_plane (p : ℕ) (hp : p < 2) (t : Fin 256) (i) :
    (Rect.unit (s := S2x256x2816) ![p, 0, o] S1x256x128.size i).emb (ix3 z t c) = ix3 ⟨p, hp⟩ t (lane o ho c) := by
  funext a
  apply Fin.ext
  match a with
  | 0 => simp [Rect.emb, Rect.unit]
  | 1 => simp [Rect.emb, Rect.unit]
  | 2 => simp [Rect.emb, Rect.unit, lane]

end emb

section strip

variable {A : Args} {T : Fin 16} {v0 : BitVec 32} {o : ℕ} {ho : o + 128 ≤ 2816} {w0 w1 w2 cb : Vec Ideal S1x128 .f32} {gp u1 : Vec Ideal S1x256x128 .bf16}
    {pv : Vec Ideal S1x16x128 .bf16} {DS : Vec Ideal S256x128 .f32} (S : Loads A T o ho v0 w0 w1 w2 cb gp u1 pv DS)

include S

theorem gin_eq (k : ℕ) (hk : k ≤ 2) (t : Fin 256) (c : Fin 128) : gin v0 gp pv k hk t c = inp A k (row T t) (lane o ho c) := by
  unfold gin inp
  by_cases h : k ≤ t.val
  · rw [dif_pos h, dif_pos (by simp only [row]; omega), S.gp]
    exact congrArg (A.u 0 · _) (Fin.ext (by simp only [row]; omega))
  · rw [dif_neg h]
    by_cases hT : 0 < T.val
    · rw [if_pos (S.first.mpr hT), dif_pos (by simp only [row]; omega), S.pv hT]
      exact congrArg (A.u 0 · _) (Fin.ext (by simp only [row]; omega))
    · rw [if_neg (fun e => hT (S.first.mp e)), dif_neg (by simp only [row]; omega)]

theorem sgate_eq (t : Fin 256) (c : Fin 128) : sgate v0 w0 w1 w2 cb gp pv t c = gate A (row T t) (lane o ho c) := by
  simp only [sgate, gate, gin_eq S, S.w0, S.w1, S.w2, S.cb]

theorem ssig_eq (t : Fin 256) (c : Fin 128) : ssig v0 w0 w1 w2 cb gp pv t c = sg A (row T t) (lane o ho c) := by
  simp only [ssig, sg, sgate_eq S]

theorem sdgate_eq (t : Fin 256) (c : Fin 128) : sdgate v0 w0 w1 w2 cb gp u1 pv DS t c = dgate A (row T t) (lane o ho c) := by
  simp only [sdgate, dgate, ssig_eq S, sgate_eq S, S.da, S.u1]

theorem sahead_eq {hd : Vec Ideal S8x2816 .f32} (hh : Head A T hd) (i : ∀ a, (![0, o] : Fin 2 → ℕ) a + S8x128.size a ≤ S8x2816.size a)
    (k : ℕ) (hk : k ≤ 2) (t : Fin 256) (c : Fin 128) :
    sahead v0 w0 w1 w2 cb gp u1 pv DS (View.ld hd (Rect.unit ![0, o] S8x128.size i)) k hk t c = ahead A k (row T t) (lane o ho c) := by
  unfold sahead ahead
  by_cases h : t.val + k < 256
  · rw [dif_pos h, dif_pos (by simp only [row]; omega), sdgate_eq S]
    exact congrArg (dgate A · _) (Fin.ext (by simp only [row]; omega))
  · rw [dif_neg h]
    pointwise []
    rw [hh]
    simp only [row]
    have e : 256 * (T.val + 1) + (t.val + k - 256) = 256 * T.val + t.val + k := by omega
    simp only [e]
    rfl

theorem piece25 {hd : Vec Ideal S8x2816 .f32} (hh : Head A T hd) (i) (i') (y : S1x256x128.Idx) :
    k0_pay25 (k0_pay13 w0) (k0_pay14 w1) (k0_pay15 w2) (k0_pay20 v0 w1 w2 gp pv) (k0_pay21 v0 w0 gp pv) cb DS u1 (View.ld hd (Rect.unit ![0, o] S8x128.size i)) y
      = dupT A T ((Rect.unit (s := S2x256x2816) ![0, 0, o] S1x256x128.size i').emb y) := by
  obtain ⟨z, t, c, rfl⟩ : ∃ z t c, y = ix3 z t c := ⟨_, _, _, eq_ix3 y⟩
  obtain rfl : z = 0 := Subsingleton.elim _ _
  rw [pay25_at, sdgate_eq S, sahead_eq S hh, sahead_eq S hh, S.w0, S.w1, S.w2]
  rw [emb_plane ho 0 c 0 (by decide)]
  rfl

theorem piece26 (i') (y : S1x256x128.Idx) :
    k0_pay26 (k0_pay22 (k0_pay20 v0 w1 w2 gp pv) (k0_pay21 v0 w0 gp pv) cb) (k0_pay23 (k0_pay20 v0 w1 w2 gp pv) (k0_pay21 v0 w0 gp pv) cb) DS y
      = dupT A T ((Rect.unit (s := S2x256x2816) ![1, 0, o] S1x256x128.size i').emb y) := by
  obtain ⟨z, t, c, rfl⟩ : ∃ z t c, y = ix3 z t c := ⟨_, _, _, eq_ix3 y⟩
  obtain rfl : z = 0 := Subsingleton.elim _ _
  rw [pay26_at, sgate_eq S, ssig_eq S, S.da]
  rw [emb_plane ho 0 c 1 (by decide)]
  rfl

theorem piece27 (i') (y : S8x128.Idx) :
    k0_pay27 (k0_pay24 (k0_pay20 v0 w1 w2 gp pv) (k0_pay21 v0 w0 gp pv) cb DS u1) y
      = headT A T ((Rect.unit (s := S8x2816) ![0, o] S8x128.size i').emb y) := by
  obtain ⟨t, c, rfl⟩ : ∃ t c, y = ix2 t c := ⟨_, _, eq_ix2 y⟩
  rw [pay27_at, sdgate_eq S]
  rw [emb_rows ho]
  rfl

theorem piece28 (P : Vec Ideal S8x2816 .f32) (i) (i') (y : S1x128.Idx) :
    k0_pay28 (k0_pay19 v0 gp pv) (k0_pay24 (k0_pay20 v0 w1 w2 gp pv) (k0_pay21 v0 w0 gp pv) cb DS u1) (View.ld P (Rect.unit ![0, o] S1x128.size i)) y
      = (fun q : S8x2816.Idx => P q + statsT A T (q 0).val (q 1)) ((Rect.unit (s := S8x2816) ![0, o] S1x128.size i').emb y) := by
  obtain ⟨z, c, rfl⟩ : ∃ t c, y = ix2 t c := ⟨_, _, eq_ix2 y⟩
  obtain rfl : z = 0 := Subsingleton.elim _ _
  rw [pay28_at]
  simp only [sdgate_eq S, gin_eq S]
  rw [emb_row ho 0 c 0 (by decide)]
  pointwise [statsT]
  rfl

theorem piece29 (P : Vec Ideal S8x2816 .f32) (i) (i') (y : S1x128.Idx) :
    k0_pay29 (k0_pay18 v0 gp pv) (k0_pay24 (k0_pay20 v0 w1 w2 gp pv) (k0_pay21 v0 w0 gp pv) cb DS u1) (View.ld P (Rect.unit ![1, o] S1x128.size i)) y
      = (fun q : S8x2816.Idx => P q + statsT A T (q 0).val (q 1)) ((Rect.unit (s := S8x2816) ![1, o] S1x128.size i').emb y) := by
  obtain ⟨z, c, rfl⟩ : ∃ t c, y = ix2 t c := ⟨_, _, eq_ix2 y⟩
  obtain rfl : z = 0 := Subsingleton.elim _ _
  rw [pay29_at]
  simp only [sdgate_eq S, gin_eq S]
  rw [emb_row ho 0 c 1 (by decide)]
  pointwise [statsT]
  rfl

theorem piece30 (P : Vec Ideal S8x2816 .f32) (i) (i') (y : S1x128.Idx) :
    k0_pay30 (k0_pay16 gp) (k0_pay24 (k0_pay20 v0 w1 w2 gp pv) (k0_pay21 v0 w0 gp pv) cb DS u1) (View.ld P (Rect.unit ![2, o] S1x128.size i)) y
      = (fun q : S8x2816.Idx => P q + statsT A T (q 0).val (q 1)) ((Rect.unit (s := S8x2816) ![2, o] S1x128.size i').emb y) := by
  obtain ⟨z, c, rfl⟩ : ∃ t c, y = ix2 t c := ⟨_, _, eq_ix2 y⟩
  obtain rfl : z = 0 := Subsingleton.elim _ _
  rw [pay30_at v0 w0 w1 w2 cb gp u1 pv]
  simp only [sdgate_eq S, gin_eq S]
  rw [emb_row ho 0 c 2 (by decide)]
  pointwise [statsT]
  rfl

theorem piece32 (P : Vec Ideal S8x2816 .f32) (i) (i') (y : S1x128.Idx) :
    k0_pay32 (k0_pay24 (k0_pay20 v0 w1 w2 gp pv) (k0_pay21 v0 w0 gp pv) cb DS u1) (k0_pay31 (View.ld P (Rect.unit ![3, o] S1x128.size i))) y
      = (fun q : S8x2816.Idx => P q + statsT A T (q 0).val (q 1)) ((Rect.unit (s := S8x2816) ![3, o] S1x128.size i').emb y) := by
  obtain ⟨z, c, rfl⟩ : ∃ t c, y = ix2 t c := ⟨_, _, eq_ix2 y⟩
  obtain rfl : z = 0 := Subsingleton.elim _ _
  rw [pay32_at]
  simp only [sdgate_eq S, gin_eq S]
  rw [emb_row ho 0 c 3 (by decide)]
  pointwise [statsT]
  rfl

end strip

end Cert.KernelIdeal.Grad
-- ==== Proof.RefValue.lean ====
/-
  The reference's stages at an index: each is the specification's function of the arguments. The stages that
  differentiate the norm and the gate need every argument to be a real number (`AllReal`).
-/
module

public import proofs.«01_k».proof.Proof.Spec
public import proofs.«01_k».proof.Proof.Gen.ReferenceIdeal.Read

@[expose] public section

set_option maxRecDepth 16384

noncomputable section

namespace Cert.ReferenceIdeal.Grad

open Cert.ReferenceIdeal Cert.ReferenceIdeal.Gen Cert.ReferenceIdeal.Read Cert.FfnGrad Idealize.ShloMosaic Idealize.ShloMosaic.TcCoe

variable (x0 : FVec Ideal S2x4096x2816 .bf16) (x1 : FVec Ideal S3x2816 .f32) (x2 : FVec Ideal S2816 .f32)
  (x3 : FVec Ideal S2816x1024 .bf16) (x4 : FVec Ideal S1024 .f32) (x5 : FVec Ideal S4096x1024 .f32)

/-- The arguments as functions of their coordinates. -/
def args : Args where
  u p t c := x0 (ix3 p t c)
  w k c := x1 (ix2 k c)
  b c := x2 (ix1 c)
  W c n := x3 (ix2 c n)
  g n := x4 (ix1 n)
  d t n := x5 (ix2 t n)

theorem v7_at (t : Fin 4096) (c : Fin 2816) : val_main_v7 (F := Ideal) x0 (ix2 t c) = inp (args x0 x1 x2 x3 x4 x5) 2 t c := by
  pointwise [val_main_v7, val_main_v5, val_main_v4, val_main_v3, val_main_v2, val_main_v1, val_main_cst, inp, args]
  split <;> split <;> first | rfl | omega

theorem v13_at (t : Fin 4096) (c : Fin 2816) : val_main_v13 (F := Ideal) x0 (ix2 t c) = inp (args x0 x1 x2 x3 x4 x5) 1 t c := by
  pointwise [val_main_v13, val_main_v5, val_main_v4, val_main_v3, val_main_v2, val_main_v1, val_main_cst, inp, args]
  split <;> split <;> first | rfl | omega | exact congrArg x0 (congrArg (ix3 0 · c) (Fin.ext (by simp only; omega)))

theorem v20_at (t : Fin 4096) (c : Fin 2816) : val_main_v20 (F := Ideal) x0 (ix2 t c) = inp (args x0 x1 x2 x3 x4 x5) 0 t c := by
  pointwise [val_main_v20, val_main_v5, val_main_v4, val_main_v3, val_main_v2, val_main_v1, val_main_cst, inp, args]

theorem v29_at (t : Fin 4096) (c : Fin 2816) : val_main_v29 (F := Ideal) x0 x1 x2 (ix2 t c) = gate (args x0 x1 x2 x3 x4 x5) t c := by
  unfold gate
  rw [← v7_at, ← v13_at, ← v20_at]
  pointwise [val_main_v29, val_main_v26, val_main_v19, val_main_v12, val_main_v18, val_main_v25, val_main_v28, val_main_v27, args,
    val_main_v11, val_main_v10, val_main_v9, val_main_v8, val_main_v17, val_main_v16, val_main_v15, val_main_v14, val_main_v24, val_main_v23, val_main_v22, val_main_v21]

theorem v30_2_at (t : Fin 4096) (c : Fin 2816) : val_main_v30_2 (F := Ideal) x0 x1 x2 (ix2 t c) = sg (args x0 x1 x2 x3 x4 x5) t c := by
  unfold sg
  rw [← v29_at]
  pointwise [val_main_v30_2, val_main_call0_v4, val_main_call0_v3, val_main_call0_v2, val_main_call0_v1, val_main_call0_v0,
    val_main_call0_cst, val_main_call0_cst_0]
  rfl

theorem v33_at (t : Fin 4096) (c : Fin 2816) : val_main_v33 (F := Ideal) x0 x1 x2 (ix2 t c) = gate (args x0 x1 x2 x3 x4 x5) t c * sg (args x0 x1 x2 x3 x4 x5) t c * (args x0 x1 x2 x3 x4 x5).u 1 t c := by
  rw [← v30_2_at, ← v29_at]
  pointwise [val_main_v33, val_main_v30_0, val_main_v32, val_main_v31, val_main_v1, args]

theorem v34_at (t : Fin 4096) (n : Fin 1024) : val_main_v34 (F := Ideal) x0 x1 x2 x3 (ix2 t n) = f (args x0 x1 x2 x3 x4 x5) t n := by
  unfold f
  simp only [← v33_at]
  pointwise [val_main_v34, val_main_v0, args]

theorem v41_at (t : Fin 4096) (z : Fin 1) : val_main_v41 (F := Ideal) x0 x1 x2 x3 (ix2 t z) = msq (args x0 x1 x2 x3 x4 x5) t := by
  unfold msq rowMsq
  simp only [← v34_at]
  pointwise [val_main_v41, val_main_v40, val_main_v39, val_main_v38, val_main_v37, val_main_v36, val_main_v35, val_main_cst_1, val_main_cst_2, val_main_cst_3]
  rfl

theorem v42_at (t : Fin 4096) (z : Fin 1) : val_main_v42 (F := Ideal) x0 x1 x2 x3 (ix2 t z) = r (args x0 x1 x2 x3 x4 x5) t := by
  show _ = Ideal.rsqrt (msq (args x0 x1 x2 x3 x4 x5) t)
  rw [← v41_at _ _ _ _ _ _ _ z]
  pointwise [val_main_v42]

theorem v47_at (t : Fin 4096) (n : Fin 1024) : val_main_v47 (F := Ideal) x0 x1 x2 x3 (ix2 t n) = fh (args x0 x1 x2 x3 x4 x5) t n := by
  unfold fh
  rw [← v34_at, ← v42_at _ _ _ _ _ _ _ 0]
  pointwise [val_main_v47, val_main_v46]

theorem v121_at (z : Fin 1) (n : Fin 1024) : val_main_v121 (F := Ideal) x0 x1 x2 x3 x5 (ix2 z n) = dg (args x0 x1 x2 x3 x4 x5) n := by
  unfold dg
  simp only [← v47_at]
  pointwise [val_main_v121, val_main_v56, val_main_v53, val_main_v52, val_main_v51, val_main_cst_5, val_main_cst_6, args]
  rw [Fin.sum_univ_one]
  exact Finset.sum_congr rfl fun t _ => mul_comm _ _

theorem v65_at (t : Fin 4096) :
    val_main_v65 (F := Ideal) x0 x1 x2 x3 x4 x5 (ix1 t)
      = Ideal.div ((∑ j, f (args x0 x1 x2 x3 x4 x5) t j * ((args x0 x1 x2 x3 x4 x5).d t j * (args x0 x1 x2 x3 x4 x5).g j)) * (Ideal.ofBits .f32 0xBF000000#32 * Ideal.div (r (args x0 x1 x2 x3 x4 x5) t) (msq (args x0 x1 x2 x3 x4 x5) t))) lanes := by
  rw [← v42_at _ _ _ _ _ _ _ 0, ← v41_at _ _ _ _ _ _ _ 0]
  simp only [← v34_at]
  pointwise [val_main_v65, val_main_v64, val_main_v63, val_main_v62, val_main_v59, val_main_v58, val_main_v57, val_main_v55, val_main_v54, val_main_v48,
    val_main_v45, val_main_v44, val_main_v43, val_main_cst_4, val_main_cst_7, val_main_cst_8, val_main_cst_9, args]
  rw [Fin.sum_univ_one]
  rfl

variable (hA : AllReal (args x0 x1 x2 x3 x4 x5))
include hA

theorem v70_at (t : Fin 4096) (n : Fin 1024) : val_main_v70 (F := Ideal) x0 x1 x2 x3 x4 x5 (ix2 t n) = df (args x0 x1 x2 x3 x4 x5) t n := by
  rw [← df_eq hA, ← v65_at, ← v34_at, ← v42_at _ _ _ _ _ _ _ 0]
  pointwise [val_main_v70, val_main_v69, val_main_v68, val_main_v67, val_main_v66, val_main_v61, val_main_v60, val_main_v55, val_main_v54, val_main_v48, args]
  rw [add_assoc]

theorem v71_at (t : Fin 4096) (c : Fin 2816) : val_main_v71 (F := Ideal) x0 x1 x2 x3 x4 x5 (ix2 t c) = da (args x0 x1 x2 x3 x4 x5) t c := by
  unfold da
  simp only [← v70_at _ _ _ _ _ _ hA]
  pointwise [val_main_v71, val_main_v0, args]

theorem v72_at (t : Fin 4096) (c : Fin 2816) : val_main_v72 (F := Ideal) x0 x1 x2 x3 x4 x5 (ix2 t c) = dup1 (args x0 x1 x2 x3 x4 x5) t c := by
  unfold dup1
  rw [← v71_at _ _ _ _ _ _ hA, ← v29_at, ← v30_2_at]
  pointwise [val_main_v72, val_main_v30_0]
  rw [mul_assoc, mul_comm, mul_assoc, mul_assoc, mul_comm (val_main_v30_2 (F := Ideal) x0 x1 x2 (ix2 t c)), ← mul_assoc]

theorem v76_at (t : Fin 4096) (c : Fin 2816) : val_main_v76 (F := Ideal) x0 x1 x2 x3 x4 x5 (ix2 t c) = dgate (args x0 x1 x2 x3 x4 x5) t c := by
  rw [← dgate_eq hA, ← v71_at _ _ _ _ _ _ hA, ← v29_at, ← v30_2_at]
  pointwise [val_main_v76, val_main_call1_v2, val_main_call1_v1, val_main_call1_v0, val_main_v73, val_main_v30_1, val_main_call0_v7, val_main_call0_v6,
    val_main_call0_cst_1, val_main_v32, val_main_v31, val_main_v1, args]

theorem v110_at (t : Fin 4096) (c : Fin 2816) (j : Fin 4098) (h : j.val = t.val + 2) :
    val_main_v110 (F := Ideal) x0 x1 x2 x3 x4 x5 (ix2 j c) = dup0 (args x0 x1 x2 x3 x4 x5) t c := by
  unfold dup0 ahead
  simp only [← v76_at _ _ _ _ _ _ hA]
  pointwise [val_main_v110, val_main_v109, val_main_v99, val_main_v98, val_main_v88, val_main_v84, val_main_v93, val_main_v104, args,
    val_main_v83, val_main_v82, val_main_v21, val_main_v92, val_main_v91, val_main_v14, val_main_v103, val_main_v102, val_main_v8, val_main_v23, val_main_v16, val_main_v10, val_main_v22, val_main_v15, val_main_v9, val_main_cst_16, val_main_cst_20, val_main_cst_24]
  simp only [h]
  rw [dif_pos (by omega)]
  have e : t.val + 2 - 1 = t.val + 1 := rfl
  simp only [Nat.add_sub_cancel, e]
  by_cases h1 : t.val + 1 < 4096 <;> by_cases h2 : t.val + 2 < 4096 <;> simp [h1, h2]

theorem v119_at (t : Fin 4096) (c : Fin 2816) : val_main_v119 (F := Ideal) x0 x1 x2 x3 x4 x5 (ix3 0 t c) = dup0 (args x0 x1 x2 x3 x4 x5) t c := by
  rw [← v110_at _ _ _ _ _ _ hA t c ⟨2 + t.val, by omega⟩ (Nat.add_comm ..)]
  pointwise [val_main_v119, val_main_v115, val_main_v114, val_main_v113, val_main_v112, val_main_v75, val_main_cst_10]

theorem v119_at' (t : Fin 4096) (c : Fin 2816) : val_main_v119 (F := Ideal) x0 x1 x2 x3 x4 x5 (ix3 1 t c) = dup1 (args x0 x1 x2 x3 x4 x5) t c := by
  rw [← v72_at _ _ _ _ _ _ hA]
  pointwise [val_main_v119, val_main_v115, val_main_v114, val_main_v75, val_main_v74, val_main_cst_25]

theorem v118_at (j : Fin 8) (c : Fin 2816) : val_main_v118 (F := Ideal) x0 x1 x2 x3 x4 x5 (ix2 j c) = stats (args x0 x1 x2 x3 x4 x5) j c := by
  unfold stats
  simp only [← v76_at _ _ _ _ _ _ hA]
  have hj : j.val = 0 ∨ j.val = 1 ∨ j.val = 2 ∨ 3 ≤ j.val := by omega
  have h0 := fun t => v7_at x0 x1 x2 x3 x4 x5 t c
  have h1 := fun t => v13_at x0 x1 x2 x3 x4 x5 t c
  have h2 := fun t => v20_at x0 x1 x2 x3 x4 x5 t c
  rcases hj with h | h | h | h
  all_goals
    pointwise [val_main_v118, val_main_v77, val_main_v78, val_main_v79, val_main_v80, val_main_v81, val_main_v82, val_main_v91, val_main_v102, val_main_v85, val_main_v86, val_main_v87, val_main_v89, val_main_v90, val_main_v94, val_main_v95, val_main_v96, val_main_v97, val_main_v100, val_main_v101, val_main_v105, val_main_v106, val_main_v107, val_main_v108, val_main_v116, val_main_v117, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26]
    simp only [h0, h1, h2, mul_comm (inp _ _ _ _)]
  · simp [h]
  · simp [h]
  · simp [h]
  · by_cases h3 : j.val = 3
    · simp [h3]
    · have h4 : ¬ j.val < 3 := by omega
      have h5 : ¬ j.val - 3 = 0 := by omega
      simp [h3, h4, h5]

end Cert.ReferenceIdeal.Grad
-- ==== Proof.Blocks.lean ====
/-
  What the blocks of one grid point hold. Grid point `t` works on tile `15 - t` of the sequence; the rows before the
  tile come from a second window over the same array, and the host's lines before the call compute the normalised
  array and lay the small arguments out as rows.
-/
module

public import proofs.«01_k».proof.Proof.Tile
public import proofs.«01_k».proof.Proof.RefValue
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.Grad

open Cert.KernelIdeal Cert.KernelIdeal.Gen Cert.FfnGrad Idealize.ShloMosaic Idealize.ShloMosaic.TcCoe Idealize.SL.Sem

variable (m : (ℓ : Loc nD τ sig) → Buf (Elt Ideal) ℓ)

/-- The launch's arguments on core `c`. -/
def memArgs (c : Dev nD) : Args :=
  Cert.ReferenceIdeal.Grad.args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The host's forward lines are the reference's. -/
theorem V_f (c : Dev nD) : V m c main_v33 = Cert.ReferenceIdeal.Read.val_main_v34 (F := Ideal) (m ((c : Thread nD τ).loc main_arg0)) (m ((c : Thread nD τ).loc main_arg1))
    (m ((c : Thread nD τ).loc main_arg2)) (m ((c : Thread nD τ).loc main_arg3)) := by
  rfl

theorem pad_at (X : Vec Ideal S3x2816 .f32) (z : Vec Ideal S_ .f32) (k : Fin 3) (l : Fin 2816) :
    pad S8x2816 ![0, 0] ![5, 0] ![0, 0] X z pads_S3x2816_S8x2816_050_000 h_S_ (ix2 ⟨k.val, by omega⟩ l) = X (ix2 k l) := by
  pointwise []

/-- The taps are padded to eight rows. -/
theorem V_taps (c : Dev nD) (k : Fin 3) (l : Fin 2816) : V m c main_v35 (ix2 ⟨k.val, by omega⟩ l) = (memArgs m c).w k l := by
  obtain ⟨z, e⟩ : ∃ z : Vec Ideal S_ .f32, V m c main_v35 = pad S8x2816 ![0, 0] ![5, 0] ![0, 0] (m ((c : Thread nD τ).loc main_arg1) : Vec Ideal S3x2816 .f32)
      z pads_S3x2816_S8x2816_050_000 h_S_ := ⟨_, rfl⟩
  rw [e]
  exact pad_at _ z k l

theorem V_bias (c : Dev nD) (z : Fin 1) (l : Fin 2816) : V m c main_v36 (ix2 z l) = (memArgs m c).b l := by
  have e : V m c main_v36 = shapeCast S1x2816 (m ((c : Thread nD τ).loc main_arg2) : Vec Ideal S2816 .f32) shapeCasts_S2816_S1x2816 := rfl
  rw [e]
  pointwise [memArgs, Cert.ReferenceIdeal.Grad.args]

theorem V_gain (c : Dev nD) (z : Fin 1) (l : Fin 1024) : V m c main_v34 (ix2 z l) = (memArgs m c).g l := by
  have e : V m c main_v34 = shapeCast S1x1024 (m ((c : Thread nD τ).loc main_arg4) : Vec Ideal S1024 .f32) shapeCasts_S1024_S1x1024 := rfl
  rw [e]
  pointwise [memArgs, Cert.ReferenceIdeal.Grad.args]

/-- The tile of a grid point. -/
def tile (t : Fin cfg0.N) : Fin 16 := ⟨15 - t.val, by omega⟩

theorem idx : ∀ t : Fin cfg0.N, win0_0.index t = ![15 - t.val, 0] ∧ win0_1.index t = ![15 - t.val, 0] ∧ win0_2.index t = ![0, 0] ∧ win0_3.index t = ![0, 0]
    ∧ win0_4.index t = ![0, 15 - t.val, 0] ∧ win0_5.index t = ![0, (15 - t.val) * 16 - 1, 0] ∧ win0_6.index t = ![0, 0] ∧ win0_7.index t = ![0, 0]
    ∧ win0_8.index t = ![0, 15 - t.val, 0] ∧ win0_9.index t = ![15 - t.val, 0] ∧ win0_10.index t = ![0, 0] ∧ win0_11.index t = ![0, 0] :=
  (by decide +kernel : ∀ t : Fin grid0.N, _)

theorem first_iff : ∀ t : Fin cfg0.N, (Scalar.cmpi .sgt (Scalar.subi (15#32) (BitVec.ofNat 32 (grid0.coords t 0).val)) 0#32 = 1#1 ↔ 0 < 15 - t.val) :=
  (by decide +kernel : ∀ t : Fin grid0.N, _)

variable (c : Dev nD) (t : Fin cfg0.N)

theorem blk0 (r : Fin 256) (n : Fin 1024) : iblk m c 0 t (ix2 r n) = (memArgs m c).d (row (tile t) r) n := by
  show _ = m ((c : Thread nD τ).loc main_arg5) (ix2 (row (tile t) r) n)
  blk_ext [iblk, V, idx t, row, tile]

theorem blk1 (r : Fin 256) (n : Fin 1024) : iblk m c 1 t (ix2 r n) = f (memArgs m c) (row (tile t) r) n := by
  unfold memArgs
  rw [← Cert.ReferenceIdeal.Grad.v34_at, ← V_f]
  show _ = V m c main_v33 (ix2 (row (tile t) r) n)
  blk_ext [iblk, idx t, row, tile]

theorem blk2 (z : Fin 1) (n : Fin 1024) : iblk m c 2 t (ix2 z n) = (memArgs m c).g n := by
  rw [← V_gain m c z]
  blk_ext [iblk, idx t]

theorem blk3 (l : Fin 2816) (n : Fin 1024) : iblk m c 3 t (ix2 l n) = (memArgs m c).W l n := by
  show _ = m ((c : Thread nD τ).loc main_arg3) (ix2 l n)
  blk_ext [iblk, V, idx t]

theorem blk4 (p : Fin 2) (r : Fin 256) (l : Fin 2816) : iblk m c 4 t (ix3 p r l) = (memArgs m c).u p (row (tile t) r) l := by
  show _ = m ((c : Thread nD τ).loc main_arg0) (ix3 p (row (tile t) r) l)
  blk_ext [iblk, V, idx t, row, tile]

theorem blk5 (h : 0 < (tile t).val) (j : Fin 16) (l : Fin 2816) :
    iblk m c 5 t (ix3 0 j l) = (memArgs m c).u 0 ⟨256 * (tile t).val - 16 + j.val, by omega⟩ l := by
  show _ = m ((c : Thread nD τ).loc main_arg0) (ix3 0 ⟨256 * (tile t).val - 16 + j.val, by omega⟩ l)
  unfold tile at *
  blk_ext [iblk, V, idx t]

theorem blk6 (k : Fin 3) (l : Fin 2816) : iblk m c 6 t (ix2 ⟨k.val, by omega⟩ l) = (memArgs m c).w k l := by
  rw [← V_taps m c k]
  blk_ext [iblk, idx t]

theorem blk7 (z : Fin 1) (l : Fin 2816) : iblk m c 7 t (ix2 z l) = (memArgs m c).b l := by
  rw [← V_bias m c z]
  blk_ext [iblk, idx t]

end Cert.KernelIdeal.Grad
-- ==== Proof.Norm.lean ====
/-
  The norm's part of one grid point: from the tile's rows of the cotangent, of the normalised array and the gain come
  the tile of the norm's input gradient, its product with the down projection, and what the tile adds to the gain's
  gradient.
-/
module

public import proofs.«01_k».proof.Proof.Blocks

@[expose] public section

set_option maxRecDepth 16384

noncomputable section

namespace Cert.KernelIdeal.Grad

open Cert.KernelIdeal Cert.KernelIdeal.Gen Cert.FfnGrad Idealize.ShloMosaic Idealize.ShloMosaic.TcCoe Idealize.SL.Sem

section payloads

variable {A : Args} {T : Fin 16} {X0 X1 : Vec Ideal S256x1024 .f32} {X2 : Vec Ideal S1x1024 .f32} {X3 : Vec Ideal S2816x1024 .bf16}
  (h0 : ∀ r n, X0 (ix2 r n) = A.d (row T r) n) (h1 : ∀ r n, X1 (ix2 r n) = f A (row T r) n) (h2 : ∀ n, X2 (ix2 0 n) = A.g n)
  (h3 : ∀ l n, X3 (ix2 l n) = A.W l n)

section
include h1

theorem pay7_at (t : Fin 256) (z : Fin 1) : k0_pay7 X1 (ix2 t z) = r A (row T t) := by
  unfold r rowInv rowMsq
  simp only [← h1]
  pointwise [k0_pay7, k0_pay6]
  rfl

theorem pay8_at (t : Fin 256) (n : Fin 1024) : k0_pay8 X1 (ix2 t n) = fh A (row T t) n := by
  unfold fh
  rw [← h1, ← pay7_at h1 t 0]
  pointwise [k0_pay8, k0_pay6]

end

include h0 h1

theorem pay9_at (P : Vec Ideal S1x1024 .f32) (z : Fin 1) (n : Fin 1024) :
    k0_pay9 X1 X0 P (ix2 z n) = P (ix2 z n) + ∑ t, A.d (row T t) n * fh A (row T t) n := by
  simp only [← h0, ← pay8_at h1]
  pointwise [k0_pay9]

include h2

theorem pay10_at (t : Fin 256) (n : Fin 1024) : k0_pay10 X1 X0 X2 (ix2 t n) = df A (row T t) n := by
  show _ = r A (row T t) * (A.d (row T t) n * A.g n - fh A (row T t) n * Ideal.div (∑ j, A.d (row T t) j * A.g j * fh A (row T t) j) lanes)
  simp only [← h0, ← h2, ← pay8_at h1]
  rw [← pay7_at h1 t 0]
  pointwise [k0_pay10]
  rfl

theorem pay11_at (t : Fin 256) (n : Fin 1024) : k0_pay11 (k0_pay10 X1 X0 X2) (ix2 t n) = df A (row T t) n := by
  rw [← pay10_at h0 h1 h2]
  pointwise [k0_pay11]

include h3

theorem pay12_at (t : Fin 256) (l : Fin 2816) : k0_pay12 (k0_pay10 X1 X0 X2) X3 (ix2 t l) = da A (row T t) l := by
  unfold da
  simp only [← h3, ← pay11_at h0 h1 h2]
  pointwise [k0_pay12]

end payloads

variable (m : (ℓ : Loc nD τ sig) → Buf (Elt Ideal) ℓ) (c : Dev nD) (t : Fin cfg0.N)

/-- The blocks of grid point `t` hold tile `15 - t`. -/
theorem holds : Holds (memArgs m c) (tile t) (Scalar.subi (15#32) (BitVec.ofNat 32 (grid0.coords t 0).val)) (iblk m c 4 t) (iblk m c 5 t)
    (iblk m c 6 t) (iblk m c 7 t) (k0_pay12 (k0_pay10 (iblk m c 1 t) (iblk m c 0 t) (iblk m c 2 t)) (iblk m c 3 t)) where
  first := first_iff t
  up := blk4 m c t
  prev h := blk5 m c t h
  taps := blk6 m c t
  bias := blk7 m c t 0
  da := pay12_at (blk0 m c t) (blk1 m c t) (blk2 m c t 0) (blk3 m c t)

end Cert.KernelIdeal.Grad
-- ==== Proof.Strips.lean ====
/-
  One strip's stores as blocks of what the tile leaves: a strip's run of stores put before stores that are blocks of
  the same function.
-/
module

public import proofs.«01_k».proof.Proof.Tile
public import Idealize.ShloMosaic.Lib.Pipeline.ReadBack

@[expose] public section

set_option maxRecDepth 16384

noncomputable section

namespace Cert.KernelIdeal.Grad

open Cert.KernelIdeal Cert.KernelIdeal.Gen Cert.FfnGrad Idealize.ShloMosaic Idealize.ShloMosaic.TcCoe

/-- Stores that add the tile's sums to `P` in rows 0 to 3 of the first `o` lanes. -/
structure StatsPieces (A : Args) (T : Fin 16) (P : Vec Ideal S8x2816 .f32) (L : List (View.Piece (Elt Ideal) S8x2816 .f32)) (o : ℕ) : Prop where
  pieces : View.PiecesOf (fun q : S8x2816.Idx => P q + statsT A T (q 0).val (q 1)) L
  covers : ∀ y : S8x2816.Idx, (y 0).val < 4 → (y 1).val < o → ∃ p ∈ L, y ∈ p.1.set

theorem mem_row {k o : ℕ} {i : ∀ a, (![k, o] : Fin 2 → ℕ) a + S1x128.size a ≤ S8x2816.size a} {y : S8x2816.Idx} (hk : (y 0).val = k)
    (h0 : o ≤ (y 1).val) (h1 : (y 1).val < o + 128) : y ∈ (Rect.unit (s := S8x2816) ![k, o] S1x128.size i).set := by
  rw [Rect.mem_set_unit]
  intro a
  match a with
  | 0 => exact ⟨hk.ge, by show (y 0).val < k + 1; omega⟩
  | 1 => exact ⟨h0, h1⟩

variable {A : Args} {T : Fin 16} {v0 : BitVec 32} {X4 : Vec Ideal S2x256x2816 .bf16} {X5 : Vec Ideal S2x16x2816 .bf16}
    {X6 : Vec Ideal S8x2816 .f32} {X7 : Vec Ideal S1x2816 .f32} {DA : Vec Ideal S256x2816 .f32} (H : Holds A T v0 X4 X5 X6 X7 DA)
    {hd : Vec Ideal S8x2816 .f32} {o : ℕ} (ho : o + 128 ≤ 2816)
    {i0 : ∀ a, (![0, o] : Fin 2 → ℕ) a + S1x128.size a ≤ S8x2816.size a} {i1 : ∀ a, (![1, o] : Fin 2 → ℕ) a + S1x128.size a ≤ S8x2816.size a}
    {i2 : ∀ a, (![2, o] : Fin 2 → ℕ) a + S1x128.size a ≤ S8x2816.size a} {i3 : ∀ a, (![3, o] : Fin 2 → ℕ) a + S1x128.size a ≤ S8x2816.size a}
    {i4 : ∀ a, (![0, 0, o] : Fin 3 → ℕ) a + S1x256x128.size a ≤ S2x256x2816.size a}
    {i4' : ∀ a, (![1, 0, o] : Fin 3 → ℕ) a + S1x256x128.size a ≤ S2x256x2816.size a}
    {i5 : ∀ a, (![0, 0, o] : Fin 3 → ℕ) a + S1x16x128.size a ≤ S2x16x2816.size a}
    {i7 : ∀ a, (![0, o] : Fin 2 → ℕ) a + S1x128.size a ≤ S1x2816.size a}
    {id : ∀ a, (![0, o] : Fin 2 → ℕ) a + S256x128.size a ≤ S256x2816.size a}
    {ih : ∀ a, (![0, o] : Fin 2 → ℕ) a + S8x128.size a ≤ S8x2816.size a}

include H ho

theorem dup_strip (hh : Head A T hd) {L : List (View.Piece (Elt Ideal) S2x256x2816 .bf16)} (hL : View.PiecesOf (dupT A T) L) :
    View.PiecesOf (dupT A T)
      (⟨Rect.unit (s := S2x256x2816) ![1, 0, o] S1x256x128.size i4', k0_pay26 (k0_pay22 (k0_pay20 v0 (View.ld X6 (Rect.unit ![1, o] S1x128.size i1)) (View.ld X6 (Rect.unit ![2, o] S1x128.size i2)) (View.ld X4 (Rect.unit ![0, 0, o] S1x256x128.size i4)) (View.ld X5 (Rect.unit ![0, 0, o] S1x16x128.size i5))) (k0_pay21 v0 (View.ld X6 (Rect.unit ![0, o] S1x128.size i0)) (View.ld X4 (Rect.unit ![0, 0, o] S1x256x128.size i4)) (View.ld X5 (Rect.unit ![0, 0, o] S1x16x128.size i5))) (View.ld X7 (Rect.unit ![0, o] S1x128.size i7))) (k0_pay23 (k0_pay20 v0 (View.ld X6 (Rect.unit ![1, o] S1x128.size i1)) (View.ld X6 (Rect.unit ![2, o] S1x128.size i2)) (View.ld X4 (Rect.unit ![0, 0, o] S1x256x128.size i4)) (View.ld X5 (Rect.unit ![0, 0, o] S1x16x128.size i5))) (k0_pay21 v0 (View.ld X6 (Rect.unit ![0, o] S1x128.size i0)) (View.ld X4 (Rect.unit ![0, 0, o] S1x256x128.size i4)) (View.ld X5 (Rect.unit ![0, 0, o] S1x16x128.size i5))) (View.ld X7 (Rect.unit ![0, o] S1x128.size i7))) (View.ld DA (Rect.unit ![0, o] S256x128.size id))⟩
        :: ⟨Rect.unit (s := S2x256x2816) ![0, 0, o] S1x256x128.size i4, k0_pay25 (k0_pay13 (View.ld X6 (Rect.unit ![0, o] S1x128.size i0))) (k0_pay14 (View.ld X6 (Rect.unit ![1, o] S1x128.size i1))) (k0_pay15 (View.ld X6 (Rect.unit ![2, o] S1x128.size i2))) (k0_pay20 v0 (View.ld X6 (Rect.unit ![1, o] S1x128.size i1)) (View.ld X6 (Rect.unit ![2, o] S1x128.size i2)) (View.ld X4 (Rect.unit ![0, 0, o] S1x256x128.size i4)) (View.ld X5 (Rect.unit ![0, 0, o] S1x16x128.size i5))) (k0_pay21 v0 (View.ld X6 (Rect.unit ![0, o] S1x128.size i0)) (View.ld X4 (Rect.unit ![0, 0, o] S1x256x128.size i4)) (View.ld X5 (Rect.unit ![0, 0, o] S1x16x128.size i5))) (View.ld X7 (Rect.unit ![0, o] S1x128.size i7)) (View.ld DA (Rect.unit ![0, o] S256x128.size id)) (View.ld X4 (Rect.unit ![1, 0, o] S1x256x128.size i4'))
            (View.ld hd (Rect.unit ![0, o] S8x128.size ih))⟩ :: L) :=
  ⟨piece26 (loads H o ho i0 i1 i2 i4 i4' i5 i7 id) i4', piece25 (loads H o ho i0 i1 i2 i4 i4' i5 i7 id) hh ih i4, hL⟩

theorem head_strip {L : List (View.Piece (Elt Ideal) S8x2816 .f32)} (hL : View.PiecesOf (headT A T) L) :
    View.PiecesOf (headT A T)
      (⟨Rect.unit (s := S8x2816) ![0, o] S8x128.size ih, k0_pay27 (k0_pay24 (k0_pay20 v0 (View.ld X6 (Rect.unit ![1, o] S1x128.size i1)) (View.ld X6 (Rect.unit ![2, o] S1x128.size i2)) (View.ld X4 (Rect.unit ![0, 0, o] S1x256x128.size i4)) (View.ld X5 (Rect.unit ![0, 0, o] S1x16x128.size i5))) (k0_pay21 v0 (View.ld X6 (Rect.unit ![0, o] S1x128.size i0)) (View.ld X4 (Rect.unit ![0, 0, o] S1x256x128.size i4)) (View.ld X5 (Rect.unit ![0, 0, o] S1x16x128.size i5))) (View.ld X7 (Rect.unit ![0, o] S1x128.size i7)) (View.ld DA (Rect.unit ![0, o] S256x128.size id)) (View.ld X4 (Rect.unit ![1, 0, o] S1x256x128.size i4')))⟩ :: L) :=
  ⟨piece27 (loads H o ho i0 i1 i2 i4 i4' i5 i7 id) ih, hL⟩

theorem stats_strip (P : Vec Ideal S8x2816 .f32) {L : List (View.Piece (Elt Ideal) S8x2816 .f32)}
    (hL : StatsPieces A T P L o) :
    StatsPieces A T P
      (⟨Rect.unit (s := S8x2816) ![3, o] S1x128.size i3, k0_pay32 (k0_pay24 (k0_pay20 v0 (View.ld X6 (Rect.unit ![1, o] S1x128.size i1)) (View.ld X6 (Rect.unit ![2, o] S1x128.size i2)) (View.ld X4 (Rect.unit ![0, 0, o] S1x256x128.size i4)) (View.ld X5 (Rect.unit ![0, 0, o] S1x16x128.size i5))) (k0_pay21 v0 (View.ld X6 (Rect.unit ![0, o] S1x128.size i0)) (View.ld X4 (Rect.unit ![0, 0, o] S1x256x128.size i4)) (View.ld X5 (Rect.unit ![0, 0, o] S1x16x128.size i5))) (View.ld X7 (Rect.unit ![0, o] S1x128.size i7)) (View.ld DA (Rect.unit ![0, o] S256x128.size id)) (View.ld X4 (Rect.unit ![1, 0, o] S1x256x128.size i4'))) (k0_pay31 (View.ld P (Rect.unit ![3, o] S1x128.size i3)))⟩
        :: ⟨Rect.unit (s := S8x2816) ![2, o] S1x128.size i2, k0_pay30 (k0_pay16 (View.ld X4 (Rect.unit ![0, 0, o] S1x256x128.size i4))) (k0_pay24 (k0_pay20 v0 (View.ld X6 (Rect.unit ![1, o] S1x128.size i1)) (View.ld X6 (Rect.unit ![2, o] S1x128.size i2)) (View.ld X4 (Rect.unit ![0, 0, o] S1x256x128.size i4)) (View.ld X5 (Rect.unit ![0, 0, o] S1x16x128.size i5))) (k0_pay21 v0 (View.ld X6 (Rect.unit ![0, o] S1x128.size i0)) (View.ld X4 (Rect.unit ![0, 0, o] S1x256x128.size i4)) (View.ld X5 (Rect.unit ![0, 0, o] S1x16x128.size i5))) (View.ld X7 (Rect.unit ![0, o] S1x128.size i7)) (View.ld DA (Rect.unit ![0, o] S256x128.size id)) (View.ld X4 (Rect.unit ![1, 0, o] S1x256x128.size i4'))) (View.ld P (Rect.unit ![2, o] S1x128.size i2))⟩
        :: ⟨Rect.unit (s := S8x2816) ![1, o] S1x128.size i1, k0_pay29 (k0_pay18 v0 (View.ld X4 (Rect.unit ![0, 0, o] S1x256x128.size i4)) (View.ld X5 (Rect.unit ![0, 0, o] S1x16x128.size i5))) (k0_pay24 (k0_pay20 v0 (View.ld X6 (Rect.unit ![1, o] S1x128.size i1)) (View.ld X6 (Rect.unit ![2, o] S1x128.size i2)) (View.ld X4 (Rect.unit ![0, 0, o] S1x256x128.size i4)) (View.ld X5 (Rect.unit ![0, 0, o] S1x16x128.size i5))) (k0_pay21 v0 (View.ld X6 (Rect.unit ![0, o] S1x128.size i0)) (View.ld X4 (Rect.unit ![0, 0, o] S1x256x128.size i4)) (View.ld X5 (Rect.unit ![0, 0, o] S1x16x128.size i5))) (View.ld X7 (Rect.unit ![0, o] S1x128.size i7)) (View.ld DA (Rect.unit ![0, o] S256x128.size id)) (View.ld X4 (Rect.unit ![1, 0, o] S1x256x128.size i4'))) (View.ld P (Rect.unit ![1, o] S1x128.size i1))⟩
        :: ⟨Rect.unit (s := S8x2816) ![0, o] S1x128.size i0, k0_pay28 (k0_pay19 v0 (View.ld X4 (Rect.unit ![0, 0, o] S1x256x128.size i4)) (View.ld X5 (Rect.unit ![0, 0, o] S1x16x128.size i5))) (k0_pay24 (k0_pay20 v0 (View.ld X6 (Rect.unit ![1, o] S1x128.size i1)) (View.ld X6 (Rect.unit ![2, o] S1x128.size i2)) (View.ld X4 (Rect.unit ![0, 0, o] S1x256x128.size i4)) (View.ld X5 (Rect.unit ![0, 0, o] S1x16x128.size i5))) (k0_pay21 v0 (View.ld X6 (Rect.unit ![0, o] S1x128.size i0)) (View.ld X4 (Rect.unit ![0, 0, o] S1x256x128.size i4)) (View.ld X5 (Rect.unit ![0, 0, o] S1x16x128.size i5))) (View.ld X7 (Rect.unit ![0, o] S1x128.size i7)) (View.ld DA (Rect.unit ![0, o] S256x128.size id)) (View.ld X4 (Rect.unit ![1, 0, o] S1x256x128.size i4'))) (View.ld P (Rect.unit ![0, o] S1x128.size i0))⟩ :: L) (o + 128) where
  pieces := ⟨piece32 (loads H o ho i0 i1 i2 i4 i4' i5 i7 id) P i3 i3, piece30 (loads H o ho i0 i1 i2 i4 i4' i5 i7 id) P i2 i2,
    piece29 (loads H o ho i0 i1 i2 i4 i4' i5 i7 id) P i1 i1, piece28 (loads H o ho i0 i1 i2 i4 i4' i5 i7 id) P i0 i0, hL.pieces⟩
  covers y h0 h1 := by
    by_cases h : (y 1).val < o
    · obtain ⟨p, hp, hy⟩ := hL.covers y h0 h
      exact ⟨p, by simp only [List.mem_cons]; exact .inr (.inr (.inr (.inr hp))), hy⟩
    · have hj : (y 0).val = 3 ∨ (y 0).val = 2 ∨ (y 0).val = 1 ∨ (y 0).val = 0 := by omega
      rcases hj with hj | hj | hj | hj
      · exact ⟨_, List.mem_cons_self, mem_row (i := i3) hj (by omega) h1⟩
      · exact ⟨_, List.mem_cons_of_mem _ List.mem_cons_self, mem_row (i := i2) hj (by omega) h1⟩
      · exact ⟨_, List.mem_cons_of_mem _ (List.mem_cons_of_mem _ List.mem_cons_self), mem_row (i := i1) hj (by omega) h1⟩
      · exact ⟨_, List.mem_cons_of_mem _ (List.mem_cons_of_mem _ (List.mem_cons_of_mem _ List.mem_cons_self)), mem_row (i := i0) hj (by omega) h1⟩

omit H ho

theorem StatsPieces.nil (P : Vec Ideal S8x2816 .f32) : StatsPieces A T P [] 0 := ⟨trivial, fun y _ h => absurd h (Nat.not_lt_zero _)⟩

theorem statsT_of_four_le {j : ℕ} (h : 4 ≤ j) (l : Fin 2816) : statsT A T j l = 0 := by
  rw [statsT, if_neg (by omega), if_neg (by omega)]

/-- Over what was there before, the stores add the tile's sums. -/
theorem StatsPieces.read {P : Vec Ideal S8x2816 .f32} {L : List (View.Piece (Elt Ideal) S8x2816 .f32)} (h : StatsPieces A T P L 2816)
    {sig : RefSig} {κ : Kind} {sp} (v : View sig κ sp S8x2816 .f32) (g : v.ty.Contents (Elt Ideal)) (hg : v.read (Elt Ideal) g = P) :
    v.read (Elt Ideal) (v.writes (Elt Ideal) g L) = fun q : S8x2816.Idx => P q + statsT A T (q 0).val (q 1) := by
  funext y
  by_cases hy : ∃ p ∈ L, y ∈ p.1.set
  · exact View.read_writes_apply_of_pieces v g (fun q : S8x2816.Idx => P q + statsT A T (q 0).val (q 1)) L h.pieces.mem y hy
  · rw [View.read_writes_apply_of_forall_not_mem v g y L (fun p hp hm => hy ⟨p, hp, hm⟩), hg]
    by_cases hj : (y 0).val < 4
    · exact absurd (h.covers y hj (y 1).isLt) hy
    · exact ((add_zero _).symm.trans (congrArg (P y + ·) (statsT_of_four_le (Nat.le_of_not_lt hj) _).symm))

theorem canon_append_of_not_mem {s : Shape} {e : EltTy} (L' L : List (View.Piece (Elt Ideal) s e)) {y : s.Idx} (h : ∀ p ∈ L, y ∉ p.1.set) :
    View.canon (L ++ L') y = View.canon L' y := by
  induction L with
  | nil => rfl
  | cons p L ih =>
    rw [List.cons_append, View.canon_cons_of_not_mem p _ (h p List.mem_cons_self), ih fun q hq => h q (List.mem_cons_of_mem _ hq)]

/-- Over a fill of the whole buffer, the stores leave the fill plus the tile's sums. -/
theorem StatsPieces.canon {P : Vec Ideal S8x2816 .f32} (L : List (View.Piece (Elt Ideal) S8x2816 .f32)) (n : ℕ) (h : StatsPieces A T P (L.take n) 2816)
    (hd : View.canon (L.drop n) = P) : View.canon L = fun q : S8x2816.Idx => P q + statsT A T (q 0).val (q 1) := by
  funext y
  rw [← List.take_append_drop n L]
  by_cases hy : ∃ p ∈ L.take n, y ∈ p.1.set
  · exact View.canon_append_of_piecesOf (fun q : S8x2816.Idx => P q + statsT A T (q 0).val (q 1)) _ _ h.pieces y hy
  · rw [canon_append_of_not_mem _ _ (fun p hp hm => hy ⟨p, hp, hm⟩), hd]
    by_cases hj : (y 0).val < 4
    · exact absurd (h.covers y hj (y 1).isLt) hy
    · exact ((add_zero _).symm.trans (congrArg (P y + ·) (statsT_of_four_le (Nat.le_of_not_lt hj) _).symm))

/-- If the last `n` stores are blocks of `G` and cover the buffer, they leave `G`, whatever was stored before. -/
theorem canon_take {s : Shape} {e : EltTy} (G : s.Idx → Elt Ideal e) (n : ℕ) (L : List (View.Piece (Elt Ideal) s e)) (h : View.PiecesOf G (L.take n))
    (hc : ∀ y : s.Idx, ∃ p ∈ L.take n, y ∈ p.1.set) : View.canon L = G := by
  funext y
  have := View.canon_append_of_piecesOf G (L.drop n) (L.take n) h y (hc y)
  rwa [List.take_append_drop] at this

end Cert.KernelIdeal.Grad
-- ==== Proof.First.lean ====
/-
  The first grid point, which works on the last tile: its accumulators and the head start at zero.
-/
module

public import proofs.«01_k».proof.Proof.Norm
public import proofs.«01_k».proof.Proof.Strips

@[expose] public section

set_option maxRecDepth 16384

noncomputable section

namespace Cert.KernelIdeal.Grad

open Cert.KernelIdeal Cert.KernelIdeal.Gen Cert.FfnGrad Idealize.ShloMosaic Idealize.ShloMosaic.TcCoe Idealize.SL.Sem

variable (m : (ℓ : Loc nD τ sig) → Buf (Elt Ideal) ℓ) (c : Dev nD) (t : Fin cfg0.N)

theorem pay4_at (q : S8x2816.Idx) : (k0_pay4 (F := Ideal)) q = 0 := by
  obtain ⟨j, l, rfl⟩ : ∃ j l, q = ix2 j l := ⟨_, _, eq_ix2 q⟩
  pointwise [k0_pay4]

theorem pay5_at (j : Fin 8) (l : Fin 2816) : (k0_pay5 (F := Ideal)) (ix2 j l) = 0 := by
  pointwise [k0_pay5]

/-- One store of the whole buffer leaves what it stores. -/
theorem canon_fill (P : Vec Ideal S8x2816 .f32) (i : ∀ a, (![0, 0] : Fin 2 → ℕ) a + S8x2816.size a ≤ S8x2816.size a) :
    View.canon [(⟨Rect.unit (s := S8x2816) ![0, 0] S8x2816.size i, P⟩ : View.Piece (Elt Ideal) S8x2816 .f32)] = P := by
  refine canon_take (s := S8x2816) (e := .f32) P 1 _ ⟨fun x => congrArg P ?_, trivial⟩ (View.cover_of_tiledL _ ![8, 2816] (by rfl))
  funext a
  apply Fin.ext
  match a with
  | 0 => simp [Rect.emb, Rect.unit]
  | 1 => simp [Rect.emb, Rect.unit]

/-- Past the last tile the sequence has no rows: the head starts at zero. -/
theorem head_past (h : t.val % 16 = 0) : Head (memArgs m c) (tile t) (k0_pay5 (F := Ideal)) := by
  intro j l
  have : t.val < 16 := t.isLt
  rw [pay5_at, dif_neg (by simp only [tile]; omega)]

set_option maxHeartbeats 16000000 in
theorem df_A (h : t.val % 16 = 0) : (outsAt0 m c t.val t.isLt).2.1 = fun q : S256x1024.Idx => df (memArgs m c) (row (tile t) (q 0)) (q 1) := by
  rw [outsAt0_A m c t h]
  frame_open
  simp (disch := decide) only [↓ View.readCov_skip, ↓ View.readCov_cons_toLoadRect, ↓ View.readCov_fill]
  frame_out
  funext q
  obtain ⟨r, n, rfl⟩ : ∃ r n, q = ix2 r n := ⟨_, _, eq_ix2 q⟩
  exact pay11_at (blk0 m c t) (blk1 m c t) (blk2 m c t 0) r n

set_option maxHeartbeats 16000000 in
theorem dg_A (h : t.val % 16 = 0) (n : Fin 1024) : (outsAt0 m c t.val t.isLt).2.2.1 (ix2 0 n)
      = (0 : EReal) + ∑ r, (memArgs m c).d (row (tile t) r) n * fh (memArgs m c) (row (tile t) r) n := by
  rw [outsAt0_A m c t h]
  frame_open
  simp (disch := decide) only [↓ View.readCov_skip, ↓ View.readCov_cons_toLoadRect, ↓ View.readCov_fill]
  frame_out
  refine (pay9_at (blk0 m c t) (blk1 m c t) _ 0 n).trans ?_
  pointwise [k0_pay3]

set_option maxHeartbeats 16000000 in
theorem dup_A (h : t.val % 16 = 0) : (outsAt0 m c t.val t.isLt).1 = dupT (memArgs m c) (tile t) := by
  rw [outsAt0_A m c t h]
  frame_open
  simp (disch := decide) only [↓ View.readCov_skip, ↓ View.readCov_cons_toLoadRect, ↓ View.readCov_fill]
  frame_out
  refine canon_take (s := S2x256x2816) (e := .bf16) (dupT (memArgs m c) (tile t)) 44 _ ?_ (View.cover_of_tiledL _ ![1, 256, 128] (by rfl))
  iterate 22 refine dup_strip (holds m c t) (by decide) (head_past m c t h) ?_
  exact trivial

set_option maxHeartbeats 16000000 in
theorem head_A (h : t.val % 16 = 0) : (outsAt0 m c t.val t.isLt).2.2.2.2 = headT (memArgs m c) (tile t) := by
  rw [outsAt0_A m c t h]
  frame_open
  simp (disch := decide) only [↓ View.readCov_skip, ↓ View.readCov_cons_toLoadRect, ↓ View.readCov_fill]
  frame_out
  refine canon_take (s := S8x2816) (e := .f32) (headT (memArgs m c) (tile t)) 22 _ ?_ (View.cover_of_tiledL _ ![8, 128] (by rfl))
  iterate 22 refine head_strip (holds m c t) (by decide) ?_
  exact trivial

set_option maxHeartbeats 16000000 in
theorem stats_A (h : t.val % 16 = 0) : (outsAt0 m c t.val t.isLt).2.2.2.1
      = fun q : S8x2816.Idx => (0 : EReal) + statsT (memArgs m c) (tile t) (q 0).val (q 1) := by
  rw [outsAt0_A m c t h]
  frame_open
  simp (disch := decide) only [↓ View.readCov_skip, ↓ View.readCov_cons_toLoadRect, ↓ View.readCov_fill]
  frame_out
  refine (StatsPieces.canon (A := memArgs m c) (T := tile t) (P := k0_pay4 (F := Ideal)) _ 88 ?_ ?_).trans ?_
  · iterate 22 refine stats_strip (holds m c t) (by decide) _ ?_
    exact StatsPieces.nil _
  · exact canon_fill (k0_pay4 (F := Ideal)) _
  · funext q
    exact congrArg (· + statsT (memArgs m c) (tile t) (q 0).val (q 1)) (pay4_at q)

end Cert.KernelIdeal.Grad
-- ==== Proof.Later.lean ====
/-
  Every grid point but the first: what it leaves in each output and in the head it hands on, over what the point
  before it left.
-/
module

public import proofs.«01_k».proof.Proof.Norm
public import proofs.«01_k».proof.Proof.Strips

@[expose] public section

set_option maxRecDepth 16384

noncomputable section

namespace Cert.KernelIdeal.Grad

open Cert.KernelIdeal Cert.KernelIdeal.Gen Cert.FfnGrad Idealize.ShloMosaic Idealize.ShloMosaic.TcCoe Idealize.SL.Sem

variable (m : (ℓ : Loc nD τ sig) → Buf (Elt Ideal) ℓ) (c : Dev nD) (t : Fin cfg0.N)

set_option maxHeartbeats 16000000 in
theorem df_B (h : ¬ t.val % 16 = 0) : (outsAt0 m c t.val t.isLt).2.1 = fun q : S256x1024.Idx => df (memArgs m c) (row (tile t) (q 0)) (q 1) := by
  rw [outsAt0_B m c t h]
  frame_open
  simp (disch := decide) only [↓ View.readCov_skip, ↓ View.readCov_cons_toLoadRect, ↓ View.readCov_fill]
  frame_out
  funext q
  obtain ⟨r, n, rfl⟩ : ∃ r n, q = ix2 r n := ⟨_, _, eq_ix2 q⟩
  exact pay11_at (blk0 m c t) (blk1 m c t) (blk2 m c t 0) r n

set_option maxHeartbeats 16000000 in
theorem dg_B (h : ¬ t.val % 16 = 0) (n : Fin 1024) : (outsAt0 m c t.val t.isLt).2.2.1 (ix2 0 n)
      = (outsAt0 m c (t.val - 1) (Nat.lt_of_le_of_lt (Nat.sub_le _ _) t.isLt)).2.2.1 (ix2 0 n) + ∑ r, (memArgs m c).d (row (tile t) r) n * fh (memArgs m c) (row (tile t) r) n := by
  rw [outsAt0_B m c t h]
  frame_open
  simp (disch := decide) only [↓ View.readCov_skip, ↓ View.readCov_cons_toLoadRect, ↓ View.readCov_fill]
  frame_out
  refine (pay9_at (blk0 m c t) (blk1 m c t) _ 0 n).trans ?_
  rfl

set_option maxHeartbeats 16000000 in
theorem dup_B (h : ¬ t.val % 16 = 0)
    (hh : Head (memArgs m c) (tile t) (outsAt0 m c (t.val - 1) (Nat.lt_of_le_of_lt (Nat.sub_le _ _) t.isLt)).2.2.2.2) : (outsAt0 m c t.val t.isLt).1 = dupT (memArgs m c) (tile t) := by
  rw [outsAt0_B m c t h]
  frame_open
  simp (disch := decide) only [↓ View.readCov_skip, ↓ View.readCov_cons_toLoadRect, ↓ View.readCov_fill]
  frame_out
  simp only [read_unread_whole]
  refine canon_take (s := S2x256x2816) (e := .bf16) (dupT (memArgs m c) (tile t)) 44 _ ?_ (View.cover_of_tiledL _ ![1, 256, 128] (by rfl))
  iterate 22 refine dup_strip (holds m c t) (by decide) hh ?_
  exact trivial

set_option maxHeartbeats 16000000 in
theorem head_B (h : ¬ t.val % 16 = 0) : (outsAt0 m c t.val t.isLt).2.2.2.2 = headT (memArgs m c) (tile t) := by
  rw [outsAt0_B m c t h]
  frame_open
  simp (disch := decide) only [↓ View.readCov_skip, ↓ View.readCov_cons_toLoadRect, ↓ View.readCov_fill]
  frame_out
  refine canon_take (s := S8x2816) (e := .f32) (headT (memArgs m c) (tile t)) 22 _ ?_ (View.cover_of_tiledL _ ![8, 128] (by rfl))
  iterate 22 refine head_strip (holds m c t) (by decide) ?_
  exact trivial

set_option maxHeartbeats 16000000 in
theorem stats_B (h : ¬ t.val % 16 = 0) : (outsAt0 m c t.val t.isLt).2.2.2.1
      = fun q : S8x2816.Idx => (outsAt0 m c (t.val - 1) (Nat.lt_of_le_of_lt (Nat.sub_le _ _) t.isLt)).2.2.2.1 q + statsT (memArgs m c) (tile t) (q 0).val (q 1) := by
  rw [outsAt0_B m c t h]
  frame_open
  simp (disch := decide) only [↓ View.readCov_skip, ↓ View.readCov_cons_toLoadRect, ↓ View.readCov_fill]
  frame_out
  refine StatsPieces.read (P := (outsAt0 m c (t.val - 1) (Nat.lt_of_le_of_lt (Nat.sub_le _ _) t.isLt)).2.2.2.1) ?_ _ _ (Memref.IsWhole.read_unread _ _)
  iterate 22 refine stats_strip (holds m c t) (by decide) _ ?_
  exact StatsPieces.nil _

end Cert.KernelIdeal.Grad
-- ==== Proof.Arrays.lean ====
/-
  The four arrays the call leaves, as functions of the launch's arguments: the blocks of the two arrays written tile by
  tile, and the sums over all tiles of the two that are accumulated.
-/
module

public import proofs.«01_k».proof.Proof.First
public import proofs.«01_k».proof.Proof.Later

@[expose] public section

set_option maxRecDepth 16384

noncomputable section

namespace Cert.KernelIdeal.Grad

open Cert.KernelIdeal Cert.KernelIdeal.Gen Cert.FfnGrad Idealize.ShloMosaic Idealize.ShloMosaic.TcCoe Idealize.SL.Sem

/-- The tiles' rows are the sequence. -/
theorem sum_rows (F : Fin 4096 → EReal) : ∑ T : Fin 16, ∑ r : Fin 256, F (row T r) = ∑ t, F t := by
  rw [← Fintype.sum_prod_type']
  refine Fintype.sum_equiv (finProdFinEquiv : Fin 16 × Fin 256 ≃ Fin (16 * 256)) _ _ fun x => congrArg F (Fin.ext ?_)
  simp only [row, finProdFinEquiv, Equiv.coe_fn_mk]
  omega

/-- The grid visits every tile once, the last one first. -/
theorem sum_tiles (h : Fin 16 → EReal) : ∑ p : Fin cfg0.N, h (tile p) = ∑ T, h T := by
  refine Fintype.sum_equiv (Fin.revPerm : Equiv.Perm (Fin 16)) _ _ fun p => congrArg h (Fin.ext ?_)
  simp only [tile, Fin.revPerm_apply, Fin.val_rev]
  omega

theorem sum_statsT (A : Args) (j : Fin 8) (l : Fin 2816) : ∑ T, statsT A T j.val l = stats A j l := by
  simp only [statsT, stats]
  split
  · exact sum_rows fun t => dgate A t l * inp A (2 - j.val) t l
  · split
    · exact sum_rows fun t => dgate A t l
    · exact Finset.sum_const_zero

variable (m : (ℓ : Loc nD τ sig) → Buf (Elt Ideal) ℓ) (c : Dev nD)

theorem head_at (t : Fin cfg0.N) : (outsAt0 m c t.val t.isLt).2.2.2.2 = headT (memArgs m c) (tile t) := by
  by_cases h : t.val % 16 = 0
  exacts [head_A m c t h, head_B m c t h]

/-- The head a tile is handed is the next tile's first eight rows. -/
theorem head_before (t : Fin cfg0.N) (h : ¬ t.val % 16 = 0) :
    Head (memArgs m c) (tile t) (outsAt0 m c (t.val - 1) (Nat.lt_of_le_of_lt (Nat.sub_le _ _) t.isLt)).2.2.2.2 := by
  intro j l
  have ht : t.val < 16 := t.isLt
  have e := congrFun (head_at m c ⟨t.val - 1, Nat.lt_of_le_of_lt (Nat.sub_le _ _) t.isLt⟩) (ix2 j l)
  refine e.trans ?_
  rw [dif_pos (by simp only [tile]; omega)]
  refine congrArg (dgate (memArgs m c) · l) (Fin.ext ?_)
  simp only [row, tile]
  show 256 * (15 - (t.val - 1)) + j.val = _
  omega

theorem dup_at (t : Fin cfg0.N) : (outsAt0 m c t.val t.isLt).1 = dupT (memArgs m c) (tile t) := by
  by_cases h : t.val % 16 = 0
  exacts [dup_A m c t h, dup_B m c t h (head_before m c t h)]

theorem df_at (t : Fin cfg0.N) : (outsAt0 m c t.val t.isLt).2.1 = fun q : S256x1024.Idx => df (memArgs m c) (row (tile t) (q 0)) (q 1) := by
  by_cases h : t.val % 16 = 0
  exacts [df_A m c t h, df_B m c t h]

theorem dup_arr : (dats m 0 c).arrAt 8 cfg0.N = fun i : S2x4096x2816.Idx =>
    if (i 0).val = 0 then dup0 (memArgs m c) (i 1) (i 2) else dup1 (memArgs m c) (i 1) (i 2) := by
  refine (dats m 0 c).arrAt_eq_of_covers 8 _ (by decide +kernel) fun t hf y => ?_
  have e0 : win0_8.index t 0 = 0 := by rw [(idx t).2.2.2.2.2.2.2.2.1]; rfl
  have e1 : win0_8.index t 1 = 15 - t.val := by rw [(idx t).2.2.2.2.2.2.2.2.1]; rfl
  have e2 : win0_8.index t 2 = 0 := by rw [(idx t).2.2.2.2.2.2.2.2.1]; rfl
  have h1 : (win0_8.blk t).view.emb y 1 = row (tile t) (y 1) := Fin.ext (by blk_simp; rw [e1]; simp only [row, tile]; omega)
  have h2 : (win0_8.blk t).view.emb y 2 = y 2 := Fin.ext (by blk_simp; rw [e2]; omega)
  blk_simp
  rw [after0_8, dup_at, h1, h2, e0, Nat.zero_mul, Nat.zero_add]
  rfl

theorem df_arr : (dats m 0 c).arrAt 9 cfg0.N = fun i : S4096x1024.Idx => df (memArgs m c) (i 0) (i 1) := by
  refine (dats m 0 c).arrAt_eq_of_covers 9 _ (by decide +kernel) fun t hf y => ?_
  have e0 : win0_9.index t 0 = 15 - t.val := by rw [(idx t).2.2.2.2.2.2.2.2.2.1]; rfl
  have e1 : win0_9.index t 1 = 0 := by rw [(idx t).2.2.2.2.2.2.2.2.2.1]; rfl
  have h0 : (win0_9.blk t).view.emb y 0 = row (tile t) (y 0) := Fin.ext (by blk_simp; rw [e0]; simp only [row, tile]; omega)
  have h1 : (win0_9.blk t).view.emb y 1 = y 1 := Fin.ext (by blk_simp; rw [e1]; omega)
  blk_simp
  rw [after0_9, df_at, h0, h1]

theorem dg_last (n : Fin 1024) : (outsAt0 m c t0_15.val t0_15.isLt).2.2.1 (ix2 0 n) = dg (memArgs m c) n := by
  refine (Pipeline.eq_sum_fin_of_reset_step_apply_last (fun k hk n => (outsAt0 m c k hk).2.2.1 (ix2 0 n)) 16 (fun _ => 0)
    (fun p n => ∑ r, (memArgs m c).d (row (tile p) r) n * fh (memArgs m c) (row (tile p) r) n)
    (fun t h n => dg_A m c t h n) (fun t h n => dg_B m c t h n) (by decide) t0_15 rfl n).trans ?_
  rw [zero_add, sum_tiles fun T => ∑ r, (memArgs m c).d (row T r) n * fh (memArgs m c) (row T r) n]
  exact sum_rows fun t => (memArgs m c).d t n * fh (memArgs m c) t n

theorem stats_last (j : Fin 8) (l : Fin 2816) : (outsAt0 m c t0_15.val t0_15.isLt).2.2.2.1 (ix2 j l) = stats (memArgs m c) j l := by
  refine (Pipeline.eq_sum_fin_of_reset_step_apply_last (fun k hk q => (outsAt0 m c k hk).2.2.2.1 q) 16 (fun _ => 0)
    (fun p q => statsT (memArgs m c) (tile p) (q 0).val (q 1))
    (fun t h q => congrFun (stats_A m c t h) q) (fun t h q => congrFun (stats_B m c t h) q) (by decide) t0_15 rfl (ix2 j l)).trans ?_
  rw [zero_add]
  exact (sum_tiles fun T => statsT (memArgs m c) T j.val l).trans (sum_statsT _ j l)

theorem dg_arr : (dats m 0 c).arrAt 10 cfg0.N = fun i : S1x1024.Idx => dg (memArgs m c) (i 1) := by
  refine (dats m 0 c).arrAt_eq_of_after_last 10 t0_15 (by decide +kernel) _ fun j => ?_
  blk_simp
  rw [after0_10]
  obtain ⟨z, n, rfl⟩ : ∃ (z : Fin 1) (n : Fin 1024), j = ix2 z n := ⟨_, _, eq_ix2 j⟩
  obtain rfl : z = 0 := Subsingleton.elim _ _
  exact dg_last m c n

theorem stats_arr : (dats m 0 c).arrAt 11 cfg0.N = fun i : S8x2816.Idx => stats (memArgs m c) (i 0) (i 1) := by
  refine (dats m 0 c).arrAt_eq_of_after_last 11 t0_15 (by decide +kernel) _ fun j => ?_
  blk_simp
  rw [after0_11]
  obtain ⟨r, l, rfl⟩ : ∃ (r : Fin 8) (l : Fin 2816), j = ix2 r l := ⟨_, _, eq_ix2 j⟩
  exact stats_last m c r l

end Cert.KernelIdeal.Grad
-- ==== Proof.AllFinite.lean ====
/-
  A precondition's test of one array — every entry's absolute value below infinity — says that its entries are real
  numbers.
-/
module

public import proofs.«01_k».proof.Proof.RmsNorm
public import Idealize.ShloMosaic.Lib.ReduceAll
public import Idealize.ShloMosaic.Lib.Affine
public import Idealize.ShloMosaic.Lib.Decide

@[expose] public section

noncomputable section

namespace Cert.FfnGrad

open Idealize.ShloMosaic

/-- The shape of one number. -/
abbrev Single : Shape := ⟨0, ![]⟩

instance subsingleton_idx : Subsingleton Single.Idx := ⟨fun a b => funext fun i => i.elim0⟩

/-- The predicate's bound is infinity. -/
theorem bound_eq : Ideal.ofBits .f32 0x7F800000#32 = ⊤ := by
  simp [Ideal.ofBits, Ideal.ieee]

/-- One array's part of the predicate. -/
theorem real_of_all {s : Shape} {axes : List (Fin s.rank)} (x : FVec Ideal s .f32) (hb : Single.BroadcastsInDim s (![] : Fin 0 → Fin s.rank)) (hr : s.ReducesTo axes Single)
    (hu : 0 < Single.numel) (j : Single.Idx)
    (e : Host.reduce IntOp.andi (cmpf .olt (Host.absf x) (broadcastInDim s ![] hb (constant (F := Ideal) Single .f32 0x7F800000#32))) (constantI Single 1 1#1) hr hu j = 1#1)
    (i : s.Idx) : IsReal (x i) := by
  have h := Host.reduce_andi_all _ _ _ _ j e i
  have h' : FloatOps.cmpf (F := Ideal) (φ := .f32) .olt (FloatOps.absf (F := Ideal) (φ := .f32) (x i)) (Ideal.ofBits .f32 0x7F800000#32) = 1#1 := h
  rw [bound_eq] at h'
  refine IsReal.of_abs_lt ?_
  rw [Ideal.cmpf_def, Ideal.absf_def] at h'
  by_contra hn
  simp [Ideal.cmp, hn] at h'

end Cert.FfnGrad
-- ==== Proof.Finite.lean ====
/-
  The precondition: its side conditions, and what it says — every entry of the six arguments is a real number.
-/
module

public import proofs.«01_k».proof.Defs
public import proofs.«01_k».proof.Proof.Spec
public import proofs.«01_k».proof.Proof.RefValue
public import proofs.«01_k».proof.Proof.AllFinite
public import Idealize.ShloMosaic.Lib.Affine
public import Idealize.ShloMosaic.Lib.Decide
public import Idealize.ShloMosaic.Lib.Pipeline.ValueKit

@[expose] public section

noncomputable section

namespace Cert.Pre_all_finite

open Idealize.ShloMosaic Cert.FfnGrad

theorem facts : Facts where
  bitsLt_bf16_f32 := by decide
  bcast_S_S2x4096x2816 := by decide
  reducesTo_S2x4096x2816_S_d0_1_2 := by decide
  h_S_ := by decide
  bcast_S_S3x2816 := by decide
  reducesTo_S3x2816_S_d0_1 := by decide
  bcast_S_S2816 := by decide
  reducesTo_S2816_S_d0 := by decide
  bcast_S_S2816x1024 := by decide
  reducesTo_S2816x1024_S_d0_1 := by decide
  bcast_S_S1024 := by decide
  reducesTo_S1024_S_d0 := by decide
  bcast_S_S4096x1024 := by decide
  reducesTo_S4096x1024_S_d0_1 := by decide

variable [Facts] {x0 : FVec Ideal S2x4096x2816 .bf16} {x1 : FVec Ideal S3x2816 .f32} {x2 : FVec Ideal S2816 .f32}
  {x3 : FVec Ideal S2816x1024 .bf16} {x4 : FVec Ideal S1024 .f32} {x5 : FVec Ideal S4096x1024 .f32}

theorem allReal (h : fn (F := Ideal) x0 x1 x2 x3 x4 x5 = fun _ => 1#1) : AllReal (Cert.ReferenceIdeal.Grad.args x0 x1 x2 x3 x4 x5) := by
  have e := congrFun h (fun a => a.elim0)
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact { u := fun p t c => real_of_all (extf .f32 x0 Facts.bitsLt_bf16_f32) Facts.bcast_S_S2x4096x2816 Facts.reducesTo_S2x4096x2816_S_d0_1_2 Facts.h_S_ _ e0 (ix3 p t c)
          w := fun k c => real_of_all x1 Facts.bcast_S_S3x2816 Facts.reducesTo_S3x2816_S_d0_1 Facts.h_S_ _ e1 (ix2 k c)
          b := fun c => real_of_all x2 Facts.bcast_S_S2816 Facts.reducesTo_S2816_S_d0 Facts.h_S_ _ e2 (ix1 c)
          W := fun c n => real_of_all (extf .f32 x3 Facts.bitsLt_bf16_f32) Facts.bcast_S_S2816x1024 Facts.reducesTo_S2816x1024_S_d0_1 Facts.h_S_ _ e3 (ix2 c n)
          g := fun n => real_of_all x4 Facts.bcast_S_S1024 Facts.reducesTo_S1024_S_d0 Facts.h_S_ _ e4 (ix1 n)
          d := fun t n => real_of_all x5 Facts.bcast_S_S4096x1024 Facts.reducesTo_S4096x1024_S_d0_1 Facts.h_S_ _ e5 (ix2 t n) }

end Cert.Pre_all_finite
-- ==== Proof.DownDw.lean ====
/-
  The gradient of the down projection's weights: each of the two column halves of the left array is multiplied, block of
  rows by block of rows, into an accumulator that is written back after the last block. Both programs compute
  `dw i j = ∑ t, a t i * b t j` of their two arguments.
-/
module

public import proofs.«01_k».proof.Defs
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ReadBack
public import Idealize.ShloMosaic.Lib.Claim
public import Idealize.ShloMosaic.Lib.IdealHost
public import Idealize.ShloMosaic.Adequacy
public import Idealize.ShloMosaic.Init

@[expose] public section

set_option maxRecDepth 16384

noncomputable section

namespace Cert.DownDw

open Idealize.ShloMosaic Idealize.ShloMosaic.TcCoe Idealize.SL.Sem

/-- The products of all rows. -/
def dw (x : Vec Ideal Cert.Reference4Ideal.S4096x2816 .bf16) (y : Vec Ideal Cert.Reference4Ideal.S4096x1024 .bf16)
    (i : Cert.Reference4Ideal.S2816x1024.Idx) : EReal :=
  ∑ t : Fin 4096, x (ix2 t (i 0)) * y (ix2 t (i 1))

theorem dw_at (x : Vec Ideal Cert.Reference4Ideal.S4096x2816 .bf16) (y : Vec Ideal Cert.Reference4Ideal.S4096x1024 .bf16) (i : Fin 2816) (j : Fin 1024) :
    dw x y (ix2 i j) = ∑ t, x (ix2 t i) * y (ix2 t j) := rfl

section Kernel

open Cert.Kernel4Ideal Cert.Kernel4Ideal.Gen

variable (m : (ℓ : Loc nD τ sig) → Buf (Elt Ideal) ℓ) (c : Dev nD)

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

theorem pay1_at (i : Fin 1408) (j : Fin 1024) : (k0_pay1 (F := Ideal)) (ix2 i j) = 0 := by
  pointwise [k0_pay1]

theorem pay2_at (P : Vec Ideal S1408x1024 .f32) (X : Vec Ideal S512x1408 .bf16) (Y : Vec Ideal S512x1024 .bf16) (i : Fin 1408) (j : Fin 1024) :
    k0_pay2 P X Y (ix2 i j) = P (ix2 i j) + ∑ r, X (ix2 r i) * Y (ix2 r j) := by
  pointwise [k0_pay2]

theorem pay3_at (P : Vec Ideal S1408x1024 .f32) (i : Fin 1408) (j : Fin 1024) : k0_pay3 P (ix2 i j) = P (ix2 i j) := by
  pointwise [k0_pay3]

/-- What a grid point adds, from its blocks. -/
def part (X : Vec Ideal S512x1408 .bf16) (Y : Vec Ideal S512x1024 .bf16) (q : S1408x1024.Idx) : EReal :=
  ∑ r : Fin 512, X (ix2 r (q 0)) * Y (ix2 r (q 1))

theorem part_at (X : Vec Ideal S512x1408 .bf16) (Y : Vec Ideal S512x1024 .bf16) (i : Fin 1408) (j : Fin 1024) :
    part X Y (ix2 i j) = ∑ r, X (ix2 r i) * Y (ix2 r j) := rfl

theorem acc_first (t : Fin cfg0.N) (h : t.val % 8 = 0) (q : S1408x1024.Idx) :
    (outsAt0 m c t.val t.isLt).2 q = (0 : EReal) + part (iblk m c 0 t) (iblk m c 1 t) q := by
  rw [outsAt0_A m c t h (by omega)]
  frame_out
  obtain ⟨i, j, rfl⟩ : ∃ i j, q = ix2 i j := ⟨_, _, eq_ix2 q⟩
  refine (pay2_at _ _ _ i j).trans ?_
  rw [pay1_at]
  rfl

theorem acc_later (t : Fin cfg0.N) (h : ¬ t.val % 8 = 0) (q : S1408x1024.Idx) :
    (outsAt0 m c t.val t.isLt).2 q = (outsAt0 m c (t.val - 1) (Nat.lt_of_le_of_lt (Nat.sub_le _ _) t.isLt)).2 q + part (iblk m c 0 t) (iblk m c 1 t) q := by
  by_cases h1 : t.val % 8 = 7
  · rw [outsAt0_C m c t h h1]
    frame_out
    simp only [read_unread_whole]
    obtain ⟨i, j, rfl⟩ : ∃ i j, q = ix2 i j := ⟨_, _, eq_ix2 q⟩
    exact pay2_at _ _ _ i j
  · rw [outsAt0_B m c t h h1]
    frame_out
    simp only [read_unread_whole]
    obtain ⟨i, j, rfl⟩ : ∃ i j, q = ix2 i j := ⟨_, _, eq_ix2 q⟩
    exact pay2_at _ _ _ i j

theorem out_last (t : Fin cfg0.N) (h1 : t.val % 8 = 7) (q : S1408x1024.Idx) :
    (outsAt0 m c t.val t.isLt).1 q = (outsAt0 m c (t.val - 1) (Nat.lt_of_le_of_lt (Nat.sub_le _ _) t.isLt)).2 q + part (iblk m c 0 t) (iblk m c 1 t) q := by
  rw [outsAt0_C m c t (by omega) h1]
  frame_out
  simp only [read_unread_whole]
  obtain ⟨i, j, rfl⟩ : ∃ i j, q = ix2 i j := ⟨_, _, eq_ix2 q⟩
  exact (pay3_at _ i j).trans (pay2_at _ _ _ i j)

theorem blk0 (t : Fin cfg0.N) (r : Fin 512) (i : Fin 1408) : iblk m c 0 t (ix2 r i)
    = m ((c : Thread nD τ).loc main_arg0) (ix2 ⟨t.val % 8 * 512 + r.val, by omega⟩ ⟨t.val / 8 * 1408 + i.val, by have : t.val < 16 := t.isLt; omega⟩) := by
  blk_ext [iblk, V, idx t]

theorem blk1 (t : Fin cfg0.N) (r : Fin 512) (j : Fin 1024) : iblk m c 1 t (ix2 r j)
    = m ((c : Thread nD τ).loc main_arg1) (ix2 ⟨t.val % 8 * 512 + r.val, by omega⟩ j) := by
  blk_ext [iblk, V, idx t]

theorem out_at (t : Fin cfg0.N) (h1 : t.val % 8 = 7) (i : Fin 1408) (j : Fin 1024) :
    (outsAt0 m c t.val t.isLt).1 (ix2 i j) = dw (m ((c : Thread nD τ).loc main_arg0)) (m ((c : Thread nD τ).loc main_arg1)) (ix2 ⟨t.val / 8 * 1408 + i.val, by have : t.val < 16 := t.isLt; omega⟩ j) := by
  rw [out_last m c t h1, ← acc_later m c t (by omega),
    Pipeline.eq_sum_fin_of_reset_step_apply_of_flush (fun n h => (outsAt0 m c n h).2) 8 (fun _ => 0) (fun p => part (iblk m c 0 p) (iblk m c 1 p)) (acc_first m c) (acc_later m c) t h1]
  rw [zero_add, dw_at]
  simp only [part_at, blk0, blk1]
  have ht : t.val < 16 := t.isLt
  refine Fin.sum_mul_add_congr fun s r hl => ?_
  have e1 : (8 * (t.val / 8) + s.val) % 8 = s.val := by omega
  have e2 : (8 * (t.val / 8) + s.val) / 8 = t.val / 8 := by omega
  simp only [e1, e2]

theorem dw_arr : (dats m 0 c).arrAt 2 cfg0.N = dw (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  have e0 : win0_2.index t 0 = t.val / 8 := by rw [(idx t).2.2]; rfl
  have e1 : win0_2.index t 1 = 0 := by rw [(idx t).2.2]; rfl
  blk_simp
  rw [after0_2]
  obtain ⟨i, j, rfl⟩ : ∃ i j, y = ix2 i j := ⟨_, _, eq_ix2 y⟩
  refine (out_at m c t h7 i j).trans (congrArg (dw _ _) ?_)
  funext a
  apply Fin.ext
  match a with
  | 0 => blk_simp; rw [e0]
  | 1 => blk_simp; rw [e1]; simp

theorem run_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (dw_arr m c), (h c).2⟩) (Cert.Kernel4Ideal.Value.run_blocks m ρ)

end Kernel

section Reference

open Cert.Reference4Ideal Cert.Reference4Ideal.Gen Cert.Reference4Ideal.Read

theorem ref_at (x0 : Vec Ideal S4096x2816 .bf16) (x1 : Vec Ideal S4096x1024 .bf16) :
    val_main_v6 (F := Ideal) x0 x1 = dw x0 x1 := by
  funext i
  obtain ⟨p, q, rfl⟩ : ∃ p q, i = ix2 p q := ⟨_, _, eq_ix2 i⟩
  pointwise [val_main_v6, val_main_v5, val_main_v4, val_main_v3, val_main_v0]
  exact Finset.sum_congr rfl fun t _ => mul_comm _ _

theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1.trans (val_main_v6_eq _ _)).trans (ref_at _ _), (h c).2⟩) (Cert.Reference4Ideal.Value.run m ρ)

end Reference

theorem algebraic : Cert.algebraic_Kernel4Ideal_Reference4Ideal (hKernel4Ideal := Cert.Kernel4Ideal.Gen.facts)
    (hReference4Ideal := Cert.Reference4Ideal.Gen.facts) := by
  intro m g m' g' _ hagree
  refine ⟨_, run_kernel m g, (θ_run _ _ _).mono (fun r h c => ?_) (run_reference m' g')⟩
  obtain ⟨a0, a1⟩ := hagree c
  obtain ⟨h0, hk⟩ := h c
  rw [a0, a1] at h0
  exact ⟨h0, hk⟩

theorem frame_reference : Cert.quiescent_Reference4Ideal (hReference4Ideal := Cert.Reference4Ideal.Gen.facts) := by
  intro m g _
  exact (θ_run _ _ _).mono (fun r h => ⟨fun c => (h c).2, sem_eq_zero_of_no_sems (by decide) r.2⟩) (run_reference m g)

end Cert.DownDw

end
-- ==== Proof.UpDw.lean ====
/-
  The gradient of the widening product's weights, in four blocks of 1408 columns: for each block the normalised rows are
  multiplied, 512 rows at a time, with the matching columns of the cotangent (two blocks to each half) into an
  accumulator that is written back after the last rows. Both programs compute `dw` of their two arguments.
-/
module

public import proofs.«01_k».proof.Defs
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pipeline.ReadBack
public import Idealize.ShloMosaic.Lib.Claim
public import Idealize.ShloMosaic.Lib.IdealHost
public import Idealize.ShloMosaic.Adequacy
public import Idealize.ShloMosaic.Init

@[expose] public section

set_option maxRecDepth 16384

noncomputable section

namespace Cert.UpDw

open Idealize.ShloMosaic Idealize.ShloMosaic.TcCoe Idealize.SL.Sem

/-- Block `q` of the products of all rows: two blocks of columns to each half. -/
def dw (x : Vec Ideal Cert.Reference3Ideal.S4096x1024 .bf16) (y : Vec Ideal Cert.Reference3Ideal.S2x4096x2816 .bf16)
    (i : Cert.Reference3Ideal.S4x1024x1408.Idx) : EReal :=
  ∑ t : Fin 4096, x (ix2 t (i 1)) * y (ix3 ⟨(i 0).val / 2, by have : (i 0).val < 4 := (i 0).isLt; omega⟩ t
    ⟨(i 0).val % 2 * 1408 + (i 2).val, by have : (i 2).val < 1408 := (i 2).isLt; omega⟩)

theorem dw_at (x : Vec Ideal Cert.Reference3Ideal.S4096x1024 .bf16) (y : Vec Ideal Cert.Reference3Ideal.S2x4096x2816 .bf16) (q : Fin 4) (i : Fin 1024)
    (j : Fin 1408) : dw x y (ix3 q i j) = ∑ t, x (ix2 t i) * y (ix3 ⟨q.val / 2, by omega⟩ t ⟨q.val % 2 * 1408 + j.val, by omega⟩) := rfl

section Kernel

open Cert.Kernel3Ideal Cert.Kernel3Ideal.Gen

variable (m : (ℓ : Loc nD τ sig) → Buf (Elt Ideal) ℓ) (c : Dev nD)

theorem idx : ∀ t : Fin cfg0.N, win0_0.index t = ![t.val % 8, 0] ∧ win0_1.index t = ![t.val / 8 / 2, t.val % 8, t.val / 8 % 2] ∧ win0_2.index t = ![t.val / 8, 0, 0] :=
  (by decide +kernel : ∀ t : Fin grid0.N, _)

theorem pay1_at (i : Fin 1024) (j : Fin 1408) : (k0_pay1 (F := Ideal)) (ix2 i j) = 0 := by
  pointwise [k0_pay1]

theorem pay2_at (P : Vec Ideal S1024x1408 .f32) (X : Vec Ideal S512x1024 .bf16) (Y : Vec Ideal S1x512x1408 .bf16) (i : Fin 1024) (j : Fin 1408) :
    k0_pay2 P X Y (ix2 i j) = P (ix2 i j) + ∑ r, X (ix2 r i) * Y (ix3 0 r j) := by
  pointwise [k0_pay2]

theorem pay3_at (P : Vec Ideal S1024x1408 .f32) (i : Fin 1024) (j : Fin 1408) : k0_pay3 P (ix3 0 i j) = P (ix2 i j) := by
  pointwise [k0_pay3]

/-- What a grid point adds, from its blocks. -/
def part (X : Vec Ideal S512x1024 .bf16) (Y : Vec Ideal S1x512x1408 .bf16) (q : S1024x1408.Idx) : EReal :=
  ∑ r : Fin 512, X (ix2 r (q 0)) * Y (ix3 0 r (q 1))

theorem part_at (X : Vec Ideal S512x1024 .bf16) (Y : Vec Ideal S1x512x1408 .bf16) (i : Fin 1024) (j : Fin 1408) :
    part X Y (ix2 i j) = ∑ r, X (ix2 r i) * Y (ix3 0 r j) := rfl

theorem acc_first (t : Fin cfg0.N) (h : t.val % 8 = 0) (q : S1024x1408.Idx) :
    (outsAt0 m c t.val t.isLt).2 q = (0 : EReal) + part (iblk m c 0 t) (iblk m c 1 t) q := by
  rw [outsAt0_A m c t h (by omega)]
  frame_out
  obtain ⟨i, j, rfl⟩ : ∃ i j, q = ix2 i j := ⟨_, _, eq_ix2 q⟩
  refine (pay2_at _ _ _ i j).trans ?_
  rw [pay1_at]
  rfl

theorem acc_later (t : Fin cfg0.N) (h : ¬ t.val % 8 = 0) (q : S1024x1408.Idx) :
    (outsAt0 m c t.val t.isLt).2 q = (outsAt0 m c (t.val - 1) (Nat.lt_of_le_of_lt (Nat.sub_le _ _) t.isLt)).2 q + part (iblk m c 0 t) (iblk m c 1 t) q := by
  by_cases h1 : t.val % 8 = 7
  · rw [outsAt0_C m c t h h1]
    frame_out
    simp only [read_unread_whole]
    obtain ⟨i, j, rfl⟩ : ∃ i j, q = ix2 i j := ⟨_, _, eq_ix2 q⟩
    exact pay2_at _ _ _ i j
  · rw [outsAt0_B m c t h h1]
    frame_out
    simp only [read_unread_whole]
    obtain ⟨i, j, rfl⟩ : ∃ i j, q = ix2 i j := ⟨_, _, eq_ix2 q⟩
    exact pay2_at _ _ _ i j

theorem out_last (t : Fin cfg0.N) (h1 : t.val % 8 = 7) (i : Fin 1024) (j : Fin 1408) :
    (outsAt0 m c t.val t.isLt).1 (ix3 0 i j) = (outsAt0 m c t.val t.isLt).2 (ix2 i j) := by
  rw [acc_later m c t (by omega), outsAt0_C m c t (by omega) h1]
  frame_out
  simp only [read_unread_whole]
  exact (pay3_at _ i j).trans (pay2_at _ _ _ i j)

theorem blk0 (t : Fin cfg0.N) (r : Fin 512) (i : Fin 1024) : iblk m c 0 t (ix2 r i)
    = m ((c : Thread nD τ).loc main_arg0) (ix2 ⟨t.val % 8 * 512 + r.val, by omega⟩ i) := by
  blk_ext [iblk, V, idx t]

theorem blk1 (t : Fin cfg0.N) (r : Fin 512) (j : Fin 1408) : iblk m c 1 t (ix3 0 r j)
    = m ((c : Thread nD τ).loc main_arg1) (ix3 ⟨t.val / 8 / 2, by have : t.val < 32 := t.isLt; omega⟩ ⟨t.val % 8 * 512 + r.val, by omega⟩ ⟨t.val / 8 % 2 * 1408 + j.val, by omega⟩) := by
  blk_ext [iblk, V, idx t]

theorem out_at (t : Fin cfg0.N) (h1 : t.val % 8 = 7) (i : Fin 1024) (j : Fin 1408) :
    (outsAt0 m c t.val t.isLt).1 (ix3 0 i j) = dw (m ((c : Thread nD τ).loc main_arg0)) (m ((c : Thread nD τ).loc main_arg1)) (ix3 ⟨t.val / 8, by have : t.val < 32 := t.isLt; omega⟩ i j) := by
  rw [out_last m c t h1,
    Pipeline.eq_sum_fin_of_reset_step_apply_of_flush (fun n h => (outsAt0 m c n h).2) 8 (fun _ => 0) (fun p => part (iblk m c 0 p) (iblk m c 1 p)) (acc_first m c) (acc_later m c) t h1]
  rw [zero_add, dw_at]
  simp only [part_at, blk0, blk1]
  have ht : t.val < 32 := t.isLt
  refine Fin.sum_mul_add_congr fun s r hl => ?_
  have e1 : (8 * (t.val / 8) + s.val) % 8 = s.val := by omega
  have e2 : (8 * (t.val / 8) + s.val) / 8 = t.val / 8 := by omega
  simp only [e1, e2]

theorem dw_arr : (dats m 0 c).arrAt 2 cfg0.N = dw (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  have e0 : win0_2.index t 0 = t.val / 8 := by rw [(idx t).2.2]; rfl
  have e1 : win0_2.index t 1 = 0 := by rw [(idx t).2.2]; rfl
  have e2 : win0_2.index t 2 = 0 := by rw [(idx t).2.2]; rfl
  blk_simp
  rw [after0_2]
  obtain ⟨z, i, j, rfl⟩ : ∃ z i j, y = ix3 z i j := ⟨_, _, _, eq_ix3 y⟩
  obtain rfl : z = 0 := Subsingleton.elim _ _
  refine (out_at m c t h7 i j).trans (congrArg (dw _ _) ?_)
  funext a
  apply Fin.ext
  match a with
  | 0 => blk_simp; rw [e0]; simp
  | 1 => blk_simp; rw [e1]; simp
  | 2 => blk_simp; rw [e2]; simp

theorem run_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (dw_arr m c), (h c).2⟩) (Cert.Kernel3Ideal.Value.run_blocks m ρ)

end Kernel

section Reference

open Cert.Reference3Ideal Cert.Reference3Ideal.Gen Cert.Reference3Ideal.Read

theorem ref_at (x0 : Vec Ideal S4096x1024 .bf16) (x1 : Vec Ideal S2x4096x2816 .bf16) :
    val_main_v13 (F := Ideal) x0 x1 = dw x0 x1 := by
  funext i
  obtain ⟨q, p, j, rfl⟩ : ∃ q p j, i = ix3 q p j := ⟨_, _, _, eq_ix3 i⟩
  rw [dw_at]
  pointwise [val_main_v13, val_main_v12, val_main_v11, val_main_v10, val_main_v9, val_main_v8, val_main_v7, val_main_v6, val_main_v5, val_main_v4, val_main_v3, val_main_v0]
  refine Finset.sum_congr rfl fun t _ => ?_
  rw [mul_comm]
  refine congrArg (x0 (ix2 t p) * ·) ?_
  split
  · refine congrArg x1 (funext fun a => Fin.ext ?_)
    match a with
    | 0 => show 0 = q.val / 2; omega
    | 1 => rfl
    | 2 => show q.val * 1408 + j.val = q.val % 2 * 1408 + j.val; omega
  · refine congrArg x1 (funext fun a => Fin.ext ?_)
    match a with
    | 0 => show 1 = q.val / 2; omega
    | 1 => rfl
    | 2 => show q.val * 1408 + j.val - 2816 = q.val % 2 * 1408 + j.val; omega

theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1.trans (val_main_v13_eq _ _)).trans (ref_at _ _), (h c).2⟩) (Cert.Reference3Ideal.Value.run m ρ)

end Reference

theorem algebraic : Cert.algebraic_Kernel3Ideal_Reference3Ideal (hKernel3Ideal := Cert.Kernel3Ideal.Gen.facts)
    (hReference3Ideal := Cert.Reference3Ideal.Gen.facts) := by
  intro m g m' g' _ hagree
  refine ⟨_, run_kernel m g, (θ_run _ _ _).mono (fun r h c => ?_) (run_reference m' g')⟩
  obtain ⟨a0, a1⟩ := hagree c
  obtain ⟨h0, hk⟩ := h c
  rw [a0, a1] at h0
  exact ⟨h0, hk⟩

theorem frame_reference : Cert.quiescent_Reference3Ideal (hReference3Ideal := Cert.Reference3Ideal.Gen.facts) := by
  intro m g _
  exact (θ_run _ _ _).mono (fun r h => ⟨fun c => (h c).2, sem_eq_zero_of_no_sems (by decide) r.2⟩) (run_reference m g)

end Cert.UpDw

end
-- ==== Proof.UpDx.lean ====
/-
  The gradient of the pre-norm and the up projection with respect to the norm's input and gain. A grid point handles
  256 rows: their cotangents' products with the four column blocks of the weights, the norm's gradient added to the
  residual's, and the rows' part of the gain's gradient. Both programs compute `dx` and `dg` of their five arguments,
  where the arguments that the norm's gradient reads are real numbers.
-/
module

public import proofs.«01_k».proof.Defs
public import proofs.«01_k».proof.Proof.AllFinite
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pipeline.ReadBack
public import Idealize.ShloMosaic.Lib.Claim
public import Idealize.ShloMosaic.Lib.Affine
public import Idealize.ShloMosaic.Lib.Decide
public import Idealize.ShloMosaic.Lib.IdealHost
public import Idealize.ShloMosaic.Adequacy
public import Idealize.ShloMosaic.Init

@[expose] public section

set_option maxRecDepth 16384

noncomputable section

namespace Cert.UpDx

open Idealize.ShloMosaic Idealize.ShloMosaic.TcCoe Idealize.SL.Sem Cert.FfnGrad

/-- The arguments as functions of their coordinates: the cotangent of the two halves, the weights in four blocks of
columns, the norm's input and gain, and the residual's gradient. -/
structure Args where
  u : Fin 2 → Fin 4096 → Fin 2816 → EReal
  w : Fin 4 → Fin 1024 → Fin 1408 → EReal
  x : Fin 4096 → Fin 1024 → EReal
  g : Fin 1024 → EReal
  s : Fin 4096 → Fin 1024 → EReal

def args (x0 : Vec Ideal Cert.Reference2Ideal.S2x4096x2816 .bf16) (x1 : Vec Ideal Cert.Reference2Ideal.S4x1024x1408 .bf16)
    (x2 : Vec Ideal Cert.Reference2Ideal.S4096x1024 .f32) (x3 : Vec Ideal Cert.Reference2Ideal.S1024 .f32)
    (x4 : Vec Ideal Cert.Reference2Ideal.S4096x1024 .f32) : Args where
  u p t c := x0 (ix3 p t c)
  w q n j := x1 (ix3 q n j)
  x t n := x2 (ix2 t n)
  g n := x3 (ix1 n)
  s t n := x4 (ix2 t n)

variable (A : Args)

/-- Column block `q` of the cotangent: two blocks to each half. -/
def blk (q : Fin 4) (t : Fin 4096) (j : Fin 1408) : EReal := A.u ⟨q.val / 2, by omega⟩ t ⟨q.val % 2 * 1408 + j.val, by omega⟩

/-- The cotangent of the normalised rows, scaled by the gain. -/
def dh (t : Fin 4096) (n : Fin 1024) : EReal := ∑ q, ∑ j, blk A q t j * A.w q n j

def dx (t : Fin 4096) (n : Fin 1024) : EReal := A.s t n + normGrad (A.x t) (fun j => dh A t j * A.g j) n

def dg (n : Fin 1024) : EReal := ∑ t, dh A t n * (A.x t n * rowInv (A.x t))

/-- The arguments that the norm's gradient reads are real numbers. -/
structure AllReal : Prop where
  u : ∀ p t c, IsReal (A.u p t c)
  w : ∀ q n j, IsReal (A.w q n j)
  x : ∀ t n, IsReal (A.x t n)
  g : ∀ n, IsReal (A.g n)

theorem real_dh {A : Args} (h : AllReal A) (t n) : IsReal (dh A t n) :=
  .sum _ _ fun q => .sum _ _ fun j => (h.u _ _ _).mul (h.w _ _ _)

section Payloads

open Cert.Kernel2Ideal Cert.Kernel2Ideal.Gen

theorem pay7_at (a0 a1 a2 : Vec Ideal S1x256x1408 .bf16) (b0 b1 b2 : Vec Ideal S1x1024x1408 .bf16) (r : Fin 256) (n : Fin 1024) :
    k0_pay7 a0 b0 a1 b1 a2 b2 (ix2 r n) = (∑ j, a0 (ix3 0 r j) * b0 (ix3 0 n j)) + (∑ j, a1 (ix3 0 r j) * b1 (ix3 0 n j)) + ∑ j, a2 (ix3 0 r j) * b2 (ix3 0 n j) := by
  pointwise [k0_pay7]

theorem pay8_at (a : Vec Ideal S1x256x1408 .bf16) (b : Vec Ideal S1x1024x1408 .bf16) (r : Fin 256) (n : Fin 1024) :
    k0_pay8 a b (ix2 r n) = ∑ j, a (ix3 0 r j) * b (ix3 0 n j) := by
  pointwise [k0_pay8]

theorem pay6_at (z : Fin 1) (n : Fin 1024) : (k0_pay6 (F := Ideal)) (ix2 z n) = 0 := by
  pointwise [k0_pay6]

variable (X : Vec Ideal S256x1024 .f32)

theorem pay2_at (r : Fin 256) (z : Fin 1) : k0_pay2 X (ix2 r z) = rowInv fun n => X (ix2 r n) := by
  unfold rowInv rowMsq
  pointwise [k0_pay2]
  rfl

theorem pay3_at (r : Fin 256) (n : Fin 1024) : k0_pay3 X (ix2 r n) = X (ix2 r n) * rowInv fun n => X (ix2 r n) := by
  rw [← pay2_at X r 0]
  pointwise [k0_pay3]

variable (P Q : Vec Ideal S256x1024 .f32)

theorem pay4_at (D : Vec Ideal S1x1024 .f32) (z : Fin 1) (n : Fin 1024) :
    k0_pay4 P Q X D (ix2 z n) = D (ix2 z n) + ∑ r, (P (ix2 r n) + Q (ix2 r n)) * (X (ix2 r n) * rowInv fun n => X (ix2 r n)) := by
  simp only [← pay3_at X]
  pointwise [k0_pay4, k0_pay1]

theorem pay5_at (G : Vec Ideal S1x1024 .f32) (S : Vec Ideal S256x1024 .f32) (r : Fin 256) (n : Fin 1024) :
    k0_pay5 P Q X G S (ix2 r n) = S (ix2 r n) + normGrad (fun n => X (ix2 r n)) (fun n => (P (ix2 r n) + Q (ix2 r n)) * G (ix2 0 n)) n := by
  unfold normGrad
  simp only [← pay3_at X]
  rw [← pay2_at X r 0]
  pointwise [k0_pay5, k0_pay1]
  rfl

end Payloads

section Reference

open Cert.Reference2Ideal Cert.Reference2Ideal.Gen Cert.Reference2Ideal.Read

variable (x0 : Vec Ideal S2x4096x2816 .bf16) (x1 : Vec Ideal S4x1024x1408 .bf16) (x2 : Vec Ideal S4096x1024 .f32) (x3 : Vec Ideal S1024 .f32)
  (x4 : Vec Ideal S4096x1024 .f32)

theorem v9_at (t : Fin 4096) (z : Fin 1) : val_main_v9 (F := Ideal) x2 (ix2 t z) = rowMsq fun n => x2 (ix2 t n) := by
  unfold rowMsq
  pointwise [val_main_v9, val_main_v8, val_main_v7, val_main_v6, val_main_v5, val_main_v4, val_main_v3, val_main_cst, val_main_cst_0, val_main_cst_1]
  rfl

theorem v10_at (t : Fin 4096) (z : Fin 1) : val_main_v10 (F := Ideal) x2 (ix2 t z) = rowInv fun n => x2 (ix2 t n) := by
  unfold rowInv
  rw [← v9_at x2 t z]
  pointwise [val_main_v10]

theorem v25_at (q : Fin 4) (t : Fin 4096) (j : Fin 1408) (l : Fin 5632) (hl : l.val = q.val * 1408 + j.val) :
    val_main_v25 (F := Ideal) x0 (ix2 t l) = blk (args x0 x1 x2 x3 x4) q t j := by
  pointwise [val_main_v25, val_main_v24, val_main_v23, val_main_v22, val_main_v21, val_main_v20]
  split
  · refine congrArg x0 (funext fun a => Fin.ext ?_)
    match a with
    | 0 => show 0 = q.val / 2; omega
    | 1 => rfl
    | 2 => show l.val = q.val % 2 * 1408 + j.val; omega
  · refine congrArg x0 (funext fun a => Fin.ext ?_)
    match a with
    | 0 => show 1 = q.val / 2; omega
    | 1 => rfl
    | 2 => show l.val - 2816 = q.val % 2 * 1408 + j.val; omega

theorem v2_at (q : Fin 4) (n : Fin 1024) (j : Fin 1408) (l : Fin 5632) (hl : l.val = q.val * 1408 + j.val) :
    val_main_v2 (F := Ideal) x1 (ix2 n l) = x1 (ix3 q n j) := by
  pointwise [val_main_v2, val_main_v1, val_main_v0]
  refine congrArg x1 (funext fun a => Fin.ext ?_)
  match a with
  | 0 => show l.val / 1408 = q.val; omega
  | 1 => rfl
  | 2 => show l.val % 1408 = j.val; omega

theorem v26_at (t : Fin 4096) (n : Fin 1024) : val_main_v26 (F := Ideal) x0 x1 (ix2 t n) = dh (args x0 x1 x2 x3 x4) t n := by
  pointwise [val_main_v26]
  symm
  refine Fin.sum_mul_add_congr fun q j hl => ?_
  rw [v25_at x0 x1 x2 x3 x4 q t j _ rfl, v2_at x1 q n j _ rfl]
  rfl

theorem v48_at (z : Fin 1) (n : Fin 1024) : val_main_v48 (F := Ideal) x0 x1 x2 (ix2 z n) = dg (args x0 x1 x2 x3 x4) n := by
  unfold dg
  simp only [← v26_at]
  pointwise [val_main_v48, val_main_v32, val_main_v29, val_main_v28, val_main_v27, val_main_v15, val_main_v14, val_main_cst_3, val_main_cst_4]
  rw [Fin.sum_univ_one]
  refine Finset.sum_congr rfl fun t _ => ?_
  rw [v10_at, mul_comm]
  rfl

theorem v41_at (t : Fin 4096) :
    val_main_v41 (F := Ideal) x0 x1 x2 x3 (ix1 t)
      = Ideal.div ((∑ j, x2 (ix2 t j) * (dh (args x0 x1 x2 x3 x4) t j * x3 (ix1 j))) * (Ideal.ofBits .f32 0xBF000000#32 * Ideal.div (rowInv fun n => x2 (ix2 t n)) (rowMsq fun n => x2 (ix2 t n)))) lanes := by
  rw [← v10_at x2 t 0, ← v9_at x2 t 0]
  simp only [← v26_at]
  pointwise [val_main_v41, val_main_v40, val_main_v39, val_main_v38, val_main_v35, val_main_v34, val_main_v33, val_main_v31, val_main_v30, val_main_v16,
    val_main_v13, val_main_v12, val_main_v11, val_main_cst_2, val_main_cst_5, val_main_cst_6, val_main_cst_7]
  rw [Fin.sum_univ_one]
  rfl

theorem v47_at (hA : AllReal (args x0 x1 x2 x3 x4)) (t : Fin 4096) (n : Fin 1024) :
    val_main_v47 (F := Ideal) x0 x1 x2 x3 x4 (ix2 t n) = dx (args x0 x1 x2 x3 x4) t n := by
  unfold dx
  rw [← normGrad_eq (hA.x t) (fun n => (real_dh hA t n).mul (hA.g n))]
  have e := v41_at x0 x1 x2 x3 x4 t
  have e2 := v10_at x2 t 0
  have e3 := v26_at x0 x1 x2 x3 x4 t n
  show _ = x4 (ix2 t n) + (dh (args x0 x1 x2 x3 x4) t n * x3 (ix1 n) * (rowInv fun n => x2 (ix2 t n)) + (x2 (ix2 t n) * _ + _ * x2 (ix2 t n)))
  refine Eq.trans ?_ (congrArg₂ (fun a b => x4 (ix2 t n) + (a + b)) (congrArg₂ (fun a b => a * x3 (ix1 n) * b) e3 e2) (congrArg (fun a => x2 (ix2 t n) * a + a * x2 (ix2 t n)) e))
  pointwise [val_main_v47, val_main_v46, val_main_v45, val_main_v44, val_main_v43, val_main_v42, val_main_v37, val_main_v36, val_main_v31, val_main_v30, val_main_v16]
  rw [add_assoc (_ * _)]

end Reference

section Kernel

open Cert.Kernel2Ideal Cert.Kernel2Ideal.Gen

variable (m : (ℓ : Loc nD τ sig) → Buf (Elt Ideal) ℓ) (c : Dev nD)

/-- The arguments in memory. -/
def memArgs : Args := args (m ((c : Thread nD τ).loc main_arg0)) (m ((c : Thread nD τ).loc main_arg1)) (m ((c : Thread nD τ).loc main_arg2))
  (m ((c : Thread nD τ).loc main_arg3)) (m ((c : Thread nD τ).loc main_arg4))

/-- Row `r` of a grid point's 256. -/
def row (t : Fin cfg0.N) (r : Fin 256) : Fin 4096 := ⟨t.val * 256 + r.val, by have : t.val < 16 := t.isLt; omega⟩

theorem idx : ∀ t : Fin cfg0.N, win0_0.index t = ![0, t.val, 0] ∧ win0_1.index t = ![0, 0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

theorem blk0 (t : Fin cfg0.N) (p : Fin 2) (r : Fin 256) (j : Fin 2816) : iblk m c 0 t (ix3 p r j) = (memArgs m c).u p (row t r) j := by
  show _ = m ((c : Thread nD τ).loc main_arg0) (ix3 p ⟨t.val * 256 + r.val, _⟩ j)
  blk_ext [iblk, V, idx t]

theorem blk1 (t : Fin cfg0.N) (q : Fin 4) (n : Fin 1024) (j : Fin 1408) : iblk m c 1 t (ix3 q n j) = (memArgs m c).w q n j := by
  show _ = m ((c : Thread nD τ).loc main_arg1) (ix3 q n j)
  blk_ext [iblk, V, idx t]

theorem blk2 (t : Fin cfg0.N) (r : Fin 256) (n : Fin 1024) : iblk m c 2 t (ix2 r n) = (memArgs m c).x (row t r) n := by
  show _ = m ((c : Thread nD τ).loc main_arg2) (ix2 ⟨t.val * 256 + r.val, _⟩ n)
  blk_ext [iblk, V, idx t]

/-- The host lays the gain out as a row. -/
theorem V_gain (n : Fin 1024) : V m c main_v0 (ix2 0 n) = (memArgs m c).g n := by
  have e : V m c main_v0 = shapeCast S1x1024 (m ((c : Thread nD τ).loc main_arg3) : Vec Ideal S1024 .f32) shapeCasts_S1024_S1x1024 := rfl
  rw [e]
  pointwise [memArgs, args]

theorem blk3 (t : Fin cfg0.N) (n : Fin 1024) : iblk m c 3 t (ix2 0 n) = (memArgs m c).g n := by
  rw [← V_gain m c]
  blk_ext [iblk, idx t]

theorem blk4 (t : Fin cfg0.N) (r : Fin 256) (n : Fin 1024) : iblk m c 4 t (ix2 r n) = (memArgs m c).s (row t r) n := by
  show _ = m ((c : Thread nD τ).loc main_arg4) (ix2 ⟨t.val * 256 + r.val, _⟩ n)
  blk_ext [iblk, V, idx t]

theorem ld_cols (X : Vec Ideal S2x256x2816 .bf16) (p o : ℕ) (hp : p < 2) (ho : o + 1408 ≤ 2816) (i) (r : Fin 256) (j : Fin 1408) :
    View.ld X (Rect.unit (s := S2x256x2816) ![p, 0, o] S1x256x1408.size i) (ix3 0 r j) = X (ix3 ⟨p, hp⟩ r ⟨o + j.val, by omega⟩) := by
  refine congrArg X (funext fun a => Fin.ext ?_)
  match a with
  | 0 => simp [Rect.emb, Rect.unit]
  | 1 => simp [Rect.emb, Rect.unit]
  | 2 => simp [Rect.emb, Rect.unit]

theorem ld_block (W : Vec Ideal S4x1024x1408 .bf16) (q : ℕ) (hq : q < 4) (i) (n : Fin 1024) (j : Fin 1408) :
    View.ld W (Rect.unit (s := S4x1024x1408) ![q, 0, 0] S1x1024x1408.size i) (ix3 0 n j) = W (ix3 ⟨q, hq⟩ n j) := by
  refine congrArg W (funext fun a => Fin.ext ?_)
  match a with
  | 0 => simp [Rect.emb, Rect.unit]
  | 1 => simp [Rect.emb, Rect.unit]
  | 2 => simp [Rect.emb, Rect.unit]

/-- The four products of a grid point's loads. -/
theorem prod_at {A : Args} {t : Fin cfg0.N} {X : Vec Ideal S2x256x2816 .bf16} {W : Vec Ideal S4x1024x1408 .bf16}
    (hX : ∀ p r j, X (ix3 p r j) = A.u p (row t r) j) (hW : ∀ q n j, W (ix3 q n j) = A.w q n j) (i0 i1 i2 i3 k0 k1 k2 k3) (r : Fin 256) (n : Fin 1024) :
    k0_pay7 (View.ld X (Rect.unit (s := S2x256x2816) ![0, 0, 0] S1x256x1408.size i0)) (View.ld W (Rect.unit (s := S4x1024x1408) ![0, 0, 0] S1x1024x1408.size k0))
        (View.ld X (Rect.unit (s := S2x256x2816) ![0, 0, 1408] S1x256x1408.size i1)) (View.ld W (Rect.unit (s := S4x1024x1408) ![1, 0, 0] S1x1024x1408.size k1))
        (View.ld X (Rect.unit (s := S2x256x2816) ![1, 0, 0] S1x256x1408.size i2)) (View.ld W (Rect.unit (s := S4x1024x1408) ![2, 0, 0] S1x1024x1408.size k2)) (ix2 r n)
      + k0_pay8 (View.ld X (Rect.unit (s := S2x256x2816) ![1, 0, 1408] S1x256x1408.size i3)) (View.ld W (Rect.unit (s := S4x1024x1408) ![3, 0, 0] S1x1024x1408.size k3)) (ix2 r n)
      = dh A (row t r) n := by
  rw [pay7_at, pay8_at]
  unfold dh
  rw [Fin.sum_univ_four]
  simp only [ld_cols X 0 0 (by omega) (by omega), ld_cols X 0 1408 (by omega) (by omega), ld_cols X 1 0 (by omega) (by omega), ld_cols X 1 1408 (by omega) (by omega),
    ld_block W 0 (by omega), ld_block W 1 (by omega), ld_block W 2 (by omega), ld_block W 3 (by omega), hX, hW]
  rfl

variable (m : (ℓ : Loc nD τ sig) → Buf (Elt Ideal) ℓ) (c : Dev nD)

theorem dx_at (t : Fin cfg0.N) (r : Fin 256) (n : Fin 1024) : (outsAt0 m c t.val t.isLt).1 (ix2 r n) = dx (memArgs m c) (row t r) n := by
  have e : ∀ n, _ := fun n => prod_at (blk0 m c t) (blk1 m c t) inb_S2x256x2816_S1x256x1408_0_0_0 inb_S2x256x2816_S1x256x1408_0_0_1408 inb_S2x256x2816_S1x256x1408_1_0_0
    inb_S2x256x2816_S1x256x1408_1_0_1408 inb_S4x1024x1408_S1x1024x1408_0_0_0 inb_S4x1024x1408_S1x1024x1408_1_0_0 inb_S4x1024x1408_S1x1024x1408_2_0_0 inb_S4x1024x1408_S1x1024x1408_3_0_0 r n
  unfold dx
  simp only [← e, ← blk3 m c t, ← blk4 m c t]
  have e2 : (memArgs m c).x (row t r) = fun n => iblk m c 2 t (ix2 r n) := funext fun n => (blk2 m c t r n).symm
  rw [e2]
  by_cases h : t.val % 16 = 0
  · rw [outsAt0_A m c t h]
    frame_out
    exact pay5_at _ _ _ _ _ r n
  · rw [outsAt0_B m c t h]
    frame_out
    exact pay5_at _ _ _ _ _ r n

/-- What a grid point's rows add to the gain's gradient. -/
def dgT (A : Args) (t : Fin cfg0.N) (n : Fin 1024) : EReal := ∑ r, dh A (row t r) n * (A.x (row t r) n * rowInv (A.x (row t r)))

theorem dgT_at (t : Fin cfg0.N) (D : Vec Ideal S1x1024 .f32) (n : Fin 1024) (i0 i1 i2 i3 k0 k1 k2 k3) :
    k0_pay4 (k0_pay7 (View.ld (iblk m c 0 t) (Rect.unit (s := S2x256x2816) ![0, 0, 0] S1x256x1408.size i0)) (View.ld (iblk m c 1 t) (Rect.unit (s := S4x1024x1408) ![0, 0, 0] S1x1024x1408.size k0))
        (View.ld (iblk m c 0 t) (Rect.unit (s := S2x256x2816) ![0, 0, 1408] S1x256x1408.size i1)) (View.ld (iblk m c 1 t) (Rect.unit (s := S4x1024x1408) ![1, 0, 0] S1x1024x1408.size k1))
        (View.ld (iblk m c 0 t) (Rect.unit (s := S2x256x2816) ![1, 0, 0] S1x256x1408.size i2)) (View.ld (iblk m c 1 t) (Rect.unit (s := S4x1024x1408) ![2, 0, 0] S1x1024x1408.size k2)))
      (k0_pay8 (View.ld (iblk m c 0 t) (Rect.unit (s := S2x256x2816) ![1, 0, 1408] S1x256x1408.size i3)) (View.ld (iblk m c 1 t) (Rect.unit (s := S4x1024x1408) ![3, 0, 0] S1x1024x1408.size k3)))
      (iblk m c 2 t) D (ix2 0 n) = D (ix2 0 n) + dgT (memArgs m c) t n := by
  refine (pay4_at _ _ _ D 0 n).trans (congrArg (D (ix2 0 n) + ·) (Finset.sum_congr rfl fun r _ => ?_))
  have e2 : (memArgs m c).x (row t r) = fun n => iblk m c 2 t (ix2 r n) := funext fun n => (blk2 m c t r n).symm
  rw [prod_at (blk0 m c t) (blk1 m c t), e2]

theorem dg_first (t : Fin cfg0.N) (h : t.val % 16 = 0) (n : Fin 1024) : (outsAt0 m c t.val t.isLt).2 (ix2 0 n) = (0 : EReal) + dgT (memArgs m c) t n := by
  rw [outsAt0_A m c t h]
  frame_out
  exact (dgT_at m c t _ n _ _ _ _ _ _ _ _).trans (congrArg (· + _) (pay6_at 0 n))

theorem dg_later (t : Fin cfg0.N) (h : ¬ t.val % 16 = 0) (n : Fin 1024) : (outsAt0 m c t.val t.isLt).2 (ix2 0 n)
    = (outsAt0 m c (t.val - 1) (Nat.lt_of_le_of_lt (Nat.sub_le _ _) t.isLt)).2 (ix2 0 n) + dgT (memArgs m c) t n := by
  rw [outsAt0_B m c t h]
  frame_out
  exact dgT_at m c t _ n _ _ _ _ _ _ _ _

theorem dg_last (n : Fin 1024) : (outsAt0 m c t0_15.val t0_15.isLt).2 (ix2 0 n) = dg (memArgs m c) n := by
  refine (Pipeline.eq_sum_fin_of_reset_step_apply_last (fun k hk n => (outsAt0 m c k hk).2 (ix2 0 n)) 16 (fun _ => 0)
    (fun p n => dgT (memArgs m c) p n) (dg_first m c) (dg_later m c) (by decide) t0_15 rfl n).trans ?_
  rw [zero_add]
  exact Fin.sum_mul_add_congr fun s r hl => rfl

theorem dx_arr : (dats m 0 c).arrAt 5 cfg0.N = fun i : S4096x1024.Idx => dx (memArgs m c) (i 0) (i 1) := by
  refine (dats m 0 c).arrAt_eq_of_covers 5 _ (by decide +kernel) fun t hf y => ?_
  have e0 : win0_5.index t 0 = t.val := by rw [(idx t).2.2.2.2.2.1]; rfl
  have e1 : win0_5.index t 1 = 0 := by rw [(idx t).2.2.2.2.2.1]; rfl
  have h0 : (win0_5.blk t).view.emb y 0 = row t (y 0) := Fin.ext (by blk_simp; rw [e0]; simp only [row])
  have h1 : (win0_5.blk t).view.emb y 1 = y 1 := Fin.ext (by blk_simp; rw [e1]; omega)
  blk_simp
  rw [after0_5, h0, h1]
  obtain ⟨r, n, rfl⟩ : ∃ (r : Fin 256) (n : Fin 1024), y = ix2 r n := ⟨_, _, eq_ix2 y⟩
  exact dx_at m c t r n

theorem dg_arr : (dats m 0 c).arrAt 6 cfg0.N = fun i : S1x1024.Idx => dg (memArgs m c) (i 1) := by
  refine (dats m 0 c).arrAt_eq_of_after_last 6 t0_15 (by decide +kernel) _ fun j => ?_
  blk_simp
  rw [after0_6]
  obtain ⟨z, n, rfl⟩ : ∃ (z : Fin 1) (n : Fin 1024), j = ix2 z n := ⟨_, _, eq_ix2 j⟩
  obtain rfl : z = 0 := Subsingleton.elim _ _
  exact dg_last m c n

theorem run_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = (fun i : S4096x1024.Idx => dx (memArgs m c) (i 0) (i 1))
      ∧ r.2.mem ((c.tc : Thread nD τ).loc main_v1_1) = (fun i : S1x1024.Idx => dg (memArgs m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (dx_arr m c), (h c).2.1.trans (dg_arr m c), (h c).2.2⟩) (Cert.Kernel2Ideal.Value.run_blocks m ρ)

end Kernel

section Reference

open Cert.Reference2Ideal Cert.Reference2Ideal.Gen Cert.Reference2Ideal.Read

theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v48) = val_main_v48 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (val_main_v47_eq ..), (h c).2.1.trans (val_main_v48_eq ..), (h c).2.2⟩) (Cert.Reference2Ideal.Value.run m ρ)

theorem dx_eq (x0 : Vec Ideal S2x4096x2816 .bf16) (x1 : Vec Ideal S4x1024x1408 .bf16) (x2 : Vec Ideal S4096x1024 .f32) (x3 : Vec Ideal S1024 .f32)
    (x4 : Vec Ideal S4096x1024 .f32) (hA : AllReal (args x0 x1 x2 x3 x4)) :
    val_main_v47 (F := Ideal) x0 x1 x2 x3 x4 = fun i : S4096x1024.Idx => dx (args x0 x1 x2 x3 x4) (i 0) (i 1) := by
  funext i
  obtain ⟨t, n, rfl⟩ : ∃ (t : Fin 4096) (n : Fin 1024), i = ix2 t n := ⟨_, _, eq_ix2 i⟩
  exact v47_at x0 x1 x2 x3 x4 hA t n

theorem dg_eq (x0 : Vec Ideal S2x4096x2816 .bf16) (x1 : Vec Ideal S4x1024x1408 .bf16) (x2 : Vec Ideal S4096x1024 .f32) (x3 : Vec Ideal S1024 .f32)
    (x4 : Vec Ideal S4096x1024 .f32) : val_main_v48 (F := Ideal) x0 x1 x2 = fun i : S1x1024.Idx => dg (args x0 x1 x2 x3 x4) (i 1) := by
  funext i
  obtain ⟨z, n, rfl⟩ : ∃ (z : Fin 1) (n : Fin 1024), i = ix2 z n := ⟨_, _, eq_ix2 i⟩
  exact v48_at x0 x1 x2 x3 x4 z n

end Reference

section Precondition

open Cert.Pre_all_finite2

theorem pre_facts : Facts where
  bitsLt_bf16_f32 := by decide
  bcast_S_S2x4096x2816 := by decide
  reducesTo_S2x4096x2816_S_d0_1_2 := by decide
  h_S_ := by decide
  bcast_S_S4x1024x1408 := by decide
  reducesTo_S4x1024x1408_S_d0_1_2 := by decide
  bcast_S_S4096x1024 := by decide
  reducesTo_S4096x1024_S_d0_1 := by decide
  bcast_S_S1024 := by decide
  reducesTo_S1024_S_d0 := by decide

variable [Facts] {x0 : FVec Ideal S2x4096x2816 .bf16} {x1 : FVec Ideal S4x1024x1408 .bf16} {x2 : FVec Ideal S4096x1024 .f32}
  {x3 : FVec Ideal S1024 .f32} {x4 : FVec Ideal S4096x1024 .f32}

theorem allReal (h : fn (F := Ideal) x0 x1 x2 x3 x4 = fun _ => 1#1) : AllReal (args x0 x1 x2 x3 x4) := by
  have e := congrFun h (fun a => a.elim0)
  obtain ⟨e, e3⟩ := IntOp.andi_eq_one.1 e
  obtain ⟨e, e2⟩ := IntOp.andi_eq_one.1 e
  obtain ⟨e0, e1⟩ := IntOp.andi_eq_one.1 e
  exact { u := fun p t c => real_of_all (extf .f32 x0 Facts.bitsLt_bf16_f32) Facts.bcast_S_S2x4096x2816 Facts.reducesTo_S2x4096x2816_S_d0_1_2 Facts.h_S_ _ e0 (ix3 p t c)
          w := fun q n j => real_of_all (extf .f32 x1 Facts.bitsLt_bf16_f32) Facts.bcast_S_S4x1024x1408 Facts.reducesTo_S4x1024x1408_S_d0_1_2 Facts.h_S_ _ e1 (ix3 q n j)
          x := fun t n => real_of_all x2 Facts.bcast_S_S4096x1024 Facts.reducesTo_S4096x1024_S_d0_1 Facts.h_S_ _ e2 (ix2 t n)
          g := fun n => real_of_all x3 Facts.bcast_S_S1024 Facts.reducesTo_S1024_S_d0 Facts.h_S_ _ e3 (ix1 n) }

end Precondition

theorem algebraic : Cert.algebraic_Kernel2Ideal_Reference2Ideal_pre_all_finite2 (hKernel2Ideal := Cert.Kernel2Ideal.Gen.facts)
    (hReference2Ideal := Cert.Reference2Ideal.Gen.facts) (hPre_all_finite2 := pre_facts) := by
  intro m g m' g' hpre hagree
  refine ⟨_, _, run_kernel m g, (θ_run _ _ _).mono (fun r h c => ?_) (run_reference m' g')⟩
  have hA : AllReal (memArgs m c) := @allReal pre_facts _ _ _ _ _ (hpre c)
  obtain ⟨a0, a1, a2, a3, a4⟩ := hagree c
  obtain ⟨h0, h1, hk⟩ := h c
  rw [a0, a1, a2, a3, a4] at h0
  rw [a0, a1, a2] at h1
  exact ⟨h0.trans (dx_eq _ _ _ _ _ hA), h1.trans (dg_eq _ _ _ _ _), hk⟩

theorem frame_reference : Cert.quiescent_Reference2Ideal (hReference2Ideal := Cert.Reference2Ideal.Gen.facts) := by
  intro m g _
  exact (θ_run _ _ _).mono (fun r h => ⟨fun c => (h c).2.2, sem_eq_zero_of_no_sems (by decide) r.2⟩) (run_reference m g)

end Cert.UpDx

end
-- ==== Proof.ScStrip.lean ====
/-
  The gradient of the short convolution's gate, one strip of 128 lanes: what each of the 32 passes over a strip's rows
  stores and carries, entry by entry. Every quantity is a function of the row and lane as natural numbers, zero outside
  the array, so that a row behind or ahead of another is plain arithmetic.
-/
module

public import proofs.«01_k».proof.Proof.Gen.Kernel5Ideal.Frame
public import Idealize.ShloMosaic.Lib.Pipeline.ValueKit
public import Idealize.ShloMosaic.Lib.Pipeline.ReadBack

@[expose] public section

set_option maxRecDepth 16384

noncomputable section

namespace Cert.ScMid

open Idealize.ShloMosaic Idealize.ShloMosaic.TcCoe

/-- An array's entry at two natural numbers, zero outside it. -/
def at2 {n m : ℕ} (f : Fin n → Fin m → EReal) (t l : ℕ) : EReal := if h : t < n ∧ l < m then f ⟨t, h.1⟩ ⟨l, h.2⟩ else 0

theorem at2_of {n m : ℕ} (f : Fin n → Fin m → EReal) {t l : ℕ} (ht : t < n) (hl : l < m) : at2 f t l = f ⟨t, ht⟩ ⟨l, hl⟩ := dif_pos ⟨ht, hl⟩

section Spec

variable (q x w : ℕ → ℕ → EReal)

/-- What the convolution is applied to: the strip's second 128 lanes times its third. -/
def prodRow (t l : ℕ) : EReal := x t (128 + l) * x t (256 + l)

/-- That `d` rows back, zero before the first row. -/
def back (d t l : ℕ) : EReal := if d ≤ t then prodRow x (t - d) l else 0

/-- The causal convolution with three taps. -/
def conv (t l : ℕ) : EReal := back x 0 t l * w 2 l + back x 1 t l * w 1 l + back x 2 t l * w 0 l

/-- The convolution's cotangent: the result's cotangent times the gate. -/
def duRow (t l : ℕ) : EReal := q t l * x t l

/-- That `d` rows ahead, zero after the last row. -/
def ahead (d t l : ℕ) : EReal := if t + d < 4096 then duRow q x (t + d) l else 0

/-- The cotangent of the convolution's argument. -/
def dpRow (t l : ℕ) : EReal := ahead q x 0 t l * w 2 l + ahead q x 1 t l * w 1 l + ahead q x 2 t l * w 0 l

/-- The cotangent of a strip's 384 lanes: of the gate, then of each factor of the convolution's argument. -/
def outRow (t b : ℕ) : EReal :=
  if b < 128 then q t b * conv x w t b else if b < 256 then dpRow q x w t (b - 128) * x t (b + 128) else dpRow q x w t (b - 256) * x t (b - 128)

/-- The cotangent of the tap that weighs the row `d` back. -/
def tapSum (d l : ℕ) : EReal := ∑ t : Fin 4096, duRow q x t.val l * back x d t.val l

/-- The taps' cotangents as three rows, with rows of zeros after them. -/
def tapRow (r l : ℕ) : EReal := if r < 3 then tapSum q x (2 - r) l else 0

end Spec

section Pass

open Cert.Kernel5Ideal Cert.Kernel5Ideal.Gen

/-- A block's load, entry by entry. -/
theorem ld_unit {n m n' m' : ℕ} (v : (⟨2, ![n, m]⟩ : Shape).Idx → EReal) (off : Fin 2 → ℕ) (inb : ∀ a, off a + (![n', m'] : Fin 2 → ℕ) a ≤ (⟨2, ![n, m]⟩ : Shape).size a)
    (r : Fin n') (l : Fin m') :
    v ((Rect.unit (s := ⟨2, ![n, m]⟩) off ![n', m'] inb).emb (ix2 r l)) = at2 (fun t l => v (ix2 t l)) (off 0 + r.val) (off 1 + l.val) := by
  have h0 : off 0 + n' ≤ n := inb 0
  have h1 : off 1 + m' ≤ m := inb 1
  rw [at2_of _ (by omega) (by omega)]
  refine congrArg v (funext fun a => Fin.ext ?_)
  match a with
  | 0 => simp [Rect.emb, Rect.unit]
  | 1 => simp [Rect.emb, Rect.unit]

theorem select_both (b : BitVec 1) (y z : EReal) : Scalar.select b (Scalar.select b (y * z) 0) 0 = if b = 1#1 then y * z else 0 := by
  by_cases h : b = 1#1 <;> simp [Scalar.select, h]

theorem off5_eq : ∀ k : Fin k0_t1_loop.trips, k0_off5 k = ![128 * k.val - 16, 128] := by decide +kernel
theorem off6_eq : ∀ k : Fin k0_t1_loop.trips, k0_off6 k = ![128 * k.val - 16, 256] := by decide +kernel
theorem first_iff : ∀ k : Fin k0_t1_loop.trips, Scalar.cmpi .sgt (Scf.iv 0#32 1#32 k) 0#32 = 1#1 ↔ 0 < k.val := by decide +kernel
theorem last_iff : ∀ k : Fin k0_t1_loop.trips, Scalar.cmpi .slt (Scf.iv 0#32 1#32 k) 31#32 = 1#1 ↔ k.val < 31 := by decide +kernel
theorem trip_lt (k : Fin k0_t1_loop.trips) : k.val < 32 := Nat.lt_of_lt_of_le k.isLt k0_t1_abs.2.1

variable (x0 : Vec Ideal S4096x128 .bf16) (x1 : Vec Ideal S4096x384 .bf16) (v0 v2 v4 : Vec Ideal S1x128 .f32) (k : Fin k0_t1_loop.trips)

/-- The pass's loads. -/
abbrev gbAt : Vec Ideal S128x128 .bf16 := View.ld x1 (Rect.unit (k0_off1 k) S128x128.size (k0_off1_inb k))
abbrev gcAt : Vec Ideal S128x128 .bf16 := View.ld x1 (Rect.unit (k0_off2 k) S128x128.size (k0_off2_inb k))
abbrev vAt : Vec Ideal S128x128 .bf16 := View.ld x1 (Rect.unit (k0_off3 k) S128x128.size (k0_off3_inb k))
abbrev dqAt : Vec Ideal S128x128 .bf16 := View.ld x0 (Rect.unit (k0_off4 k) S128x128.size (k0_off4_inb k))
abbrev gcBefore : Vec Ideal S16x128 .bf16 := View.ld x1 (Rect.unit (k0_off5 k) S16x128.size (k0_off5_inb k))
abbrev vBefore : Vec Ideal S16x128 .bf16 := View.ld x1 (Rect.unit (k0_off6 k) S16x128.size (k0_off6_inb k))
abbrev dqAfter : Vec Ideal S16x128 .bf16 := View.ld x0 (Rect.unit (k0_off7 k) S16x128.size (k0_off7_inb k))
abbrev gbAfter : Vec Ideal S16x128 .bf16 := View.ld x1 (Rect.unit (k0_off8 k) S16x128.size (k0_off8_inb k))

/-- The arrays and the taps as functions of natural numbers. -/
abbrev Q : ℕ → ℕ → EReal := at2 fun t l => x0 (ix2 t l)
abbrev X : ℕ → ℕ → EReal := at2 fun t l => x1 (ix2 t l)
abbrev W : ℕ → ℕ → EReal := fun r => at2 (fun _ l => (if r = 0 then v0 else if r = 1 then v2 else v4) (ix2 0 l)) (n := 1) 0

theorem gbAt_at (r l : Fin 128) : gbAt x1 k (ix2 r l) = X x1 (128 * k.val + r.val) l.val := by
  exact (ld_unit x1 _ _ r l).trans (by rw [k0_off1_eq]; simp)
theorem gcAt_at (r l : Fin 128) : gcAt x1 k (ix2 r l) = X x1 (128 * k.val + r.val) (128 + l.val) := by
  exact (ld_unit x1 _ _ r l).trans (by rw [k0_off2_eq]; simp)
theorem vAt_at (r l : Fin 128) : vAt x1 k (ix2 r l) = X x1 (128 * k.val + r.val) (256 + l.val) := by
  exact (ld_unit x1 _ _ r l).trans (by rw [k0_off3_eq]; simp)
theorem dqAt_at (r l : Fin 128) : dqAt x0 k (ix2 r l) = Q x0 (128 * k.val + r.val) l.val := by
  exact (ld_unit x0 _ _ r l).trans (by rw [k0_off4_eq]; simp)
theorem gcBefore_at (r : Fin 16) (l : Fin 128) : gcBefore x1 k (ix2 r l) = X x1 (128 * k.val - 16 + r.val) (128 + l.val) := by
  exact (ld_unit x1 _ _ r l).trans (by rw [off5_eq]; simp)
theorem vBefore_at (r : Fin 16) (l : Fin 128) : vBefore x1 k (ix2 r l) = X x1 (128 * k.val - 16 + r.val) (256 + l.val) := by
  exact (ld_unit x1 _ _ r l).trans (by rw [off6_eq]; simp)
theorem dqAfter_at (r : Fin 16) (l : Fin 128) : dqAfter x0 k (ix2 r l) = Q x0 (min (128 * k.val + 128) 4080 + r.val) l.val := by
  exact (ld_unit x0 _ _ r l).trans (by rw [k0_off7_eq]; simp)
theorem gbAfter_at (r : Fin 16) (l : Fin 128) : gbAfter x1 k (ix2 r l) = X x1 (min (128 * k.val + 128) 4080 + r.val) l.val := by
  exact (ld_unit x1 _ _ r l).trans (by rw [k0_off8_eq]; simp)

/-- The pass's vectors. -/
abbrev pP := k0_pay15 (gcAt x1 k) (vAt x1 k)
abbrev pP1 := k0_pay17 0#32 1#32 k (gcAt x1 k) (vAt x1 k) (gcBefore x1 k) (vBefore x1 k)
abbrev pP2 := k0_pay18 0#32 1#32 k (gcAt x1 k) (vAt x1 k) (gcBefore x1 k) (vBefore x1 k)
abbrev pDu := k0_pay20 (k0_pay11 (gbAt x1 k)) (k0_pay14 (dqAt x0 k))
abbrev pDp := k0_pay21 (k0_pay1 v0) (k0_pay2 v2) (k0_pay3 v4) (Scf.iv 0#32 1#32 k) (k0_pay11 (gbAt x1 k)) (k0_pay14 (dqAt x0 k)) (dqAfter x0 k) (gbAfter x1 k)
abbrev pGate := k0_pay22 (k0_pay1 v0) (k0_pay2 v2) (k0_pay14 (dqAt x0 k)) (pP x1 k) (pP1 x1 k) (pP2 x1 k) (k0_pay19 (k0_pay3 v4))

theorem pP_at (r l : Fin 128) : pP x1 k (ix2 r l) = back (X x1) 0 (128 * k.val + r.val) l.val := by
  pointwise [pP, k0_pay15, k0_pay12, k0_pay13]
  rw [gcAt_at, vAt_at, back, if_pos (Nat.zero_le _)]
  rfl

theorem rows_at (j : Fin 136) (l : Fin 128) : k0_pay16 0#32 1#32 k (gcAt x1 k) (vAt x1 k) (gcBefore x1 k) (vBefore x1 k) (ix2 j l)
    = if 8 ≤ 128 * k.val + j.val then prodRow (X x1) (128 * k.val + j.val - 8) l.val else 0 := by
  pointwise [k0_pay16, k0_pay15, k0_pay12, k0_pay13]
  by_cases h : j.val < 8
  · refine (dif_pos h).trans ?_
    rw [select_both, gcBefore_at, vBefore_at]
    simp only [first_iff]
    by_cases hk : 0 < k.val
    · rw [if_pos hk, if_pos (by omega), prodRow, show 128 * k.val - 16 + (8 + j.val) = 128 * k.val + j.val - 8 by omega]
    · rw [if_neg hk, if_neg (by omega)]
  · refine (dif_neg h).trans ((congrArg₂ (· * ·) (gcAt_at x1 k ⟨j.val - 8, by omega⟩ l) (vAt_at x1 k ⟨j.val - 8, by omega⟩ l)).trans ?_)
    show X x1 (128 * k.val + (j.val - 8)) _ * X x1 (128 * k.val + (j.val - 8)) _ = _
    rw [if_pos (by omega), prodRow, show 128 * k.val + (j.val - 8) = 128 * k.val + j.val - 8 by omega]

theorem pP1_at (r l : Fin 128) : pP1 x1 k (ix2 r l) = back (X x1) 1 (128 * k.val + r.val) l.val := by
  pointwise [pP1, k0_pay17]
  rw [rows_at]
  have e : (8 + r.val + 136 - 1) % 136 = 7 + r.val := by omega
  simp only [e, back]
  exact if_congr (by omega) (by rw [show 128 * k.val + (7 + r.val) - 8 = 128 * k.val + r.val - 1 by omega]) rfl

theorem pP2_at (r l : Fin 128) : pP2 x1 k (ix2 r l) = back (X x1) 2 (128 * k.val + r.val) l.val := by
  pointwise [pP2, k0_pay18]
  rw [rows_at]
  have e : (8 + r.val + 136 - 2) % 136 = 6 + r.val := by omega
  simp only [e, back]
  exact if_congr (by omega) (by rw [show 128 * k.val + (6 + r.val) - 8 = 128 * k.val + r.val - 2 by omega]) rfl

theorem pDu_at (r l : Fin 128) : pDu x0 x1 k (ix2 r l) = ahead (Q x0) (X x1) 0 (128 * k.val + r.val) l.val := by
  have := trip_lt k
  pointwise [pDu, k0_pay20, k0_pay11, k0_pay14]
  rw [gbAt_at, dqAt_at, ahead, if_pos (by omega)]
  rfl

/-- A row ahead: the pass's own rows, else the first rows of the pass after it. -/
theorem ahead_at (d : ℕ) (hd : d ≤ 8) (j : ℕ) (r l : Fin 128) (hj : j = r.val + d) (h128 : ∀ h : j < 128, j < 128) (h16 : ∀ h : ¬j < 128, j - 128 < 16) :
    (if h : j < 128 then pDu x0 x1 k (ix2 ⟨j, h128 h⟩ l)
      else Scalar.select (Scalar.cmpi .slt (Scf.iv 0#32 1#32 k) 31#32)
        (Scalar.select (Scalar.cmpi .slt (Scf.iv 0#32 1#32 k) 31#32)
          (dqAfter x0 k (ix2 ⟨j - 128, h16 h⟩ l) * gbAfter x1 k (ix2 ⟨j - 128, h16 h⟩ l)) 0) 0)
      = ahead (Q x0) (X x1) d (128 * k.val + r.val) l.val := by
  have := trip_lt k
  subst hj
  by_cases h : r.val + d < 128
  · rw [dif_pos h, pDu_at, ahead, ahead, if_pos (by simp only; omega), if_pos (by omega)]
    simp only [Nat.add_zero, Nat.add_assoc]
  · rw [dif_neg h, select_both, dqAfter_at, gbAfter_at]
    simp only [last_iff]
    by_cases hk : k.val < 31
    · rw [if_pos hk, ahead, if_pos (by omega), duRow, show min (128 * k.val + 128) 4080 + (r.val + d - 128) = 128 * k.val + r.val + d by omega]
    · rw [if_neg hk, ahead, if_neg (by omega)]

theorem w0_at (l : Fin 128) : W v0 v2 v4 0 l.val = v0 (ix2 0 l) := at2_of _ Nat.zero_lt_one l.isLt
theorem w1_at (l : Fin 128) : W v0 v2 v4 1 l.val = v2 (ix2 0 l) := at2_of _ Nat.zero_lt_one l.isLt
theorem w2_at (l : Fin 128) : W v0 v2 v4 2 l.val = v4 (ix2 0 l) := at2_of _ Nat.zero_lt_one l.isLt

theorem pDp_at (r l : Fin 128) : pDp x0 x1 v0 v2 v4 k (ix2 r l) = dpRow (Q x0) (X x1) (W v0 v2 v4) (128 * k.val + r.val) l.val := by
  pointwise [pDp, k0_pay21, k0_pay1, k0_pay2, k0_pay3]
  rw [dpRow, w0_at, w1_at, w2_at]
  exact congrArg₂ (· + ·) (congrArg₂ (· + ·) (congrArg (· * _) (pDu_at x0 x1 k r l)) (congrArg (· * _) (ahead_at x0 x1 k 1 (by decide) _ r l (by omega) _ _)))
    (congrArg (· * _) (ahead_at x0 x1 k 2 (by decide) _ r l (by omega) _ _))

theorem pGate_at (r l : Fin 128) : pGate x0 x1 v0 v2 v4 k (ix2 r l) = outRow (Q x0) (X x1) (W v0 v2 v4) (128 * k.val + r.val) l.val := by
  rw [outRow, if_pos l.isLt]
  pointwise [pGate, k0_pay22, k0_pay14, k0_pay19, k0_pay1, k0_pay2, k0_pay3]
  rw [pP_at, pP1_at, pP2_at, dqAt_at, conv, w0_at, w1_at, w2_at]

theorem pGc_at (r l : Fin 128) : k0_pay5 (k0_pay13 (vAt x1 k)) (pDp x0 x1 v0 v2 v4 k) (ix2 r l)
    = outRow (Q x0) (X x1) (W v0 v2 v4) (128 * k.val + r.val) (128 + l.val) := by
  rw [outRow, if_neg (by omega), if_pos (by omega)]
  pointwise [k0_pay5, k0_pay13]
  rw [pDp_at, vAt_at, show 128 + l.val + 128 = 256 + l.val by omega]

theorem pV_at (r l : Fin 128) : k0_pay6 (k0_pay12 (gcAt x1 k)) (pDp x0 x1 v0 v2 v4 k) (ix2 r l)
    = outRow (Q x0) (X x1) (W v0 v2 v4) (128 * k.val + r.val) (256 + l.val) := by
  rw [outRow, if_neg (by omega), if_neg (by omega)]
  pointwise [k0_pay6, k0_pay12]
  rw [pDp_at, gcAt_at, show 256 + l.val - 128 = 128 + l.val by omega]

/-- What a pass adds to a tap's sum. -/
def passSum (q x : ℕ → ℕ → EReal) (d l k : ℕ) : EReal := ∑ r : Fin 128, duRow q x (128 * k + r.val) l * back x d (128 * k + r.val) l

/-- The passes' sums make up the tap's. -/
theorem sum_pass (q x : ℕ → ℕ → EReal) (d l : ℕ) : ∑ k ∈ Finset.range 32, passSum q x d l k = tapSum q x d l := by
  rw [Finset.sum_range]
  exact Fin.sum_mul_add_congr fun s r hl => by rw [Nat.mul_comm]

theorem du_at (r l : Fin 128) : pDu x0 x1 k (ix2 r l) = duRow (Q x0) (X x1) (128 * k.val + r.val) l.val := by
  have := trip_lt k
  rw [pDu_at, ahead, if_pos (by omega)]
  rfl

variable (acc : Vec Ideal S1x128 .f32)

theorem sum2_at (l : Fin 128) : k0_pay7 acc (pP2 x1 k) (pDu x0 x1 k) (ix2 0 l) = acc (ix2 0 l) + passSum (Q x0) (X x1) 2 l.val k.val := by
  simp only [passSum, ← pP2_at, ← du_at]
  pointwise [k0_pay7]

theorem sum1_at (l : Fin 128) : k0_pay8 acc (pP1 x1 k) (pDu x0 x1 k) (ix2 0 l) = acc (ix2 0 l) + passSum (Q x0) (X x1) 1 l.val k.val := by
  simp only [passSum, ← pP1_at, ← du_at]
  pointwise [k0_pay8]

theorem sum0_at (l : Fin 128) : k0_pay9 acc (pP x1 k) (pDu x0 x1 k) (ix2 0 l) = acc (ix2 0 l) + passSum (Q x0) (X x1) 0 l.val k.val := by
  simp only [passSum, ← pP_at, ← du_at]
  pointwise [k0_pay9]

end Pass

end Cert.ScMid
-- ==== Proof.ScLoop.lean ====
/-
  The gradient of the short convolution's gate: one strip's 32 passes together. Their stores are blocks of one function
  that cover the strip, and the three sums they carry make up the taps' cotangents.
-/
module

public import proofs.«01_k».proof.Proof.ScStrip

@[expose] public section

set_option maxRecDepth 16384

noncomputable section

namespace Cert.ScMid

open Idealize.ShloMosaic Idealize.ShloMosaic.TcCoe
open Cert.Kernel5Ideal Cert.Kernel5Ideal.Gen

section Loop

variable (𝒱 : Variants) (c : Dev nD) (bd : Option 𝒱.V) (i : grid0.Coords) (arg1 : Memref sig .tc .vmem S4096x128 .bf16) (harg1 : arg1.IsWhole)
  (arg2 : Memref sig .tc .vmem S4096x384 .bf16) (harg2 : arg2.IsWhole) (arg3 : Memref sig .tc .vmem S8x128 .f32) (harg3 : arg3.IsWhole)
  (arg4 : Memref sig .tc .vmem S4096x384 .bf16) (harg4 : arg4.IsWhole) (arg5 : Memref sig .tc .vmem S8x128 .f32) (harg5 : arg5.IsWhole)
  (v0 v2 v4 : Vec Ideal S1x128 .f32) (x0 : Vec Ideal S4096x128 .bf16) (x1 : Vec Ideal S4096x384 .bf16) (k : Fin k0_t1_loop.trips)

/-- What the passes carry. -/
abbrev Carry : Type := FVec Ideal S1x128 .f32 × FVec Ideal S1x128 .f32 × FVec Ideal S1x128 .f32

theorem pass_stores (acc : Carry) :
    tripL_k0_t1 𝒱 c bd i arg1 harg1 arg2 harg2 arg3 harg3 arg4 harg4 arg5 harg5 v0 v2 v4 (harg1.unread x0) (harg2.unread x1) k acc
      = [⟨Rect.unit (k0_off3 k) S128x128.size (k0_off3_inb k), k0_pay6 (k0_pay12 (gcAt x1 k)) (pDp x0 x1 v0 v2 v4 k)⟩,
        ⟨Rect.unit (k0_off2 k) S128x128.size (k0_off2_inb k), k0_pay5 (k0_pay13 (vAt x1 k)) (pDp x0 x1 v0 v2 v4 k)⟩,
        ⟨Rect.unit (k0_off1 k) S128x128.size (k0_off1_inb k), pGate x0 x1 v0 v2 v4 k⟩] := by
  unfold tripL_k0_t1 trip_k0_t1
  simp only [trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9]
  frame_out
  done

theorem pass_carry (acc : Carry) :
    tripR_k0_t1 𝒱 c bd i arg1 harg1 arg2 harg2 arg3 harg3 arg4 harg4 arg5 harg5 v0 v2 v4 (harg1.unread x0) (harg2.unread x1) k acc
      = (k0_pay7 acc.1 (pP2 x1 k) (pDu x0 x1 k), k0_pay8 acc.2.1 (pP1 x1 k) (pDu x0 x1 k), k0_pay9 acc.2.2 (pP x1 k) (pDu x0 x1 k)) := by
  unfold tripR_k0_t1 trip_k0_t1
  simp only [trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9]
  frame_out
  done

/-- The state before pass `n`, from sums of zero. -/
abbrev St (n : ℕ) := st_k0_t1 𝒱 c bd i arg1 harg1 arg2 harg2 arg3 harg3 arg4 harg4 arg5 harg5 v0 v2 v4 (harg1.unread x0) (harg2.unread x1) (k0_pay4 (F := Ideal), k0_pay4 (F := Ideal), k0_pay4 (F := Ideal)) n

theorem carried (n : ℕ) (hn : n ≤ k0_t1_loop.trips) (l : Fin 128) :
    (St 𝒱 c bd i arg1 harg1 arg2 harg2 arg3 harg3 arg4 harg4 arg5 harg5 v0 v2 v4 x0 x1 n).1.1 (ix2 0 l) = ∑ k ∈ Finset.range n, passSum (Q x0) (X x1) 2 l.val k
      ∧ (St 𝒱 c bd i arg1 harg1 arg2 harg2 arg3 harg3 arg4 harg4 arg5 harg5 v0 v2 v4 x0 x1 n).1.2.1 (ix2 0 l) = ∑ k ∈ Finset.range n, passSum (Q x0) (X x1) 1 l.val k
      ∧ (St 𝒱 c bd i arg1 harg1 arg2 harg2 arg3 harg3 arg4 harg4 arg5 harg5 v0 v2 v4 x0 x1 n).1.2.2 (ix2 0 l) = ∑ k ∈ Finset.range n, passSum (Q x0) (X x1) 0 l.val k := by
  induction n with
  | zero =>
    simp only [St, st_k0_t1_zero, Finset.range_zero, Finset.sum_empty]
    refine ⟨?_, ?_, ?_⟩ <;> pointwise [k0_pay4]
  | succ n ih =>
    obtain ⟨h2, h1, h0⟩ := ih (by omega)
    simp only [Finset.sum_range_succ, ← h2, ← h1, ← h0]
    rw [St, st_k0_t1_succ 𝒱 c bd i arg1 harg1 arg2 harg2 arg3 harg3 arg4 harg4 arg5 harg5 v0 v2 v4 _ _ _ ⟨n, hn⟩, pass_carry]
    exact ⟨sum2_at x0 x1 ⟨n, hn⟩ _ l, sum1_at x0 x1 ⟨n, hn⟩ _ l, sum0_at x0 x1 ⟨n, hn⟩ _ l⟩

/-- What the strip's block is left holding. -/
abbrev OutF (x0 : Vec Ideal S4096x128 .bf16) (x1 : Vec Ideal S4096x384 .bf16) (v0 v2 v4 : Vec Ideal S1x128 .f32) : S4096x384.Idx → EReal :=
  fun y => outRow (Q x0) (X x1) (W v0 v2 v4) (y 0).val (y 1).val

theorem forall_ix2 {n m : ℕ} {P : (⟨2, ![n, m]⟩ : Shape).Idx → Prop} (h : ∀ r l, P (ix2 r l)) (x : (⟨2, ![n, m]⟩ : Shape).Idx) : P x := by
  rw [eq_ix2 x]
  exact h _ _

theorem emb_unit {n m n' m' : ℕ} (f : ℕ → ℕ → EReal) (off : Fin 2 → ℕ) (inb : ∀ a, off a + (![n', m'] : Fin 2 → ℕ) a ≤ (⟨2, ![n, m]⟩ : Shape).size a)
    (r : Fin n') (l : Fin m') :
    f (off 0 + r.val) (off 1 + l.val) = f ((Rect.unit (s := ⟨2, ![n, m]⟩) off ![n', m'] inb).emb (ix2 r l) 0).val ((Rect.unit (s := ⟨2, ![n, m]⟩) off ![n', m'] inb).emb (ix2 r l) 1).val := by
  simp [Rect.emb, Rect.unit]

theorem stored (n : ℕ) (hn : n ≤ k0_t1_loop.trips) : View.PiecesOf (OutF x0 x1 v0 v2 v4) (St 𝒱 c bd i arg1 harg1 arg2 harg2 arg3 harg3 arg4 harg4 arg5 harg5 v0 v2 v4 x0 x1 n).2 := by
  induction n with
  | zero => trivial
  | succ n ih =>
    rw [St, st_k0_t1_succ 𝒱 c bd i arg1 harg1 arg2 harg2 arg3 harg3 arg4 harg4 arg5 harg5 v0 v2 v4 _ _ _ ⟨n, hn⟩, pass_stores]
    refine ⟨forall_ix2 fun r l => ?_, forall_ix2 fun r l => ?_, forall_ix2 fun r l => ?_, ih (by omega)⟩
    · refine (pV_at x0 x1 v0 v2 v4 ⟨n, hn⟩ r l).trans (Eq.trans ?_ (emb_unit (outRow (Q x0) (X x1) (W v0 v2 v4)) _ (k0_off3_inb ⟨n, hn⟩) r l))
      rw [k0_off3_eq]
      simp
    · refine (pGc_at x0 x1 v0 v2 v4 ⟨n, hn⟩ r l).trans (Eq.trans ?_ (emb_unit (outRow (Q x0) (X x1) (W v0 v2 v4)) _ (k0_off2_inb ⟨n, hn⟩) r l))
      rw [k0_off2_eq]
      simp
    · refine (pGate_at x0 x1 v0 v2 v4 ⟨n, hn⟩ r l).trans (Eq.trans ?_ (emb_unit (outRow (Q x0) (X x1) (W v0 v2 v4)) _ (k0_off1_inb ⟨n, hn⟩) r l))
      rw [k0_off1_eq]
      simp

theorem covered (n : ℕ) (hn : n ≤ k0_t1_loop.trips) (y : S4096x384.Idx) (hy : (y 0).val < 128 * n) :
    ∃ p ∈ (St 𝒱 c bd i arg1 harg1 arg2 harg2 arg3 harg3 arg4 harg4 arg5 harg5 v0 v2 v4 x0 x1 n).2, y ∈ p.1.set := by
  induction n with
  | zero => omega
  | succ n ih =>
    rw [St, st_k0_t1_succ 𝒱 c bd i arg1 harg1 arg2 harg2 arg3 harg3 arg4 harg4 arg5 harg5 v0 v2 v4 _ _ _ ⟨n, hn⟩, pass_stores]
    by_cases h : (y 0).val < 128 * n
    · obtain ⟨p, hp, hm⟩ := ih (by omega) h
      exact ⟨p, List.mem_append_right _ hp, hm⟩
    · have hb : (y 1).val < 384 := (y 1).isLt
      by_cases h1 : (y 1).val < 128
      · refine ⟨_, List.mem_append_left _ (List.mem_cons_of_mem _ (List.mem_cons_of_mem _ List.mem_cons_self)), ?_⟩
        rw [Rect.mem_set_unit]
        simp only [k0_off1_eq]
        intro a
        match a with
        | 0 => exact ⟨by show 128 * n ≤ (y 0).val; omega, by show (y 0).val < 128 * n + 128; omega⟩
        | 1 => exact ⟨Nat.zero_le _, by show (y 1).val < 0 + 128; omega⟩
      · by_cases h2 : (y 1).val < 256
        · refine ⟨_, List.mem_append_left _ (List.mem_cons_of_mem _ List.mem_cons_self), ?_⟩
          rw [Rect.mem_set_unit]
          simp only [k0_off2_eq]
          intro a
          match a with
          | 0 => exact ⟨by show 128 * n ≤ (y 0).val; omega, by show (y 0).val < 128 * n + 128; omega⟩
          | 1 => exact ⟨by show 128 ≤ (y 1).val; omega, by show (y 1).val < 128 + 128; omega⟩
        · refine ⟨_, List.mem_append_left _ List.mem_cons_self, ?_⟩
          rw [Rect.mem_set_unit]
          simp only [k0_off3_eq]
          intro a
          match a with
          | 0 => exact ⟨by show 128 * n ≤ (y 0).val; omega, by show (y 0).val < 128 * n + 128; omega⟩
          | 1 => exact ⟨by show 256 ≤ (y 1).val; omega, by show (y 1).val < 256 + 128; omega⟩

end Loop

section Point

variable (c : Dev nD) (i : grid0.Coords) (arg1 : Memref sig .tc .vmem S4096x128 .bf16) (harg1 : arg1.IsWhole)
  (arg2 : Memref sig .tc .vmem S4096x384 .bf16) (harg2 : arg2.IsWhole) (arg3 : Memref sig .tc .vmem S8x128 .f32) (harg3 : arg3.IsWhole)
  (arg4 : Memref sig .tc .vmem S4096x384 .bf16) (harg4 : arg4.IsWhole) (arg5 : Memref sig .tc .vmem S8x128 .f32) (harg5 : arg5.IsWhole)
  (x0 : Vec Ideal S4096x128 .bf16) (x1 : Vec Ideal S4096x384 .bf16) (x2 : Vec Ideal S8x128 .f32)

/-- The taps' rows of a strip. -/
abbrev W8 : ℕ → ℕ → EReal := at2 fun r l => x2 (ix2 r l)

theorem W_ld (r : ℕ) (hr : r < 3) (l : ℕ) (hl : l < 128) : W (View.ld x2 (Rect.unit ![0, 0] ![1, 128] inb_S8x128_S1x128_0_0)) (View.ld x2 (Rect.unit ![1, 0] ![1, 128] inb_S8x128_S1x128_1_0))
    (View.ld x2 (Rect.unit ![2, 0] ![1, 128] inb_S8x128_S1x128_2_0)) r l = W8 x2 r l := by
  have e0 := ld_unit x2 ![0, 0] inb_S8x128_S1x128_0_0 0 ⟨l, hl⟩
  have e1 := ld_unit x2 ![1, 0] inb_S8x128_S1x128_1_0 0 ⟨l, hl⟩
  have e2 := ld_unit x2 ![2, 0] inb_S8x128_S1x128_2_0 0 ⟨l, hl⟩
  simp at e0 e1 e2
  match r, hr with
  | 0, _ => exact (w0_at _ _ _ ⟨l, hl⟩).trans e0
  | 1, _ => exact (w1_at _ _ _ ⟨l, hl⟩).trans e1
  | 2, _ => exact (w2_at _ _ _ ⟨l, hl⟩).trans e2

theorem outRow_congr (q x w w' : ℕ → ℕ → EReal) (h : ∀ r < 3, ∀ l < 128, w r l = w' r l) (t b : ℕ) (hb : b < 384) : outRow q x w t b = outRow q x w' t b := by
  have e (l : ℕ) (hl : l < 128) : w 0 l = w' 0 l ∧ w 1 l = w' 1 l ∧ w 2 l = w' 2 l := ⟨h 0 (by decide) l hl, h 1 (by decide) l hl, h 2 (by decide) l hl⟩
  simp only [outRow, conv, dpRow]
  split
  · obtain ⟨h0, h1, h2⟩ := e b (by omega)
    rw [h0, h1, h2]
  · split
    · obtain ⟨h0, h1, h2⟩ := e (b - 128) (by omega)
      rw [h0, h1, h2]
    · obtain ⟨h0, h1, h2⟩ := e (b - 256) (by omega)
      rw [h0, h1, h2]

theorem point_out (t : Fin 4096) (b : Fin 384) : out0_A_3 c i arg1 harg1 arg2 harg2 arg3 harg3 arg4 harg4 arg5 harg5 x0 x1 x2 (ix2 t b)
    = outRow (Q x0) (X x1) (W8 x2) t.val b.val := by
  frame_open
  frame_out
  refine Eq.trans ?_ ((View.canon_append_of_piecesOf _ [] _ (stored Variants.none c none i arg1 harg1 arg2 harg2 arg3 harg3 arg4 harg4 arg5 harg5 _ _ _ x0 x1 32 (by decide)) (ix2 t b)
    (covered Variants.none c none i arg1 harg1 arg2 harg2 arg3 harg3 arg4 harg4 arg5 harg5 _ _ _ x0 x1 32 (by decide) (ix2 t b) (by show t.val < 128 * 32; omega))).trans
    (outRow_congr _ _ _ _ (W_ld x2) t.val b.val b.isLt))
  rw [List.append_nil]
  rfl

/-- Three rows over a fill of zeros. -/
theorem canon_rows (p0 p1 p2 : Vec Ideal S1x128 .f32) (G : ℕ → ℕ → EReal) (h0 : ∀ l : Fin 128, p0 (ix2 0 l) = G 0 l.val) (h1 : ∀ l : Fin 128, p1 (ix2 0 l) = G 1 l.val)
    (h2 : ∀ l : Fin 128, p2 (ix2 0 l) = G 2 l.val) (hG : ∀ r l, 3 ≤ r → G r l = 0) (r : Fin 8) (l : Fin 128) :
    View.canon (Val := Elt Ideal) (e := .f32) [⟨Rect.unit (s := S8x128) ![2, 0] ![1, 128] inb_S8x128_S1x128_2_0, p2⟩, ⟨Rect.unit (s := S8x128) ![1, 0] ![1, 128] inb_S8x128_S1x128_1_0, p1⟩,
      ⟨Rect.unit (s := S8x128) ![0, 0] ![1, 128] inb_S8x128_S1x128_0_0, p0⟩, ⟨Rect.unit (s := S8x128) ![0, 0] ![8, 128] inb_S8x128_S8x128_0_0, k0_pay10 (F := Ideal)⟩] (ix2 r l) = G r.val l.val := by
  by_cases hr : r.val < 3
  · have key := View.canon_append_of_piecesOf (Val := Elt Ideal) (e := .f32) (fun y : S8x128.Idx => G (y 0).val (y 1).val)
      [⟨Rect.unit (s := S8x128) ![0, 0] ![8, 128] inb_S8x128_S8x128_0_0, k0_pay10 (F := Ideal)⟩]
      [⟨Rect.unit (s := S8x128) ![2, 0] ![1, 128] inb_S8x128_S1x128_2_0, p2⟩, ⟨Rect.unit (s := S8x128) ![1, 0] ![1, 128] inb_S8x128_S1x128_1_0, p1⟩,
      ⟨Rect.unit (s := S8x128) ![0, 0] ![1, 128] inb_S8x128_S1x128_0_0, p0⟩]
    refine key ⟨forall_ix2 fun a b => ?_, forall_ix2 fun a b => ?_, forall_ix2 fun a b => ?_, trivial⟩ (ix2 r l) ?_
    · obtain rfl : a = 0 := Subsingleton.elim _ _
      exact (h2 b).trans (Eq.trans (by simp) (emb_unit G ![2, 0] inb_S8x128_S1x128_2_0 0 b))
    · obtain rfl : a = 0 := Subsingleton.elim _ _
      exact (h1 b).trans (Eq.trans (by simp) (emb_unit G ![1, 0] inb_S8x128_S1x128_1_0 0 b))
    · obtain rfl : a = 0 := Subsingleton.elim _ _
      exact (h0 b).trans (Eq.trans (by simp) (emb_unit G ![0, 0] inb_S8x128_S1x128_0_0 0 b))
    · have hl := l.isLt
      match hv : r.val, hr with
      | 0, _ =>
        refine ⟨_, List.mem_cons_of_mem _ (List.mem_cons_of_mem _ List.mem_cons_self), ?_⟩
        rw [Rect.mem_set_unit]
        intro a
        match a with
        | 0 => exact ⟨Nat.zero_le _, by show r.val < 0 + 1; omega⟩
        | 1 => exact ⟨Nat.zero_le _, by show l.val < 0 + 128; omega⟩
      | 1, _ =>
        refine ⟨_, List.mem_cons_of_mem _ List.mem_cons_self, ?_⟩
        rw [Rect.mem_set_unit]
        intro a
        match a with
        | 0 => exact ⟨by show 1 ≤ r.val; omega, by show r.val < 1 + 1; omega⟩
        | 1 => exact ⟨Nat.zero_le _, by show l.val < 0 + 128; omega⟩
      | 2, _ =>
        refine ⟨_, List.mem_cons_self, ?_⟩
        rw [Rect.mem_set_unit]
        intro a
        match a with
        | 0 => exact ⟨by show 2 ≤ r.val; omega, by show r.val < 2 + 1; omega⟩
        | 1 => exact ⟨Nat.zero_le _, by show l.val < 0 + 128; omega⟩
  · have out (o : ℕ) (ho : o < 3) (inb : ∀ a, (![o, 0] : Fin 2 → ℕ) a + (![1, 128] : Fin 2 → ℕ) a ≤ S8x128.size a) :
        (ix2 r l : S8x128.Idx) ∉ (Rect.unit (s := S8x128) ![o, 0] ![1, 128] inb).set := by
      rw [Rect.mem_set_unit]
      intro h
      have : r.val < o + 1 := (h 0).2
      omega
    have n2 := out 2 (by decide) inb_S8x128_S1x128_2_0
    have n1 := out 1 (by decide) inb_S8x128_S1x128_1_0
    have n0 := out 0 (by decide) inb_S8x128_S1x128_0_0
    rw [hG _ _ (by omega)]
    refine (View.canon_cons_of_not_mem ⟨Rect.unit (s := S8x128) ![2, 0] ![1, 128] inb_S8x128_S1x128_2_0, p2⟩ _ n2).trans ?_
    refine (View.canon_cons_of_not_mem ⟨Rect.unit (s := S8x128) ![1, 0] ![1, 128] inb_S8x128_S1x128_1_0, p1⟩ _ n1).trans ?_
    refine (View.canon_cons_of_not_mem ⟨Rect.unit (s := S8x128) ![0, 0] ![1, 128] inb_S8x128_S1x128_0_0, p0⟩ _ n0).trans ?_
    refine (congrFun (View.canon_cons_unit_lit (Val := Elt Ideal) (e := .f32) (S := S8x128) inb_S8x128_S8x128_0_0 (k0_pay10 (F := Ideal)) [] fun a => ?_) (ix2 r l)).trans ?_
    · match a with
      | 0 => rfl
      | 1 => rfl
    · pointwise [k0_pay10]

theorem point_taps (r : Fin 8) (l : Fin 128) : out0_A_4 c i arg1 harg1 arg2 harg2 arg3 harg3 arg4 harg4 arg5 harg5 x0 x1 x2 (ix2 r l)
    = tapRow (Q x0) (X x1) r.val l.val := by
  frame_open
  frame_out
  have h (l : Fin 128) := carried Variants.none c none i arg1 harg1 arg2 harg2 arg3 harg3 arg4 harg4 arg5 harg5 (View.ld x2 (Rect.unit ![0, 0] ![1, 128] inb_S8x128_S1x128_0_0))
    (View.ld x2 (Rect.unit ![1, 0] ![1, 128] inb_S8x128_S1x128_1_0)) (View.ld x2 (Rect.unit ![2, 0] ![1, 128] inb_S8x128_S1x128_2_0)) x0 x1 32 (by decide) l
  simp only [sum_pass] at h
  exact canon_rows _ _ _ (tapRow (Q x0) (X x1)) (fun l => (h l).1) (fun l => (h l).2.1) (fun l => (h l).2.2) (fun r l hr => if_neg (by omega)) r l

end Point

end Cert.ScMid
-- ==== Proof.ScMid.lean ====
/-
  The gradient of the short convolution's gate: eight strips of 128 lanes, each with its gate and the two factors of the
  convolution's argument side by side. Both programs compute `dbcv` and `dtaps` of their arguments.
-/
module

public import proofs.«01_k».proof.Defs
public import proofs.«01_k».proof.Proof.ScLoop
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Claim
public import Idealize.ShloMosaic.Lib.IdealHost
public import Idealize.ShloMosaic.Adequacy
public import Idealize.ShloMosaic.Init

@[expose] public section

set_option maxRecDepth 16384

noncomputable section

namespace Cert.ScMid

open Idealize.ShloMosaic Idealize.ShloMosaic.TcCoe Idealize.SL.Sem

section Strips

open Cert.Reference5Ideal

variable (dq : Vec Ideal S4096x1024 .bf16) (bcv : Vec Ideal S4096x3072 .bf16) (w : Vec Ideal S3x1024 .f32) (j : Fin 8)

/-- Strip `j` of each argument. -/
def dqStrip : ℕ → ℕ → EReal := at2 fun (t : Fin 4096) (l : Fin 128) => dq (ix2 t ⟨j.val * 128 + l.val, by omega⟩)
def bcvStrip : ℕ → ℕ → EReal := at2 fun (t : Fin 4096) (b : Fin 384) => bcv (ix2 t ⟨j.val * 384 + b.val, by omega⟩)
def wStrip : ℕ → ℕ → EReal := at2 fun (r : Fin 3) (l : Fin 128) => w (ix2 r ⟨j.val * 128 + l.val, by omega⟩)

/-- The cotangent of the three projections. -/
def dbcv : S4096x3072.Idx → EReal := fun i =>
  let j : Fin 8 := ⟨(i 1).val / 384, by have : (i 1).val < 3072 := (i 1).isLt; omega⟩
  outRow (dqStrip dq j) (bcvStrip bcv j) (wStrip w j) (i 0).val ((i 1).val % 384)

/-- The cotangent of the taps, in eight rows. -/
def dtaps : S8x1024.Idx → EReal := fun i =>
  let j : Fin 8 := ⟨(i 1).val / 128, by have : (i 1).val < 1024 := (i 1).isLt; omega⟩
  tapRow (dqStrip dq j) (bcvStrip bcv j) (i 0).val ((i 1).val % 128)

end Strips

section Kernel

open Cert.Kernel5Ideal Cert.Kernel5Ideal.Gen

variable (m : (ℓ : Loc nD τ sig) → Buf (Elt Ideal) ℓ) (c : Dev nD)

theorem idx : ∀ t : Fin cfg0.N, win0_0.index t = ![0, t.val] ∧ win0_1.index t = ![0, t.val] ∧ win0_2.index t = ![0, t.val] ∧ win0_3.index t = ![0, t.val] ∧ win0_4.index t = ![0, t.val] :=
  (by decide +kernel : ∀ t : Fin grid0.N, _)

theorem blk0 (t : Fin cfg0.N) (r : Fin 4096) (l : Fin 128) : iblk m c 0 t (ix2 r l)
    = m ((c : Thread nD τ).loc main_arg0) (ix2 r ⟨t.val * 128 + l.val, by have : t.val < 8 := t.isLt; omega⟩) := by
  blk_ext [iblk, V, idx t]

theorem blk1 (t : Fin cfg0.N) (r : Fin 4096) (l : Fin 384) : iblk m c 1 t (ix2 r l)
    = m ((c : Thread nD τ).loc main_arg1) (ix2 r ⟨t.val * 384 + l.val, by have : t.val < 8 := t.isLt; omega⟩) := by
  blk_ext [iblk, V, idx t]

theorem pad_at (y : Vec Ideal S3x1024 .f32) (r : Fin 3) (n : Fin 1024) :
    pad S8x1024 ![0, 0] ![5, 0] ![0, 0] y (sitofp (F := Ideal) .f32 (constantI S_ 32 0#32)) pads_S3x1024_S8x1024_050_000 h_S_ (ix2 ⟨r.val, by omega⟩ n) = y (ix2 r n) := by
  pointwise []

theorem taps_at (r : Fin 3) (n : Fin 1024) : V m c main_v0 (ix2 ⟨r.val, by omega⟩ n) = m ((c : Thread nD τ).loc main_arg2) (ix2 r n) := by
  have e : V m c main_v0 = pad S8x1024 ![0, 0] ![5, 0] ![0, 0] (m ((c : Thread nD τ).loc main_arg2) : Vec Ideal S3x1024 .f32) (sitofp (F := Ideal) .f32 (constantI S_ 32 0#32)) pads_S3x1024_S8x1024_050_000 h_S_ := rfl
  rw [e]
  exact pad_at _ r n

theorem blk2 (t : Fin cfg0.N) (r : Fin 3) (l : Fin 128) : iblk m c 2 t (ix2 ⟨r.val, by omega⟩ l)
    = m ((c : Thread nD τ).loc main_arg2) (ix2 r ⟨t.val * 128 + l.val, by have : t.val < 8 := t.isLt; omega⟩) := by
  rw [← taps_at m c]
  blk_ext [iblk, idx t]

theorem q_at (t : Fin cfg0.N) : Q (iblk m c 0 t) = dqStrip (m ((c : Thread nD τ).loc main_arg0)) ⟨t.val, t.isLt⟩ :=
  congrArg at2 (funext fun r => funext fun l => blk0 m c t r l)

theorem x_at (t : Fin cfg0.N) : X (iblk m c 1 t) = bcvStrip (m ((c : Thread nD τ).loc main_arg1)) ⟨t.val, t.isLt⟩ :=
  congrArg at2 (funext fun r => funext fun l => blk1 m c t r l)

theorem w_at (t : Fin cfg0.N) (r : ℕ) (hr : r < 3) (l : ℕ) (hl : l < 128) :
    W8 (iblk m c 2 t) r l = wStrip (m ((c : Thread nD τ).loc main_arg2)) ⟨t.val, t.isLt⟩ r l :=
  ((at2_of _ (by omega) hl).trans (blk2 m c t ⟨r, hr⟩ ⟨l, hl⟩)).trans (at2_of _ hr hl).symm

theorem out_arr : (dats m 0 c).arrAt 3 cfg0.N = dbcv (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 8 := t.isLt
  have e0 : win0_3.index t 0 = 0 := by rw [(idx t).2.2.2.1]; rfl
  have e1 : win0_3.index t 1 = t.val := by rw [(idx t).2.2.2.1]; rfl
  blk_simp
  rw [after0_3]
  obtain ⟨r, b, rfl⟩ : ∃ r b, y = ix2 r b := ⟨_, _, eq_ix2 y⟩
  refine (point_out c _ _ _ _ _ _ _ _ _ _ _ (iblk m c 0 t) (iblk m c 1 t) (iblk m c 2 t) r b).trans ?_
  rw [q_at, x_at, outRow_congr _ _ _ _ (w_at m c t) _ _ b.isLt]
  refine (Eq.trans ?_ (congrArg (dbcv _ _ _) (?_ : ix2 r ⟨t.val * 384 + b.val, by omega⟩ = _)))
  · show _ = outRow (dqStrip _ ⟨(t.val * 384 + b.val) / 384, by omega⟩) (bcvStrip _ ⟨(t.val * 384 + b.val) / 384, by omega⟩) (wStrip _ ⟨(t.val * 384 + b.val) / 384, by omega⟩) r.val ((t.val * 384 + b.val) % 384)
    simp only [show (t.val * 384 + b.val) / 384 = t.val by omega, show (t.val * 384 + b.val) % 384 = b.val by omega]
  funext a
  apply Fin.ext
  match a with
  | 0 => blk_simp; rw [e0]; simp
  | 1 => blk_simp; rw [e1]

theorem taps_arr : (dats m 0 c).arrAt 4 cfg0.N = dtaps (m ((c : Thread nD τ).loc main_arg0)) (m ((c : Thread nD τ).loc main_arg1)) := by
  refine (dats m 0 c).arrAt_eq_of_covers 4 _ (by decide +kernel) fun t hf y => ?_
  have ht : t.val < 8 := t.isLt
  have e0 : win0_4.index t 0 = 0 := by rw [(idx t).2.2.2.2]; rfl
  have e1 : win0_4.index t 1 = t.val := by rw [(idx t).2.2.2.2]; rfl
  blk_simp
  rw [after0_4]
  obtain ⟨r, l, rfl⟩ : ∃ r l, y = ix2 r l := ⟨_, _, eq_ix2 y⟩
  refine (point_taps c _ _ _ _ _ _ _ _ _ _ _ (iblk m c 0 t) (iblk m c 1 t) (iblk m c 2 t) r l).trans ?_
  rw [q_at, x_at]
  refine (Eq.trans ?_ (congrArg (dtaps _ _) (?_ : ix2 r ⟨t.val * 128 + l.val, by omega⟩ = _)))
  · show _ = tapRow (dqStrip _ ⟨(t.val * 128 + l.val) / 128, by omega⟩) (bcvStrip _ ⟨(t.val * 128 + l.val) / 128, by omega⟩) r.val ((t.val * 128 + l.val) % 128)
    simp only [show (t.val * 128 + l.val) / 128 = t.val by omega, show (t.val * 128 + l.val) % 128 = l.val by omega]
  funext a
  apply Fin.ext
  match a with
  | 0 => blk_simp; rw [e0]; simp
  | 1 => blk_simp; rw [e1]

theorem run_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = dbcv (m ((c.tc : Thread nD τ).loc main_arg0)) (m ((c.tc : Thread nD τ).loc main_arg1)) (m ((c.tc : Thread nD τ).loc main_arg2))
      ∧ r.2.mem ((c.tc : Thread nD τ).loc main_v1_1) = dtaps (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (out_arr m c), (h c).2.1.trans (taps_arr m c), (h c).2.2⟩) (Cert.Kernel5Ideal.Value.run_blocks m ρ)

end Kernel

section Reference

open Cert.Reference5Ideal Cert.Reference5Ideal.Gen Cert.Reference5Ideal.Read

variable (x0 : Vec Ideal S4096x1024 .bf16) (x1 : Vec Ideal S4096x3072 .bf16) (x2 : Vec Ideal S3x1024 .f32)

abbrev strip (n : Fin 1024) : Fin 8 := ⟨n.val / 128, by omega⟩

theorem v4_at (t : Fin 4096) (n : Fin 1024) : val_main_v4 (F := Ideal) x1 (ix2 t n) = bcvStrip x1 (strip n) t.val (n.val % 128) := by
  rw [bcvStrip, at2_of _ t.isLt (by omega)]
  pointwise [val_main_v4, val_main_v3, val_main_v2, val_main_v1, val_main_v0]

theorem v11_at (t : Fin 4096) (n : Fin 1024) : val_main_v11 (F := Ideal) x1 (ix2 t n) = prodRow (bcvStrip x1 (strip n)) t.val (n.val % 128) := by
  rw [prodRow, bcvStrip, at2_of _ t.isLt (by omega), at2_of _ t.isLt (by omega)]
  pointwise [val_main_v11, val_main_v10, val_main_v9, val_main_v8, val_main_v7, val_main_v6, val_main_v5, val_main_v1, val_main_v0]
  simp only [add_assoc]

/-- The rows with two rows of zeros before them. -/
theorem v13_at (d : ℕ) (t : Fin 4096) (s : Fin 4098) (hs : s.val + d = t.val + 2) (n : Fin 1024) :
    val_main_v13 (F := Ideal) x1 (ix2 s n) = back (bcvStrip x1 (strip n)) d t.val (n.val % 128) := by
  have z : val_main_cst (F := Ideal) ix0 = 0 := by pointwise [val_main_cst]
  have h0 : s.val < 2 → back (bcvStrip x1 (strip n)) d t.val (n.val % 128) = 0 := fun h => if_neg (by omega)
  have h1 : ¬ s.val < 2 → val_main_v11 (F := Ideal) x1 (ix2 ⟨s.val - 2, by omega⟩ n) = back (bcvStrip x1 (strip n)) d t.val (n.val % 128) := fun h => by
    rw [v11_at, back, if_pos (by omega)]
    exact congrArg (prodRow _ · _) (by show s.val - 2 = t.val - d; omega)
  pointwise [val_main_v13, val_main_v12]
  by_cases h : s.val < 2
  · exact ((dif_pos h).trans z).trans (h0 h).symm
  · exact (dif_neg h).trans (h1 h)

theorem w_of (r : Fin 3) (n : Fin 1024) : x2 (ix2 r n) = wStrip x2 (strip n) r.val (n.val % 128) := by
  rw [wStrip, at2_of _ r.isLt (by omega)]
  refine congrArg x2 (congrArg (ix2 r) (Fin.ext ?_))
  show n.val = n.val / 128 * 128 + n.val % 128
  omega

theorem q_of (t : Fin 4096) (n : Fin 1024) : x0 (ix2 t n) = dqStrip x0 (strip n) t.val (n.val % 128) := by
  rw [dqStrip, at2_of _ t.isLt (by omega)]
  refine congrArg x0 (congrArg (ix2 t) (Fin.ext ?_))
  show n.val = n.val / 128 * 128 + n.val % 128
  omega

theorem v34_at (t : Fin 4096) (n : Fin 1024) : val_main_v34 (F := Ideal) x1 x2 (ix2 t n) = conv (bcvStrip x1 (strip n)) (wStrip x2 (strip n)) t.val (n.val % 128) := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15]
  rw [v13_at x1 2 t ⟨t.val, by omega⟩ rfl, v13_at x1 1 t ⟨1 + t.val, by omega⟩ (by show 1 + t.val + 1 = _; omega), v13_at x1 0 t ⟨2 + t.val, by omega⟩ (by show 2 + t.val + 0 = _; omega), w_of x2 0, w_of x2 1, w_of x2 2, conv, add_comm, add_comm (_ * _) (_ * _), add_assoc]
  rfl

theorem v37_at (t : Fin 4096) (n : Fin 1024) : val_main_v37 (F := Ideal) x0 x1 (ix2 t n) = duRow (dqStrip x0 (strip n)) (bcvStrip x1 (strip n)) t.val (n.val % 128) := by
  rw [duRow, ← v4_at, mul_comm, ← q_of]
  pointwise [val_main_v37, val_main_v36]

theorem tap_sum (d : ℕ) (f : Fin 4096 → EReal) (n : Fin 1024) (h : ∀ t, f t = back (bcvStrip x1 (strip n)) d t.val (n.val % 128)) :
    ∑ z : Fin 1, ∑ t, (f t * val_main_v37 (F := Ideal) x0 x1 (ix2 t n))
      = tapSum (dqStrip x0 (strip n)) (bcvStrip x1 (strip n)) d (n.val % 128) := by
  rw [Fin.sum_univ_one, tapSum]
  exact Finset.sum_congr rfl fun t _ => by rw [h, v37_at, mul_comm]

theorem v67_at (r : Fin 3) (n : Fin 1024) : val_main_v67 (F := Ideal) x0 x1 (ix2 r n) = tapSum (dqStrip x0 (strip n)) (bcvStrip x1 (strip n)) (2 - r.val) (n.val % 128) := by
  pointwise [val_main_v67, val_main_v66, val_main_v65, val_main_v64, val_main_v61, val_main_v60, val_main_v59, val_main_v56, val_main_v55, val_main_v54, val_main_v53, val_main_v50, val_main_v49, val_main_v48, val_main_v46, val_main_v45, val_main_v44, val_main_v41, val_main_v40, val_main_v39, val_main_v28, val_main_v21, val_main_v15, val_main_cst_1, val_main_cst_2, val_main_cst_3, val_main_cst_5, val_main_cst_6, val_main_cst_7, val_main_cst_9, val_main_cst_10, val_main_cst_11]
  obtain rfl | rfl | rfl : r = 0 ∨ r = 1 ∨ r = 2 := by omega
  · refine (congrArg₂ (· + ·) (congrArg₂ (· + ·) (dif_neg (by decide)) (dif_neg (by decide))) (dif_pos (by decide))).trans ?_
    rw [add_zero, zero_add]
    exact tap_sum x0 x1 2 _ n fun t => v13_at x1 2 t ⟨t.val, by omega⟩ rfl n
  · refine (congrArg₂ (· + ·) (congrArg₂ (· + ·) (dif_neg (by decide)) (dif_pos (by decide))) (dif_neg (by decide))).trans ?_
    rw [add_zero, zero_add]
    exact tap_sum x0 x1 1 _ n fun t => v13_at x1 1 t ⟨1 + t.val, by omega⟩ (by show 1 + t.val + 1 = _; omega) n
  · refine (congrArg₂ (· + ·) (congrArg₂ (· + ·) (dif_pos (by decide)) (dif_neg (by decide))) (dif_neg (by decide))).trans ?_
    rw [add_zero, add_zero]
    exact tap_sum x0 x1 0 _ n fun t => v13_at x1 0 t ⟨2 + t.val, by omega⟩ (by show 2 + t.val + 0 = _; omega) n

theorem v37_ahead (d : ℕ) (t : Fin 4096) (n : Fin 1024) (h : t.val + d < 4096) : val_main_v37 (F := Ideal) x0 x1 (ix2 ⟨t.val + d, h⟩ n)
    = ahead (dqStrip x0 (strip n)) (bcvStrip x1 (strip n)) d t.val (n.val % 128) :=
  (v37_at x0 x1 _ n).trans (if_pos h).symm

theorem v71_at (t : Fin 4096) (n : Fin 1024) : val_main_v71 (F := Ideal) x0 x1 x2 (ix2 t n) = dpRow (dqStrip x0 (strip n)) (bcvStrip x1 (strip n)) (wStrip x2 (strip n)) t.val (n.val % 128) := by
  pointwise [val_main_v71, val_main_v69, val_main_v68, val_main_v63, val_main_v62, val_main_v58, val_main_v57, val_main_v52, val_main_v51, val_main_v47, val_main_v43, val_main_v42, val_main_v31, val_main_v30, val_main_v29, val_main_v24, val_main_v23, val_main_v22, val_main_v18, val_main_v17, val_main_v16, val_main_cst_8, val_main_cst_12]
  refine congrArg₂ (· + ·) (congrArg₂ (· + ·) ?_ ?_) ?_
  · exact congrArg₂ (· * ·) (v37_ahead x0 x1 0 t n t.isLt) (w_of x2 2 n)
  · by_cases h : t.val + 1 < 4096
    · refine (dif_pos ⟨by omega, by omega⟩).trans (congrArg₂ (· * ·) (Eq.trans ?_ (v37_ahead x0 x1 1 t n h)) (w_of x2 1 n))
      exact congrArg (val_main_v37 x0 x1) (congrArg (ix2 · n) (Fin.ext (by show 2 + t.val - 1 = t.val + 1; omega)))
    · refine (dif_neg (by omega)).trans ?_
      rw [ahead, if_neg h, zero_mul]
  · by_cases h : t.val + 2 < 4096
    · refine (dif_pos (by omega)).trans (congrArg₂ (· * ·) (Eq.trans ?_ (v37_ahead x0 x1 2 t n h)) (w_of x2 0 n))
      exact congrArg (val_main_v37 x0 x1) (congrArg (ix2 · n) (Fin.ext (by show 2 + t.val = t.val + 2; omega)))
    · refine (dif_neg (by omega)).trans ?_
      rw [ahead, if_neg h, zero_mul]

theorem v7_at (t : Fin 4096) (n : Fin 1024) : val_main_v7 (F := Ideal) x1 (ix2 t n) = bcvStrip x1 (strip n) t.val (128 + n.val % 128) := by
  rw [bcvStrip, at2_of _ t.isLt (by omega)]
  pointwise [val_main_v7, val_main_v6, val_main_v5, val_main_v1, val_main_v0]
  simp only [add_assoc]

theorem v10_at (t : Fin 4096) (n : Fin 1024) : val_main_v10 (F := Ideal) x1 (ix2 t n) = bcvStrip x1 (strip n) t.val (256 + n.val % 128) := by
  rw [bcvStrip, at2_of _ t.isLt (by omega)]
  pointwise [val_main_v10, val_main_v9, val_main_v8, val_main_v1, val_main_v0]
  simp only [add_assoc]

theorem v86_at (t : Fin 4096) (n : Fin 3072) : val_main_v86 (F := Ideal) x0 x1 x2 (ix2 t n) = dbcv x0 x1 x2 (ix2 t n) := by
  pointwise [val_main_v86, val_main_v85, val_main_v84, val_main_v83, val_main_v82, val_main_v81, val_main_v80, val_main_v79, val_main_v78, val_main_v77, val_main_v76, val_main_v75, val_main_v74, val_main_v73, val_main_v72, val_main_v38, val_main_v36, val_main_cst_13, val_main_cst_14, val_main_cst_15]
  have hj : n.val / 384 < 8 := by omega
  have hl : n.val % 128 < 128 := by omega
  have hn : n.val / 384 * 128 + n.val % 128 < 1024 := by omega
  generalize hN : (⟨n.val / 384 * 128 + n.val % 128, hn⟩ : Fin 1024) = N
  have e : (strip N) = ⟨n.val / 384, hj⟩ := by subst hN; exact Fin.ext (by show (n.val / 384 * 128 + n.val % 128) / 128 = n.val / 384; omega)
  have el : N.val % 128 = n.val % 128 := by subst hN; show (n.val / 384 * 128 + n.val % 128) % 128 = _; omega
  simp only [v7_at, v10_at, v71_at, v34_at, q_of x0, e, el]
  show _ = outRow (dqStrip x0 ⟨n.val / 384, hj⟩) (bcvStrip x1 ⟨n.val / 384, hj⟩) (wStrip x2 ⟨n.val / 384, hj⟩) t.val (n.val % 384)
  unfold outRow
  obtain hk | hk | hk : n.val / 128 % 3 = 0 ∨ n.val / 128 % 3 = 1 ∨ n.val / 128 % 3 = 2 := by omega
  · rw [if_pos (by omega : n.val % 384 < 128), show n.val % 384 = n.val % 128 by omega]
    refine (congrArg₂ (· + ·) (congrArg₂ (· + ·) (dif_neg (by omega)) (dif_neg (by omega))) (dif_pos (by omega))).trans ?_
    simp
  · rw [if_neg (by omega), if_pos (by omega : n.val % 384 < 256), show n.val % 384 = n.val % 128 + 128 by omega]
    refine (congrArg₂ (· + ·) (congrArg₂ (· + ·) (dif_neg (by omega)) (dif_pos (by omega))) (dif_neg (by omega))).trans ?_
    rw [add_zero, zero_add, add_comm 256, Nat.add_sub_cancel]
  · rw [if_neg (by omega), if_neg (by omega), show n.val % 384 = n.val % 128 + 256 by omega]
    refine (congrArg₂ (· + ·) (congrArg₂ (· + ·) (dif_pos (by omega)) (dif_neg (by omega))) (dif_neg (by omega))).trans ?_
    rw [add_zero, add_zero, mul_comm, add_comm 128, Nat.add_sub_cancel]
    rfl

theorem v88_at (r : Fin 8) (n : Fin 1024) : val_main_v88 (F := Ideal) x0 x1 (ix2 r n) = dtaps x0 x1 (ix2 r n) := by
  pointwise [val_main_v88, val_main_v87, val_main_cst_16]
  show _ = tapRow (dqStrip x0 (strip n)) (bcvStrip x1 (strip n)) r.val (n.val % 128)
  unfold tapRow
  by_cases h : r.val < 3
  · rw [if_pos h]
    exact (dif_pos h).trans (v67_at x0 x1 _ n)
  · rw [if_neg h]
    exact dif_neg h

theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v86) = dbcv (m ((c.tc : Thread nD τ).loc main_arg0)) (m ((c.tc : Thread nD τ).loc main_arg1)) (m ((c.tc : Thread nD τ).loc main_arg2))
      ∧ r.2.mem ((c.tc : Thread nD τ).loc main_v88) = dtaps (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).1.trans (val_main_v86_eq _ _)).trans (funext fun i => (congrArg _ (eq_ix2 i)).trans ((v86_at _ _ _ _ _).trans (congrArg _ (eq_ix2 i).symm))),
      ((h c).2.1.trans (val_main_v88_eq _ _)).trans (funext fun i => (congrArg _ (eq_ix2 i)).trans ((v88_at _ _ _ _).trans (congrArg _ (eq_ix2 i).symm))),
      (h c).2.2⟩) (Cert.Reference5Ideal.Value.run m ρ)

end Reference

theorem algebraic : Cert.algebraic_Kernel5Ideal_Reference5Ideal (hKernel5Ideal := Cert.Kernel5Ideal.Gen.facts)
    (hReference5Ideal := Cert.Reference5Ideal.Gen.facts) := by
  intro m g m' g' _ hagree
  refine ⟨_, _, run_kernel m g, (θ_run _ _ _).mono (fun r h c => ?_) (run_reference m' g')⟩
  obtain ⟨a0, a1, a2⟩ := hagree c
  obtain ⟨h0, h1, hk⟩ := h c
  rw [a0, a1, a2] at h0
  rw [a0, a1] at h1
  exact ⟨h0, h1, hk⟩

theorem frame_reference : Cert.quiescent_Reference5Ideal (hReference5Ideal := Cert.Reference5Ideal.Gen.facts) := by
  intro m g _
  exact (θ_run _ _ _).mono (fun r h => ⟨fun c => (h c).2.2, sem_eq_zero_of_no_sems (by decide) r.2⟩) (run_reference m g)

end Cert.ScMid

end
-- ==== Proof.OutProj.lean ====
/-
  A product with weights of `K` rows, its norm and the residual connection: what the calls that compute them return, as
  functions of their arguments' coordinates, for any `K`.
-/
module

public import proofs.«01_k».proof.Proof.RmsNorm

@[expose] public section

noncomputable section

namespace Cert.OutProj

open Idealize.ShloMosaic Cert.FfnGrad

/-- The arguments as functions of their coordinates: the product's left factor, the weights, the residual and the norm's
gain. -/
structure Args (K : ℕ) where
  a : Fin 4096 → Fin K → EReal
  w : Fin K → Fin 1024 → EReal
  x : Fin 4096 → Fin 1024 → EReal
  g : Fin 1024 → EReal

variable {K : ℕ}

def args (x0 : Vec Ideal ⟨2, ![4096, K]⟩ .bf16) (x1 : Vec Ideal ⟨2, ![K, 1024]⟩ .bf16) (x2 : Vec Ideal ⟨2, ![4096, 1024]⟩ .f32)
    (x3 : Vec Ideal ⟨1, ![1024]⟩ .f32) : Args K where
  a t j := x0 (ix2 t j)
  w j n := x1 (ix2 j n)
  x t n := x2 (ix2 t n)
  g n := x3 (ix1 n)

variable (A : Args K)

def proj (t : Fin 4096) (n : Fin 1024) : EReal := ∑ j, A.a t j * A.w j n

def out (t : Fin 4096) (n : Fin 1024) : EReal := A.x t n + proj A t n * rowInv (proj A t) * A.g n

/-- Row `r` of the 256 of grid point `t`. -/
def row (t : ℕ) (ht : t < 16) (r : Fin 256) : Fin 4096 := ⟨t * 256 + r.val, by omega⟩

end Cert.OutProj

end
-- ==== Proof.Down.lean ====
/-
  The down projection, its output's norm and the residual connection. A grid point handles 256 rows: their product with
  the whole weights, and the normalised product added to the residual's rows. Both programs compute `proj` and `out` of
  their four arguments.
-/
module

public import proofs.«01_k».proof.Defs
public import proofs.«01_k».proof.Proof.OutProj
public import proofs.«01_k».proof.Proof.Gen.Kernel6
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pipeline.ReadBack
public import Idealize.ShloMosaic.Lib.Claim
public import Idealize.ShloMosaic.Lib.Affine
public import Idealize.ShloMosaic.Lib.Decide
public import Idealize.ShloMosaic.Lib.IdealHost
public import Idealize.ShloMosaic.Adequacy
public import Idealize.ShloMosaic.Init

@[expose] public section

set_option maxRecDepth 16384

noncomputable section

namespace Cert.Down

open Idealize.ShloMosaic Idealize.ShloMosaic.TcCoe Idealize.SL.Sem Cert.FfnGrad Cert.OutProj

section Payloads

open Cert.Kernel6Ideal Cert.Kernel6Ideal.Gen

variable (a : Vec Ideal S256x2816 .bf16) (w : Vec Ideal S2816x1024 .bf16)

theorem pay1_at (r : Fin 256) (n : Fin 1024) : k0_pay1 a w (ix2 r n) = ∑ j, a (ix2 r j) * w (ix2 j n) := by
  pointwise [k0_pay1]

theorem pay2_at (x : Vec Ideal S256x1024 .f32) (g : Vec Ideal S1x1024 .f32) (r : Fin 256) (n : Fin 1024) :
    k0_pay2 a w x g (ix2 r n) = x (ix2 r n) + k0_pay1 a w (ix2 r n) * (rowInv fun n => k0_pay1 a w (ix2 r n)) * g (ix2 0 n) := by
  unfold k0_pay2
  generalize k0_pay1 a w = f
  unfold rowInv rowMsq
  pointwise []
  rfl

end Payloads

section Kernel

open Cert.Kernel6Ideal Cert.Kernel6Ideal.Gen

variable (m : (ℓ : Loc nD τ sig) → Buf (Elt Ideal) ℓ) (c : Dev nD)

/-- The arguments in memory. -/
def memArgs : Args 2816 := args (m ((c : Thread nD τ).loc main_arg0)) (m ((c : Thread nD τ).loc main_arg1)) (m ((c : Thread nD τ).loc main_arg2))
  (m ((c : Thread nD τ).loc main_arg3))

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

theorem blk0 (t : Fin cfg0.N) (r : Fin 256) (j : Fin 2816) : iblk m c 0 t (ix2 r j) = (memArgs m c).a (row t.val t.isLt r) j := by
  show _ = m ((c : Thread nD τ).loc main_arg0) (ix2 ⟨t.val * 256 + r.val, _⟩ j)
  blk_ext [iblk, V, idx t]

theorem blk1 (t : Fin cfg0.N) (j : Fin 2816) (n : Fin 1024) : iblk m c 1 t (ix2 j n) = (memArgs m c).w j n := by
  show _ = m ((c : Thread nD τ).loc main_arg1) (ix2 j n)
  blk_ext [iblk, V, idx t]

theorem blk2 (t : Fin cfg0.N) (r : Fin 256) (n : Fin 1024) : iblk m c 2 t (ix2 r n) = (memArgs m c).x (row t.val t.isLt r) n := by
  show _ = m ((c : Thread nD τ).loc main_arg2) (ix2 ⟨t.val * 256 + r.val, _⟩ n)
  blk_ext [iblk, V, idx t]

/-- The host lays the gain out as a row. -/
theorem V_gain (n : Fin 1024) : V m c main_v0 (ix2 0 n) = (memArgs m c).g n := by
  have e : V m c main_v0 = shapeCast S1x1024 (m ((c : Thread nD τ).loc main_arg3) : Vec Ideal S1024 .f32) shapeCasts_S1024_S1x1024 := rfl
  rw [e]
  pointwise [memArgs, args]

theorem blk3 (t : Fin cfg0.N) (n : Fin 1024) : iblk m c 3 t (ix2 0 n) = (memArgs m c).g n := by
  rw [← V_gain m c]
  blk_ext [iblk, idx t]

theorem pay1_of {A : Args 2816} {t : Fin cfg0.N} {a : Vec Ideal S256x2816 .bf16} {w : Vec Ideal S2816x1024 .bf16}
    (ha : ∀ r j, a (ix2 r j) = A.a (row t.val t.isLt r) j) (hw : ∀ j n, w (ix2 j n) = A.w j n) (r : Fin 256) (n : Fin 1024) :
    k0_pay1 a w (ix2 r n) = proj A (row t.val t.isLt r) n := by
  rw [pay1_at]
  simp only [ha, hw]
  rfl

theorem pay2_of {A : Args 2816} {t : Fin cfg0.N} {a : Vec Ideal S256x2816 .bf16} {w : Vec Ideal S2816x1024 .bf16} {x : Vec Ideal S256x1024 .f32}
    {g : Vec Ideal S1x1024 .f32} (ha : ∀ r j, a (ix2 r j) = A.a (row t.val t.isLt r) j) (hw : ∀ j n, w (ix2 j n) = A.w j n)
    (hx : ∀ r n, x (ix2 r n) = A.x (row t.val t.isLt r) n) (hg : ∀ n, g (ix2 0 n) = A.g n) (r : Fin 256) (n : Fin 1024) :
    k0_pay2 a w x g (ix2 r n) = out A (row t.val t.isLt r) n := by
  rw [pay2_at]
  simp only [pay1_of ha hw, hx, hg]
  rfl

theorem proj_at (t : Fin cfg0.N) (r : Fin 256) (n : Fin 1024) :
    out0_4 (iblk m c 0 t) (iblk m c 1 t) (iblk m c 2 t) (iblk m c 3 t) (ix2 r n) = proj (memArgs m c) (row t.val t.isLt r) n := by
  frame_out
  exact pay1_of (blk0 m c t) (blk1 m c t) r n

theorem out_at (t : Fin cfg0.N) (r : Fin 256) (n : Fin 1024) :
    out0_5 (iblk m c 0 t) (iblk m c 1 t) (iblk m c 2 t) (iblk m c 3 t) (ix2 r n) = out (memArgs m c) (row t.val t.isLt r) n := by
  frame_out
  exact pay2_of (blk0 m c t) (blk1 m c t) (blk2 m c t) (blk3 m c t) r n

theorem proj_arr : (dats m 0 c).arrAt 4 cfg0.N = fun i : S4096x1024.Idx => proj (memArgs m c) (i 0) (i 1) := by
  refine (dats m 0 c).arrAt_eq_of_covers 4 _ (by decide +kernel) fun t hf y => ?_
  have e0 : win0_4.index t 0 = t.val := by rw [(idx t).2.2.2.2.1]; rfl
  have e1 : win0_4.index t 1 = 0 := by rw [(idx t).2.2.2.2.1]; rfl
  have h0 : (win0_4.blk t).view.emb y 0 = row t.val t.isLt (y 0) := Fin.ext (by blk_simp; rw [e0]; simp only [row])
  have h1 : (win0_4.blk t).view.emb y 1 = y 1 := Fin.ext (by blk_simp; rw [e1]; omega)
  blk_simp
  rw [after0_4, h0, h1]
  obtain ⟨r, n, rfl⟩ : ∃ (r : Fin 256) (n : Fin 1024), y = ix2 r n := ⟨_, _, eq_ix2 y⟩
  exact proj_at m c t r n

theorem out_arr : (dats m 0 c).arrAt 5 cfg0.N = fun i : S4096x1024.Idx => out (memArgs m c) (i 0) (i 1) := by
  refine (dats m 0 c).arrAt_eq_of_covers 5 _ (by decide +kernel) fun t hf y => ?_
  have e0 : win0_5.index t 0 = t.val := by rw [(idx t).2.2.2.2.2]; rfl
  have e1 : win0_5.index t 1 = 0 := by rw [(idx t).2.2.2.2.2]; rfl
  have h0 : (win0_5.blk t).view.emb y 0 = row t.val t.isLt (y 0) := Fin.ext (by blk_simp; rw [e0]; simp only [row])
  have h1 : (win0_5.blk t).view.emb y 1 = y 1 := Fin.ext (by blk_simp; rw [e1]; omega)
  blk_simp
  rw [after0_5, h0, h1]
  obtain ⟨r, n, rfl⟩ : ∃ (r : Fin 256) (n : Fin 1024), y = ix2 r n := ⟨_, _, eq_ix2 y⟩
  exact out_at m c t r n

theorem run_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = (fun i : S4096x1024.Idx => proj (memArgs m c) (i 0) (i 1))
      ∧ r.2.mem ((c.tc : Thread nD τ).loc main_v1_1) = (fun i : S4096x1024.Idx => out (memArgs m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (proj_arr m c), (h c).2.1.trans (out_arr m c), (h c).2.2⟩) (Cert.Kernel6Ideal.Value.run_blocks m ρ)

end Kernel

section Reference

open Cert.Reference6Ideal Cert.Reference6Ideal.Gen Cert.Reference6Ideal.Read

variable (x0 : Vec Ideal S4096x2816 .bf16) (x1 : Vec Ideal S2816x1024 .bf16) (x2 : Vec Ideal S4096x1024 .f32) (x3 : Vec Ideal S1024 .f32)

theorem v2_at (t : Fin 4096) (n : Fin 1024) : val_main_v2 (F := Ideal) x0 x1 (ix2 t n) = proj (args x0 x1 x2 x3) t n := by
  pointwise [val_main_v2, val_main_v1, val_main_v0]
  rfl

theorem v10_at (t : Fin 4096) (z : Fin 1) : val_main_v10 (F := Ideal) x0 x1 (ix2 t z) = rowInv (proj (args x0 x1 x2 x3) t) := by
  unfold rowInv rowMsq
  simp only [← v2_at]
  pointwise [val_main_v10, val_main_v9, val_main_v8, val_main_v7, val_main_v6, val_main_v5, val_main_v4, val_main_v3, val_main_cst, val_main_cst_0, val_main_cst_1]
  rfl

theorem v16_at (t : Fin 4096) (n : Fin 1024) : val_main_v16 (F := Ideal) x0 x1 x2 x3 (ix2 t n) = out (args x0 x1 x2 x3) t n := by
  unfold out
  rw [← v10_at x0 x1 x2 x3 t 0, ← v2_at]
  pointwise [val_main_v16, val_main_v15, val_main_v14, val_main_v13, val_main_v12, val_main_v11]
  rfl

theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = (fun i : S4096x1024.Idx => proj (args (m ((c.tc : Thread nD τ).loc main_arg0)) (m ((c.tc : Thread nD τ).loc main_arg1)) (m ((c.tc : Thread nD τ).loc main_arg2)) (m ((c.tc : Thread nD τ).loc main_arg3))) (i 0) (i 1))
      ∧ r.2.mem ((c.tc : Thread nD τ).loc main_v16) = (fun i : S4096x1024.Idx => out (args (m ((c.tc : Thread nD τ).loc main_arg0)) (m ((c.tc : Thread nD τ).loc main_arg1)) (m ((c.tc : Thread nD τ).loc main_arg2)) (m ((c.tc : Thread nD τ).loc main_arg3))) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).1.trans (val_main_v2_eq ..)).trans (funext fun i => (congrArg _ (eq_ix2 i)).trans (v2_at _ _ _ _ _ _)),
      ((h c).2.1.trans (val_main_v16_eq ..)).trans (funext fun i => (congrArg _ (eq_ix2 i)).trans (v16_at _ _ _ _ _ _)),
      (h c).2.2⟩) (Cert.Reference6Ideal.Value.run m ρ)

end Reference

theorem algebraic : Cert.algebraic_Kernel6Ideal_Reference6Ideal (hKernel6Ideal := Cert.Kernel6Ideal.Gen.facts)
    (hReference6Ideal := Cert.Reference6Ideal.Gen.facts) := by
  intro m g m' g' _ hagree
  refine ⟨_, _, run_kernel m g, (θ_run _ _ _).mono (fun r h c => ?_) (run_reference m' g')⟩
  obtain ⟨a0, a1, a2, a3⟩ := hagree c
  obtain ⟨h0, h1, hk⟩ := h c
  rw [a0, a1, a2, a3] at h0 h1
  exact ⟨h0, h1, hk⟩

theorem frame_reference : Cert.quiescent_Reference6Ideal (hReference6Ideal := Cert.Reference6Ideal.Gen.facts) := by
  intro m g _
  exact (θ_run _ _ _).mono (fun r h => ⟨fun c => (h c).2.2, sem_eq_zero_of_no_sems (by decide) r.2⟩) (run_reference m g)

end Cert.Down

end
-- ==== Proof.UpStrip.lean ====
/-
  The pre-norm, the up projection, its convolution and gate: what both programs compute of their five arguments, and
  what one strip of 128 lanes of a 256-row tile stores. The kernel multiplies a tile's normalised rows by the four column
  blocks of the weights, then takes its lanes in strips: the convolution reads the tile's own rows of the first half and
  the last eight rows of the tile before it.
-/
module

public import proofs.«01_k».proof.Proof.RmsNorm
public import proofs.«01_k».proof.Proof.Gen.Kernel7Ideal.Skeleton
public import Idealize.ShloMosaic.Lib.Pipeline.ValueKit
public import Idealize.ShloMosaic.Lib.Pipeline.ReadBack
public import Idealize.ShloMosaic.Lib.IdealHost

@[expose] public section

set_option maxRecDepth 16384

noncomputable section

namespace Cert.Up

open Idealize.ShloMosaic Idealize.ShloMosaic.TcCoe Cert.FfnGrad

/-- The arguments as functions of their coordinates: the norm's input and gain, the weights in four blocks of columns,
and the convolution's taps and bias. -/
structure Args where
  x : Fin 4096 → Fin 1024 → EReal
  g : Fin 1024 → EReal
  w : Fin 4 → Fin 1024 → Fin 1408 → EReal
  k : Fin 3 → Fin 2816 → EReal
  b : Fin 2816 → EReal

variable (A : Args)

/-- The normalised rows. -/
def hn (t : Fin 4096) (n : Fin 1024) : EReal := A.x t n * rowInv (A.x t) * A.g n

/-- Half `p` of the projection: two blocks of columns to each half. -/
def up (p : Fin 2) (t : Fin 4096) (c : Fin 2816) : EReal :=
  ∑ n, hn A t n * A.w ⟨p.val * 2 + c.val / 1408, by omega⟩ n ⟨c.val % 1408, by omega⟩

/-- The convolution's input `k` rows back, zero before the sequence. -/
def inp (k : ℕ) (t : Fin 4096) (c : Fin 2816) : EReal := if h : k ≤ t.val then up A 0 ⟨t.val - k, by omega⟩ c else 0

def gate (t : Fin 4096) (c : Fin 2816) : EReal :=
  inp A 2 t c * A.k 0 c + inp A 1 t c * A.k 1 c + inp A 0 t c * A.k 2 c + A.b c

def act (t : Fin 4096) (c : Fin 2816) : EReal := gate A t c * Ideal.logistic (gate A t c) * up A 1 t c

/-- Row `t` of tile `T`. -/
def row (T : Fin 16) (t : Fin 256) : Fin 4096 := ⟨T.val * 256 + t.val, by omega⟩

/-- Lane `c` of the strip at offset `o`. -/
def lane (o : ℕ) (ho : o + 128 ≤ 2816) (c : Fin 128) : Fin 2816 := ⟨o + c.val, by omega⟩

open Cert.Kernel7Ideal Cert.Kernel7Ideal.Gen

/-! ## The projection -/

theorem pay3_at (j : Fin 8) (l : Fin 2816) : (k0_pay3 (F := Ideal)) (ix2 j l) = 0 := by
  pointwise [k0_pay3]

theorem pay4_at (X : Vec Ideal S256x1024 .f32) (G : Vec Ideal S1x1024 .f32) (r : Fin 256) (n : Fin 1024) :
    k0_pay4 X G (ix2 r n) = X (ix2 r n) * (rowInv fun n => X (ix2 r n)) * G (ix2 0 n) := by
  unfold rowInv rowMsq
  pointwise [k0_pay4]
  rfl

theorem pay5_at (X : Vec Ideal S256x1024 .f32) (G : Vec Ideal S1x1024 .f32) (W : Vec Ideal S1x1024x1408 .bf16) (z : Fin 1) (r : Fin 256) (j : Fin 1408) :
    k0_pay5 X G W (ix3 z r j) = ∑ n, k0_pay4 X G (ix2 r n) * W (ix3 0 n j) := by
  unfold k0_pay5
  generalize k0_pay4 X G = h
  pointwise []

theorem pay7_at (X : Vec Ideal S256x1024 .f32) (G : Vec Ideal S1x1024 .f32) (W : Vec Ideal S1x1024x1408 .bf16) (z : Fin 1) (r : Fin 256) (j : Fin 1408) :
    k0_pay7 (k0_pay6 X G W) (ix3 z r j) = ∑ n, k0_pay4 X G (ix2 r n) * W (ix3 0 n j) := by
  unfold k0_pay7 k0_pay6
  generalize k0_pay4 X G = h
  pointwise []

theorem pay62_at (h : FVec Ideal S256x1024 .bf16) (W : Vec Ideal S1x1024x1408 .bf16) (z : Fin 1) (r : Fin 256) (j : Fin 1408) :
    k0_pay62 h W (ix3 z r j) = ∑ n, h (ix2 r n) * W (ix3 0 n j) := by
  pointwise [k0_pay62]

theorem pay63_at (h : FVec Ideal S256x1024 .bf16) (W : Vec Ideal S1x1024x1408 .bf16) (z : Fin 1) (r : Fin 256) (j : Fin 1408) :
    k0_pay63 h W (ix3 z r j) = ∑ n, h (ix2 r n) * W (ix3 0 n j) := by
  pointwise [k0_pay63]

/-! ## One strip -/

section strip

variable (w0 w1 w2 cb : Vec Ideal S1x128 .f32) (gp u1 : Vec Ideal S1x256x128 .bf16) (tl : Vec Ideal S8x128 .f32)

/-- The convolution's input `k` rows back within one strip of a tile: the tile's own rows, else the rows before it. -/
def gin (k : ℕ) (hk : k ≤ 2) (t : Fin 256) (c : Fin 128) : EReal :=
  if h : k ≤ t.val then gp (ix3 0 ⟨t.val - k, by omega⟩ c) else tl (ix2 ⟨8 + t.val - k, by omega⟩ c)

def sgate (t : Fin 256) (c : Fin 128) : EReal :=
  gin gp tl 2 (by decide) t c * w0 (ix2 0 c) + gin gp tl 1 (by decide) t c * w1 (ix2 0 c) + gin gp tl 0 (by decide) t c * w2 (ix2 0 c) + cb (ix2 0 c)

theorem pay8_at (t : Fin 256) (c : Fin 128) : k0_pay8 gp (ix2 t c) = gp (ix3 0 t c) := by
  pointwise [k0_pay8]

theorem pay18_at (j : Fin 264) (c : Fin 128) : k0_pay18 gp tl (ix2 j c) =
    if h : j.val < 8 then tl (ix2 ⟨j.val, h⟩ c) else gp (ix3 0 ⟨j.val - 8, by omega⟩ c) := by
  pointwise [k0_pay18, k0_pay17]

/-- The rotated rows, `k` rows back. -/
theorem back_at (k : ℕ) (hk : k ≤ 2) (t : Fin 256) (c : Fin 128) (l : Fin 264) (hl : l.val = 8 + t.val - k) :
    k0_pay18 gp tl (ix2 l c) = gin gp tl k hk t c := by
  unfold gin
  rw [pay18_at]
  by_cases h : k ≤ t.val
  · rw [dif_neg (by omega), dif_pos h]
    exact congrArg gp (congrArg (ix3 0 · c) (Fin.ext (by show l.val - 8 = t.val - k; omega)))
  · rw [dif_pos (by omega), dif_neg h]
    exact congrArg tl (congrArg (ix2 · c) (Fin.ext hl))

theorem gate_at (t : Fin 256) (c : Fin 128) :
    gp (ix3 0 t c) * w2 (ix2 0 c) + k0_pay18 gp tl (ix2 ⟨(8 + t.val + 264 - 1) % 264, by omega⟩ c) * w1 (ix2 0 c)
        + k0_pay18 gp tl (ix2 ⟨(8 + t.val + 264 - 2) % 264, by omega⟩ c) * w0 (ix2 0 c) + cb (ix2 0 c)
      = sgate w0 w1 w2 cb gp tl t c := by
  rw [back_at gp tl 1 (by decide) t c _ (by show (8 + t.val + 264 - 1) % 264 = 8 + t.val - 1; omega),
    back_at gp tl 2 (by decide) t c _ (by show (8 + t.val + 264 - 2) % 264 = 8 + t.val - 2; omega)]
  refine congrArg (· + cb (ix2 0 c)) ?_
  rw [add_comm, add_comm (gp _ * _), ← add_assoc]
  rfl

theorem pay10_at (t : Fin 256) (c : Fin 128) : k0_pay10 (k0_pay9 gp tl w2 w1 w0 cb) u1 (ix2 t c)
    = sgate w0 w1 w2 cb gp tl t c * Ideal.logistic (sgate w0 w1 w2 cb gp tl t c) * u1 (ix3 0 t c) := by
  rw [← gate_at]
  unfold k0_pay10 k0_pay9
  have e : concatenate S264x128 0 [⟨S8x128, tl⟩, ⟨S256x128, k0_pay8 gp⟩] concatenates_S8x128_S256x128_S264x128_d0 = k0_pay18 gp tl := rfl
  simp only [e]
  generalize k0_pay18 gp tl = q
  pointwise [k0_pay8]
  rw [zero_sub]
  rfl

theorem pay11_at (j : Fin 8) (c : Fin 128) : k0_pay11 (k0_pay8 gp) (ix2 j c) = gp (ix3 0 ⟨248 + j.val, by omega⟩ c) := by
  pointwise [k0_pay11, k0_pay8]

end strip

end Cert.Up
-- ==== Proof.UpTile.lean ====
/-
  From one strip to one tile: a strip's loads are lanes of the projection the tile has just stored and of the taps'
  blocks, so what the strip stores is a block of the tile's activation and of the rows handed to the next tile.
-/
module

public import proofs.«01_k».proof.Proof.UpStrip

@[expose] public section

set_option maxRecDepth 16384

noncomputable section

namespace Cert.Up

open Idealize.ShloMosaic Idealize.ShloMosaic.TcCoe Cert.FfnGrad Cert.Kernel7Ideal Cert.Kernel7Ideal.Gen

/-- What one grid point's blocks hold: tile `T` of the arguments. -/
structure Holds (A : Args) (T : Fin 16) (X : Vec Ideal S256x1024 .f32) (G : Vec Ideal S1x1024 .f32) (W : Vec Ideal S4x1024x1408 .bf16)
    (K : Vec Ideal S8x2816 .f32) (B : Vec Ideal S1x2816 .f32) : Prop where
  x : ∀ r n, X (ix2 r n) = A.x (row T r) n
  g : ∀ n, G (ix2 0 n) = A.g n
  w : ∀ q n j, W (ix3 q n j) = A.w q n j
  taps : ∀ (k : Fin 3) c, K (ix2 ⟨k.val, by omega⟩ c) = A.k k c
  bias : ∀ c, B (ix2 0 c) = A.b c

/-- The rows a tile is handed from the tile before it: the last eight of that tile's first half, zero before the sequence. -/
def Tail (A : Args) (T : Fin 16) (tl : Vec Ideal S8x2816 .f32) : Prop :=
  ∀ (j : Fin 8) c, tl (ix2 j c) = if h : 0 < T.val then up A 0 ⟨T.val * 256 - 8 + j.val, by omega⟩ c else 0

/-- The tile's block of the projection. -/
def upT (A : Args) (T : Fin 16) (i : S2x256x2816.Idx) : EReal := up A (i 0) (row T (i 1)) (i 2)

/-- The tile's block of the activation. -/
def actT (A : Args) (T : Fin 16) (i : S256x2816.Idx) : EReal := act A (row T (i 0)) (i 1)

/-- The rows the tile hands on. -/
def tailT (A : Args) (T : Fin 16) (i : S8x2816.Idx) : EReal := up A 0 (row T ⟨248 + (i 0).val, by have := (i 0).isLt; simp at this; omega⟩) (i 1)

/-- What one store of the projection holds: half `p`, columns `q` to `q + 1407`. -/
def Block (A : Args) (T : Fin 16) (p : ℕ) (hp : p < 2) (q : ℕ) (hq : q + 1408 ≤ 2816) (w : Vec Ideal S1x256x1408 .bf16) : Prop :=
  ∀ (z : Fin 1) t (j : Fin 1408), w (ix3 z t j) = up A ⟨p, hp⟩ (row T t) ⟨q + j.val, by omega⟩

section blocks

variable {A : Args} {T : Fin 16} {X : Vec Ideal S256x1024 .f32} {G : Vec Ideal S1x1024 .f32} {W : Vec Ideal S4x1024x1408 .bf16}
    {K : Vec Ideal S8x2816 .f32} {B : Vec Ideal S1x2816 .f32} (H : Holds A T X G W K B)

theorem ld_block (W : Vec Ideal S4x1024x1408 .bf16) (q : ℕ) (hq : q < 4) (i) (n : Fin 1024) (j : Fin 1408) :
    View.ld W (Rect.unit (s := S4x1024x1408) ![q, 0, 0] S1x1024x1408.size i) (ix3 0 n j) = W (ix3 ⟨q, hq⟩ n j) := by
  refine congrArg W (funext fun a => Fin.ext ?_)
  match a with
  | 0 => simp [Rect.emb, Rect.unit]
  | 1 => simp [Rect.emb, Rect.unit]
  | 2 => simp [Rect.emb, Rect.unit]

include H

theorem hn_of (r : Fin 256) (n : Fin 1024) : k0_pay4 X G (ix2 r n) = hn A (row T r) n := by
  rw [pay4_at]
  simp only [H.x, H.g]
  rfl

/-- One product of the tile's rows and a column block of the weights. -/
theorem prod_of {w : Vec Ideal S1x256x1408 .bf16} (p : ℕ) (hp : p < 2) (h : ℕ) (hh : h < 2) (i)
    (hw : ∀ (z : Fin 1) r j, w (ix3 z r j) = ∑ n, k0_pay4 X G (ix2 r n) * View.ld W (Rect.unit (s := S4x1024x1408) ![p * 2 + h, 0, 0] S1x1024x1408.size i) (ix3 0 n j)) :
    Block A T p hp (h * 1408) (by omega) w := by
  intro z t j
  rw [hw]
  simp only [ld_block W (p * 2 + h) (by omega), hn_of H, H.w]
  refine Finset.sum_congr rfl fun n _ => congrArg (hn A (row T t) n * ·) ?_
  refine congrArg₂ (fun q j => A.w q n j) (Fin.ext ?_) (Fin.ext ?_)
  · show p * 2 + h = p * 2 + (h * 1408 + j.val) / 1408; omega
  · show j.val = (h * 1408 + j.val) % 1408; omega

theorem block5 (i) : Block A T 0 (by decide) 0 (by decide) (k0_pay5 X G (View.ld W (Rect.unit ![0, 0, 0] S1x1024x1408.size i))) :=
  prod_of H 0 (by decide) 0 (by decide) i fun z r j => pay5_at X G _ z r j
theorem block7 (i) : Block A T 1 (by decide) 0 (by decide) (k0_pay7 (k0_pay6 X G (View.ld W (Rect.unit ![2, 0, 0] S1x1024x1408.size i)))) :=
  prod_of H 1 (by decide) 0 (by decide) i fun z r j => pay7_at X G _ z r j
theorem block62 (i) : Block A T 0 (by decide) 1408 (by decide) (k0_pay62 (k0_pay4 X G) (View.ld W (Rect.unit ![1, 0, 0] S1x1024x1408.size i))) :=
  prod_of H 0 (by decide) 1 (by decide) i fun z r j => pay62_at (k0_pay4 X G) _ z r j
theorem block63 (i) : Block A T 1 (by decide) 1408 (by decide) (k0_pay63 (k0_pay4 X G) (View.ld W (Rect.unit ![3, 0, 0] S1x1024x1408.size i))) :=
  prod_of H 1 (by decide) 1 (by decide) i fun z r j => pay63_at (k0_pay4 X G) _ z r j

end blocks

/-- A store of the projection is a block of the tile's. -/
theorem Block.piece {A : Args} {T : Fin 16} {p : ℕ} {hp : p < 2} {q : ℕ} {hq : q + 1408 ≤ 2816} {w : Vec Ideal S1x256x1408 .bf16}
    (h : Block A T p hp q hq w) (i) (y : S1x256x1408.Idx) :
    w y = upT A T ((Rect.unit (s := S2x256x2816) ![p, 0, q] S1x256x1408.size i).emb y) := by
  obtain ⟨z, t, j, rfl⟩ : ∃ z t j, y = ix3 z t j := ⟨_, _, _, eq_ix3 y⟩
  have e : (Rect.unit (s := S2x256x2816) ![p, 0, q] S1x256x1408.size i).emb (ix3 z t j) = ix3 ⟨p, hp⟩ t ⟨q + j.val, by omega⟩ := by
    funext a
    apply Fin.ext
    match a with
    | 0 => simp [Rect.emb, Rect.unit]
    | 1 => simp [Rect.emb, Rect.unit]
    | 2 => simp [Rect.emb, Rect.unit]
  rw [e]
  exact h z t j

/-- A strip read back from the last store of the projection. -/
theorem Block.read {A : Args} {T : Fin 16} {p : ℕ} {hp : p < 2} {q : ℕ} {hq : q + 1408 ≤ 2816} {w : Vec Ideal S1x256x1408 .bf16}
    (h : Block A T p hp q hq w) {sig : RefSig} {κ : Kind} {sp} (v : View sig κ sp S2x256x2816 .bf16) (L : List (View.Piece (Elt Ideal) S2x256x2816 .bf16))
    {o : ℕ} (ho : o + 128 ≤ 2816) (h0 : q ≤ o) (h1 : o + 128 ≤ q + 1408) (i) (i') (z : Fin 1) (t : Fin 256) (c : Fin 128) :
    v.readCov (⟨Rect.unit (s := S2x256x2816) ![p, 0, q] S1x256x1408.size i, w⟩ :: L) (Rect.unit (s := S2x256x2816) ![p, 0, o] S1x256x128.size i').toLoadRect (ix3 z t c)
      = up A ⟨p, hp⟩ (row T t) (lane o ho c) := by
  rw [View.readCov_eq_canon']
  have e : (Rect.unit (s := S2x256x2816) ![p, 0, o] S1x256x128.size i').toLoadRect.idx (ix3 z t c)
      = (Rect.unit (s := S2x256x2816) ![p, 0, q] S1x256x1408.size i).emb (ix3 z t ⟨o + c.val - q, by omega⟩) := by
    funext a
    apply Fin.ext
    match a with
    | 0 => simp [Rect.emb, Rect.unit, Rect.toLoadRect, LoadRect.idx]
    | 1 => simp [Rect.emb, Rect.unit, Rect.toLoadRect, LoadRect.idx]
    | 2 => simp [Rect.emb, Rect.unit, Rect.toLoadRect, LoadRect.idx]; omega
  show View.canon _ _ = _
  rw [e, View.canon_cons_emb, h]
  exact congrArg (up A _ _) (Fin.ext (by show q + (o + c.val - q) = o + c.val; omega))

section strip

variable {A : Args} {T : Fin 16} {K : Vec Ideal S8x2816 .f32} {B : Vec Ideal S1x2816 .f32} {tl : Vec Ideal S8x2816 .f32}

/-- What the loads of one strip hold: lanes `o` to `o + 127` of tile `T`. -/
structure Loads (A : Args) (T : Fin 16) (o : ℕ) (ho : o + 128 ≤ 2816) (w0 w1 w2 cb : Vec Ideal S1x128 .f32) (gp u1 : Vec Ideal S1x256x128 .bf16)
    (tl : Vec Ideal S8x128 .f32) : Prop where
  w0 : ∀ c, w0 (ix2 0 c) = A.k 0 (lane o ho c)
  w1 : ∀ c, w1 (ix2 0 c) = A.k 1 (lane o ho c)
  w2 : ∀ c, w2 (ix2 0 c) = A.k 2 (lane o ho c)
  cb : ∀ c, cb (ix2 0 c) = A.b (lane o ho c)
  gp : ∀ t c, gp (ix3 0 t c) = up A 0 (row T t) (lane o ho c)
  u1 : ∀ t c, u1 (ix3 0 t c) = up A 1 (row T t) (lane o ho c)
  tl : ∀ j c, tl (ix2 j c) = if h : 0 < T.val then up A 0 ⟨T.val * 256 - 8 + j.val, by omega⟩ (lane o ho c) else 0

variable {o : ℕ} {ho : o + 128 ≤ 2816}

theorem gin_eq {w0 w1 w2 cb : Vec Ideal S1x128 .f32} {gp u1 : Vec Ideal S1x256x128 .bf16} {tl : Vec Ideal S8x128 .f32}
    (S : Loads A T o ho w0 w1 w2 cb gp u1 tl) (k : ℕ) (hk : k ≤ 2) (t : Fin 256) (c : Fin 128) : gin gp tl k hk t c = inp A k (row T t) (lane o ho c) := by
  unfold gin inp
  by_cases h : k ≤ t.val
  · rw [dif_pos h, dif_pos (by simp only [row]; omega), S.gp]
    exact congrArg (up A 0 · _) (Fin.ext (by simp only [row]; omega))
  · rw [dif_neg h, S.tl]
    by_cases hT : 0 < T.val
    · rw [dif_pos hT, dif_pos (by simp only [row]; omega)]
      exact congrArg (up A 0 · _) (Fin.ext (by simp only [row]; omega))
    · rw [dif_neg hT, dif_neg (by simp only [row]; omega)]

theorem act_piece {w0 w1 w2 cb : Vec Ideal S1x128 .f32} {gp u1 : Vec Ideal S1x256x128 .bf16} {tl : Vec Ideal S8x128 .f32}
    (S : Loads A T o ho w0 w1 w2 cb gp u1 tl) (i) (y : S256x128.Idx) :
    k0_pay10 (k0_pay9 gp tl w2 w1 w0 cb) u1 y = actT A T ((Rect.unit (s := S256x2816) ![0, o] S256x128.size i).emb y) := by
  obtain ⟨t, c, rfl⟩ : ∃ t c, y = ix2 t c := ⟨_, _, eq_ix2 y⟩
  have e : (Rect.unit (s := S256x2816) ![0, o] S256x128.size i).emb (ix2 t c) = ix2 t (lane o ho c) := by
    funext a
    apply Fin.ext
    match a with
    | 0 => simp [Rect.emb, Rect.unit]
    | 1 => simp [Rect.emb, Rect.unit, lane]
  rw [pay10_at, e]
  simp only [sgate, gin_eq S, S.w0, S.w1, S.w2, S.cb, S.u1]
  rfl

theorem tailT_at (j : Fin 8) (c : Fin 128) (q : S8x2816.Idx) (h : q = ix2 j (lane o ho c)) : tailT A T q = up A 0 (row T ⟨248 + j.val, by omega⟩) (lane o ho c) := by
  subst h
  rfl

theorem tail_piece {gp : Vec Ideal S1x256x128 .bf16} (h : ∀ t c, gp (ix3 0 t c) = up A 0 (row T t) (lane o ho c)) (i) (y : S8x128.Idx) :
    k0_pay11 (k0_pay8 gp) y = tailT A T ((Rect.unit (s := S8x2816) ![0, o] S8x128.size i).emb y) := by
  obtain ⟨j, c, rfl⟩ : ∃ j c, y = ix2 j c := ⟨_, _, eq_ix2 y⟩
  refine (pay11_at _ j c).trans ((h _ c).trans (tailT_at j c _ ?_).symm)
  funext a
  apply Fin.ext
  match a with
  | 0 => simp [Rect.emb, Rect.unit]
  | 1 => simp [Rect.emb, Rect.unit, lane]

variable {sig : RefSig} {κ : Kind} {sp : Space} {v : View sig κ sp S2x256x2816 .bf16} {L0 L1 : List (View.Piece (Elt Ideal) S2x256x2816 .bf16)} {q : ℕ} {hq : q + 1408 ≤ 2816}
    {b0 b1 : Vec Ideal S1x256x1408 .bf16} {j0 : ∀ a, (![0, 0, q] : Fin 3 → ℕ) a + S1x256x1408.size a ≤ S2x256x2816.size a}
    {j1 : ∀ a, (![1, 0, q] : Fin 3 → ℕ) a + S1x256x1408.size a ≤ S2x256x2816.size a}
    {i0 : ∀ a, (![0, o] : Fin 2 → ℕ) a + S1x128.size a ≤ S8x2816.size a} {i1 : ∀ a, (![1, o] : Fin 2 → ℕ) a + S1x128.size a ≤ S8x2816.size a}
    {i2 : ∀ a, (![2, o] : Fin 2 → ℕ) a + S1x128.size a ≤ S8x2816.size a}
    {i3 : ∀ a, (![0, o] : Fin 2 → ℕ) a + S1x128.size a ≤ S1x2816.size a}
    {i4 : ∀ a, (![0, o] : Fin 2 → ℕ) a + S8x128.size a ≤ S8x2816.size a}
    {i5 : ∀ a, (![0, 0, o] : Fin 3 → ℕ) a + S1x256x128.size a ≤ S2x256x2816.size a}
    {i6 : ∀ a, (![1, 0, o] : Fin 3 → ℕ) a + S1x256x128.size a ≤ S2x256x2816.size a}
    {i7 : ∀ a, (![0, o] : Fin 2 → ℕ) a + S256x128.size a ≤ S256x2816.size a}

theorem loads (hK : ∀ (k : Fin 3) c, K (ix2 ⟨k.val, by omega⟩ c) = A.k k c) (hB : ∀ c, B (ix2 0 c) = A.b c) (ht : Tail A T tl)
    (h0 : Block A T 0 (by decide) q hq b0) (h1 : Block A T 1 (by decide) q hq b1) (ho : o + 128 ≤ 2816) (hl : q ≤ o) (hr : o + 128 ≤ q + 1408) :
    Loads A T o ho (View.ld K (Rect.unit ![0, o] S1x128.size i0)) (View.ld K (Rect.unit ![1, o] S1x128.size i1)) (View.ld K (Rect.unit ![2, o] S1x128.size i2))
      (View.ld B (Rect.unit ![0, o] S1x128.size i3))
      (v.readCov (⟨Rect.unit (s := S2x256x2816) ![0, 0, q] S1x256x1408.size j0, b0⟩ :: L0) (Rect.unit (s := S2x256x2816) ![0, 0, o] S1x256x128.size i5).toLoadRect)
      (v.readCov (⟨Rect.unit (s := S2x256x2816) ![1, 0, q] S1x256x1408.size j1, b1⟩ :: L1) (Rect.unit (s := S2x256x2816) ![1, 0, o] S1x256x128.size i6).toLoadRect)
      (View.ld tl (Rect.unit ![0, o] S8x128.size i4)) where
  w0 c := by pointwise []; exact hK 0 _
  w1 c := by pointwise []; exact hK 1 _
  w2 c := by pointwise []; exact hK 2 _
  cb c := by pointwise []; exact hB _
  gp t c := h0.read v L0 ho hl hr j0 i5 0 t c
  u1 t c := h1.read v L1 ho hl hr j1 i6 0 t c
  tl j c := by pointwise []; exact ht j _

/-- A strip's store of the activation, put before stores that are blocks of the tile's. -/
theorem act_strip (hK : ∀ (k : Fin 3) c, K (ix2 ⟨k.val, by omega⟩ c) = A.k k c) (hB : ∀ c, B (ix2 0 c) = A.b c) (ht : Tail A T tl)
    (h0 : Block A T 0 (by decide) q hq b0) (h1 : Block A T 1 (by decide) q hq b1) (ho : o + 128 ≤ 2816) (hl : q ≤ o) (hr : o + 128 ≤ q + 1408)
    {L : List (View.Piece (Elt Ideal) S256x2816 .bf16)} (hL : View.PiecesOf (actT A T) L) :
    View.PiecesOf (actT A T) (⟨Rect.unit (s := S256x2816) ![0, o] S256x128.size i7,
      k0_pay10 (k0_pay9 (v.readCov (⟨Rect.unit (s := S2x256x2816) ![0, 0, q] S1x256x1408.size j0, b0⟩ :: L0) (Rect.unit (s := S2x256x2816) ![0, 0, o] S1x256x128.size i5).toLoadRect)
          (View.ld tl (Rect.unit ![0, o] S8x128.size i4)) (View.ld K (Rect.unit ![2, o] S1x128.size i2)) (View.ld K (Rect.unit ![1, o] S1x128.size i1))
          (View.ld K (Rect.unit ![0, o] S1x128.size i0)) (View.ld B (Rect.unit ![0, o] S1x128.size i3)))
        (v.readCov (⟨Rect.unit (s := S2x256x2816) ![1, 0, q] S1x256x1408.size j1, b1⟩ :: L1) (Rect.unit (s := S2x256x2816) ![1, 0, o] S1x256x128.size i6).toLoadRect)⟩ :: L) :=
  ⟨act_piece (loads hK hB ht h0 h1 ho hl hr) i7, hL⟩

/-- A strip's store of the rows handed on. -/
theorem tail_strip (h0 : Block A T 0 (by decide) q hq b0) (ho : o + 128 ≤ 2816) (hl : q ≤ o) (hr : o + 128 ≤ q + 1408)
    {L : List (View.Piece (Elt Ideal) S8x2816 .f32)} (hL : View.PiecesOf (tailT A T) L) :
    View.PiecesOf (tailT A T) (⟨Rect.unit (s := S8x2816) ![0, o] S8x128.size i4,
      k0_pay11 (k0_pay8 (v.readCov (⟨Rect.unit (s := S2x256x2816) ![0, 0, q] S1x256x1408.size j0, b0⟩ :: L0) (Rect.unit (s := S2x256x2816) ![0, 0, o] S1x256x128.size i5).toLoadRect))⟩ :: L) :=
  ⟨tail_piece (fun t c => h0.read v L0 ho hl hr j0 i5 0 t c) i4, hL⟩

end strip

end Cert.Up
-- ==== Proof.Up.lean ====
/-
  The pre-norm, up projection, convolution and gate, over the whole sequence: every grid point leaves its tile of each
  output and hands its last rows on, and the reference computes the same three arrays.
-/
module

public import proofs.«01_k».proof.Defs
public import proofs.«01_k».proof.Proof.UpTile
public import proofs.«01_k».proof.Proof.Strips
public import proofs.«01_k».proof.Proof.Gen.Kernel7
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.ReadBack
public import Idealize.ShloMosaic.Lib.Claim
public import Idealize.ShloMosaic.Lib.Affine
public import Idealize.ShloMosaic.Lib.Decide
public import Idealize.ShloMosaic.Lib.IdealHost
public import Idealize.ShloMosaic.Adequacy
public import Idealize.ShloMosaic.Init

@[expose] public section

set_option maxRecDepth 16384

noncomputable section

namespace Cert.Up

open Idealize.ShloMosaic Idealize.ShloMosaic.TcCoe Idealize.SL.Sem Cert.FfnGrad Cert.KernelIdeal.Grad

def args (x0 : Vec Ideal Cert.Reference7Ideal.S4096x1024 .f32) (x1 : Vec Ideal Cert.Reference7Ideal.S1024 .f32)
    (x2 : Vec Ideal Cert.Reference7Ideal.S4x1024x1408 .bf16) (x3 : Vec Ideal Cert.Reference7Ideal.S3x2816 .f32)
    (x4 : Vec Ideal Cert.Reference7Ideal.S2816 .f32) : Args where
  x t n := x0 (ix2 t n)
  g n := x1 (ix1 n)
  w q n j := x2 (ix3 q n j)
  k k c := x3 (ix2 k c)
  b c := x4 (ix1 c)

section Kernel

open Cert.Kernel7Ideal Cert.Kernel7Ideal.Gen

variable (m : (ℓ : Loc nD τ sig) → Buf (Elt Ideal) ℓ) (c : Dev nD)

/-- The arguments in memory. -/
def memArgs : Args := args (m ((c : Thread nD τ).loc main_arg0)) (m ((c : Thread nD τ).loc main_arg1)) (m ((c : Thread nD τ).loc main_arg2))
  (m ((c : Thread nD τ).loc main_arg3)) (m ((c : Thread nD τ).loc main_arg4))

/-- The tile of a grid point. -/
def tile (t : Fin cfg0.N) : Fin 16 := ⟨t.val, t.isLt⟩

theorem idx : ∀ t : Fin cfg0.N, win0_0.index t = ![t.val, 0] ∧ win0_1.index t = ![0, 0] ∧ win0_2.index t = ![0, 0, 0] ∧ win0_3.index t = ![0, 0]
    ∧ win0_4.index t = ![0, 0] ∧ win0_5.index t = ![0, t.val, 0] ∧ win0_6.index t = ![t.val, 0] ∧ win0_7.index t = ![t.val, 0] :=
  (by decide +kernel : ∀ t : Fin grid0.N, _)

theorem V_gain (n : Fin 1024) : V m c main_v0 (ix2 0 n) = (memArgs m c).g n := by
  have e : V m c main_v0 = shapeCast S1x1024 (m ((c : Thread nD τ).loc main_arg1) : Vec Ideal S1024 .f32) shapeCasts_S1024_S1x1024 := rfl
  rw [e]
  pointwise [memArgs, args]

theorem pad_at (X : Vec Ideal S3x2816 .f32) (z : Vec Ideal S_ .f32) (k : Fin 3) (l : Fin 2816) :
    pad S8x2816 ![0, 0] ![5, 0] ![0, 0] X z pads_S3x2816_S8x2816_050_000 h_S_ (ix2 ⟨k.val, by omega⟩ l) = X (ix2 k l) := by
  pointwise []

/-- The taps are padded to eight rows. -/
theorem V_taps (k : Fin 3) (l : Fin 2816) : V m c main_v1 (ix2 ⟨k.val, by omega⟩ l) = (memArgs m c).k k l := by
  obtain ⟨z, e⟩ : ∃ z : Vec Ideal S_ .f32, V m c main_v1 = pad S8x2816 ![0, 0] ![5, 0] ![0, 0] (m ((c : Thread nD τ).loc main_arg3) : Vec Ideal S3x2816 .f32)
      z pads_S3x2816_S8x2816_050_000 h_S_ := ⟨_, rfl⟩
  rw [e]
  exact pad_at _ z k l

theorem V_bias (l : Fin 2816) : V m c main_v2 (ix2 0 l) = (memArgs m c).b l := by
  have e : V m c main_v2 = shapeCast S1x2816 (m ((c : Thread nD τ).loc main_arg4) : Vec Ideal S2816 .f32) shapeCasts_S2816_S1x2816 := rfl
  rw [e]
  pointwise [memArgs, args]

variable (t : Fin cfg0.N)

theorem blk0 (r : Fin 256) (n : Fin 1024) : iblk m c 0 t (ix2 r n) = (memArgs m c).x (row (tile t) r) n := by
  show _ = m ((c : Thread nD τ).loc main_arg0) (ix2 (row (tile t) r) n)
  blk_ext [iblk, V, idx t, row, tile]

theorem blk1 (n : Fin 1024) : iblk m c 1 t (ix2 0 n) = (memArgs m c).g n := by
  rw [← V_gain m c]
  blk_ext [iblk, idx t]

theorem blk2 (q : Fin 4) (n : Fin 1024) (j : Fin 1408) : iblk m c 2 t (ix3 q n j) = (memArgs m c).w q n j := by
  show _ = m ((c : Thread nD τ).loc main_arg2) (ix3 q n j)
  blk_ext [iblk, V, idx t]

theorem blk3 (k : Fin 3) (l : Fin 2816) : iblk m c 3 t (ix2 ⟨k.val, by omega⟩ l) = (memArgs m c).k k l := by
  rw [← V_taps m c]
  blk_ext [iblk, idx t]

theorem blk4 (l : Fin 2816) : iblk m c 4 t (ix2 0 l) = (memArgs m c).b l := by
  rw [← V_bias m c]
  blk_ext [iblk, idx t]

theorem holds : Holds (memArgs m c) (tile t) (iblk m c 0 t) (iblk m c 1 t) (iblk m c 2 t) (iblk m c 3 t) (iblk m c 4 t) :=
  ⟨blk0 m c t, blk1 m c t, blk2 m c t, blk3 m c t, blk4 m c t⟩

/-- No rows come before the first tile. -/
theorem tail_zero (h : t.val % 16 = 0) : Tail (memArgs m c) (tile t) (k0_pay3 (F := Ideal)) := by
  intro j l
  rw [pay3_at]
  have h0 : ¬ 0 < (tile t).val := by have : t.val < 16 := t.isLt; simp only [tile]; omega
  rw [dif_neg h0]

set_option maxHeartbeats 16000000 in
theorem hn_A (h : t.val % 16 = 0) (r : Fin 256) (n : Fin 1024) : (outsAt0 m c t.val t.isLt).2.1 (ix2 r n) = hn (memArgs m c) (row (tile t) r) n := by
  rw [outsAt0_A m c t h]
  frame_open
  simp (disch := decide) only [↓ View.readCov_skip, ↓ View.readCov_cons_toLoadRect, ↓ View.readCov_fill]
  frame_out
  exact hn_of (holds m c t) r n

set_option maxHeartbeats 16000000 in
theorem hn_B (h : ¬ t.val % 16 = 0) (r : Fin 256) (n : Fin 1024) : (outsAt0 m c t.val t.isLt).2.1 (ix2 r n) = hn (memArgs m c) (row (tile t) r) n := by
  rw [outsAt0_B m c t h]
  frame_open
  simp (disch := decide) only [↓ View.readCov_skip, ↓ View.readCov_cons_toLoadRect, ↓ View.readCov_fill]
  frame_out
  exact hn_of (holds m c t) r n

set_option maxHeartbeats 16000000 in
theorem up_A (h : t.val % 16 = 0) : (outsAt0 m c t.val t.isLt).1 = upT (memArgs m c) (tile t) := by
  rw [outsAt0_A m c t h]
  frame_open
  simp (disch := decide) only [↓ View.readCov_skip, ↓ View.readCov_cons_toLoadRect, ↓ View.readCov_fill]
  frame_out
  refine canon_take (s := S2x256x2816) (e := .bf16) (upT (memArgs m c) (tile t)) 4 _ ?_ (View.cover_of_tiledL _ ![1, 256, 1408] (by rfl))
  exact ⟨(block63 (holds m c t) _).piece inb_S2x256x2816_S1x256x1408_1_0_1408, (block62 (holds m c t) _).piece inb_S2x256x2816_S1x256x1408_0_0_1408,
    (block7 (holds m c t) _).piece inb_S2x256x2816_S1x256x1408_1_0_0, (block5 (holds m c t) _).piece inb_S2x256x2816_S1x256x1408_0_0_0, trivial⟩

set_option maxHeartbeats 16000000 in
theorem up_B (h : ¬ t.val % 16 = 0) : (outsAt0 m c t.val t.isLt).1 = upT (memArgs m c) (tile t) := by
  rw [outsAt0_B m c t h]
  frame_open
  simp (disch := decide) only [↓ View.readCov_skip, ↓ View.readCov_cons_toLoadRect, ↓ View.readCov_fill]
  frame_out
  refine canon_take (s := S2x256x2816) (e := .bf16) (upT (memArgs m c) (tile t)) 4 _ ?_ (View.cover_of_tiledL _ ![1, 256, 1408] (by rfl))
  exact ⟨(block63 (holds m c t) _).piece inb_S2x256x2816_S1x256x1408_1_0_1408, (block62 (holds m c t) _).piece inb_S2x256x2816_S1x256x1408_0_0_1408,
    (block7 (holds m c t) _).piece inb_S2x256x2816_S1x256x1408_1_0_0, (block5 (holds m c t) _).piece inb_S2x256x2816_S1x256x1408_0_0_0, trivial⟩

set_option maxHeartbeats 16000000 in
theorem act_A (h : t.val % 16 = 0) : (outsAt0 m c t.val t.isLt).2.2.1 = actT (memArgs m c) (tile t) := by
  rw [outsAt0_A m c t h]
  frame_open
  simp (disch := decide) only [↓ View.readCov_skip, ↓ View.readCov_cons_toLoadRect, ↓ View.readCov_fill]
  frame_out
  have H := holds m c t
  refine canon_take (s := S256x2816) (e := .bf16) (actT (memArgs m c) (tile t)) 22 _ ?_ (View.cover_of_tiledL _ ![256, 128] (by rfl))
  iterate 11 refine act_strip H.taps H.bias (tail_zero m c t h) (block62 H _) (block63 H _) (by decide) (by decide) (by decide) ?_
  iterate 11 refine act_strip H.taps H.bias (tail_zero m c t h) (block5 H _) (block7 H _) (by decide) (by decide) (by decide) ?_
  exact trivial

set_option maxHeartbeats 16000000 in
theorem tail_A (h : t.val % 16 = 0) : (outsAt0 m c t.val t.isLt).2.2.2 = tailT (memArgs m c) (tile t) := by
  rw [outsAt0_A m c t h]
  frame_open
  simp (disch := decide) only [↓ View.readCov_skip, ↓ View.readCov_cons_toLoadRect, ↓ View.readCov_fill]
  frame_out
  have H := holds m c t
  refine canon_take (s := S8x2816) (e := .f32) (tailT (memArgs m c) (tile t)) 22 _ ?_ (View.cover_of_tiledL _ ![8, 128] (by rfl))
  iterate 11 refine tail_strip (block62 H _) (by decide) (by decide) (by decide) ?_
  iterate 11 refine tail_strip (block5 H _) (by decide) (by decide) (by decide) ?_
  exact trivial

set_option maxHeartbeats 16000000 in
theorem tail_B (h : ¬ t.val % 16 = 0) : (outsAt0 m c t.val t.isLt).2.2.2 = tailT (memArgs m c) (tile t) := by
  rw [outsAt0_B m c t h]
  frame_open
  simp (disch := decide) only [↓ View.readCov_skip, ↓ View.readCov_cons_toLoadRect, ↓ View.readCov_fill]
  frame_out
  have H := holds m c t
  refine canon_take (s := S8x2816) (e := .f32) (tailT (memArgs m c) (tile t)) 22 _ ?_ (View.cover_of_tiledL _ ![8, 128] (by rfl))
  iterate 11 refine tail_strip (block62 H _) (by decide) (by decide) (by decide) ?_
  iterate 11 refine tail_strip (block5 H _) (by decide) (by decide) (by decide) ?_
  exact trivial

theorem tail_eq : (outsAt0 m c t.val t.isLt).2.2.2 = tailT (memArgs m c) (tile t) := by
  by_cases h : t.val % 16 = 0
  · exact tail_A m c t h
  · exact tail_B m c t h

/-- Every later tile is handed the rows before it. -/
theorem tail_prev (h : ¬ t.val % 16 = 0) :
    Tail (memArgs m c) (tile t) (outsAt0 m c (t.val - 1) (Nat.lt_of_le_of_lt (Nat.sub_le _ _) t.isLt)).2.2.2 := by
  intro j l
  have h0 : 0 < (tile t).val := by simp only [tile]; omega
  rw [dif_pos h0]
  refine (congrFun (tail_eq m c ⟨t.val - 1, Nat.lt_of_le_of_lt (Nat.sub_le _ _) t.isLt⟩) (ix2 j l)).trans ?_
  refine congrArg (up (memArgs m c) 0 · l) (Fin.ext ?_)
  show (t.val - 1) * 256 + (248 + j.val) = t.val * 256 - 8 + j.val
  omega

set_option maxHeartbeats 16000000 in
theorem act_B (h : ¬ t.val % 16 = 0) : (outsAt0 m c t.val t.isLt).2.2.1 = actT (memArgs m c) (tile t) := by
  rw [outsAt0_B m c t h]
  frame_open
  simp (disch := decide) only [↓ View.readCov_skip, ↓ View.readCov_cons_toLoadRect, ↓ View.readCov_fill]
  frame_out
  simp only [read_unread_whole]
  have H := holds m c t
  refine canon_take (s := S256x2816) (e := .bf16) (actT (memArgs m c) (tile t)) 22 _ ?_ (View.cover_of_tiledL _ ![256, 128] (by rfl))
  iterate 11 refine act_strip H.taps H.bias (tail_prev m c t h) (block62 H _) (block63 H _) (by decide) (by decide) (by decide) ?_
  iterate 11 refine act_strip H.taps H.bias (tail_prev m c t h) (block5 H _) (block7 H _) (by decide) (by decide) (by decide) ?_
  exact trivial

theorem up_eq : (outsAt0 m c t.val t.isLt).1 = upT (memArgs m c) (tile t) := by
  by_cases h : t.val % 16 = 0
  · exact up_A m c t h
  · exact up_B m c t h

theorem hn_eq (r : Fin 256) (n : Fin 1024) : (outsAt0 m c t.val t.isLt).2.1 (ix2 r n) = hn (memArgs m c) (row (tile t) r) n := by
  by_cases h : t.val % 16 = 0
  · exact hn_A m c t h r n
  · exact hn_B m c t h r n

theorem act_eq : (outsAt0 m c t.val t.isLt).2.2.1 = actT (memArgs m c) (tile t) := by
  by_cases h : t.val % 16 = 0
  · exact act_A m c t h
  · exact act_B m c t h

theorem up_arr : (dats m 0 c).arrAt 5 cfg0.N = fun i : S2x4096x2816.Idx => up (memArgs m c) (i 0) (i 1) (i 2) := by
  refine (dats m 0 c).arrAt_eq_of_covers 5 _ (by decide +kernel) fun t hf y => ?_
  have e0 : win0_5.index t 0 = 0 := by rw [(idx t).2.2.2.2.2.1]; rfl
  have e1 : win0_5.index t 1 = t.val := by rw [(idx t).2.2.2.2.2.1]; rfl
  have e2 : win0_5.index t 2 = 0 := by rw [(idx t).2.2.2.2.2.1]; rfl
  have h0 : (win0_5.blk t).view.emb y 0 = y 0 := Fin.ext (by blk_simp; rw [e0]; omega)
  have h1 : (win0_5.blk t).view.emb y 1 = row (tile t) (y 1) := Fin.ext (by blk_simp; rw [e1]; simp only [row, tile])
  have h2 : (win0_5.blk t).view.emb y 2 = y 2 := Fin.ext (by blk_simp; rw [e2]; omega)
  blk_simp
  rw [after0_5, h0, h1, h2, up_eq]
  rfl

theorem hn_arr : (dats m 0 c).arrAt 6 cfg0.N = fun i : S4096x1024.Idx => hn (memArgs m c) (i 0) (i 1) := by
  refine (dats m 0 c).arrAt_eq_of_covers 6 _ (by decide +kernel) fun t hf y => ?_
  have e0 : win0_6.index t 0 = t.val := by rw [(idx t).2.2.2.2.2.2.1]; rfl
  have e1 : win0_6.index t 1 = 0 := by rw [(idx t).2.2.2.2.2.2.1]; rfl
  have h0 : (win0_6.blk t).view.emb y 0 = row (tile t) (y 0) := Fin.ext (by blk_simp; rw [e0]; simp only [row, tile])
  have h1 : (win0_6.blk t).view.emb y 1 = y 1 := Fin.ext (by blk_simp; rw [e1]; omega)
  blk_simp
  rw [after0_6, h0, h1]
  obtain ⟨r, n, rfl⟩ : ∃ (r : Fin 256) (n : Fin 1024), y = ix2 r n := ⟨_, _, eq_ix2 y⟩
  exact hn_eq m c t r n

theorem act_arr : (dats m 0 c).arrAt 7 cfg0.N = fun i : S4096x2816.Idx => act (memArgs m c) (i 0) (i 1) := by
  refine (dats m 0 c).arrAt_eq_of_covers 7 _ (by decide +kernel) fun t hf y => ?_
  have e0 : win0_7.index t 0 = t.val := by rw [(idx t).2.2.2.2.2.2.2]; rfl
  have e1 : win0_7.index t 1 = 0 := by rw [(idx t).2.2.2.2.2.2.2]; rfl
  have h0 : (win0_7.blk t).view.emb y 0 = row (tile t) (y 0) := Fin.ext (by blk_simp; rw [e0]; simp only [row, tile])
  have h1 : (win0_7.blk t).view.emb y 1 = y 1 := Fin.ext (by blk_simp; rw [e1]; omega)
  blk_simp
  rw [after0_7, h0, h1, act_eq]
  rfl

theorem run_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v3_0) = (fun i : S2x4096x2816.Idx => up (memArgs m c) (i 0) (i 1) (i 2))
      ∧ r.2.mem ((c.tc : Thread nD τ).loc main_v3_1) = (fun i : S4096x1024.Idx => hn (memArgs m c) (i 0) (i 1))
      ∧ r.2.mem ((c.tc : Thread nD τ).loc main_v3_2) = (fun i : S4096x2816.Idx => act (memArgs m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (up_arr m c), (h c).2.1.trans (hn_arr m c), (h c).2.2.1.trans (act_arr m c), (h c).2.2.2⟩)
    (Cert.Kernel7Ideal.Value.run_blocks m ρ)

end Kernel

section Reference

open Cert.Reference7Ideal Cert.Reference7Ideal.Gen Cert.Reference7Ideal.Read

variable (x0 : Vec Ideal S4096x1024 .f32) (x1 : Vec Ideal S1024 .f32) (x2 : Vec Ideal S4x1024x1408 .bf16) (x3 : Vec Ideal S3x2816 .f32) (x4 : Vec Ideal S2816 .f32)

theorem v7_at (t : Fin 4096) (z : Fin 1) : val_main_v7 (F := Ideal) x0 (ix2 t z) = rowInv ((args x0 x1 x2 x3 x4).x t) := by
  unfold rowInv rowMsq
  pointwise [val_main_v7, val_main_v6, val_main_v5, val_main_v4, val_main_v3, val_main_v2, val_main_v1, val_main_v0, val_main_cst, val_main_cst_0, val_main_cst_1, args]
  rfl

theorem v12_at (t : Fin 4096) (n : Fin 1024) : val_main_v12 (F := Ideal) x0 x1 (ix2 t n) = hn (args x0 x1 x2 x3 x4) t n := by
  unfold hn
  rw [← v7_at x0 x1 x2 x3 x4 t 0]
  pointwise [val_main_v12, val_main_v11, val_main_v10, val_main_v9, val_main_v8, args]

theorem v16_at (t : Fin 4096) (j : Fin 5632) : val_main_v16 (F := Ideal) x0 x1 x2 (ix2 t j)
    = ∑ n, hn (args x0 x1 x2 x3 x4) t n * (args x0 x1 x2 x3 x4).w ⟨j.val / 1408, by omega⟩ n ⟨j.val % 1408, by omega⟩ := by
  simp only [← v12_at]
  pointwise [val_main_v16, val_main_v15, val_main_v14, val_main_v13, args]

theorem v17_at (t : Fin 4096) (c : Fin 2816) : val_main_v17 (F := Ideal) x0 x1 x2 (ix2 t c) = up (args x0 x1 x2 x3 x4) 0 t c := by
  have e : val_main_v17 (F := Ideal) x0 x1 x2 (ix2 t c) = val_main_v16 (F := Ideal) x0 x1 x2 (ix2 t ⟨c.val, by omega⟩) := by
    pointwise [val_main_v17]
  rw [e, v16_at _ _ _ x3 x4]
  refine Finset.sum_congr rfl fun n _ => congrArg (hn _ t n * ·) (congrArg₂ (fun q j => (args x0 x1 x2 x3 x4).w q n j) (Fin.ext ?_) (Fin.ext ?_))
  · show c.val / 1408 = 0 * 2 + c.val / 1408; omega
  · rfl

theorem v44_at (t : Fin 4096) (c : Fin 2816) : val_main_v44 (F := Ideal) x0 x1 x2 (ix2 t c) = up (args x0 x1 x2 x3 x4) 1 t c := by
  have e : val_main_v44 (F := Ideal) x0 x1 x2 (ix2 t c) = val_main_v16 (F := Ideal) x0 x1 x2 (ix2 t ⟨2816 + c.val, by omega⟩) := by
    pointwise [val_main_v44]
  rw [e, v16_at _ _ _ x3 x4]
  refine Finset.sum_congr rfl fun n _ => congrArg (hn _ t n * ·) (congrArg₂ (fun q j => (args x0 x1 x2 x3 x4).w q n j) (Fin.ext ?_) (Fin.ext ?_))
  · show (2816 + c.val) / 1408 = 1 * 2 + c.val / 1408; omega
  · show (2816 + c.val) % 1408 = c.val % 1408; omega

/-- Two rows of zeros come before the sequence. -/
theorem v20_at (t : Fin 4096) (c : Fin 2816) : val_main_v20 (F := Ideal) x0 x1 x2 (ix2 t c) = inp (args x0 x1 x2 x3 x4) 2 t c := by
  unfold inp
  simp only [← v17_at]
  generalize hf : val_main_v17 (F := Ideal) x0 x1 x2 = f
  pointwise [val_main_v20, val_main_v19, val_main_v18, val_main_cst_2, hf]
  split <;> split <;> first | rfl | omega

theorem v26_at (t : Fin 4096) (c : Fin 2816) : val_main_v26 (F := Ideal) x0 x1 x2 (ix2 t c) = inp (args x0 x1 x2 x3 x4) 1 t c := by
  unfold inp
  simp only [← v17_at]
  generalize hf : val_main_v17 (F := Ideal) x0 x1 x2 = f
  pointwise [val_main_v26, val_main_v19, val_main_v18, val_main_cst_2, hf]
  split <;> split <;> first | rfl | omega | exact congrArg f (congrArg (ix2 · c) (Fin.ext (by simp only; omega)))

theorem v33_at (t : Fin 4096) (c : Fin 2816) : val_main_v33 (F := Ideal) x0 x1 x2 (ix2 t c) = inp (args x0 x1 x2 x3 x4) 0 t c := by
  unfold inp
  simp only [← v17_at]
  generalize hf : val_main_v17 (F := Ideal) x0 x1 x2 = f
  pointwise [val_main_v33, val_main_v19, val_main_v18, val_main_cst_2, hf]

theorem v42_at (t : Fin 4096) (c : Fin 2816) : val_main_v42 (F := Ideal) x0 x1 x2 x3 x4 (ix2 t c) = gate (args x0 x1 x2 x3 x4) t c := by
  unfold gate
  rw [← v20_at, ← v26_at, ← v33_at]
  pointwise [val_main_v42, val_main_v41, val_main_v40, val_main_v39, val_main_v38, val_main_v37, val_main_v36, val_main_v35, val_main_v34, val_main_v32,
    val_main_v31, val_main_v30, val_main_v29, val_main_v28, val_main_v27, val_main_v25, val_main_v24, val_main_v23, val_main_v22, val_main_v21, args]

theorem v53_at (t : Fin 4096) (c : Fin 2816) : val_main_v53 (F := Ideal) x0 x1 x2 x3 x4 (ix2 t c) = act (args x0 x1 x2 x3 x4) t c := by
  unfold act
  rw [← v42_at, ← v44_at]
  pointwise [val_main_v53, val_main_v45, val_main_v43, val_main_call0_v5, val_main_call0_v4, val_main_call0_v3, val_main_call0_v2, val_main_call0_v1,
    val_main_call0_v0, val_main_call0_cst, val_main_call0_cst_0]
  rfl

theorem v52_at (t : Fin 4096) (n : Fin 1024) : val_main_v52 (F := Ideal) x0 x1 (ix2 t n) = hn (args x0 x1 x2 x3 x4) t n := by
  rw [← v12_at]
  pointwise [val_main_v52]

theorem v51_at (p : Fin 2) (t : Fin 4096) (c : Fin 2816) : val_main_v51 (F := Ideal) x0 x1 x2 (ix3 p t c) = up (args x0 x1 x2 x3 x4) p t c := by
  have h0 := v17_at x0 x1 x2 x3 x4 t c
  have h1 := v44_at x0 x1 x2 x3 x4 t c
  have e0 : val_main_v46 (F := Ideal) x0 x1 x2 = val_main_v17 x0 x1 x2 := rfl
  have e1 : val_main_v47 (F := Ideal) x0 x1 x2 = val_main_v44 x0 x1 x2 := rfl
  have hp : p = 0 ∨ p = 1 := by omega
  generalize val_main_v17 (F := Ideal) x0 x1 x2 = f at h0 e0
  generalize val_main_v44 (F := Ideal) x0 x1 x2 = f' at h1 e1
  rcases hp with rfl | rfl
  · rw [← h0]
    pointwise [val_main_v51, val_main_v50, val_main_v49, val_main_v48, e0, e1]
  · rw [← h1]
    pointwise [val_main_v51, val_main_v50, val_main_v49, val_main_v48, e0, e1]

theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v51) = (fun i : S2x4096x2816.Idx => up (args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (i 0) (i 1) (i 2))
      ∧ r.2.mem ((c.tc : Thread nD τ).loc main_v52) = (fun i : S4096x1024.Idx => hn (args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (i 0) (i 1))
      ∧ r.2.mem ((c.tc : Thread nD τ).loc main_v53) = (fun i : S4096x2816.Idx => act (args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).1.trans (val_main_v51_eq ..)).trans (funext fun i => (congrArg _ (eq_ix3 i)).trans (v51_at _ _ _ _ _ _ _ _)),
      ((h c).2.1.trans (val_main_v52_eq ..)).trans (funext fun i => (congrArg _ (eq_ix2 i)).trans (v52_at _ _ _ _ _ _ _)),
      ((h c).2.2.1.trans (val_main_v53_eq ..)).trans (funext fun i => (congrArg _ (eq_ix2 i)).trans (v53_at _ _ _ _ _ _ _)),
      (h c).2.2.2⟩) (Cert.Reference7Ideal.Value.run m ρ)

end Reference

theorem algebraic : Cert.algebraic_Kernel7Ideal_Reference7Ideal (hKernel7Ideal := Cert.Kernel7Ideal.Gen.facts)
    (hReference7Ideal := Cert.Reference7Ideal.Gen.facts) := by
  intro m g m' g' _ hagree
  refine ⟨_, _, _, run_kernel m g, (θ_run _ _ _).mono (fun r h c => ?_) (run_reference m' g')⟩
  obtain ⟨a0, a1, a2, a3, a4⟩ := hagree c
  obtain ⟨h0, h1, h2, hk⟩ := h c
  rw [a0, a1, a2, a3, a4] at h0 h2
  rw [a0, a1, a2, a3, a4] at h1
  exact ⟨h0, h1, h2, hk⟩

theorem frame_reference : Cert.quiescent_Reference7Ideal (hReference7Ideal := Cert.Reference7Ideal.Gen.facts) := by
  intro m g _
  exact (θ_run _ _ _).mono (fun r h => ⟨fun c => (h c).2.2.2, sem_eq_zero_of_no_sems (by decide) r.2⟩) (run_reference m g)

end Cert.Up

end
-- ==== Proof.PreNorm.lean ====
/-
  The gradient of a pre-norm followed by a product with `N` columns of weights, with respect to the norm's input and
  gain: what the calls that compute it return, as functions of their arguments' coordinates, for any `N`.
-/
module

public import proofs.«01_k».proof.Proof.RmsNorm

@[expose] public section

noncomputable section

namespace Cert.PreNorm

open Idealize.ShloMosaic Cert.FfnGrad

/-- The arguments: the cotangent of the product, the weights, the norm's input and gain, and the residual's gradient. -/
structure Args (N : ℕ) where
  u : Fin 4096 → Fin N → EReal
  w : Fin 1024 → Fin N → EReal
  x : Fin 4096 → Fin 1024 → EReal
  g : Fin 1024 → EReal
  s : Fin 4096 → Fin 1024 → EReal

variable {N : ℕ}

def args (x0 : Vec Ideal ⟨2, ![4096, N]⟩ .bf16) (x1 : Vec Ideal ⟨2, ![1024, N]⟩ .bf16) (x2 : Vec Ideal ⟨2, ![4096, 1024]⟩ .f32)
    (x3 : Vec Ideal ⟨1, ![1024]⟩ .f32) (x4 : Vec Ideal ⟨2, ![4096, 1024]⟩ .f32) : Args N where
  u t j := x0 (ix2 t j)
  w n j := x1 (ix2 n j)
  x t n := x2 (ix2 t n)
  g n := x3 (ix1 n)
  s t n := x4 (ix2 t n)

variable (A : Args N)

/-- The cotangent of the normalised rows, scaled by the gain. -/
def dh (t : Fin 4096) (n : Fin 1024) : EReal := ∑ j, A.u t j * A.w n j

def dx (t : Fin 4096) (n : Fin 1024) : EReal := A.s t n + normGrad (A.x t) (fun j => dh A t j * A.g j) n

def dg (n : Fin 1024) : EReal := ∑ t, dh A t n * (A.x t n * rowInv (A.x t))

/-- The arguments that the norm's gradient reads are real numbers. -/
structure AllReal : Prop where
  u : ∀ t j, IsReal (A.u t j)
  w : ∀ n j, IsReal (A.w n j)
  x : ∀ t n, IsReal (A.x t n)
  g : ∀ n, IsReal (A.g n)

theorem real_dh {A : Args N} (h : AllReal A) (t n) : IsReal (dh A t n) := .sum _ _ fun j => (h.u _ _).mul (h.w _ _)

/-- Row `r` of the 256 of grid point `t`. -/
def row (t : ℕ) (ht : t < 16) (r : Fin 256) : Fin 4096 := ⟨t * 256 + r.val, by omega⟩

/-- What a grid point's rows add to the gain's gradient. -/
def dgT (t : ℕ) (ht : t < 16) (n : Fin 1024) : EReal := ∑ r, dh A (row t ht r) n * (A.x (row t ht r) n * rowInv (A.x (row t ht r)))

end Cert.PreNorm

end
-- ==== Proof.SsdInDx.lean ====
/-
  The gradient of the SSD mixer's pre-norm and input projection with respect to the norm's input and gain. A grid point
  handles 256 rows: their cotangents' product with the weights, the norm's gradient added to the residual's, and the
  rows' part of the gain's gradient. Both programs compute `dx` and `dg` of their five arguments, where the arguments that
  the norm's gradient reads are real numbers.
-/
module

public import proofs.«01_k».proof.Defs
public import proofs.«01_k».proof.Proof.AllFinite
public import proofs.«01_k».proof.Proof.PreNorm
public import proofs.«01_k».proof.Proof.Gen.Kernel8
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pipeline.ReadBack
public import Idealize.ShloMosaic.Lib.Claim
public import Idealize.ShloMosaic.Lib.Affine
public import Idealize.ShloMosaic.Lib.Decide
public import Idealize.ShloMosaic.Lib.IdealHost
public import Idealize.ShloMosaic.Adequacy
public import Idealize.ShloMosaic.Init

@[expose] public section

set_option maxRecDepth 16384

noncomputable section

namespace Cert.SsdInDx

open Idealize.ShloMosaic Idealize.ShloMosaic.TcCoe Idealize.SL.Sem Cert.FfnGrad Cert.PreNorm

section Payloads

open Cert.Kernel8Ideal Cert.Kernel8Ideal.Gen

theorem pay3_at (U : Vec Ideal S256x6272 .bf16) (W : Vec Ideal S1024x6272 .bf16) (r : Fin 256) (n : Fin 1024) :
    k0_pay3 U W (ix2 r n) = ∑ j, U (ix2 r j) * W (ix2 n j) := by
  pointwise [k0_pay3]

theorem pay2_at (z : Fin 1) (n : Fin 1024) : (k0_pay2 (F := Ideal)) (ix2 z n) = 0 := by
  pointwise [k0_pay2]

variable (U : Vec Ideal S256x6272 .bf16) (W : Vec Ideal S1024x6272 .bf16) (X : Vec Ideal S256x1024 .f32)

theorem pay4_at (r : Fin 256) (z : Fin 1) : k0_pay4 X (ix2 r z) = rowInv fun n => X (ix2 r n) := by
  unfold rowInv rowMsq
  pointwise [k0_pay4]
  rfl

theorem pay5_at (r : Fin 256) (n : Fin 1024) : k0_pay5 X (ix2 r n) = X (ix2 r n) * rowInv fun n => X (ix2 r n) := by
  rw [← pay4_at X r 0]
  pointwise [k0_pay5]

theorem pay6_at (D : Vec Ideal S1x1024 .f32) (z : Fin 1) (n : Fin 1024) :
    k0_pay6 U W X D (ix2 z n) = D (ix2 z n) + ∑ r, k0_pay3 U W (ix2 r n) * (X (ix2 r n) * rowInv fun n => X (ix2 r n)) := by
  simp only [← pay5_at X]
  unfold k0_pay6
  generalize k0_pay3 U W = P
  pointwise []

theorem pay1_at (G : Vec Ideal S1x1024 .f32) (S : Vec Ideal S256x1024 .f32) (r : Fin 256) (n : Fin 1024) :
    k0_pay1 (k0_pay4 X) (k0_pay5 X) (k0_pay7 U W G) S (k0_pay8 U W X G) (ix2 r n)
      = S (ix2 r n) + normGrad (fun n => X (ix2 r n)) (fun n => k0_pay3 U W (ix2 r n) * G (ix2 0 n)) n := by
  unfold normGrad
  simp only [← pay5_at X]
  rw [← pay4_at X r 0]
  unfold k0_pay8 k0_pay7
  generalize k0_pay3 U W = P
  pointwise [k0_pay1]
  rfl

end Payloads

section Reference

open Cert.Reference8Ideal Cert.Reference8Ideal.Gen Cert.Reference8Ideal.Read

variable (x0 : Vec Ideal S4096x6272 .bf16) (x1 : Vec Ideal S1024x6272 .bf16) (x2 : Vec Ideal S4096x1024 .f32) (x3 : Vec Ideal S1024 .f32)
  (x4 : Vec Ideal S4096x1024 .f32)

theorem v7_at (t : Fin 4096) (z : Fin 1) : val_main_v7 (F := Ideal) x2 (ix2 t z) = rowMsq fun n => x2 (ix2 t n) := by
  unfold rowMsq
  pointwise [val_main_v7, val_main_v6, val_main_v5, val_main_v4, val_main_v3, val_main_v2, val_main_v1, val_main_cst, val_main_cst_0, val_main_cst_1]
  rfl

theorem v8_at (t : Fin 4096) (z : Fin 1) : val_main_v8 (F := Ideal) x2 (ix2 t z) = rowInv fun n => x2 (ix2 t n) := by
  unfold rowInv
  rw [← v7_at x2 t z]
  pointwise [val_main_v8]

theorem v19_at (t : Fin 4096) (n : Fin 1024) : val_main_v19 (F := Ideal) x0 x1 (ix2 t n) = dh (args x0 x1 x2 x3 x4) t n := by
  pointwise [val_main_v19, val_main_v18, val_main_v0]
  rfl

theorem v41_at (z : Fin 1) (n : Fin 1024) : val_main_v41 (F := Ideal) x0 x1 x2 (ix2 z n) = dg (args x0 x1 x2 x3 x4) n := by
  unfold dg
  simp only [← v19_at]
  pointwise [val_main_v41, val_main_v25, val_main_v22, val_main_v21, val_main_v20, val_main_v13, val_main_v12, val_main_cst_3, val_main_cst_4]
  rw [Fin.sum_univ_one]
  refine Finset.sum_congr rfl fun t _ => ?_
  rw [v8_at, mul_comm]
  rfl

theorem v34_at (t : Fin 4096) :
    val_main_v34 (F := Ideal) x0 x1 x2 x3 (ix1 t)
      = Ideal.div ((∑ j, x2 (ix2 t j) * (dh (args x0 x1 x2 x3 x4) t j * x3 (ix1 j))) * (Ideal.ofBits .f32 0xBF000000#32 * Ideal.div (rowInv fun n => x2 (ix2 t n)) (rowMsq fun n => x2 (ix2 t n)))) lanes := by
  rw [← v8_at x2 t 0, ← v7_at x2 t 0]
  simp only [← v19_at]
  pointwise [val_main_v34, val_main_v33, val_main_v32, val_main_v31, val_main_v28, val_main_v27, val_main_v26, val_main_v24, val_main_v23, val_main_v14,
    val_main_v11, val_main_v10, val_main_v9, val_main_cst_2, val_main_cst_5, val_main_cst_6, val_main_cst_7]
  rw [Fin.sum_univ_one]
  rfl

theorem v40_at (hA : AllReal (args x0 x1 x2 x3 x4)) (t : Fin 4096) (n : Fin 1024) :
    val_main_v40 (F := Ideal) x0 x1 x2 x3 x4 (ix2 t n) = dx (args x0 x1 x2 x3 x4) t n := by
  unfold dx
  rw [← normGrad_eq (hA.x t) (fun n => (real_dh hA t n).mul (hA.g n))]
  have e := v34_at x0 x1 x2 x3 x4 t
  have e2 := v8_at x2 t 0
  have e3 := v19_at x0 x1 x2 x3 x4 t n
  show _ = x4 (ix2 t n) + (dh (args x0 x1 x2 x3 x4) t n * x3 (ix1 n) * (rowInv fun n => x2 (ix2 t n)) + (x2 (ix2 t n) * _ + _ * x2 (ix2 t n)))
  refine Eq.trans ?_ (congrArg₂ (fun a b => x4 (ix2 t n) + (a + b)) (congrArg₂ (fun a b => a * x3 (ix1 n) * b) e3 e2) (congrArg (fun a => x2 (ix2 t n) * a + a * x2 (ix2 t n)) e))
  pointwise [val_main_v40, val_main_v39, val_main_v38, val_main_v37, val_main_v36, val_main_v35, val_main_v30, val_main_v29, val_main_v24, val_main_v23, val_main_v14]
  rw [add_assoc (_ * _)]

end Reference

section Kernel

open Cert.Kernel8Ideal Cert.Kernel8Ideal.Gen

variable (m : (ℓ : Loc nD τ sig) → Buf (Elt Ideal) ℓ) (c : Dev nD)

/-- The arguments in memory. -/
def memArgs : Args 6272 := args (m ((c : Thread nD τ).loc main_arg0)) (m ((c : Thread nD τ).loc main_arg1)) (m ((c : Thread nD τ).loc main_arg2))
  (m ((c : Thread nD τ).loc main_arg3)) (m ((c : Thread nD τ).loc main_arg4))

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

theorem blk0 (t : Fin cfg0.N) (r : Fin 256) (j : Fin 6272) : iblk m c 0 t (ix2 r j) = (memArgs m c).u (row t.val t.isLt r) j := by
  show _ = m ((c : Thread nD τ).loc main_arg0) (ix2 ⟨t.val * 256 + r.val, _⟩ j)
  blk_ext [iblk, V, idx t]

theorem blk1 (t : Fin cfg0.N) (n : Fin 1024) (j : Fin 6272) : iblk m c 1 t (ix2 n j) = (memArgs m c).w n j := by
  show _ = m ((c : Thread nD τ).loc main_arg1) (ix2 n j)
  blk_ext [iblk, V, idx t]

theorem blk2 (t : Fin cfg0.N) (r : Fin 256) (n : Fin 1024) : iblk m c 2 t (ix2 r n) = (memArgs m c).x (row t.val t.isLt r) n := by
  show _ = m ((c : Thread nD τ).loc main_arg2) (ix2 ⟨t.val * 256 + r.val, _⟩ n)
  blk_ext [iblk, V, idx t]

/-- The host lays the gain out as a row. -/
theorem V_gain (n : Fin 1024) : V m c main_v0 (ix2 0 n) = (memArgs m c).g n := by
  have e : V m c main_v0 = shapeCast S1x1024 (m ((c : Thread nD τ).loc main_arg3) : Vec Ideal S1024 .f32) shapeCasts_S1024_S1x1024 := rfl
  rw [e]
  pointwise [memArgs, args]

theorem blk3 (t : Fin cfg0.N) (n : Fin 1024) : iblk m c 3 t (ix2 0 n) = (memArgs m c).g n := by
  rw [← V_gain m c]
  blk_ext [iblk, idx t]

theorem blk4 (t : Fin cfg0.N) (r : Fin 256) (n : Fin 1024) : iblk m c 4 t (ix2 r n) = (memArgs m c).s (row t.val t.isLt r) n := by
  show _ = m ((c : Thread nD τ).loc main_arg4) (ix2 ⟨t.val * 256 + r.val, _⟩ n)
  blk_ext [iblk, V, idx t]

/-- The product of a grid point's rows. -/
theorem prod_at (t : Fin cfg0.N) (r : Fin 256) (n : Fin 1024) : k0_pay3 (iblk m c 0 t) (iblk m c 1 t) (ix2 r n) = dh (memArgs m c) (row t.val t.isLt r) n := by
  unfold dh
  simp only [← blk0, ← blk1 m c t]
  exact pay3_at _ _ r n

theorem row_at (t : Fin cfg0.N) (r : Fin 256) : (memArgs m c).x (row t.val t.isLt r) = fun n => iblk m c 2 t (ix2 r n) :=
  funext fun n => (blk2 m c t r n).symm

theorem dx_at (t : Fin cfg0.N) (r : Fin 256) (n : Fin 1024) : (outsAt0 m c t.val t.isLt).1 (ix2 r n) = dx (memArgs m c) (row t.val t.isLt r) n := by
  unfold dx
  simp only [← prod_at, ← blk3 m c t, ← blk4 m c t]
  rw [row_at]
  by_cases h : t.val % 16 = 0
  · rw [outsAt0_A m c t h]
    frame_out
    exact pay1_at _ _ _ _ _ r n
  · rw [outsAt0_B m c t h]
    frame_out
    exact pay1_at _ _ _ _ _ r n

theorem dgT_at (t : Fin cfg0.N) (D : Vec Ideal S1x1024 .f32) (n : Fin 1024) :
    k0_pay6 (iblk m c 0 t) (iblk m c 1 t) (iblk m c 2 t) D (ix2 0 n) = D (ix2 0 n) + dgT (memArgs m c) t.val t.isLt n := by
  refine (pay6_at _ _ _ D 0 n).trans (congrArg (D (ix2 0 n) + ·) (Finset.sum_congr rfl fun r _ => ?_))
  rw [prod_at, row_at]

theorem dg_first (t : Fin cfg0.N) (h : t.val % 16 = 0) (n : Fin 1024) : (outsAt0 m c t.val t.isLt).2 (ix2 0 n) = (0 : EReal) + dgT (memArgs m c) t.val t.isLt n := by
  rw [outsAt0_A m c t h]
  frame_out
  exact (dgT_at m c t _ n).trans (congrArg (· + _) (pay2_at 0 n))

theorem dg_later (t : Fin cfg0.N) (h : ¬ t.val % 16 = 0) (n : Fin 1024) : (outsAt0 m c t.val t.isLt).2 (ix2 0 n)
    = (outsAt0 m c (t.val - 1) (Nat.lt_of_le_of_lt (Nat.sub_le _ _) t.isLt)).2 (ix2 0 n) + dgT (memArgs m c) t.val t.isLt n := by
  rw [outsAt0_B m c t h]
  frame_out
  exact dgT_at m c t _ n

theorem dg_last (n : Fin 1024) : (outsAt0 m c t0_15.val t0_15.isLt).2 (ix2 0 n) = dg (memArgs m c) n := by
  refine (Pipeline.eq_sum_fin_of_reset_step_apply_last (fun k hk n => (outsAt0 m c k hk).2 (ix2 0 n)) 16 (fun _ => 0)
    (fun p n => dgT (memArgs m c) p.val p.isLt n) (dg_first m c) (dg_later m c) (by decide) t0_15 rfl n).trans ?_
  rw [zero_add]
  exact Fin.sum_mul_add_congr fun s r hl => rfl

theorem dx_arr : (dats m 0 c).arrAt 5 cfg0.N = fun i : S4096x1024.Idx => dx (memArgs m c) (i 0) (i 1) := by
  refine (dats m 0 c).arrAt_eq_of_covers 5 _ (by decide +kernel) fun t hf y => ?_
  have e0 : win0_5.index t 0 = t.val := by rw [(idx t).2.2.2.2.2.1]; rfl
  have e1 : win0_5.index t 1 = 0 := by rw [(idx t).2.2.2.2.2.1]; rfl
  have h0 : (win0_5.blk t).view.emb y 0 = row t.val t.isLt (y 0) := Fin.ext (by blk_simp; rw [e0]; simp only [row])
  have h1 : (win0_5.blk t).view.emb y 1 = y 1 := Fin.ext (by blk_simp; rw [e1]; omega)
  blk_simp
  rw [after0_5, h0, h1]
  obtain ⟨r, n, rfl⟩ : ∃ (r : Fin 256) (n : Fin 1024), y = ix2 r n := ⟨_, _, eq_ix2 y⟩
  exact dx_at m c t r n

theorem dg_arr : (dats m 0 c).arrAt 6 cfg0.N = fun i : S1x1024.Idx => dg (memArgs m c) (i 1) := by
  refine (dats m 0 c).arrAt_eq_of_after_last 6 t0_15 (by decide +kernel) _ fun j => ?_
  blk_simp
  rw [after0_6]
  obtain ⟨z, n, rfl⟩ : ∃ (z : Fin 1) (n : Fin 1024), j = ix2 z n := ⟨_, _, eq_ix2 j⟩
  obtain rfl : z = 0 := Subsingleton.elim _ _
  exact dg_last m c n

theorem run_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = (fun i : S4096x1024.Idx => dx (memArgs m c) (i 0) (i 1))
      ∧ r.2.mem ((c.tc : Thread nD τ).loc main_v1_1) = (fun i : S1x1024.Idx => dg (memArgs m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (dx_arr m c), (h c).2.1.trans (dg_arr m c), (h c).2.2⟩) (Cert.Kernel8Ideal.Value.run_blocks m ρ)

end Kernel

section Reference

open Cert.Reference8Ideal Cert.Reference8Ideal.Gen Cert.Reference8Ideal.Read

theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v40) = val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v41) = val_main_v41 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (val_main_v40_eq ..), (h c).2.1.trans (val_main_v41_eq ..), (h c).2.2⟩) (Cert.Reference8Ideal.Value.run m ρ)

theorem dx_eq (x0 : Vec Ideal S4096x6272 .bf16) (x1 : Vec Ideal S1024x6272 .bf16) (x2 : Vec Ideal S4096x1024 .f32) (x3 : Vec Ideal S1024 .f32)
    (x4 : Vec Ideal S4096x1024 .f32) (hA : AllReal (args x0 x1 x2 x3 x4)) :
    val_main_v40 (F := Ideal) x0 x1 x2 x3 x4 = fun i : S4096x1024.Idx => dx (args x0 x1 x2 x3 x4) (i 0) (i 1) := by
  funext i
  obtain ⟨t, n, rfl⟩ : ∃ (t : Fin 4096) (n : Fin 1024), i = ix2 t n := ⟨_, _, eq_ix2 i⟩
  exact v40_at x0 x1 x2 x3 x4 hA t n

theorem dg_eq (x0 : Vec Ideal S4096x6272 .bf16) (x1 : Vec Ideal S1024x6272 .bf16) (x2 : Vec Ideal S4096x1024 .f32) (x3 : Vec Ideal S1024 .f32)
    (x4 : Vec Ideal S4096x1024 .f32) : val_main_v41 (F := Ideal) x0 x1 x2 = fun i : S1x1024.Idx => dg (args x0 x1 x2 x3 x4) (i 1) := by
  funext i
  obtain ⟨z, n, rfl⟩ : ∃ (z : Fin 1) (n : Fin 1024), i = ix2 z n := ⟨_, _, eq_ix2 i⟩
  exact v41_at x0 x1 x2 x3 x4 z n

end Reference

section Precondition

open Cert.Pre_all_finite8

theorem pre_facts : Facts where
  bitsLt_bf16_f32 := by decide
  bcast_S_S4096x6272 := by decide
  reducesTo_S4096x6272_S_d0_1 := by decide
  h_S_ := by decide
  bcast_S_S1024x6272 := by decide
  reducesTo_S1024x6272_S_d0_1 := by decide
  bcast_S_S4096x1024 := by decide
  reducesTo_S4096x1024_S_d0_1 := by decide
  bcast_S_S1024 := by decide
  reducesTo_S1024_S_d0 := by decide

variable [Facts] {x0 : FVec Ideal S4096x6272 .bf16} {x1 : FVec Ideal S1024x6272 .bf16} {x2 : FVec Ideal S4096x1024 .f32}
  {x3 : FVec Ideal S1024 .f32} {x4 : FVec Ideal S4096x1024 .f32}

theorem allReal (h : fn (F := Ideal) x0 x1 x2 x3 x4 = fun _ => 1#1) : AllReal (args x0 x1 x2 x3 x4) := by
  have e := congrFun h (fun a => a.elim0)
  obtain ⟨e, e3⟩ := IntOp.andi_eq_one.1 e
  obtain ⟨e, e2⟩ := IntOp.andi_eq_one.1 e
  obtain ⟨e0, e1⟩ := IntOp.andi_eq_one.1 e
  exact { u := fun t j => real_of_all (extf .f32 x0 Facts.bitsLt_bf16_f32) Facts.bcast_S_S4096x6272 Facts.reducesTo_S4096x6272_S_d0_1 Facts.h_S_ _ e0 (ix2 t j)
          w := fun n j => real_of_all (extf .f32 x1 Facts.bitsLt_bf16_f32) Facts.bcast_S_S1024x6272 Facts.reducesTo_S1024x6272_S_d0_1 Facts.h_S_ _ e1 (ix2 n j)
          x := fun t n => real_of_all x2 Facts.bcast_S_S4096x1024 Facts.reducesTo_S4096x1024_S_d0_1 Facts.h_S_ _ e2 (ix2 t n)
          g := fun n => real_of_all x3 Facts.bcast_S_S1024 Facts.reducesTo_S1024_S_d0 Facts.h_S_ _ e3 (ix1 n) }

end Precondition

theorem algebraic : Cert.algebraic_Kernel8Ideal_Reference8Ideal_pre_all_finite8 (hKernel8Ideal := Cert.Kernel8Ideal.Gen.facts)
    (hReference8Ideal := Cert.Reference8Ideal.Gen.facts) (hPre_all_finite8 := pre_facts) := by
  intro m g m' g' hpre hagree
  refine ⟨_, _, run_kernel m g, (θ_run _ _ _).mono (fun r h c => ?_) (run_reference m' g')⟩
  have hA : AllReal (memArgs m c) := @allReal pre_facts _ _ _ _ _ (hpre c)
  obtain ⟨a0, a1, a2, a3, a4⟩ := hagree c
  obtain ⟨h0, h1, hk⟩ := h c
  rw [a0, a1, a2, a3, a4] at h0
  rw [a0, a1, a2] at h1
  exact ⟨h0.trans (dx_eq _ _ _ _ _ hA), h1.trans (dg_eq _ _ _ _ _), hk⟩

theorem frame_reference : Cert.quiescent_Reference8Ideal (hReference8Ideal := Cert.Reference8Ideal.Gen.facts) := by
  intro m g _
  exact (θ_run _ _ _).mono (fun r h => ⟨fun c => (h c).2.2, sem_eq_zero_of_no_sems (by decide) r.2⟩) (run_reference m g)

end Cert.SsdInDx

end
-- ==== Proof.Weights.lean ====
/-
  The gradient of a product's weights: the sum over the rows of the left array's entry times the right array's, for any
  numbers of rows and columns, and what an accumulator holds that adds up eight blocks of 512 rows.
-/
module

public import Idealize.ShloMosaic.Lib.Pipeline.ValueKit
public import Idealize.ShloMosaic.Lib.IdealHost

@[expose] public section

noncomputable section

namespace Cert.Weights

open Idealize.ShloMosaic

variable {T I J : ℕ}

/-- The products of all rows. -/
def dw (x : Vec Ideal ⟨2, ![T, I]⟩ .bf16) (y : Vec Ideal ⟨2, ![T, J]⟩ .bf16) (q : Shape.Idx ⟨2, ![I, J]⟩) : EReal :=
  ∑ t : Fin T, x (ix2 t (q 0)) * y (ix2 t (q 1))

theorem dw_at (x : Vec Ideal ⟨2, ![T, I]⟩ .bf16) (y : Vec Ideal ⟨2, ![T, J]⟩ .bf16) (i : Fin I) (j : Fin J) :
    dw x y (ix2 i j) = ∑ t, x (ix2 t i) * y (ix2 t j) := rfl

/-- An accumulator over the grid: it starts from zero at every eighth point and adds the products of a point's block of
rows (`first`, `later`). Where the blocks are rows of `x` and columns `col` of `y` (`hX`, `hY`), a group of eight points
leaves the columns' part of `dw x y`. -/
theorem acc_eq {K B : ℕ} (x : Vec Ideal ⟨2, ![4096, I]⟩ .bf16) (y : Vec Ideal ⟨2, ![4096, J]⟩ .bf16)
    (acc : (n : ℕ) → n < K → Shape.Idx ⟨2, ![I, B]⟩ → EReal) (X : Fin K → Vec Ideal ⟨2, ![512, I]⟩ .bf16) (Y : Fin K → Vec Ideal ⟨2, ![512, B]⟩ .bf16)
    (col : Fin K → Fin B → Fin J) (hcol : ∀ s t : Fin K, s.val / 8 = t.val / 8 → col s = col t)
    (hX : ∀ t r i, X t (ix2 r i) = x (ix2 ⟨t.val % 8 * 512 + r.val, by omega⟩ i))
    (hY : ∀ t r j, Y t (ix2 r j) = y (ix2 ⟨t.val % 8 * 512 + r.val, by omega⟩ (col t j)))
    (first : ∀ t : Fin K, t.val % 8 = 0 → ∀ q, acc t.val t.isLt q = (0 : EReal) + dw (X t) (Y t) q)
    (later : ∀ t : Fin K, ¬ t.val % 8 = 0 → ∀ q, acc t.val t.isLt q = acc (t.val - 1) (Nat.lt_of_le_of_lt (Nat.sub_le _ _) t.isLt) q + dw (X t) (Y t) q)
    (t : Fin K) (h7 : t.val % 8 = 7) (i : Fin I) (j : Fin B) : acc t.val t.isLt (ix2 i j) = dw x y (ix2 i (col t j)) := by
  rw [Pipeline.eq_sum_fin_of_reset_step_apply_of_flush acc 8 (fun _ => 0) (fun p => dw (X p) (Y p)) first later t h7, zero_add, dw_at]
  simp only [dw_at, hX, hY]
  refine Fin.sum_mul_add_congr fun s r hl => ?_
  have e : ∀ h, col ⟨8 * (t.val / 8) + s.val, h⟩ = col t := fun h => hcol _ _ (by show (8 * (t.val / 8) + s.val) / 8 = _; omega)
  have e1 : (8 * (t.val / 8) + s.val) % 8 = s.val := by omega
  simp only [e, e1]

end Cert.Weights

end
-- ==== Proof.SsdInDw.lean ====
/-
  The gradient of the weights of the SSD mixer's input projection: each block of 896 columns is multiplied,
  block of rows by block of rows, into an accumulator that is written back after the last block. Both programs compute
  `dw (i, j) = ∑ t, a t i * b t j` of their two arguments.
-/
module

public import proofs.«01_k».proof.Defs
public import proofs.«01_k».proof.Proof.Weights
public import proofs.«01_k».proof.Proof.Gen.Kernel9
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pipeline.ReadBack
public import Idealize.ShloMosaic.Lib.Claim
public import Idealize.ShloMosaic.Lib.IdealHost
public import Idealize.ShloMosaic.Adequacy
public import Idealize.ShloMosaic.Init

@[expose] public section

set_option maxRecDepth 16384

noncomputable section

namespace Cert.SsdInDw

open Idealize.ShloMosaic Idealize.ShloMosaic.TcCoe Idealize.SL.Sem Cert.Weights

section Kernel

open Cert.Kernel9Ideal Cert.Kernel9Ideal.Gen

variable (m : (ℓ : Loc nD τ sig) → Buf (Elt Ideal) ℓ) (c : Dev nD)

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

theorem pay1_at (i : Fin 1024) (j : Fin 896) : (k0_pay1 (F := Ideal)) (ix2 i j) = 0 := by
  pointwise [k0_pay1]

theorem pay2_at (P : Vec Ideal S1024x896 .f32) (X : Vec Ideal S512x1024 .bf16) (Y : Vec Ideal S512x896 .bf16) (i : Fin 1024) (j : Fin 896) :
    k0_pay2 P X Y (ix2 i j) = P (ix2 i j) + ∑ r, X (ix2 r i) * Y (ix2 r j) := by
  pointwise [k0_pay2]

theorem pay3_at (P : Vec Ideal S1024x896 .f32) (i : Fin 1024) (j : Fin 896) : k0_pay3 P (ix2 i j) = P (ix2 i j) := by
  pointwise [k0_pay3]

theorem acc_first (t : Fin cfg0.N) (h : t.val % 8 = 0) (q : S1024x896.Idx) :
    (outsAt0 m c t.val t.isLt).2 q = (0 : EReal) + dw (iblk m c 0 t) (iblk m c 1 t) q := by
  rw [outsAt0_A m c t h (by omega)]
  frame_out
  obtain ⟨i, j, rfl⟩ : ∃ i j, q = ix2 i j := ⟨_, _, eq_ix2 q⟩
  refine (pay2_at _ _ _ i j).trans ?_
  rw [pay1_at]
  rfl

theorem acc_later (t : Fin cfg0.N) (h : ¬ t.val % 8 = 0) (q : S1024x896.Idx) :
    (outsAt0 m c t.val t.isLt).2 q = (outsAt0 m c (t.val - 1) (Nat.lt_of_le_of_lt (Nat.sub_le _ _) t.isLt)).2 q + dw (iblk m c 0 t) (iblk m c 1 t) q := by
  by_cases h1 : t.val % 8 = 7
  · rw [outsAt0_C m c t h h1]
    frame_out
    simp only [read_unread_whole]
    obtain ⟨i, j, rfl⟩ : ∃ i j, q = ix2 i j := ⟨_, _, eq_ix2 q⟩
    exact pay2_at _ _ _ i j
  · rw [outsAt0_B m c t h h1]
    frame_out
    simp only [read_unread_whole]
    obtain ⟨i, j, rfl⟩ : ∃ i j, q = ix2 i j := ⟨_, _, eq_ix2 q⟩
    exact pay2_at _ _ _ i j

theorem out_last (t : Fin cfg0.N) (h1 : t.val % 8 = 7) (q : S1024x896.Idx) :
    (outsAt0 m c t.val t.isLt).1 q = (outsAt0 m c (t.val - 1) (Nat.lt_of_le_of_lt (Nat.sub_le _ _) t.isLt)).2 q + dw (iblk m c 0 t) (iblk m c 1 t) q := by
  rw [outsAt0_C m c t (by omega) h1]
  frame_out
  simp only [read_unread_whole]
  obtain ⟨i, j, rfl⟩ : ∃ i j, q = ix2 i j := ⟨_, _, eq_ix2 q⟩
  exact (pay3_at _ i j).trans (pay2_at _ _ _ i j)

/-- The columns of a grid point. -/
def col (t : Fin cfg0.N) (j : Fin 896) : Fin 6272 := ⟨t.val / 8 * 896 + j.val, by have : t.val < 56 := t.isLt; omega⟩

theorem blk0 (t : Fin cfg0.N) (r : Fin 512) (i : Fin 1024) : iblk m c 0 t (ix2 r i)
    = m ((c : Thread nD τ).loc main_arg0) (ix2 ⟨t.val % 8 * 512 + r.val, by omega⟩ i) := by
  blk_ext [iblk, V, idx t]

theorem blk1 (t : Fin cfg0.N) (r : Fin 512) (j : Fin 896) : iblk m c 1 t (ix2 r j)
    = m ((c : Thread nD τ).loc main_arg1) (ix2 ⟨t.val % 8 * 512 + r.val, by omega⟩ (col t j)) := by
  blk_ext [col, iblk, V, idx t]

theorem out_at (t : Fin cfg0.N) (h1 : t.val % 8 = 7) (i : Fin 1024) (j : Fin 896) :
    (outsAt0 m c t.val t.isLt).1 (ix2 i j) = dw (m ((c : Thread nD τ).loc main_arg0)) (m ((c : Thread nD τ).loc main_arg1)) (ix2 i (col t j)) := by
  rw [out_last m c t h1, ← acc_later m c t (by omega)]
  exact acc_eq _ _ (fun n h => (outsAt0 m c n h).2) (iblk m c 0) (iblk m c 1) col (fun s t h => funext fun j => Fin.ext (by simp only [col, h])) (blk0 m c) (blk1 m c) (acc_first m c) (acc_later m c) t h1 i j

theorem dw_arr : (dats m 0 c).arrAt 2 cfg0.N = dw (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  have e0 : win0_2.index t 0 = 0 := by rw [(idx t).2.2]; rfl
  have e1 : win0_2.index t 1 = t.val / 8 := by rw [(idx t).2.2]; rfl
  blk_simp
  rw [after0_2]
  obtain ⟨i, j, rfl⟩ : ∃ i j, y = ix2 i j := ⟨_, _, eq_ix2 y⟩
  refine (out_at m c t h7 i j).trans (congrArg (dw _ _) ?_)
  funext a
  apply Fin.ext
  match a with
  | 0 => blk_simp; rw [e0]; simp
  | 1 => blk_simp; rw [e1]; simp [col]

theorem run_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (dw_arr m c), (h c).2⟩) (Cert.Kernel9Ideal.Value.run_blocks m ρ)

end Kernel

section Reference

open Cert.Reference9Ideal Cert.Reference9Ideal.Gen Cert.Reference9Ideal.Read

theorem ref_at (x0 : Vec Ideal S4096x1024 .bf16) (x1 : Vec Ideal S4096x6272 .bf16) :
    val_main_v6 (F := Ideal) x0 x1 = dw x0 x1 := by
  funext i
  obtain ⟨p, q, rfl⟩ : ∃ p q, i = ix2 p q := ⟨_, _, eq_ix2 i⟩
  pointwise [val_main_v6, val_main_v5, val_main_v4, val_main_v3, val_main_v0]
  exact Finset.sum_congr rfl fun t _ => mul_comm _ _

theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1.trans (val_main_v6_eq _ _)).trans (ref_at _ _), (h c).2⟩) (Cert.Reference9Ideal.Value.run m ρ)

end Reference

theorem algebraic : Cert.algebraic_Kernel9Ideal_Reference9Ideal (hKernel9Ideal := Cert.Kernel9Ideal.Gen.facts)
    (hReference9Ideal := Cert.Reference9Ideal.Gen.facts) := by
  intro m g m' g' _ hagree
  refine ⟨_, run_kernel m g, (θ_run _ _ _).mono (fun r h c => ?_) (run_reference m' g')⟩
  obtain ⟨a0, a1⟩ := hagree c
  obtain ⟨h0, hk⟩ := h c
  rw [a0, a1] at h0
  exact ⟨h0, hk⟩

theorem frame_reference : Cert.quiescent_Reference9Ideal (hReference9Ideal := Cert.Reference9Ideal.Gen.facts) := by
  intro m g _
  exact (θ_run _ _ _).mono (fun r h => ⟨fun c => (h c).2, sem_eq_zero_of_no_sems (by decide) r.2⟩) (run_reference m g)

end Cert.SsdInDw

end
-- ==== Proof.ScInDx.lean ====
/-
  The gradient of the short convolution mixer's pre-norm and input projection with respect to the norm's input and gain. A grid point
  handles 256 rows: their cotangents' product with the weights, the norm's gradient added to the residual's, and the
  rows' part of the gain's gradient. Both programs compute `dx` and `dg` of their five arguments, where the arguments that
  the norm's gradient reads are real numbers.
-/
module

public import proofs.«01_k».proof.Defs
public import proofs.«01_k».proof.Proof.AllFinite
public import proofs.«01_k».proof.Proof.SsdInDx
public import proofs.«01_k».proof.Proof.Gen.Kernel10
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pipeline.ReadBack
public import Idealize.ShloMosaic.Lib.Claim
public import Idealize.ShloMosaic.Lib.Affine
public import Idealize.ShloMosaic.Lib.Decide
public import Idealize.ShloMosaic.Lib.IdealHost
public import Idealize.ShloMosaic.Adequacy
public import Idealize.ShloMosaic.Init

@[expose] public section

set_option maxRecDepth 16384

noncomputable section

namespace Cert.ScInDx

open Idealize.ShloMosaic Idealize.ShloMosaic.TcCoe Idealize.SL.Sem Cert.FfnGrad Cert.PreNorm

section Payloads

open Cert.Kernel10Ideal Cert.Kernel10Ideal.Gen

theorem pay3_at (U : Vec Ideal S256x3072 .bf16) (W : Vec Ideal S1024x3072 .bf16) (r : Fin 256) (n : Fin 1024) :
    k0_pay3 U W (ix2 r n) = ∑ j, U (ix2 r j) * W (ix2 n j) := by
  pointwise [k0_pay3]

theorem pay2_at (z : Fin 1) (n : Fin 1024) : (k0_pay2 (F := Ideal)) (ix2 z n) = 0 := Cert.SsdInDx.pay2_at z n

variable (U : Vec Ideal S256x3072 .bf16) (W : Vec Ideal S1024x3072 .bf16) (X : Vec Ideal S256x1024 .f32)

theorem pay4_at (r : Fin 256) (z : Fin 1) : k0_pay4 X (ix2 r z) = rowInv fun n => X (ix2 r n) := Cert.SsdInDx.pay4_at X r z

theorem pay5_at (r : Fin 256) (n : Fin 1024) : k0_pay5 X (ix2 r n) = X (ix2 r n) * rowInv fun n => X (ix2 r n) := Cert.SsdInDx.pay5_at X r n

theorem pay6_at (D : Vec Ideal S1x1024 .f32) (z : Fin 1) (n : Fin 1024) :
    k0_pay6 U W X D (ix2 z n) = D (ix2 z n) + ∑ r, k0_pay3 U W (ix2 r n) * (X (ix2 r n) * rowInv fun n => X (ix2 r n)) := by
  simp only [← pay5_at X]
  unfold k0_pay6
  generalize k0_pay3 U W = P
  pointwise []

theorem pay1_at (G : Vec Ideal S1x1024 .f32) (S : Vec Ideal S256x1024 .f32) (r : Fin 256) (n : Fin 1024) :
    k0_pay1 (k0_pay4 X) (k0_pay5 X) (k0_pay7 U W G) S (k0_pay8 U W X G) (ix2 r n)
      = S (ix2 r n) + normGrad (fun n => X (ix2 r n)) (fun n => k0_pay3 U W (ix2 r n) * G (ix2 0 n)) n := by
  unfold normGrad
  simp only [← pay5_at X]
  rw [← pay4_at X r 0]
  unfold k0_pay8 k0_pay7
  generalize k0_pay3 U W = P
  pointwise [k0_pay1]
  rfl

end Payloads

section Reference

open Cert.Reference10Ideal Cert.Reference10Ideal.Gen Cert.Reference10Ideal.Read

variable (x0 : Vec Ideal S4096x3072 .bf16) (x1 : Vec Ideal S1024x3072 .bf16) (x2 : Vec Ideal S4096x1024 .f32) (x3 : Vec Ideal S1024 .f32)
  (x4 : Vec Ideal S4096x1024 .f32)

theorem v7_at (t : Fin 4096) (z : Fin 1) : val_main_v7 (F := Ideal) x2 (ix2 t z) = rowMsq fun n => x2 (ix2 t n) := Cert.SsdInDx.v7_at x2 t z

theorem v8_at (t : Fin 4096) (z : Fin 1) : val_main_v8 (F := Ideal) x2 (ix2 t z) = rowInv fun n => x2 (ix2 t n) := Cert.SsdInDx.v8_at x2 t z

theorem v19_at (t : Fin 4096) (n : Fin 1024) : val_main_v19 (F := Ideal) x0 x1 (ix2 t n) = dh (args x0 x1 x2 x3 x4) t n := by
  pointwise [val_main_v19, val_main_v18, val_main_v0]
  rfl

theorem v41_at (z : Fin 1) (n : Fin 1024) : val_main_v41 (F := Ideal) x0 x1 x2 (ix2 z n) = dg (args x0 x1 x2 x3 x4) n := by
  unfold dg
  simp only [← v19_at]
  pointwise [val_main_v41, val_main_v25, val_main_v22, val_main_v21, val_main_v20, val_main_v13, val_main_v12, val_main_cst_3, val_main_cst_4]
  rw [Fin.sum_univ_one]
  refine Finset.sum_congr rfl fun t _ => ?_
  rw [v8_at, mul_comm]
  rfl

theorem v34_at (t : Fin 4096) :
    val_main_v34 (F := Ideal) x0 x1 x2 x3 (ix1 t)
      = Ideal.div ((∑ j, x2 (ix2 t j) * (dh (args x0 x1 x2 x3 x4) t j * x3 (ix1 j))) * (Ideal.ofBits .f32 0xBF000000#32 * Ideal.div (rowInv fun n => x2 (ix2 t n)) (rowMsq fun n => x2 (ix2 t n)))) lanes := by
  rw [← v8_at x2 t 0, ← v7_at x2 t 0]
  simp only [← v19_at]
  pointwise [val_main_v34, val_main_v33, val_main_v32, val_main_v31, val_main_v28, val_main_v27, val_main_v26, val_main_v24, val_main_v23, val_main_v14,
    val_main_v11, val_main_v10, val_main_v9, val_main_cst_2, val_main_cst_5, val_main_cst_6, val_main_cst_7]
  rw [Fin.sum_univ_one]
  rfl

theorem v40_at (hA : AllReal (args x0 x1 x2 x3 x4)) (t : Fin 4096) (n : Fin 1024) :
    val_main_v40 (F := Ideal) x0 x1 x2 x3 x4 (ix2 t n) = dx (args x0 x1 x2 x3 x4) t n := by
  unfold dx
  rw [← normGrad_eq (hA.x t) (fun n => (real_dh hA t n).mul (hA.g n))]
  have e := v34_at x0 x1 x2 x3 x4 t
  have e2 := v8_at x2 t 0
  have e3 := v19_at x0 x1 x2 x3 x4 t n
  show _ = x4 (ix2 t n) + (dh (args x0 x1 x2 x3 x4) t n * x3 (ix1 n) * (rowInv fun n => x2 (ix2 t n)) + (x2 (ix2 t n) * _ + _ * x2 (ix2 t n)))
  refine Eq.trans ?_ (congrArg₂ (fun a b => x4 (ix2 t n) + (a + b)) (congrArg₂ (fun a b => a * x3 (ix1 n) * b) e3 e2) (congrArg (fun a => x2 (ix2 t n) * a + a * x2 (ix2 t n)) e))
  pointwise [val_main_v40, val_main_v39, val_main_v38, val_main_v37, val_main_v36, val_main_v35, val_main_v30, val_main_v29, val_main_v24, val_main_v23, val_main_v14]
  rw [add_assoc (_ * _)]

end Reference

section Kernel

open Cert.Kernel10Ideal Cert.Kernel10Ideal.Gen

variable (m : (ℓ : Loc nD τ sig) → Buf (Elt Ideal) ℓ) (c : Dev nD)

/-- The arguments in memory. -/
def memArgs : Args 3072 := args (m ((c : Thread nD τ).loc main_arg0)) (m ((c : Thread nD τ).loc main_arg1)) (m ((c : Thread nD τ).loc main_arg2))
  (m ((c : Thread nD τ).loc main_arg3)) (m ((c : Thread nD τ).loc main_arg4))

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

theorem blk0 (t : Fin cfg0.N) (r : Fin 256) (j : Fin 3072) : iblk m c 0 t (ix2 r j) = (memArgs m c).u (row t.val t.isLt r) j := by
  show _ = m ((c : Thread nD τ).loc main_arg0) (ix2 ⟨t.val * 256 + r.val, _⟩ j)
  blk_ext [iblk, V, idx t]

theorem blk1 (t : Fin cfg0.N) (n : Fin 1024) (j : Fin 3072) : iblk m c 1 t (ix2 n j) = (memArgs m c).w n j := by
  show _ = m ((c : Thread nD τ).loc main_arg1) (ix2 n j)
  blk_ext [iblk, V, idx t]

theorem blk2 (t : Fin cfg0.N) (r : Fin 256) (n : Fin 1024) : iblk m c 2 t (ix2 r n) = (memArgs m c).x (row t.val t.isLt r) n := by
  show _ = m ((c : Thread nD τ).loc main_arg2) (ix2 ⟨t.val * 256 + r.val, _⟩ n)
  blk_ext [iblk, V, idx t]

/-- The host lays the gain out as a row. -/
theorem V_gain (n : Fin 1024) : V m c main_v0 (ix2 0 n) = (memArgs m c).g n := by
  have e : V m c main_v0 = shapeCast S1x1024 (m ((c : Thread nD τ).loc main_arg3) : Vec Ideal S1024 .f32) shapeCasts_S1024_S1x1024 := rfl
  rw [e]
  pointwise [memArgs, args]

theorem blk3 (t : Fin cfg0.N) (n : Fin 1024) : iblk m c 3 t (ix2 0 n) = (memArgs m c).g n := by
  rw [← V_gain m c]
  blk_ext [iblk, idx t]

theorem blk4 (t : Fin cfg0.N) (r : Fin 256) (n : Fin 1024) : iblk m c 4 t (ix2 r n) = (memArgs m c).s (row t.val t.isLt r) n := by
  show _ = m ((c : Thread nD τ).loc main_arg4) (ix2 ⟨t.val * 256 + r.val, _⟩ n)
  blk_ext [iblk, V, idx t]

/-- The product of a grid point's rows. -/
theorem prod_at (t : Fin cfg0.N) (r : Fin 256) (n : Fin 1024) : k0_pay3 (iblk m c 0 t) (iblk m c 1 t) (ix2 r n) = dh (memArgs m c) (row t.val t.isLt r) n := by
  unfold dh
  simp only [← blk0, ← blk1 m c t]
  exact pay3_at _ _ r n

theorem row_at (t : Fin cfg0.N) (r : Fin 256) : (memArgs m c).x (row t.val t.isLt r) = fun n => iblk m c 2 t (ix2 r n) :=
  funext fun n => (blk2 m c t r n).symm

theorem dx_at (t : Fin cfg0.N) (r : Fin 256) (n : Fin 1024) : (outsAt0 m c t.val t.isLt).1 (ix2 r n) = dx (memArgs m c) (row t.val t.isLt r) n := by
  unfold dx
  simp only [← prod_at, ← blk3 m c t, ← blk4 m c t]
  rw [row_at]
  by_cases h : t.val % 16 = 0
  · rw [outsAt0_A m c t h]
    frame_out
    exact pay1_at _ _ _ _ _ r n
  · rw [outsAt0_B m c t h]
    frame_out
    exact pay1_at _ _ _ _ _ r n

theorem dgT_at (t : Fin cfg0.N) (D : Vec Ideal S1x1024 .f32) (n : Fin 1024) :
    k0_pay6 (iblk m c 0 t) (iblk m c 1 t) (iblk m c 2 t) D (ix2 0 n) = D (ix2 0 n) + dgT (memArgs m c) t.val t.isLt n := by
  refine (pay6_at _ _ _ D 0 n).trans (congrArg (D (ix2 0 n) + ·) (Finset.sum_congr rfl fun r _ => ?_))
  rw [prod_at, row_at]

theorem dg_first (t : Fin cfg0.N) (h : t.val % 16 = 0) (n : Fin 1024) : (outsAt0 m c t.val t.isLt).2 (ix2 0 n) = (0 : EReal) + dgT (memArgs m c) t.val t.isLt n := by
  rw [outsAt0_A m c t h]
  frame_out
  exact (dgT_at m c t _ n).trans (congrArg (· + _) (pay2_at 0 n))

theorem dg_later (t : Fin cfg0.N) (h : ¬ t.val % 16 = 0) (n : Fin 1024) : (outsAt0 m c t.val t.isLt).2 (ix2 0 n)
    = (outsAt0 m c (t.val - 1) (Nat.lt_of_le_of_lt (Nat.sub_le _ _) t.isLt)).2 (ix2 0 n) + dgT (memArgs m c) t.val t.isLt n := by
  rw [outsAt0_B m c t h]
  frame_out
  exact dgT_at m c t _ n

theorem dg_last (n : Fin 1024) : (outsAt0 m c t0_15.val t0_15.isLt).2 (ix2 0 n) = dg (memArgs m c) n := by
  refine (Pipeline.eq_sum_fin_of_reset_step_apply_last (fun k hk n => (outsAt0 m c k hk).2 (ix2 0 n)) 16 (fun _ => 0)
    (fun p n => dgT (memArgs m c) p.val p.isLt n) (dg_first m c) (dg_later m c) (by decide) t0_15 rfl n).trans ?_
  rw [zero_add]
  exact Fin.sum_mul_add_congr fun s r hl => rfl

theorem dx_arr : (dats m 0 c).arrAt 5 cfg0.N = fun i : S4096x1024.Idx => dx (memArgs m c) (i 0) (i 1) := by
  refine (dats m 0 c).arrAt_eq_of_covers 5 _ (by decide +kernel) fun t hf y => ?_
  have e0 : win0_5.index t 0 = t.val := by rw [(idx t).2.2.2.2.2.1]; rfl
  have e1 : win0_5.index t 1 = 0 := by rw [(idx t).2.2.2.2.2.1]; rfl
  have h0 : (win0_5.blk t).view.emb y 0 = row t.val t.isLt (y 0) := Fin.ext (by blk_simp; rw [e0]; simp only [row])
  have h1 : (win0_5.blk t).view.emb y 1 = y 1 := Fin.ext (by blk_simp; rw [e1]; omega)
  blk_simp
  rw [after0_5, h0, h1]
  obtain ⟨r, n, rfl⟩ : ∃ (r : Fin 256) (n : Fin 1024), y = ix2 r n := ⟨_, _, eq_ix2 y⟩
  exact dx_at m c t r n

theorem dg_arr : (dats m 0 c).arrAt 6 cfg0.N = fun i : S1x1024.Idx => dg (memArgs m c) (i 1) := by
  refine (dats m 0 c).arrAt_eq_of_after_last 6 t0_15 (by decide +kernel) _ fun j => ?_
  blk_simp
  rw [after0_6]
  obtain ⟨z, n, rfl⟩ : ∃ (z : Fin 1) (n : Fin 1024), j = ix2 z n := ⟨_, _, eq_ix2 j⟩
  obtain rfl : z = 0 := Subsingleton.elim _ _
  exact dg_last m c n

theorem run_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = (fun i : S4096x1024.Idx => dx (memArgs m c) (i 0) (i 1))
      ∧ r.2.mem ((c.tc : Thread nD τ).loc main_v1_1) = (fun i : S1x1024.Idx => dg (memArgs m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (dx_arr m c), (h c).2.1.trans (dg_arr m c), (h c).2.2⟩) (Cert.Kernel10Ideal.Value.run_blocks m ρ)

end Kernel

section Reference

open Cert.Reference10Ideal Cert.Reference10Ideal.Gen Cert.Reference10Ideal.Read

theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v40) = val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v41) = val_main_v41 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (val_main_v40_eq ..), (h c).2.1.trans (val_main_v41_eq ..), (h c).2.2⟩) (Cert.Reference10Ideal.Value.run m ρ)

theorem dx_eq (x0 : Vec Ideal S4096x3072 .bf16) (x1 : Vec Ideal S1024x3072 .bf16) (x2 : Vec Ideal S4096x1024 .f32) (x3 : Vec Ideal S1024 .f32)
    (x4 : Vec Ideal S4096x1024 .f32) (hA : AllReal (args x0 x1 x2 x3 x4)) :
    val_main_v40 (F := Ideal) x0 x1 x2 x3 x4 = fun i : S4096x1024.Idx => dx (args x0 x1 x2 x3 x4) (i 0) (i 1) := by
  funext i
  obtain ⟨t, n, rfl⟩ : ∃ (t : Fin 4096) (n : Fin 1024), i = ix2 t n := ⟨_, _, eq_ix2 i⟩
  exact v40_at x0 x1 x2 x3 x4 hA t n

theorem dg_eq (x0 : Vec Ideal S4096x3072 .bf16) (x1 : Vec Ideal S1024x3072 .bf16) (x2 : Vec Ideal S4096x1024 .f32) (x3 : Vec Ideal S1024 .f32)
    (x4 : Vec Ideal S4096x1024 .f32) : val_main_v41 (F := Ideal) x0 x1 x2 = fun i : S1x1024.Idx => dg (args x0 x1 x2 x3 x4) (i 1) := by
  funext i
  obtain ⟨z, n, rfl⟩ : ∃ (z : Fin 1) (n : Fin 1024), i = ix2 z n := ⟨_, _, eq_ix2 i⟩
  exact v41_at x0 x1 x2 x3 x4 z n

end Reference

section Precondition

open Cert.Pre_all_finite10

theorem pre_facts : Facts where
  bitsLt_bf16_f32 := by decide
  bcast_S_S4096x3072 := by decide
  reducesTo_S4096x3072_S_d0_1 := by decide
  h_S_ := by decide
  bcast_S_S1024x3072 := by decide
  reducesTo_S1024x3072_S_d0_1 := by decide
  bcast_S_S4096x1024 := by decide
  reducesTo_S4096x1024_S_d0_1 := by decide
  bcast_S_S1024 := by decide
  reducesTo_S1024_S_d0 := by decide

variable [Facts] {x0 : FVec Ideal S4096x3072 .bf16} {x1 : FVec Ideal S1024x3072 .bf16} {x2 : FVec Ideal S4096x1024 .f32}
  {x3 : FVec Ideal S1024 .f32} {x4 : FVec Ideal S4096x1024 .f32}

theorem allReal (h : fn (F := Ideal) x0 x1 x2 x3 x4 = fun _ => 1#1) : AllReal (args x0 x1 x2 x3 x4) := by
  have e := congrFun h (fun a => a.elim0)
  obtain ⟨e, e3⟩ := IntOp.andi_eq_one.1 e
  obtain ⟨e, e2⟩ := IntOp.andi_eq_one.1 e
  obtain ⟨e0, e1⟩ := IntOp.andi_eq_one.1 e
  exact { u := fun t j => real_of_all (extf .f32 x0 Facts.bitsLt_bf16_f32) Facts.bcast_S_S4096x3072 Facts.reducesTo_S4096x3072_S_d0_1 Facts.h_S_ _ e0 (ix2 t j)
          w := fun n j => real_of_all (extf .f32 x1 Facts.bitsLt_bf16_f32) Facts.bcast_S_S1024x3072 Facts.reducesTo_S1024x3072_S_d0_1 Facts.h_S_ _ e1 (ix2 n j)
          x := fun t n => real_of_all x2 Facts.bcast_S_S4096x1024 Facts.reducesTo_S4096x1024_S_d0_1 Facts.h_S_ _ e2 (ix2 t n)
          g := fun n => real_of_all x3 Facts.bcast_S_S1024 Facts.reducesTo_S1024_S_d0 Facts.h_S_ _ e3 (ix1 n) }

end Precondition

theorem algebraic : Cert.algebraic_Kernel10Ideal_Reference10Ideal_pre_all_finite10 (hKernel10Ideal := Cert.Kernel10Ideal.Gen.facts)
    (hReference10Ideal := Cert.Reference10Ideal.Gen.facts) (hPre_all_finite10 := pre_facts) := by
  intro m g m' g' hpre hagree
  refine ⟨_, _, run_kernel m g, (θ_run _ _ _).mono (fun r h c => ?_) (run_reference m' g')⟩
  have hA : AllReal (memArgs m c) := @allReal pre_facts _ _ _ _ _ (hpre c)
  obtain ⟨a0, a1, a2, a3, a4⟩ := hagree c
  obtain ⟨h0, h1, hk⟩ := h c
  rw [a0, a1, a2, a3, a4] at h0
  rw [a0, a1, a2] at h1
  exact ⟨h0.trans (dx_eq _ _ _ _ _ hA), h1.trans (dg_eq _ _ _ _ _), hk⟩

theorem frame_reference : Cert.quiescent_Reference10Ideal (hReference10Ideal := Cert.Reference10Ideal.Gen.facts) := by
  intro m g _
  exact (θ_run _ _ _).mono (fun r h => ⟨fun c => (h c).2.2, sem_eq_zero_of_no_sems (by decide) r.2⟩) (run_reference m g)

end Cert.ScInDx

end
-- ==== Proof.ScInDw.lean ====
/-
  The gradient of the weights of the short convolution mixer's input projection: each block of 1536 columns is multiplied,
  block of rows by block of rows, into an accumulator that is written back after the last block. Both programs compute
  `dw (i, j) = ∑ t, a t i * b t j` of their two arguments.
-/
module

public import proofs.«01_k».proof.Defs
public import proofs.«01_k».proof.Proof.Weights
public import proofs.«01_k».proof.Proof.Gen.Kernel11
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pipeline.ReadBack
public import Idealize.ShloMosaic.Lib.Claim
public import Idealize.ShloMosaic.Lib.IdealHost
public import Idealize.ShloMosaic.Adequacy
public import Idealize.ShloMosaic.Init

@[expose] public section

set_option maxRecDepth 16384

noncomputable section

namespace Cert.ScInDw

open Idealize.ShloMosaic Idealize.ShloMosaic.TcCoe Idealize.SL.Sem Cert.Weights

section Kernel

open Cert.Kernel11Ideal Cert.Kernel11Ideal.Gen

variable (m : (ℓ : Loc nD τ sig) → Buf (Elt Ideal) ℓ) (c : Dev nD)

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

theorem pay1_at (i : Fin 1024) (j : Fin 1536) : (k0_pay1 (F := Ideal)) (ix2 i j) = 0 := by
  pointwise [k0_pay1]

theorem pay2_at (P : Vec Ideal S1024x1536 .f32) (X : Vec Ideal S512x1024 .bf16) (Y : Vec Ideal S512x1536 .bf16) (i : Fin 1024) (j : Fin 1536) :
    k0_pay2 P X Y (ix2 i j) = P (ix2 i j) + ∑ r, X (ix2 r i) * Y (ix2 r j) := by
  pointwise [k0_pay2]

theorem pay3_at (P : Vec Ideal S1024x1536 .f32) (i : Fin 1024) (j : Fin 1536) : k0_pay3 P (ix2 i j) = P (ix2 i j) := by
  pointwise [k0_pay3]

theorem acc_first (t : Fin cfg0.N) (h : t.val % 8 = 0) (q : S1024x1536.Idx) :
    (outsAt0 m c t.val t.isLt).2 q = (0 : EReal) + dw (iblk m c 0 t) (iblk m c 1 t) q := by
  rw [outsAt0_A m c t h (by omega)]
  frame_out
  obtain ⟨i, j, rfl⟩ : ∃ i j, q = ix2 i j := ⟨_, _, eq_ix2 q⟩
  refine (pay2_at _ _ _ i j).trans ?_
  rw [pay1_at]
  rfl

theorem acc_later (t : Fin cfg0.N) (h : ¬ t.val % 8 = 0) (q : S1024x1536.Idx) :
    (outsAt0 m c t.val t.isLt).2 q = (outsAt0 m c (t.val - 1) (Nat.lt_of_le_of_lt (Nat.sub_le _ _) t.isLt)).2 q + dw (iblk m c 0 t) (iblk m c 1 t) q := by
  by_cases h1 : t.val % 8 = 7
  · rw [outsAt0_C m c t h h1]
    frame_out
    simp only [read_unread_whole]
    obtain ⟨i, j, rfl⟩ : ∃ i j, q = ix2 i j := ⟨_, _, eq_ix2 q⟩
    exact pay2_at _ _ _ i j
  · rw [outsAt0_B m c t h h1]
    frame_out
    simp only [read_unread_whole]
    obtain ⟨i, j, rfl⟩ : ∃ i j, q = ix2 i j := ⟨_, _, eq_ix2 q⟩
    exact pay2_at _ _ _ i j

theorem out_last (t : Fin cfg0.N) (h1 : t.val % 8 = 7) (q : S1024x1536.Idx) :
    (outsAt0 m c t.val t.isLt).1 q = (outsAt0 m c (t.val - 1) (Nat.lt_of_le_of_lt (Nat.sub_le _ _) t.isLt)).2 q + dw (iblk m c 0 t) (iblk m c 1 t) q := by
  rw [outsAt0_C m c t (by omega) h1]
  frame_out
  simp only [read_unread_whole]
  obtain ⟨i, j, rfl⟩ : ∃ i j, q = ix2 i j := ⟨_, _, eq_ix2 q⟩
  exact (pay3_at _ i j).trans (pay2_at _ _ _ i j)

/-- The columns of a grid point. -/
def col (t : Fin cfg0.N) (j : Fin 1536) : Fin 3072 := ⟨t.val / 8 * 1536 + j.val, by have : t.val < 16 := t.isLt; omega⟩

theorem blk0 (t : Fin cfg0.N) (r : Fin 512) (i : Fin 1024) : iblk m c 0 t (ix2 r i)
    = m ((c : Thread nD τ).loc main_arg0) (ix2 ⟨t.val % 8 * 512 + r.val, by omega⟩ i) := by
  blk_ext [iblk, V, idx t]

theorem blk1 (t : Fin cfg0.N) (r : Fin 512) (j : Fin 1536) : iblk m c 1 t (ix2 r j)
    = m ((c : Thread nD τ).loc main_arg1) (ix2 ⟨t.val % 8 * 512 + r.val, by omega⟩ (col t j)) := by
  blk_ext [col, iblk, V, idx t]

theorem out_at (t : Fin cfg0.N) (h1 : t.val % 8 = 7) (i : Fin 1024) (j : Fin 1536) :
    (outsAt0 m c t.val t.isLt).1 (ix2 i j) = dw (m ((c : Thread nD τ).loc main_arg0)) (m ((c : Thread nD τ).loc main_arg1)) (ix2 i (col t j)) := by
  rw [out_last m c t h1, ← acc_later m c t (by omega)]
  exact acc_eq _ _ (fun n h => (outsAt0 m c n h).2) (iblk m c 0) (iblk m c 1) col (fun s t h => funext fun j => Fin.ext (by simp only [col, h])) (blk0 m c) (blk1 m c) (acc_first m c) (acc_later m c) t h1 i j

theorem dw_arr : (dats m 0 c).arrAt 2 cfg0.N = dw (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  have e0 : win0_2.index t 0 = 0 := by rw [(idx t).2.2]; rfl
  have e1 : win0_2.index t 1 = t.val / 8 := by rw [(idx t).2.2]; rfl
  blk_simp
  rw [after0_2]
  obtain ⟨i, j, rfl⟩ : ∃ i j, y = ix2 i j := ⟨_, _, eq_ix2 y⟩
  refine (out_at m c t h7 i j).trans (congrArg (dw _ _) ?_)
  funext a
  apply Fin.ext
  match a with
  | 0 => blk_simp; rw [e0]; simp
  | 1 => blk_simp; rw [e1]; simp [col]

theorem run_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (dw_arr m c), (h c).2⟩) (Cert.Kernel11Ideal.Value.run_blocks m ρ)

end Kernel

section Reference

open Cert.Reference11Ideal Cert.Reference11Ideal.Gen Cert.Reference11Ideal.Read

theorem ref_at (x0 : Vec Ideal S4096x1024 .bf16) (x1 : Vec Ideal S4096x3072 .bf16) :
    val_main_v6 (F := Ideal) x0 x1 = dw x0 x1 := by
  funext i
  obtain ⟨p, q, rfl⟩ : ∃ p q, i = ix2 p q := ⟨_, _, eq_ix2 i⟩
  pointwise [val_main_v6, val_main_v5, val_main_v4, val_main_v3, val_main_v0]
  exact Finset.sum_congr rfl fun t _ => mul_comm _ _

theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1.trans (val_main_v6_eq _ _)).trans (ref_at _ _), (h c).2⟩) (Cert.Reference11Ideal.Value.run m ρ)

end Reference

theorem algebraic : Cert.algebraic_Kernel11Ideal_Reference11Ideal (hKernel11Ideal := Cert.Kernel11Ideal.Gen.facts)
    (hReference11Ideal := Cert.Reference11Ideal.Gen.facts) := by
  intro m g m' g' _ hagree
  refine ⟨_, run_kernel m g, (θ_run _ _ _).mono (fun r h c => ?_) (run_reference m' g')⟩
  obtain ⟨a0, a1⟩ := hagree c
  obtain ⟨h0, hk⟩ := h c
  rw [a0, a1] at h0
  exact ⟨h0, hk⟩

theorem frame_reference : Cert.quiescent_Reference11Ideal (hReference11Ideal := Cert.Reference11Ideal.Gen.facts) := by
  intro m g _
  exact (θ_run _ _ _).mono (fun r h => ⟨fun c => (h c).2, sem_eq_zero_of_no_sems (by decide) r.2⟩) (run_reference m g)

end Cert.ScInDw

end
-- ==== Proof.PostNorm.lean ====
/-
  The gradient of a product with weights of `K` rows followed by a post-norm: what the calls that compute it return, as
  functions of their arguments' coordinates, for any `K`.
-/
module

public import proofs.«01_k».proof.Proof.RmsNorm

@[expose] public section

noncomputable section

namespace Cert.PostNorm

open Idealize.ShloMosaic Cert.FfnGrad

/-- The arguments: the cotangent of the norm's output, the norm's input and gain, and the weights. -/
structure Args (K : ℕ) where
  d : Fin 4096 → Fin 1024 → EReal
  x : Fin 4096 → Fin 1024 → EReal
  g : Fin 1024 → EReal
  w : Fin K → Fin 1024 → EReal

variable {K : ℕ}

def args (x0 x1 : Vec Ideal ⟨2, ![4096, 1024]⟩ .f32) (x2 : Vec Ideal ⟨1, ![1024]⟩ .f32) (x3 : Vec Ideal ⟨2, ![K, 1024]⟩ .bf16) : Args K where
  d t n := x0 (ix2 t n)
  x t n := x1 (ix2 t n)
  g n := x2 (ix1 n)
  w k n := x3 (ix2 k n)

variable (A : Args K)

/-- The gradient of the norm's input. -/
def dx (t : Fin 4096) (n : Fin 1024) : EReal := normGrad (A.x t) (fun j => A.d t j * A.g j) n

/-- The gradient of the product's left factor. -/
def da (t : Fin 4096) (k : Fin K) : EReal := ∑ n, dx A t n * A.w k n

def dg (n : Fin 1024) : EReal := ∑ t, A.d t n * (A.x t n * rowInv (A.x t))

/-- The arguments that the norm's gradient reads are real numbers. -/
structure AllReal : Prop where
  d : ∀ t n, IsReal (A.d t n)
  x : ∀ t n, IsReal (A.x t n)
  g : ∀ n, IsReal (A.g n)

/-- Row `r` of the 256 of grid point `t`. -/
def row (t : ℕ) (ht : t < 16) (r : Fin 256) : Fin 4096 := ⟨t * 256 + r.val, by omega⟩

/-- What a grid point's rows add to the gain's gradient. -/
def dgT (t : ℕ) (ht : t < 16) (n : Fin 1024) : EReal := ∑ r, A.d (row t ht r) n * (A.x (row t ht r) n * rowInv (A.x (row t ht r)))

end Cert.PostNorm

end
-- ==== Proof.ScOutDx.lean ====
/-
  The gradient of the short convolution mixer's output projection and post-norm with respect to the projection's input, its
  output and the norm's gain. A grid point handles 256 rows: the norm's gradient, its product with the weights, and the
  rows' part of the gain's gradient. Both programs compute `da`, `dx` and `dg` of their four arguments, where the arguments
  that the norm's gradient reads are real numbers.
-/
module

public import proofs.«01_k».proof.Defs
public import proofs.«01_k».proof.Proof.AllFinite
public import proofs.«01_k».proof.Proof.PostNorm
public import proofs.«01_k».proof.Proof.Gen.Kernel12
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pipeline.ReadBack
public import Idealize.ShloMosaic.Lib.Claim
public import Idealize.ShloMosaic.Lib.Affine
public import Idealize.ShloMosaic.Lib.Decide
public import Idealize.ShloMosaic.Lib.IdealHost
public import Idealize.ShloMosaic.Adequacy
public import Idealize.ShloMosaic.Init

@[expose] public section

set_option maxRecDepth 16384

noncomputable section

namespace Cert.ScOutDx

open Idealize.ShloMosaic Idealize.ShloMosaic.TcCoe Idealize.SL.Sem Cert.FfnGrad Cert.PostNorm

section Payloads

open Cert.Kernel12Ideal Cert.Kernel12Ideal.Gen

theorem pay2_at (z : Fin 1) (n : Fin 1024) : (k0_pay2 (F := Ideal)) (ix2 z n) = 0 := by
  pointwise [k0_pay2]

theorem pay1_at (E : Vec Ideal S256x1024 .bf16) (W : Vec Ideal S1024x1024 .bf16) (r : Fin 256) (k : Fin 1024) :
    k0_pay1 E W (ix2 r k) = ∑ n, E (ix2 r n) * W (ix2 k n) := by
  pointwise [k0_pay1]

variable (X D : Vec Ideal S256x1024 .f32)

theorem pay3_at (r : Fin 256) (z : Fin 1) : k0_pay3 X (ix2 r z) = rowInv fun n => X (ix2 r n) := by
  unfold rowInv rowMsq
  pointwise [k0_pay3]
  rfl

theorem pay4_at (r : Fin 256) (n : Fin 1024) : k0_pay4 X (ix2 r n) = X (ix2 r n) * rowInv fun n => X (ix2 r n) := by
  rw [← pay3_at X r 0]
  pointwise [k0_pay4]

theorem pay5_at (G : Vec Ideal S1x1024 .f32) (z : Fin 1) (n : Fin 1024) :
    k0_pay5 X D G (ix2 z n) = G (ix2 z n) + ∑ r, D (ix2 r n) * (X (ix2 r n) * rowInv fun n => X (ix2 r n)) := by
  simp only [← pay4_at X]
  pointwise [k0_pay5]

theorem pay6_at (G : Vec Ideal S1x1024 .f32) (r : Fin 256) (n : Fin 1024) :
    k0_pay6 X D G (ix2 r n) = normGrad (fun n => X (ix2 r n)) (fun n => D (ix2 r n) * G (ix2 0 n)) n := by
  unfold normGrad
  simp only [← pay4_at X]
  rw [← pay3_at X r 0]
  pointwise [k0_pay6]
  rfl

end Payloads

section Reference

open Cert.Reference12Ideal Cert.Reference12Ideal.Gen Cert.Reference12Ideal.Read

variable (x0 x1 : Vec Ideal S4096x1024 .f32) (x2 : Vec Ideal S1024 .f32) (x3 : Vec Ideal S1024x1024 .bf16)

theorem v7_at (t : Fin 4096) (z : Fin 1) : val_main_v7 (F := Ideal) x1 (ix2 t z) = rowMsq fun n => x1 (ix2 t n) := by
  unfold rowMsq
  pointwise [val_main_v7, val_main_v6, val_main_v5, val_main_v4, val_main_v3, val_main_v2, val_main_v1, val_main_cst, val_main_cst_0, val_main_cst_1]
  rfl

theorem v8_at (t : Fin 4096) (z : Fin 1) : val_main_v8 (F := Ideal) x1 (ix2 t z) = rowInv fun n => x1 (ix2 t n) := by
  unfold rowInv
  rw [← v7_at x1 t z]
  pointwise [val_main_v8]

theorem v42_at (z : Fin 1) (n : Fin 1024) : val_main_v42 (F := Ideal) x0 x1 (ix2 z n) = dg (args x0 x1 x2 x3) n := by
  unfold dg
  pointwise [val_main_v42, val_main_v22, val_main_v19, val_main_v18, val_main_v17, val_main_v13, val_main_v12, val_main_cst_3, val_main_cst_4]
  rw [Fin.sum_univ_one]
  refine Finset.sum_congr rfl fun t _ => ?_
  rw [v8_at, mul_comm]
  rfl

theorem v31_at (t : Fin 4096) :
    val_main_v31 (F := Ideal) x0 x1 x2 (ix1 t)
      = Ideal.div ((∑ j, x1 (ix2 t j) * (x0 (ix2 t j) * x2 (ix1 j))) * (Ideal.ofBits .f32 0xBF000000#32 * Ideal.div (rowInv fun n => x1 (ix2 t n)) (rowMsq fun n => x1 (ix2 t n)))) lanes := by
  rw [← v8_at x1 t 0, ← v7_at x1 t 0]
  pointwise [val_main_v31, val_main_v30, val_main_v29, val_main_v28, val_main_v25, val_main_v24, val_main_v23, val_main_v21, val_main_v20, val_main_v14,
    val_main_v11, val_main_v10, val_main_v9, val_main_cst_2, val_main_cst_5, val_main_cst_6, val_main_cst_7]
  rw [Fin.sum_univ_one]
  rfl

theorem v36_at (hA : AllReal (args x0 x1 x2 x3)) (t : Fin 4096) (n : Fin 1024) :
    val_main_v36 (F := Ideal) x0 x1 x2 (ix2 t n) = dx (args x0 x1 x2 x3) t n := by
  unfold dx
  rw [← normGrad_eq (hA.x t) (fun n => (hA.d t n).mul (hA.g n))]
  have e := v31_at x0 x1 x2 t
  have e2 := v8_at x1 t 0
  show _ = x0 (ix2 t n) * x2 (ix1 n) * (rowInv fun n => x1 (ix2 t n)) + (x1 (ix2 t n) * _ + _ * x1 (ix2 t n))
  refine Eq.trans ?_ (congrArg₂ (fun a b => x0 (ix2 t n) * x2 (ix1 n) * a + b) e2 (congrArg (fun a => x1 (ix2 t n) * a + a * x1 (ix2 t n)) e))
  pointwise [val_main_v36, val_main_v35, val_main_v34, val_main_v33, val_main_v32, val_main_v27, val_main_v26, val_main_v21, val_main_v20, val_main_v14]
  rw [add_assoc (_ * _)]

theorem v40_at (hA : AllReal (args x0 x1 x2 x3)) (t : Fin 4096) (k : Fin 1024) :
    val_main_v40 (F := Ideal) x0 x1 x2 x3 (ix2 t k) = da (args x0 x1 x2 x3) t k := by
  unfold da
  simp only [← v36_at x0 x1 x2 x3 hA]
  pointwise [val_main_v40, val_main_v39, val_main_v0]
  rfl

end Reference

section Kernel

open Cert.Kernel12Ideal Cert.Kernel12Ideal.Gen

variable (m : (ℓ : Loc nD τ sig) → Buf (Elt Ideal) ℓ) (c : Dev nD)

/-- The arguments in memory. -/
def memArgs : Args 1024 := args (m ((c : Thread nD τ).loc main_arg0)) (m ((c : Thread nD τ).loc main_arg1)) (m ((c : Thread nD τ).loc main_arg2))
  (m ((c : Thread nD τ).loc main_arg3))

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![0, 0] :=
  (by decide +kernel : ∀ t : Fin grid0.N, _)

theorem blk0 (t : Fin cfg0.N) (r : Fin 256) (n : Fin 1024) : iblk m c 0 t (ix2 r n) = (memArgs m c).d (row t.val t.isLt r) n := by
  show _ = m ((c : Thread nD τ).loc main_arg0) (ix2 ⟨t.val * 256 + r.val, _⟩ n)
  blk_ext [iblk, V, idx t]

theorem blk1 (t : Fin cfg0.N) (r : Fin 256) (n : Fin 1024) : iblk m c 1 t (ix2 r n) = (memArgs m c).x (row t.val t.isLt r) n := by
  show _ = m ((c : Thread nD τ).loc main_arg1) (ix2 ⟨t.val * 256 + r.val, _⟩ n)
  blk_ext [iblk, V, idx t]

/-- The host lays the gain out as a row. -/
theorem V_gain (n : Fin 1024) : V m c main_v0 (ix2 0 n) = (memArgs m c).g n := by
  have e : V m c main_v0 = shapeCast S1x1024 (m ((c : Thread nD τ).loc main_arg2) : Vec Ideal S1024 .f32) shapeCasts_S1024_S1x1024 := rfl
  rw [e]
  pointwise [memArgs, args]

theorem blk2 (t : Fin cfg0.N) (n : Fin 1024) : iblk m c 2 t (ix2 0 n) = (memArgs m c).g n := by
  rw [← V_gain m c]
  blk_ext [iblk, idx t]

theorem blk3 (t : Fin cfg0.N) (k : Fin 1024) (n : Fin 1024) : iblk m c 3 t (ix2 k n) = (memArgs m c).w k n := by
  show _ = m ((c : Thread nD τ).loc main_arg3) (ix2 k n)
  blk_ext [iblk, V, idx t]

theorem row_at (t : Fin cfg0.N) (r : Fin 256) : (memArgs m c).x (row t.val t.isLt r) = fun n => iblk m c 1 t (ix2 r n) :=
  funext fun n => (blk1 m c t r n).symm

/-- The norm's gradient of a grid point's rows. -/
theorem grad_at (t : Fin cfg0.N) (r : Fin 256) (n : Fin 1024) :
    k0_pay6 (iblk m c 1 t) (iblk m c 0 t) (iblk m c 2 t) (ix2 r n) = dx (memArgs m c) (row t.val t.isLt r) n := by
  unfold dx
  simp only [← blk0, ← blk2 m c t]
  rw [row_at]
  exact pay6_at _ _ _ r n

theorem da_of (t : Fin cfg0.N) (r : Fin 256) (k : Fin 1024) :
    k0_pay1 (k0_pay6 (iblk m c 1 t) (iblk m c 0 t) (iblk m c 2 t)) (iblk m c 3 t) (ix2 r k) = da (memArgs m c) (row t.val t.isLt r) k := by
  unfold da
  simp only [← grad_at, ← blk3 m c t]
  exact pay1_at _ _ r k

theorem da_at (t : Fin cfg0.N) (r : Fin 256) (k : Fin 1024) : (outsAt0 m c t.val t.isLt).1 (ix2 r k) = da (memArgs m c) (row t.val t.isLt r) k := by
  by_cases h : t.val % 16 = 0
  · rw [outsAt0_A m c t h]
    frame_out
    exact da_of m c t r k
  · rw [outsAt0_B m c t h]
    frame_out
    exact da_of m c t r k

theorem dx_at (t : Fin cfg0.N) (r : Fin 256) (n : Fin 1024) : (outsAt0 m c t.val t.isLt).2.1 (ix2 r n) = dx (memArgs m c) (row t.val t.isLt r) n := by
  by_cases h : t.val % 16 = 0
  · rw [outsAt0_A m c t h]
    frame_out
    exact grad_at m c t r n
  · rw [outsAt0_B m c t h]
    frame_out
    exact grad_at m c t r n

theorem dgT_at (t : Fin cfg0.N) (G : Vec Ideal S1x1024 .f32) (n : Fin 1024) :
    k0_pay5 (iblk m c 1 t) (iblk m c 0 t) G (ix2 0 n) = G (ix2 0 n) + dgT (memArgs m c) t.val t.isLt n := by
  refine (pay5_at _ _ G 0 n).trans (congrArg (G (ix2 0 n) + ·) (Finset.sum_congr rfl fun r _ => ?_))
  rw [row_at, blk0]

theorem dg_first (t : Fin cfg0.N) (h : t.val % 16 = 0) (n : Fin 1024) : (outsAt0 m c t.val t.isLt).2.2 (ix2 0 n) = (0 : EReal) + dgT (memArgs m c) t.val t.isLt n := by
  rw [outsAt0_A m c t h]
  frame_out
  exact (dgT_at m c t _ n).trans (congrArg (· + _) (pay2_at 0 n))

theorem dg_later (t : Fin cfg0.N) (h : ¬ t.val % 16 = 0) (n : Fin 1024) : (outsAt0 m c t.val t.isLt).2.2 (ix2 0 n)
    = (outsAt0 m c (t.val - 1) (Nat.lt_of_le_of_lt (Nat.sub_le _ _) t.isLt)).2.2 (ix2 0 n) + dgT (memArgs m c) t.val t.isLt n := by
  rw [outsAt0_B m c t h]
  frame_out
  exact dgT_at m c t _ n

theorem dg_last (n : Fin 1024) : (outsAt0 m c t0_15.val t0_15.isLt).2.2 (ix2 0 n) = dg (memArgs m c) n := by
  refine (Pipeline.eq_sum_fin_of_reset_step_apply_last (fun k hk n => (outsAt0 m c k hk).2.2 (ix2 0 n)) 16 (fun _ => 0)
    (fun p n => dgT (memArgs m c) p.val p.isLt n) (dg_first m c) (dg_later m c) (by decide) t0_15 rfl n).trans ?_
  rw [zero_add]
  exact Fin.sum_mul_add_congr fun s r hl => rfl

theorem da_arr : (dats m 0 c).arrAt 4 cfg0.N = fun i : S4096x1024.Idx => da (memArgs m c) (i 0) (i 1) := by
  refine (dats m 0 c).arrAt_eq_of_covers 4 _ (by decide +kernel) fun t hf y => ?_
  have e0 : win0_4.index t 0 = t.val := by rw [(idx t).2.2.2.2.1]; rfl
  have e1 : win0_4.index t 1 = 0 := by rw [(idx t).2.2.2.2.1]; rfl
  have h0 : (win0_4.blk t).view.emb y 0 = row t.val t.isLt (y 0) := Fin.ext (by blk_simp; rw [e0]; simp only [row])
  have h1 : (win0_4.blk t).view.emb y 1 = y 1 := Fin.ext (by blk_simp; rw [e1]; omega)
  blk_simp
  rw [after0_4, h0, h1]
  obtain ⟨r, n, rfl⟩ : ∃ (r : Fin 256) (n : Fin 1024), y = ix2 r n := ⟨_, _, eq_ix2 y⟩
  exact da_at m c t r n

theorem dx_arr : (dats m 0 c).arrAt 5 cfg0.N = fun i : S4096x1024.Idx => dx (memArgs m c) (i 0) (i 1) := by
  refine (dats m 0 c).arrAt_eq_of_covers 5 _ (by decide +kernel) fun t hf y => ?_
  have e0 : win0_5.index t 0 = t.val := by rw [(idx t).2.2.2.2.2.1]; rfl
  have e1 : win0_5.index t 1 = 0 := by rw [(idx t).2.2.2.2.2.1]; rfl
  have h0 : (win0_5.blk t).view.emb y 0 = row t.val t.isLt (y 0) := Fin.ext (by blk_simp; rw [e0]; simp only [row])
  have h1 : (win0_5.blk t).view.emb y 1 = y 1 := Fin.ext (by blk_simp; rw [e1]; omega)
  blk_simp
  rw [after0_5, h0, h1]
  obtain ⟨r, n, rfl⟩ : ∃ (r : Fin 256) (n : Fin 1024), y = ix2 r n := ⟨_, _, eq_ix2 y⟩
  exact dx_at m c t r n

theorem dg_arr : (dats m 0 c).arrAt 6 cfg0.N = fun i : S1x1024.Idx => dg (memArgs m c) (i 1) := by
  refine (dats m 0 c).arrAt_eq_of_after_last 6 t0_15 (by decide +kernel) _ fun j => ?_
  blk_simp
  rw [after0_6]
  obtain ⟨z, n, rfl⟩ : ∃ (z : Fin 1) (n : Fin 1024), j = ix2 z n := ⟨_, _, eq_ix2 j⟩
  obtain rfl : z = 0 := Subsingleton.elim _ _
  exact dg_last m c n

theorem run_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = (fun i : S4096x1024.Idx => da (memArgs m c) (i 0) (i 1))
      ∧ r.2.mem ((c.tc : Thread nD τ).loc main_v1_1) = (fun i : S4096x1024.Idx => dx (memArgs m c) (i 0) (i 1))
      ∧ r.2.mem ((c.tc : Thread nD τ).loc main_v1_2) = (fun i : S1x1024.Idx => dg (memArgs m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (da_arr m c), (h c).2.1.trans (dx_arr m c), (h c).2.2.1.trans (dg_arr m c), (h c).2.2.2⟩)
    (Cert.Kernel12Ideal.Value.run_blocks m ρ)

end Kernel

section Reference

open Cert.Reference12Ideal Cert.Reference12Ideal.Gen Cert.Reference12Ideal.Read

theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v40) = val_main_v40 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v41) = val_main_v41 (F := Ideal) (m ((c.tc : Thread nD τ).loc main_arg0)) (m ((c.tc : Thread nD τ).loc main_arg1)) (m ((c.tc : Thread nD τ).loc main_arg2))
      ∧ r.2.mem ((c.tc : Thread nD τ).loc main_v42) = val_main_v42 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (val_main_v40_eq ..), (h c).2.1.trans (val_main_v41_eq ..), (h c).2.2.1.trans (val_main_v42_eq ..), (h c).2.2.2⟩)
    (Cert.Reference12Ideal.Value.run m ρ)

variable (x0 x1 : Vec Ideal S4096x1024 .f32) (x2 : Vec Ideal S1024 .f32) (x3 : Vec Ideal S1024x1024 .bf16)

theorem da_eq (hA : AllReal (args x0 x1 x2 x3)) :
    val_main_v40 (F := Ideal) x0 x1 x2 x3 = fun i : S4096x1024.Idx => da (args x0 x1 x2 x3) (i 0) (i 1) := by
  funext i
  obtain ⟨t, n, rfl⟩ : ∃ (t : Fin 4096) (n : Fin 1024), i = ix2 t n := ⟨_, _, eq_ix2 i⟩
  exact v40_at x0 x1 x2 x3 hA t n

theorem dx_eq (hA : AllReal (args x0 x1 x2 x3)) :
    val_main_v41 (F := Ideal) x0 x1 x2 = fun i : S4096x1024.Idx => dx (args x0 x1 x2 x3) (i 0) (i 1) := by
  funext i
  obtain ⟨t, n, rfl⟩ : ∃ (t : Fin 4096) (n : Fin 1024), i = ix2 t n := ⟨_, _, eq_ix2 i⟩
  exact v36_at x0 x1 x2 x3 hA t n

theorem dg_eq : val_main_v42 (F := Ideal) x0 x1 = fun i : S1x1024.Idx => dg (args x0 x1 x2 x3) (i 1) := by
  funext i
  obtain ⟨z, n, rfl⟩ : ∃ (z : Fin 1) (n : Fin 1024), i = ix2 z n := ⟨_, _, eq_ix2 i⟩
  exact v42_at x0 x1 x2 x3 z n

end Reference

section Precondition

open Cert.Pre_all_finite12

theorem pre_facts : Facts where
  bcast_S_S4096x1024 := by decide
  reducesTo_S4096x1024_S_d0_1 := by decide
  h_S_ := by decide
  bcast_S_S1024 := by decide
  reducesTo_S1024_S_d0 := by decide

variable [Facts] {x0 x1 : FVec Ideal S4096x1024 .f32} {x2 : FVec Ideal S1024 .f32} {x3 : FVec Ideal S1024x1024 .bf16}

theorem allReal (h : fn (F := Ideal) x0 x1 x2 x3 = fun _ => 1#1) : AllReal (args x0 x1 x2 x3) := by
  have e := congrFun h (fun a => a.elim0)
  obtain ⟨e, e2⟩ := IntOp.andi_eq_one.1 e
  obtain ⟨e0, e1⟩ := IntOp.andi_eq_one.1 e
  exact { d := fun t n => real_of_all x0 Facts.bcast_S_S4096x1024 Facts.reducesTo_S4096x1024_S_d0_1 Facts.h_S_ _ e0 (ix2 t n)
          x := fun t n => real_of_all x1 Facts.bcast_S_S4096x1024 Facts.reducesTo_S4096x1024_S_d0_1 Facts.h_S_ _ e1 (ix2 t n)
          g := fun n => real_of_all x2 Facts.bcast_S_S1024 Facts.reducesTo_S1024_S_d0 Facts.h_S_ _ e2 (ix1 n) }

end Precondition

theorem algebraic : Cert.algebraic_Kernel12Ideal_Reference12Ideal_pre_all_finite12 (hKernel12Ideal := Cert.Kernel12Ideal.Gen.facts)
    (hReference12Ideal := Cert.Reference12Ideal.Gen.facts) (hPre_all_finite12 := pre_facts) := by
  intro m g m' g' hpre hagree
  refine ⟨_, _, _, run_kernel m g, (θ_run _ _ _).mono (fun r h c => ?_) (run_reference m' g')⟩
  have hA : AllReal (memArgs m c) := @allReal pre_facts _ _ _ _ (hpre c)
  obtain ⟨a0, a1, a2, a3⟩ := hagree c
  obtain ⟨h0, h1, h2, hk⟩ := h c
  rw [a0, a1, a2, a3] at h0
  rw [a0, a1, a2] at h1
  rw [a0, a1] at h2
  exact ⟨h0.trans (da_eq _ _ _ _ hA), h1.trans (dx_eq _ _ _ _ hA), h2.trans (dg_eq _ _ _ _), hk⟩

theorem frame_reference : Cert.quiescent_Reference12Ideal (hReference12Ideal := Cert.Reference12Ideal.Gen.facts) := by
  intro m g _
  exact (θ_run _ _ _).mono (fun r h => ⟨fun c => (h c).2.2.2, sem_eq_zero_of_no_sems (by decide) r.2⟩) (run_reference m g)

end Cert.ScOutDx

end
-- ==== Proof.ScOutDw.lean ====
/-
  The gradient of the weights of the short convolution mixer's output projection: each block of 1024 columns is multiplied,
  block of rows by block of rows, into an accumulator that is written back after the last block. Both programs compute
  `dw (i, j) = ∑ t, a t i * b t j` of their two arguments.
-/
module

public import proofs.«01_k».proof.Defs
public import proofs.«01_k».proof.Proof.Weights
public import proofs.«01_k».proof.Proof.Gen.Kernel13
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pipeline.ReadBack
public import Idealize.ShloMosaic.Lib.Claim
public import Idealize.ShloMosaic.Lib.IdealHost
public import Idealize.ShloMosaic.Adequacy
public import Idealize.ShloMosaic.Init

@[expose] public section

set_option maxRecDepth 16384

noncomputable section

namespace Cert.ScOutDw

open Idealize.ShloMosaic Idealize.ShloMosaic.TcCoe Idealize.SL.Sem Cert.Weights

section Kernel

open Cert.Kernel13Ideal Cert.Kernel13Ideal.Gen

variable (m : (ℓ : Loc nD τ sig) → Buf (Elt Ideal) ℓ) (c : Dev nD)

theorem idx : ∀ t : Fin cfg0.N, win0_0.index t = ![t.val % 8, 0] ∧ win0_1.index t = ![t.val % 8, 0] ∧ win0_2.index t = ![0, 0] :=
  (by decide +kernel : ∀ t : Fin grid0.N, _)

theorem pay1_at (i : Fin 1024) (j : Fin 1024) : (k0_pay1 (F := Ideal)) (ix2 i j) = 0 := by
  pointwise [k0_pay1]

theorem pay2_at (P : Vec Ideal S1024x1024 .f32) (X : Vec Ideal S512x1024 .bf16) (Y : Vec Ideal S512x1024 .bf16) (i : Fin 1024) (j : Fin 1024) :
    k0_pay2 P X Y (ix2 i j) = P (ix2 i j) + ∑ r, X (ix2 r i) * Y (ix2 r j) := by
  pointwise [k0_pay2]

theorem pay3_at (P : Vec Ideal S1024x1024 .f32) (i : Fin 1024) (j : Fin 1024) : k0_pay3 P (ix2 i j) = P (ix2 i j) := by
  pointwise [k0_pay3]

theorem acc_first (t : Fin cfg0.N) (h : t.val % 8 = 0) (q : S1024x1024.Idx) :
    (outsAt0 m c t.val t.isLt).2 q = (0 : EReal) + dw (iblk m c 0 t) (iblk m c 1 t) q := by
  rw [outsAt0_A m c t h (by omega)]
  frame_out
  obtain ⟨i, j, rfl⟩ : ∃ i j, q = ix2 i j := ⟨_, _, eq_ix2 q⟩
  refine (pay2_at _ _ _ i j).trans ?_
  rw [pay1_at]
  rfl

theorem acc_later (t : Fin cfg0.N) (h : ¬ t.val % 8 = 0) (q : S1024x1024.Idx) :
    (outsAt0 m c t.val t.isLt).2 q = (outsAt0 m c (t.val - 1) (Nat.lt_of_le_of_lt (Nat.sub_le _ _) t.isLt)).2 q + dw (iblk m c 0 t) (iblk m c 1 t) q := by
  by_cases h1 : t.val % 8 = 7
  · rw [outsAt0_C m c t h h1]
    frame_out
    simp only [read_unread_whole]
    obtain ⟨i, j, rfl⟩ : ∃ i j, q = ix2 i j := ⟨_, _, eq_ix2 q⟩
    exact pay2_at _ _ _ i j
  · rw [outsAt0_B m c t h h1]
    frame_out
    simp only [read_unread_whole]
    obtain ⟨i, j, rfl⟩ : ∃ i j, q = ix2 i j := ⟨_, _, eq_ix2 q⟩
    exact pay2_at _ _ _ i j

theorem out_last (t : Fin cfg0.N) (h1 : t.val % 8 = 7) (q : S1024x1024.Idx) :
    (outsAt0 m c t.val t.isLt).1 q = (outsAt0 m c (t.val - 1) (Nat.lt_of_le_of_lt (Nat.sub_le _ _) t.isLt)).2 q + dw (iblk m c 0 t) (iblk m c 1 t) q := by
  rw [outsAt0_C m c t (by omega) h1]
  frame_out
  simp only [read_unread_whole]
  obtain ⟨i, j, rfl⟩ : ∃ i j, q = ix2 i j := ⟨_, _, eq_ix2 q⟩
  exact (pay3_at _ i j).trans (pay2_at _ _ _ i j)

/-- The columns of a grid point. -/
def col (t : Fin cfg0.N) (j : Fin 1024) : Fin 1024 := j

theorem blk0 (t : Fin cfg0.N) (r : Fin 512) (i : Fin 1024) : iblk m c 0 t (ix2 r i)
    = m ((c : Thread nD τ).loc main_arg0) (ix2 ⟨t.val % 8 * 512 + r.val, by omega⟩ i) := by
  blk_ext [iblk, V, idx t]

theorem blk1 (t : Fin cfg0.N) (r : Fin 512) (j : Fin 1024) : iblk m c 1 t (ix2 r j)
    = m ((c : Thread nD τ).loc main_arg1) (ix2 ⟨t.val % 8 * 512 + r.val, by omega⟩ (col t j)) := by
  blk_ext [col, iblk, V, idx t]

theorem out_at (t : Fin cfg0.N) (h1 : t.val % 8 = 7) (i : Fin 1024) (j : Fin 1024) :
    (outsAt0 m c t.val t.isLt).1 (ix2 i j) = dw (m ((c : Thread nD τ).loc main_arg0)) (m ((c : Thread nD τ).loc main_arg1)) (ix2 i (col t j)) := by
  rw [out_last m c t h1, ← acc_later m c t (by omega)]
  exact acc_eq _ _ (fun n h => (outsAt0 m c n h).2) (iblk m c 0) (iblk m c 1) col (fun s t h => rfl) (blk0 m c) (blk1 m c) (acc_first m c) (acc_later m c) t h1 i j

theorem dw_arr : (dats m 0 c).arrAt 2 cfg0.N = dw (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  have e0 : win0_2.index t 0 = 0 := by rw [(idx t).2.2]; rfl
  have e1 : win0_2.index t 1 = 0 := by rw [(idx t).2.2]; rfl
  blk_simp
  rw [after0_2]
  obtain ⟨i, j, rfl⟩ : ∃ i j, y = ix2 i j := ⟨_, _, eq_ix2 y⟩
  refine (out_at m c t h7 i j).trans (congrArg (dw _ _) ?_)
  funext a
  apply Fin.ext
  match a with
  | 0 => blk_simp; rw [e0]; simp
  | 1 => blk_simp; rw [e1]; simp [col]

theorem run_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (dw_arr m c), (h c).2⟩) (Cert.Kernel13Ideal.Value.run_blocks m ρ)

end Kernel

section Reference

open Cert.Reference13Ideal Cert.Reference13Ideal.Gen Cert.Reference13Ideal.Read

theorem ref_at (x0 : Vec Ideal S4096x1024 .bf16) (x1 : Vec Ideal S4096x1024 .bf16) :
    val_main_v6 (F := Ideal) x0 x1 = dw x0 x1 := by
  funext i
  obtain ⟨p, q, rfl⟩ : ∃ p q, i = ix2 p q := ⟨_, _, eq_ix2 i⟩
  pointwise [val_main_v6, val_main_v5, val_main_v4, val_main_v3, val_main_v0]
  exact Finset.sum_congr rfl fun t _ => mul_comm _ _

theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1.trans (val_main_v6_eq _ _)).trans (ref_at _ _), (h c).2⟩) (Cert.Reference13Ideal.Value.run m ρ)

end Reference

theorem algebraic : Cert.algebraic_Kernel13Ideal_Reference13Ideal (hKernel13Ideal := Cert.Kernel13Ideal.Gen.facts)
    (hReference13Ideal := Cert.Reference13Ideal.Gen.facts) := by
  intro m g m' g' _ hagree
  refine ⟨_, run_kernel m g, (θ_run _ _ _).mono (fun r h c => ?_) (run_reference m' g')⟩
  obtain ⟨a0, a1⟩ := hagree c
  obtain ⟨h0, hk⟩ := h c
  rw [a0, a1] at h0
  exact ⟨h0, hk⟩

theorem frame_reference : Cert.quiescent_Reference13Ideal (hReference13Ideal := Cert.Reference13Ideal.Gen.facts) := by
  intro m g _
  exact (θ_run _ _ _).mono (fun r h => ⟨fun c => (h c).2, sem_eq_zero_of_no_sems (by decide) r.2⟩) (run_reference m g)

end Cert.ScOutDw

end
-- ==== Proof.SsdOutDx.lean ====
/-
  The gradient of the SSD mixer's output projection and post-norm with respect to the projection's input, its
  output and the norm's gain. A grid point handles 256 rows: the norm's gradient, its product with the weights, and the
  rows' part of the gain's gradient. Both programs compute `da`, `dx` and `dg` of their four arguments, where the arguments
  that the norm's gradient reads are real numbers.
-/
module

public import proofs.«01_k».proof.Defs
public import proofs.«01_k».proof.Proof.AllFinite
public import proofs.«01_k».proof.Proof.ScOutDx
public import proofs.«01_k».proof.Proof.Gen.Kernel14
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pipeline.ReadBack
public import Idealize.ShloMosaic.Lib.Claim
public import Idealize.ShloMosaic.Lib.Affine
public import Idealize.ShloMosaic.Lib.Decide
public import Idealize.ShloMosaic.Lib.IdealHost
public import Idealize.ShloMosaic.Adequacy
public import Idealize.ShloMosaic.Init

@[expose] public section

set_option maxRecDepth 16384

noncomputable section

namespace Cert.SsdOutDx

open Idealize.ShloMosaic Idealize.ShloMosaic.TcCoe Idealize.SL.Sem Cert.FfnGrad Cert.PostNorm

section Payloads

open Cert.Kernel14Ideal Cert.Kernel14Ideal.Gen

theorem pay2_at (z : Fin 1) (n : Fin 1024) : (k0_pay2 (F := Ideal)) (ix2 z n) = 0 := Cert.ScOutDx.pay2_at z n

theorem pay1_at (E : Vec Ideal S256x1024 .bf16) (W : Vec Ideal S2048x1024 .bf16) (r : Fin 256) (k : Fin 2048) :
    k0_pay1 E W (ix2 r k) = ∑ n, E (ix2 r n) * W (ix2 k n) := by
  pointwise [k0_pay1]

variable (X D : Vec Ideal S256x1024 .f32)

theorem pay3_at (r : Fin 256) (z : Fin 1) : k0_pay3 X (ix2 r z) = rowInv fun n => X (ix2 r n) := Cert.ScOutDx.pay3_at X r z

theorem pay4_at (r : Fin 256) (n : Fin 1024) : k0_pay4 X (ix2 r n) = X (ix2 r n) * rowInv fun n => X (ix2 r n) := Cert.ScOutDx.pay4_at X r n

theorem pay5_at (G : Vec Ideal S1x1024 .f32) (z : Fin 1) (n : Fin 1024) :
    k0_pay5 X D G (ix2 z n) = G (ix2 z n) + ∑ r, D (ix2 r n) * (X (ix2 r n) * rowInv fun n => X (ix2 r n)) := Cert.ScOutDx.pay5_at X D G z n

theorem pay6_at (G : Vec Ideal S1x1024 .f32) (r : Fin 256) (n : Fin 1024) :
    k0_pay6 X D G (ix2 r n) = normGrad (fun n => X (ix2 r n)) (fun n => D (ix2 r n) * G (ix2 0 n)) n := Cert.ScOutDx.pay6_at X D G r n

end Payloads

section Reference

open Cert.Reference14Ideal Cert.Reference14Ideal.Gen Cert.Reference14Ideal.Read

variable (x0 x1 : Vec Ideal S4096x1024 .f32) (x2 : Vec Ideal S1024 .f32) (x3 : Vec Ideal S2048x1024 .bf16)

theorem v7_at (t : Fin 4096) (z : Fin 1) : val_main_v7 (F := Ideal) x1 (ix2 t z) = rowMsq fun n => x1 (ix2 t n) := Cert.ScOutDx.v7_at x1 t z

theorem v8_at (t : Fin 4096) (z : Fin 1) : val_main_v8 (F := Ideal) x1 (ix2 t z) = rowInv fun n => x1 (ix2 t n) := Cert.ScOutDx.v8_at x1 t z

theorem v41_at (z : Fin 1) (n : Fin 1024) : val_main_v41 (F := Ideal) x0 x1 (ix2 z n) = dg (args x0 x1 x2 x3) n := by
  unfold dg
  pointwise [val_main_v41, val_main_v22, val_main_v19, val_main_v18, val_main_v17, val_main_v13, val_main_v12, val_main_cst_3, val_main_cst_4]
  rw [Fin.sum_univ_one]
  refine Finset.sum_congr rfl fun t _ => ?_
  rw [v8_at, mul_comm]
  rfl

theorem v31_at (t : Fin 4096) :
    val_main_v31 (F := Ideal) x0 x1 x2 (ix1 t)
      = Ideal.div ((∑ j, x1 (ix2 t j) * (x0 (ix2 t j) * x2 (ix1 j))) * (Ideal.ofBits .f32 0xBF000000#32 * Ideal.div (rowInv fun n => x1 (ix2 t n)) (rowMsq fun n => x1 (ix2 t n)))) lanes := by
  rw [← v8_at x1 t 0, ← v7_at x1 t 0]
  pointwise [val_main_v31, val_main_v30, val_main_v29, val_main_v28, val_main_v25, val_main_v24, val_main_v23, val_main_v21, val_main_v20, val_main_v14,
    val_main_v11, val_main_v10, val_main_v9, val_main_cst_2, val_main_cst_5, val_main_cst_6, val_main_cst_7]
  rw [Fin.sum_univ_one]
  rfl

theorem v36_at (hA : AllReal (args x0 x1 x2 x3)) (t : Fin 4096) (n : Fin 1024) :
    val_main_v36 (F := Ideal) x0 x1 x2 (ix2 t n) = dx (args x0 x1 x2 x3) t n := by
  unfold dx
  rw [← normGrad_eq (hA.x t) (fun n => (hA.d t n).mul (hA.g n))]
  have e := v31_at x0 x1 x2 t
  have e2 := v8_at x1 t 0
  show _ = x0 (ix2 t n) * x2 (ix1 n) * (rowInv fun n => x1 (ix2 t n)) + (x1 (ix2 t n) * _ + _ * x1 (ix2 t n))
  refine Eq.trans ?_ (congrArg₂ (fun a b => x0 (ix2 t n) * x2 (ix1 n) * a + b) e2 (congrArg (fun a => x1 (ix2 t n) * a + a * x1 (ix2 t n)) e))
  pointwise [val_main_v36, val_main_v35, val_main_v34, val_main_v33, val_main_v32, val_main_v27, val_main_v26, val_main_v21, val_main_v20, val_main_v14]
  rw [add_assoc (_ * _)]

theorem v39_at (hA : AllReal (args x0 x1 x2 x3)) (t : Fin 4096) (k : Fin 2048) :
    val_main_v39 (F := Ideal) x0 x1 x2 x3 (ix2 t k) = da (args x0 x1 x2 x3) t k := by
  unfold da
  simp only [← v36_at x0 x1 x2 x3 hA]
  pointwise [val_main_v39, val_main_v0]
  rfl

end Reference

section Kernel

open Cert.Kernel14Ideal Cert.Kernel14Ideal.Gen

variable (m : (ℓ : Loc nD τ sig) → Buf (Elt Ideal) ℓ) (c : Dev nD)

/-- The arguments in memory. -/
def memArgs : Args 2048 := args (m ((c : Thread nD τ).loc main_arg0)) (m ((c : Thread nD τ).loc main_arg1)) (m ((c : Thread nD τ).loc main_arg2))
  (m ((c : Thread nD τ).loc main_arg3))

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![0, 0] :=
  (by decide +kernel : ∀ t : Fin grid0.N, _)

theorem blk0 (t : Fin cfg0.N) (r : Fin 256) (n : Fin 1024) : iblk m c 0 t (ix2 r n) = (memArgs m c).d (row t.val t.isLt r) n := by
  show _ = m ((c : Thread nD τ).loc main_arg0) (ix2 ⟨t.val * 256 + r.val, _⟩ n)
  blk_ext [iblk, V, idx t]

theorem blk1 (t : Fin cfg0.N) (r : Fin 256) (n : Fin 1024) : iblk m c 1 t (ix2 r n) = (memArgs m c).x (row t.val t.isLt r) n := by
  show _ = m ((c : Thread nD τ).loc main_arg1) (ix2 ⟨t.val * 256 + r.val, _⟩ n)
  blk_ext [iblk, V, idx t]

/-- The host lays the gain out as a row. -/
theorem V_gain (n : Fin 1024) : V m c main_v0 (ix2 0 n) = (memArgs m c).g n := by
  have e : V m c main_v0 = shapeCast S1x1024 (m ((c : Thread nD τ).loc main_arg2) : Vec Ideal S1024 .f32) shapeCasts_S1024_S1x1024 := rfl
  rw [e]
  pointwise [memArgs, args]

theorem blk2 (t : Fin cfg0.N) (n : Fin 1024) : iblk m c 2 t (ix2 0 n) = (memArgs m c).g n := by
  rw [← V_gain m c]
  blk_ext [iblk, idx t]

theorem blk3 (t : Fin cfg0.N) (k : Fin 2048) (n : Fin 1024) : iblk m c 3 t (ix2 k n) = (memArgs m c).w k n := by
  show _ = m ((c : Thread nD τ).loc main_arg3) (ix2 k n)
  blk_ext [iblk, V, idx t]

theorem row_at (t : Fin cfg0.N) (r : Fin 256) : (memArgs m c).x (row t.val t.isLt r) = fun n => iblk m c 1 t (ix2 r n) :=
  funext fun n => (blk1 m c t r n).symm

/-- The norm's gradient of a grid point's rows. -/
theorem grad_at (t : Fin cfg0.N) (r : Fin 256) (n : Fin 1024) :
    k0_pay6 (iblk m c 1 t) (iblk m c 0 t) (iblk m c 2 t) (ix2 r n) = dx (memArgs m c) (row t.val t.isLt r) n := by
  unfold dx
  simp only [← blk0, ← blk2 m c t]
  rw [row_at]
  exact pay6_at _ _ _ r n

theorem da_of (t : Fin cfg0.N) (r : Fin 256) (k : Fin 2048) :
    k0_pay1 (k0_pay6 (iblk m c 1 t) (iblk m c 0 t) (iblk m c 2 t)) (iblk m c 3 t) (ix2 r k) = da (memArgs m c) (row t.val t.isLt r) k := by
  unfold da
  simp only [← grad_at, ← blk3 m c t]
  exact pay1_at _ _ r k

theorem da_at (t : Fin cfg0.N) (r : Fin 256) (k : Fin 2048) : (outsAt0 m c t.val t.isLt).1 (ix2 r k) = da (memArgs m c) (row t.val t.isLt r) k := by
  by_cases h : t.val % 16 = 0
  · rw [outsAt0_A m c t h]
    frame_out
    exact da_of m c t r k
  · rw [outsAt0_B m c t h]
    frame_out
    exact da_of m c t r k

theorem dx_at (t : Fin cfg0.N) (r : Fin 256) (n : Fin 1024) : (outsAt0 m c t.val t.isLt).2.1 (ix2 r n) = dx (memArgs m c) (row t.val t.isLt r) n := by
  by_cases h : t.val % 16 = 0
  · rw [outsAt0_A m c t h]
    frame_out
    exact grad_at m c t r n
  · rw [outsAt0_B m c t h]
    frame_out
    exact grad_at m c t r n

theorem dgT_at (t : Fin cfg0.N) (G : Vec Ideal S1x1024 .f32) (n : Fin 1024) :
    k0_pay5 (iblk m c 1 t) (iblk m c 0 t) G (ix2 0 n) = G (ix2 0 n) + dgT (memArgs m c) t.val t.isLt n := by
  refine (pay5_at _ _ G 0 n).trans (congrArg (G (ix2 0 n) + ·) (Finset.sum_congr rfl fun r _ => ?_))
  rw [row_at, blk0]

theorem dg_first (t : Fin cfg0.N) (h : t.val % 16 = 0) (n : Fin 1024) : (outsAt0 m c t.val t.isLt).2.2 (ix2 0 n) = (0 : EReal) + dgT (memArgs m c) t.val t.isLt n := by
  rw [outsAt0_A m c t h]
  frame_out
  exact (dgT_at m c t _ n).trans (congrArg (· + _) (pay2_at 0 n))

theorem dg_later (t : Fin cfg0.N) (h : ¬ t.val % 16 = 0) (n : Fin 1024) : (outsAt0 m c t.val t.isLt).2.2 (ix2 0 n)
    = (outsAt0 m c (t.val - 1) (Nat.lt_of_le_of_lt (Nat.sub_le _ _) t.isLt)).2.2 (ix2 0 n) + dgT (memArgs m c) t.val t.isLt n := by
  rw [outsAt0_B m c t h]
  frame_out
  exact dgT_at m c t _ n

theorem dg_last (n : Fin 1024) : (outsAt0 m c t0_15.val t0_15.isLt).2.2 (ix2 0 n) = dg (memArgs m c) n := by
  refine (Pipeline.eq_sum_fin_of_reset_step_apply_last (fun k hk n => (outsAt0 m c k hk).2.2 (ix2 0 n)) 16 (fun _ => 0)
    (fun p n => dgT (memArgs m c) p.val p.isLt n) (dg_first m c) (dg_later m c) (by decide) t0_15 rfl n).trans ?_
  rw [zero_add]
  exact Fin.sum_mul_add_congr fun s r hl => rfl

theorem da_arr : (dats m 0 c).arrAt 4 cfg0.N = fun i : S4096x2048.Idx => da (memArgs m c) (i 0) (i 1) := by
  refine (dats m 0 c).arrAt_eq_of_covers 4 _ (by decide +kernel) fun t hf y => ?_
  have e0 : win0_4.index t 0 = t.val := by rw [(idx t).2.2.2.2.1]; rfl
  have e1 : win0_4.index t 1 = 0 := by rw [(idx t).2.2.2.2.1]; rfl
  have h0 : (win0_4.blk t).view.emb y 0 = row t.val t.isLt (y 0) := Fin.ext (by blk_simp; rw [e0]; simp only [row])
  have h1 : (win0_4.blk t).view.emb y 1 = y 1 := Fin.ext (by blk_simp; rw [e1]; omega)
  blk_simp
  rw [after0_4, h0, h1]
  obtain ⟨r, n, rfl⟩ : ∃ (r : Fin 256) (n : Fin 2048), y = ix2 r n := ⟨_, _, eq_ix2 y⟩
  exact da_at m c t r n

theorem dx_arr : (dats m 0 c).arrAt 5 cfg0.N = fun i : S4096x1024.Idx => dx (memArgs m c) (i 0) (i 1) := by
  refine (dats m 0 c).arrAt_eq_of_covers 5 _ (by decide +kernel) fun t hf y => ?_
  have e0 : win0_5.index t 0 = t.val := by rw [(idx t).2.2.2.2.2.1]; rfl
  have e1 : win0_5.index t 1 = 0 := by rw [(idx t).2.2.2.2.2.1]; rfl
  have h0 : (win0_5.blk t).view.emb y 0 = row t.val t.isLt (y 0) := Fin.ext (by blk_simp; rw [e0]; simp only [row])
  have h1 : (win0_5.blk t).view.emb y 1 = y 1 := Fin.ext (by blk_simp; rw [e1]; omega)
  blk_simp
  rw [after0_5, h0, h1]
  obtain ⟨r, n, rfl⟩ : ∃ (r : Fin 256) (n : Fin 1024), y = ix2 r n := ⟨_, _, eq_ix2 y⟩
  exact dx_at m c t r n

theorem dg_arr : (dats m 0 c).arrAt 6 cfg0.N = fun i : S1x1024.Idx => dg (memArgs m c) (i 1) := by
  refine (dats m 0 c).arrAt_eq_of_after_last 6 t0_15 (by decide +kernel) _ fun j => ?_
  blk_simp
  rw [after0_6]
  obtain ⟨z, n, rfl⟩ : ∃ (z : Fin 1) (n : Fin 1024), j = ix2 z n := ⟨_, _, eq_ix2 j⟩
  obtain rfl : z = 0 := Subsingleton.elim _ _
  exact dg_last m c n

theorem run_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = (fun i : S4096x2048.Idx => da (memArgs m c) (i 0) (i 1))
      ∧ r.2.mem ((c.tc : Thread nD τ).loc main_v1_1) = (fun i : S4096x1024.Idx => dx (memArgs m c) (i 0) (i 1))
      ∧ r.2.mem ((c.tc : Thread nD τ).loc main_v1_2) = (fun i : S1x1024.Idx => dg (memArgs m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (da_arr m c), (h c).2.1.trans (dx_arr m c), (h c).2.2.1.trans (dg_arr m c), (h c).2.2.2⟩)
    (Cert.Kernel14Ideal.Value.run_blocks m ρ)

end Kernel

section Reference

open Cert.Reference14Ideal Cert.Reference14Ideal.Gen Cert.Reference14Ideal.Read

theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v39) = val_main_v39 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v40) = val_main_v40 (F := Ideal) (m ((c.tc : Thread nD τ).loc main_arg0)) (m ((c.tc : Thread nD τ).loc main_arg1)) (m ((c.tc : Thread nD τ).loc main_arg2))
      ∧ r.2.mem ((c.tc : Thread nD τ).loc main_v41) = val_main_v41 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (val_main_v39_eq ..), (h c).2.1.trans (val_main_v40_eq ..), (h c).2.2.1.trans (val_main_v41_eq ..), (h c).2.2.2⟩)
    (Cert.Reference14Ideal.Value.run m ρ)

variable (x0 x1 : Vec Ideal S4096x1024 .f32) (x2 : Vec Ideal S1024 .f32) (x3 : Vec Ideal S2048x1024 .bf16)

theorem da_eq (hA : AllReal (args x0 x1 x2 x3)) :
    val_main_v39 (F := Ideal) x0 x1 x2 x3 = fun i : S4096x2048.Idx => da (args x0 x1 x2 x3) (i 0) (i 1) := by
  funext i
  obtain ⟨t, n, rfl⟩ : ∃ (t : Fin 4096) (n : Fin 2048), i = ix2 t n := ⟨_, _, eq_ix2 i⟩
  exact v39_at x0 x1 x2 x3 hA t n

theorem dx_eq (hA : AllReal (args x0 x1 x2 x3)) :
    val_main_v40 (F := Ideal) x0 x1 x2 = fun i : S4096x1024.Idx => dx (args x0 x1 x2 x3) (i 0) (i 1) := by
  funext i
  obtain ⟨t, n, rfl⟩ : ∃ (t : Fin 4096) (n : Fin 1024), i = ix2 t n := ⟨_, _, eq_ix2 i⟩
  exact v36_at x0 x1 x2 x3 hA t n

theorem dg_eq : val_main_v41 (F := Ideal) x0 x1 = fun i : S1x1024.Idx => dg (args x0 x1 x2 x3) (i 1) := by
  funext i
  obtain ⟨z, n, rfl⟩ : ∃ (z : Fin 1) (n : Fin 1024), i = ix2 z n := ⟨_, _, eq_ix2 i⟩
  exact v41_at x0 x1 x2 x3 z n

end Reference

section Precondition

open Cert.Pre_all_finite14

theorem pre_facts : Facts where
  bcast_S_S4096x1024 := by decide
  reducesTo_S4096x1024_S_d0_1 := by decide
  h_S_ := by decide
  bcast_S_S1024 := by decide
  reducesTo_S1024_S_d0 := by decide

variable [Facts] {x0 x1 : FVec Ideal S4096x1024 .f32} {x2 : FVec Ideal S1024 .f32} {x3 : FVec Ideal S2048x1024 .bf16}

theorem allReal (h : fn (F := Ideal) x0 x1 x2 x3 = fun _ => 1#1) : AllReal (args x0 x1 x2 x3) := by
  have e := congrFun h (fun a => a.elim0)
  obtain ⟨e, e2⟩ := IntOp.andi_eq_one.1 e
  obtain ⟨e0, e1⟩ := IntOp.andi_eq_one.1 e
  exact { d := fun t n => real_of_all x0 Facts.bcast_S_S4096x1024 Facts.reducesTo_S4096x1024_S_d0_1 Facts.h_S_ _ e0 (ix2 t n)
          x := fun t n => real_of_all x1 Facts.bcast_S_S4096x1024 Facts.reducesTo_S4096x1024_S_d0_1 Facts.h_S_ _ e1 (ix2 t n)
          g := fun n => real_of_all x2 Facts.bcast_S_S1024 Facts.reducesTo_S1024_S_d0 Facts.h_S_ _ e2 (ix1 n) }

end Precondition

theorem algebraic : Cert.algebraic_Kernel14Ideal_Reference14Ideal_pre_all_finite14 (hKernel14Ideal := Cert.Kernel14Ideal.Gen.facts)
    (hReference14Ideal := Cert.Reference14Ideal.Gen.facts) (hPre_all_finite14 := pre_facts) := by
  intro m g m' g' hpre hagree
  refine ⟨_, _, _, run_kernel m g, (θ_run _ _ _).mono (fun r h c => ?_) (run_reference m' g')⟩
  have hA : AllReal (memArgs m c) := @allReal pre_facts _ _ _ _ (hpre c)
  obtain ⟨a0, a1, a2, a3⟩ := hagree c
  obtain ⟨h0, h1, h2, hk⟩ := h c
  rw [a0, a1, a2, a3] at h0
  rw [a0, a1, a2] at h1
  rw [a0, a1] at h2
  exact ⟨h0.trans (da_eq _ _ _ _ hA), h1.trans (dx_eq _ _ _ _ hA), h2.trans (dg_eq _ _ _ _), hk⟩

theorem frame_reference : Cert.quiescent_Reference14Ideal (hReference14Ideal := Cert.Reference14Ideal.Gen.facts) := by
  intro m g _
  exact (θ_run _ _ _).mono (fun r h => ⟨fun c => (h c).2.2.2, sem_eq_zero_of_no_sems (by decide) r.2⟩) (run_reference m g)

end Cert.SsdOutDx

end
-- ==== Proof.SsdOutDw.lean ====
/-
  The gradient of the weights of the SSD mixer's output projection: each block of 1024 of its rows is multiplied,
  block of rows by block of rows, into an accumulator that is written back after the last block. Both programs compute
  `dw (i, j) = ∑ t, a t i * b t j` of their two arguments.
-/
module

public import proofs.«01_k».proof.Defs
public import proofs.«01_k».proof.Proof.Weights
public import proofs.«01_k».proof.Proof.Gen.Kernel15
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Pipeline.ReadBack
public import Idealize.ShloMosaic.Lib.Claim
public import Idealize.ShloMosaic.Lib.IdealHost
public import Idealize.ShloMosaic.Adequacy
public import Idealize.ShloMosaic.Init

@[expose] public section

set_option maxRecDepth 16384

noncomputable section

namespace Cert.SsdOutDw

open Idealize.ShloMosaic Idealize.ShloMosaic.TcCoe Idealize.SL.Sem Cert.Weights

section Kernel

open Cert.Kernel15Ideal Cert.Kernel15Ideal.Gen

variable (m : (ℓ : Loc nD τ sig) → Buf (Elt Ideal) ℓ) (c : Dev nD)

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

theorem pay1_at (i : Fin 1024) (j : Fin 1024) : (k0_pay1 (F := Ideal)) (ix2 i j) = 0 := by
  pointwise [k0_pay1]

theorem pay2_at (P : Vec Ideal S1024x1024 .f32) (X : Vec Ideal S512x1024 .bf16) (Y : Vec Ideal S512x1024 .bf16) (i : Fin 1024) (j : Fin 1024) :
    k0_pay2 P X Y (ix2 i j) = P (ix2 i j) + ∑ r, X (ix2 r i) * Y (ix2 r j) := by
  pointwise [k0_pay2]

theorem pay3_at (P : Vec Ideal S1024x1024 .f32) (i : Fin 1024) (j : Fin 1024) : k0_pay3 P (ix2 i j) = P (ix2 i j) := by
  pointwise [k0_pay3]

theorem acc_first (t : Fin cfg0.N) (h : t.val % 8 = 0) (q : S1024x1024.Idx) :
    (outsAt0 m c t.val t.isLt).2 q = (0 : EReal) + dw (iblk m c 0 t) (iblk m c 1 t) q := by
  rw [outsAt0_A m c t h (by omega)]
  frame_out
  obtain ⟨i, j, rfl⟩ : ∃ i j, q = ix2 i j := ⟨_, _, eq_ix2 q⟩
  refine (pay2_at _ _ _ i j).trans ?_
  rw [pay1_at]
  rfl

theorem acc_later (t : Fin cfg0.N) (h : ¬ t.val % 8 = 0) (q : S1024x1024.Idx) :
    (outsAt0 m c t.val t.isLt).2 q = (outsAt0 m c (t.val - 1) (Nat.lt_of_le_of_lt (Nat.sub_le _ _) t.isLt)).2 q + dw (iblk m c 0 t) (iblk m c 1 t) q := by
  by_cases h1 : t.val % 8 = 7
  · rw [outsAt0_C m c t h h1]
    frame_out
    simp only [read_unread_whole]
    obtain ⟨i, j, rfl⟩ : ∃ i j, q = ix2 i j := ⟨_, _, eq_ix2 q⟩
    exact pay2_at _ _ _ i j
  · rw [outsAt0_B m c t h h1]
    frame_out
    simp only [read_unread_whole]
    obtain ⟨i, j, rfl⟩ : ∃ i j, q = ix2 i j := ⟨_, _, eq_ix2 q⟩
    exact pay2_at _ _ _ i j

theorem out_last (t : Fin cfg0.N) (h1 : t.val % 8 = 7) (q : S1024x1024.Idx) :
    (outsAt0 m c t.val t.isLt).1 q = (outsAt0 m c (t.val - 1) (Nat.lt_of_le_of_lt (Nat.sub_le _ _) t.isLt)).2 q + dw (iblk m c 0 t) (iblk m c 1 t) q := by
  rw [outsAt0_C m c t (by omega) h1]
  frame_out
  simp only [read_unread_whole]
  obtain ⟨i, j, rfl⟩ : ∃ i j, q = ix2 i j := ⟨_, _, eq_ix2 q⟩
  exact (pay3_at _ i j).trans (pay2_at _ _ _ i j)

theorem blk0 (t : Fin cfg0.N) (r : Fin 512) (i : Fin 1024) : iblk m c 0 t (ix2 r i)
    = m ((c : Thread nD τ).loc main_arg0) (ix2 ⟨t.val % 8 * 512 + r.val, by omega⟩ ⟨t.val / 8 * 1024 + i.val, by have : t.val < 16 := t.isLt; omega⟩) := by
  blk_ext [iblk, V, idx t]

theorem blk1 (t : Fin cfg0.N) (r : Fin 512) (j : Fin 1024) : iblk m c 1 t (ix2 r j)
    = m ((c : Thread nD τ).loc main_arg1) (ix2 ⟨t.val % 8 * 512 + r.val, by omega⟩ j) := by
  blk_ext [iblk, V, idx t]

theorem out_at (t : Fin cfg0.N) (h1 : t.val % 8 = 7) (i : Fin 1024) (j : Fin 1024) :
    (outsAt0 m c t.val t.isLt).1 (ix2 i j) = dw (m ((c : Thread nD τ).loc main_arg0)) (m ((c : Thread nD τ).loc main_arg1)) (ix2 ⟨t.val / 8 * 1024 + i.val, by have : t.val < 16 := t.isLt; omega⟩ j) := by
  rw [out_last m c t h1, ← acc_later m c t (by omega),
    Pipeline.eq_sum_fin_of_reset_step_apply_of_flush (fun n h => (outsAt0 m c n h).2) 8 (fun _ => 0) (fun p => dw (iblk m c 0 p) (iblk m c 1 p)) (acc_first m c) (acc_later m c) t h1]
  rw [zero_add, dw_at]
  simp only [dw_at, blk0, blk1]
  have ht : t.val < 16 := t.isLt
  refine Fin.sum_mul_add_congr fun s r hl => ?_
  have e1 : (8 * (t.val / 8) + s.val) % 8 = s.val := by omega
  have e2 : (8 * (t.val / 8) + s.val) / 8 = t.val / 8 := by omega
  simp only [e1, e2]

theorem dw_arr : (dats m 0 c).arrAt 2 cfg0.N = dw (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  have e0 : win0_2.index t 0 = t.val / 8 := by rw [(idx t).2.2]; rfl
  have e1 : win0_2.index t 1 = 0 := by rw [(idx t).2.2]; rfl
  blk_simp
  rw [after0_2]
  obtain ⟨i, j, rfl⟩ : ∃ i j, y = ix2 i j := ⟨_, _, eq_ix2 y⟩
  refine (out_at m c t h7 i j).trans (congrArg (dw _ _) ?_)
  funext a
  apply Fin.ext
  match a with
  | 0 => blk_simp; rw [e0]
  | 1 => blk_simp; rw [e1]; simp

theorem run_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (dw_arr m c), (h c).2⟩) (Cert.Kernel15Ideal.Value.run_blocks m ρ)

end Kernel

section Reference

open Cert.Reference15Ideal Cert.Reference15Ideal.Gen Cert.Reference15Ideal.Read

theorem ref_at (x0 : Vec Ideal S4096x2048 .bf16) (x1 : Vec Ideal S4096x1024 .bf16) :
    val_main_v6 (F := Ideal) x0 x1 = dw x0 x1 := by
  funext i
  obtain ⟨p, q, rfl⟩ : ∃ p q, i = ix2 p q := ⟨_, _, eq_ix2 i⟩
  pointwise [val_main_v6, val_main_v5, val_main_v4, val_main_v3, val_main_v0]
  exact Finset.sum_congr rfl fun t _ => mul_comm _ _

theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1.trans (val_main_v6_eq _ _)).trans (ref_at _ _), (h c).2⟩) (Cert.Reference15Ideal.Value.run m ρ)

end Reference

theorem algebraic : Cert.algebraic_Kernel15Ideal_Reference15Ideal (hKernel15Ideal := Cert.Kernel15Ideal.Gen.facts)
    (hReference15Ideal := Cert.Reference15Ideal.Gen.facts) := by
  intro m g m' g' _ hagree
  refine ⟨_, run_kernel m g, (θ_run _ _ _).mono (fun r h c => ?_) (run_reference m' g')⟩
  obtain ⟨a0, a1⟩ := hagree c
  obtain ⟨h0, hk⟩ := h c
  rw [a0, a1] at h0
  exact ⟨h0, hk⟩

theorem frame_reference : Cert.quiescent_Reference15Ideal (hReference15Ideal := Cert.Reference15Ideal.Gen.facts) := by
  intro m g _
  exact (θ_run _ _ _).mono (fun r h => ⟨fun c => (h c).2, sem_eq_zero_of_no_sems (by decide) r.2⟩) (run_reference m g)

end Cert.SsdOutDw

end
-- ==== Proof.SsdOut.lean ====
/-
  The SSD mixer's output projection, its output's norm and the residual connection. A grid point handles 256 rows: their product with
  the whole weights, and the normalised product added to the residual's rows. Both programs compute `proj` and `out` of
  their four arguments.
-/
module

public import proofs.«01_k».proof.Defs
public import proofs.«01_k».proof.Proof.OutProj
public import proofs.«01_k».proof.Proof.Gen.Kernel16
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Pipeline.ReadBack
public import Idealize.ShloMosaic.Lib.Claim
public import Idealize.ShloMosaic.Lib.Affine
public import Idealize.ShloMosaic.Lib.Decide
public import Idealize.ShloMosaic.Lib.IdealHost
public import Idealize.ShloMosaic.Adequacy
public import Idealize.ShloMosaic.Init

@[expose] public section

set_option maxRecDepth 16384

noncomputable section

namespace Cert.SsdOut

open Idealize.ShloMosaic Idealize.ShloMosaic.TcCoe Idealize.SL.Sem Cert.FfnGrad Cert.OutProj

section Payloads

open Cert.Kernel16Ideal Cert.Kernel16Ideal.Gen

variable (a : Vec Ideal S256x2048 .bf16) (w : Vec Ideal S2048x1024 .bf16)

theorem pay1_at (r : Fin 256) (n : Fin 1024) : k0_pay1 a w (ix2 r n) = ∑ j, a (ix2 r j) * w (ix2 j n) := by
  pointwise [k0_pay1]

theorem pay2_at (x : Vec Ideal S256x1024 .f32) (g : Vec Ideal S1x1024 .f32) (r : Fin 256) (n : Fin 1024) :
    k0_pay2 a w x g (ix2 r n) = x (ix2 r n) + k0_pay1 a w (ix2 r n) * (rowInv fun n => k0_pay1 a w (ix2 r n)) * g (ix2 0 n) := by
  unfold k0_pay2
  generalize k0_pay1 a w = f
  unfold rowInv rowMsq
  pointwise []
  rfl

end Payloads

section Kernel

open Cert.Kernel16Ideal Cert.Kernel16Ideal.Gen

variable (m : (ℓ : Loc nD τ sig) → Buf (Elt Ideal) ℓ) (c : Dev nD)

/-- The arguments in memory. -/
def memArgs : Args 2048 := args (m ((c : Thread nD τ).loc main_arg0)) (m ((c : Thread nD τ).loc main_arg1)) (m ((c : Thread nD τ).loc main_arg2))
  (m ((c : Thread nD τ).loc main_arg3))

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

theorem blk0 (t : Fin cfg0.N) (r : Fin 256) (j : Fin 2048) : iblk m c 0 t (ix2 r j) = (memArgs m c).a (row t.val t.isLt r) j := by
  show _ = m ((c : Thread nD τ).loc main_arg0) (ix2 ⟨t.val * 256 + r.val, _⟩ j)
  blk_ext [iblk, V, idx t]

theorem blk1 (t : Fin cfg0.N) (j : Fin 2048) (n : Fin 1024) : iblk m c 1 t (ix2 j n) = (memArgs m c).w j n := by
  show _ = m ((c : Thread nD τ).loc main_arg1) (ix2 j n)
  blk_ext [iblk, V, idx t]

theorem blk2 (t : Fin cfg0.N) (r : Fin 256) (n : Fin 1024) : iblk m c 2 t (ix2 r n) = (memArgs m c).x (row t.val t.isLt r) n := by
  show _ = m ((c : Thread nD τ).loc main_arg2) (ix2 ⟨t.val * 256 + r.val, _⟩ n)
  blk_ext [iblk, V, idx t]

/-- The host lays the gain out as a row. -/
theorem V_gain (n : Fin 1024) : V m c main_v0 (ix2 0 n) = (memArgs m c).g n := by
  have e : V m c main_v0 = shapeCast S1x1024 (m ((c : Thread nD τ).loc main_arg3) : Vec Ideal S1024 .f32) shapeCasts_S1024_S1x1024 := rfl
  rw [e]
  pointwise [memArgs, args]

theorem blk3 (t : Fin cfg0.N) (n : Fin 1024) : iblk m c 3 t (ix2 0 n) = (memArgs m c).g n := by
  rw [← V_gain m c]
  blk_ext [iblk, idx t]

theorem pay1_of {A : Args 2048} {t : Fin cfg0.N} {a : Vec Ideal S256x2048 .bf16} {w : Vec Ideal S2048x1024 .bf16}
    (ha : ∀ r j, a (ix2 r j) = A.a (row t.val t.isLt r) j) (hw : ∀ j n, w (ix2 j n) = A.w j n) (r : Fin 256) (n : Fin 1024) :
    k0_pay1 a w (ix2 r n) = proj A (row t.val t.isLt r) n := by
  rw [pay1_at]
  simp only [ha, hw]
  rfl

theorem pay2_of {A : Args 2048} {t : Fin cfg0.N} {a : Vec Ideal S256x2048 .bf16} {w : Vec Ideal S2048x1024 .bf16} {x : Vec Ideal S256x1024 .f32}
    {g : Vec Ideal S1x1024 .f32} (ha : ∀ r j, a (ix2 r j) = A.a (row t.val t.isLt r) j) (hw : ∀ j n, w (ix2 j n) = A.w j n)
    (hx : ∀ r n, x (ix2 r n) = A.x (row t.val t.isLt r) n) (hg : ∀ n, g (ix2 0 n) = A.g n) (r : Fin 256) (n : Fin 1024) :
    k0_pay2 a w x g (ix2 r n) = out A (row t.val t.isLt r) n := by
  rw [pay2_at]
  simp only [pay1_of ha hw, hx, hg]
  rfl

theorem proj_at (t : Fin cfg0.N) (r : Fin 256) (n : Fin 1024) :
    out0_4 (iblk m c 0 t) (iblk m c 1 t) (iblk m c 2 t) (iblk m c 3 t) (ix2 r n) = proj (memArgs m c) (row t.val t.isLt r) n := by
  frame_out
  exact pay1_of (blk0 m c t) (blk1 m c t) r n

theorem out_at (t : Fin cfg0.N) (r : Fin 256) (n : Fin 1024) :
    out0_5 (iblk m c 0 t) (iblk m c 1 t) (iblk m c 2 t) (iblk m c 3 t) (ix2 r n) = out (memArgs m c) (row t.val t.isLt r) n := by
  frame_out
  exact pay2_of (blk0 m c t) (blk1 m c t) (blk2 m c t) (blk3 m c t) r n

theorem proj_arr : (dats m 0 c).arrAt 4 cfg0.N = fun i : S4096x1024.Idx => proj (memArgs m c) (i 0) (i 1) := by
  refine (dats m 0 c).arrAt_eq_of_covers 4 _ (by decide +kernel) fun t hf y => ?_
  have e0 : win0_4.index t 0 = t.val := by rw [(idx t).2.2.2.2.1]; rfl
  have e1 : win0_4.index t 1 = 0 := by rw [(idx t).2.2.2.2.1]; rfl
  have h0 : (win0_4.blk t).view.emb y 0 = row t.val t.isLt (y 0) := Fin.ext (by blk_simp; rw [e0]; simp only [row])
  have h1 : (win0_4.blk t).view.emb y 1 = y 1 := Fin.ext (by blk_simp; rw [e1]; omega)
  blk_simp
  rw [after0_4, h0, h1]
  obtain ⟨r, n, rfl⟩ : ∃ (r : Fin 256) (n : Fin 1024), y = ix2 r n := ⟨_, _, eq_ix2 y⟩
  exact proj_at m c t r n

theorem out_arr : (dats m 0 c).arrAt 5 cfg0.N = fun i : S4096x1024.Idx => out (memArgs m c) (i 0) (i 1) := by
  refine (dats m 0 c).arrAt_eq_of_covers 5 _ (by decide +kernel) fun t hf y => ?_
  have e0 : win0_5.index t 0 = t.val := by rw [(idx t).2.2.2.2.2]; rfl
  have e1 : win0_5.index t 1 = 0 := by rw [(idx t).2.2.2.2.2]; rfl
  have h0 : (win0_5.blk t).view.emb y 0 = row t.val t.isLt (y 0) := Fin.ext (by blk_simp; rw [e0]; simp only [row])
  have h1 : (win0_5.blk t).view.emb y 1 = y 1 := Fin.ext (by blk_simp; rw [e1]; omega)
  blk_simp
  rw [after0_5, h0, h1]
  obtain ⟨r, n, rfl⟩ : ∃ (r : Fin 256) (n : Fin 1024), y = ix2 r n := ⟨_, _, eq_ix2 y⟩
  exact out_at m c t r n

theorem run_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = (fun i : S4096x1024.Idx => proj (memArgs m c) (i 0) (i 1))
      ∧ r.2.mem ((c.tc : Thread nD τ).loc main_v1_1) = (fun i : S4096x1024.Idx => out (memArgs m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (proj_arr m c), (h c).2.1.trans (out_arr m c), (h c).2.2⟩) (Cert.Kernel16Ideal.Value.run_blocks m ρ)

end Kernel

section Reference

open Cert.Reference16Ideal Cert.Reference16Ideal.Gen Cert.Reference16Ideal.Read

variable (x0 : Vec Ideal S4096x2048 .bf16) (x1 : Vec Ideal S2048x1024 .bf16) (x2 : Vec Ideal S4096x1024 .f32) (x3 : Vec Ideal S1024 .f32)

theorem v2_at (t : Fin 4096) (n : Fin 1024) : val_main_v2 (F := Ideal) x0 x1 (ix2 t n) = proj (args x0 x1 x2 x3) t n := by
  pointwise [val_main_v2, val_main_v1, val_main_v0]
  rfl

theorem v10_at (t : Fin 4096) (z : Fin 1) : val_main_v10 (F := Ideal) x0 x1 (ix2 t z) = rowInv (proj (args x0 x1 x2 x3) t) := by
  unfold rowInv rowMsq
  simp only [← v2_at]
  pointwise [val_main_v10, val_main_v9, val_main_v8, val_main_v7, val_main_v6, val_main_v5, val_main_v4, val_main_v3, val_main_cst, val_main_cst_0, val_main_cst_1]
  rfl

theorem v16_at (t : Fin 4096) (n : Fin 1024) : val_main_v16 (F := Ideal) x0 x1 x2 x3 (ix2 t n) = out (args x0 x1 x2 x3) t n := by
  unfold out
  rw [← v10_at x0 x1 x2 x3 t 0, ← v2_at]
  pointwise [val_main_v16, val_main_v15, val_main_v14, val_main_v13, val_main_v12, val_main_v11]
  rfl

theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = (fun i : S4096x1024.Idx => proj (args (m ((c.tc : Thread nD τ).loc main_arg0)) (m ((c.tc : Thread nD τ).loc main_arg1)) (m ((c.tc : Thread nD τ).loc main_arg2)) (m ((c.tc : Thread nD τ).loc main_arg3))) (i 0) (i 1))
      ∧ r.2.mem ((c.tc : Thread nD τ).loc main_v16) = (fun i : S4096x1024.Idx => out (args (m ((c.tc : Thread nD τ).loc main_arg0)) (m ((c.tc : Thread nD τ).loc main_arg1)) (m ((c.tc : Thread nD τ).loc main_arg2)) (m ((c.tc : Thread nD τ).loc main_arg3))) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).1.trans (val_main_v2_eq ..)).trans (funext fun i => (congrArg _ (eq_ix2 i)).trans (v2_at _ _ _ _ _ _)),
      ((h c).2.1.trans (val_main_v16_eq ..)).trans (funext fun i => (congrArg _ (eq_ix2 i)).trans (v16_at _ _ _ _ _ _)),
      (h c).2.2⟩) (Cert.Reference16Ideal.Value.run m ρ)

end Reference

theorem algebraic : Cert.algebraic_Kernel16Ideal_Reference16Ideal (hKernel16Ideal := Cert.Kernel16Ideal.Gen.facts)
    (hReference16Ideal := Cert.Reference16Ideal.Gen.facts) := by
  intro m g m' g' _ hagree
  refine ⟨_, _, run_kernel m g, (θ_run _ _ _).mono (fun r h c => ?_) (run_reference m' g')⟩
  obtain ⟨a0, a1, a2, a3⟩ := hagree c
  obtain ⟨h0, h1, hk⟩ := h c
  rw [a0, a1, a2, a3] at h0 h1
  exact ⟨h0, h1, hk⟩

theorem frame_reference : Cert.quiescent_Reference16Ideal (hReference16Ideal := Cert.Reference16Ideal.Gen.facts) := by
  intro m g _
  exact (θ_run _ _ _).mono (fun r h => ⟨fun c => (h c).2.2, sem_eq_zero_of_no_sems (by decide) r.2⟩) (run_reference m g)

end Cert.SsdOut

end
-- ==== Proof.ScOut.lean ====
/-
  The short convolution mixer's output projection, its output's norm and the residual connection. A grid point handles 256 rows: their product with
  the whole weights, and the normalised product added to the residual's rows. Both programs compute `proj` and `out` of
  their four arguments.
-/
module

public import proofs.«01_k».proof.Defs
public import proofs.«01_k».proof.Proof.OutProj
public import proofs.«01_k».proof.Proof.Gen.Kernel17
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit
public import Idealize.ShloMosaic.Lib.Pipeline.ReadBack
public import Idealize.ShloMosaic.Lib.Claim
public import Idealize.ShloMosaic.Lib.Affine
public import Idealize.ShloMosaic.Lib.Decide
public import Idealize.ShloMosaic.Lib.IdealHost
public import Idealize.ShloMosaic.Adequacy
public import Idealize.ShloMosaic.Init

@[expose] public section

set_option maxRecDepth 16384

noncomputable section

namespace Cert.ScOut

open Idealize.ShloMosaic Idealize.ShloMosaic.TcCoe Idealize.SL.Sem Cert.FfnGrad Cert.OutProj

section Payloads

open Cert.Kernel17Ideal Cert.Kernel17Ideal.Gen

variable (a : Vec Ideal S256x1024 .bf16) (w : Vec Ideal S1024x1024 .bf16)

theorem pay1_at (r : Fin 256) (n : Fin 1024) : k0_pay1 a w (ix2 r n) = ∑ j, a (ix2 r j) * w (ix2 j n) := by
  pointwise [k0_pay1]

theorem pay2_at (x : Vec Ideal S256x1024 .f32) (g : Vec Ideal S1x1024 .f32) (r : Fin 256) (n : Fin 1024) :
    k0_pay2 a w x g (ix2 r n) = x (ix2 r n) + k0_pay1 a w (ix2 r n) * (rowInv fun n => k0_pay1 a w (ix2 r n)) * g (ix2 0 n) := by
  unfold k0_pay2
  generalize k0_pay1 a w = f
  unfold rowInv rowMsq
  pointwise []
  rfl

end Payloads

section Kernel

open Cert.Kernel17Ideal Cert.Kernel17Ideal.Gen

variable (m : (ℓ : Loc nD τ sig) → Buf (Elt Ideal) ℓ) (c : Dev nD)

/-- The arguments in memory. -/
def memArgs : Args 1024 := args (m ((c : Thread nD τ).loc main_arg0)) (m ((c : Thread nD τ).loc main_arg1)) (m ((c : Thread nD τ).loc main_arg2))
  (m ((c : Thread nD τ).loc main_arg3))

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

theorem blk0 (t : Fin cfg0.N) (r : Fin 256) (j : Fin 1024) : iblk m c 0 t (ix2 r j) = (memArgs m c).a (row t.val t.isLt r) j := by
  show _ = m ((c : Thread nD τ).loc main_arg0) (ix2 ⟨t.val * 256 + r.val, _⟩ j)
  blk_ext [iblk, V, idx t]

theorem blk1 (t : Fin cfg0.N) (j : Fin 1024) (n : Fin 1024) : iblk m c 1 t (ix2 j n) = (memArgs m c).w j n := by
  show _ = m ((c : Thread nD τ).loc main_arg1) (ix2 j n)
  blk_ext [iblk, V, idx t]

theorem blk2 (t : Fin cfg0.N) (r : Fin 256) (n : Fin 1024) : iblk m c 2 t (ix2 r n) = (memArgs m c).x (row t.val t.isLt r) n := by
  show _ = m ((c : Thread nD τ).loc main_arg2) (ix2 ⟨t.val * 256 + r.val, _⟩ n)
  blk_ext [iblk, V, idx t]

/-- The host lays the gain out as a row. -/
theorem V_gain (n : Fin 1024) : V m c main_v0 (ix2 0 n) = (memArgs m c).g n := by
  have e : V m c main_v0 = shapeCast S1x1024 (m ((c : Thread nD τ).loc main_arg3) : Vec Ideal S1024 .f32) shapeCasts_S1024_S1x1024 := rfl
  rw [e]
  pointwise [memArgs, args]

theorem blk3 (t : Fin cfg0.N) (n : Fin 1024) : iblk m c 3 t (ix2 0 n) = (memArgs m c).g n := by
  rw [← V_gain m c]
  blk_ext [iblk, idx t]

theorem pay1_of {A : Args 1024} {t : Fin cfg0.N} {a : Vec Ideal S256x1024 .bf16} {w : Vec Ideal S1024x1024 .bf16}
    (ha : ∀ r j, a (ix2 r j) = A.a (row t.val t.isLt r) j) (hw : ∀ j n, w (ix2 j n) = A.w j n) (r : Fin 256) (n : Fin 1024) :
    k0_pay1 a w (ix2 r n) = proj A (row t.val t.isLt r) n := by
  rw [pay1_at]
  simp only [ha, hw]
  rfl

theorem pay2_of {A : Args 1024} {t : Fin cfg0.N} {a : Vec Ideal S256x1024 .bf16} {w : Vec Ideal S1024x1024 .bf16} {x : Vec Ideal S256x1024 .f32}
    {g : Vec Ideal S1x1024 .f32} (ha : ∀ r j, a (ix2 r j) = A.a (row t.val t.isLt r) j) (hw : ∀ j n, w (ix2 j n) = A.w j n)
    (hx : ∀ r n, x (ix2 r n) = A.x (row t.val t.isLt r) n) (hg : ∀ n, g (ix2 0 n) = A.g n) (r : Fin 256) (n : Fin 1024) :
    k0_pay2 a w x g (ix2 r n) = out A (row t.val t.isLt r) n := by
  rw [pay2_at]
  simp only [pay1_of ha hw, hx, hg]
  rfl

theorem proj_at (t : Fin cfg0.N) (r : Fin 256) (n : Fin 1024) :
    out0_4 (iblk m c 0 t) (iblk m c 1 t) (iblk m c 2 t) (iblk m c 3 t) (ix2 r n) = proj (memArgs m c) (row t.val t.isLt r) n := by
  frame_out
  exact pay1_of (blk0 m c t) (blk1 m c t) r n

theorem out_at (t : Fin cfg0.N) (r : Fin 256) (n : Fin 1024) :
    out0_5 (iblk m c 0 t) (iblk m c 1 t) (iblk m c 2 t) (iblk m c 3 t) (ix2 r n) = out (memArgs m c) (row t.val t.isLt r) n := by
  frame_out
  exact pay2_of (blk0 m c t) (blk1 m c t) (blk2 m c t) (blk3 m c t) r n

theorem proj_arr : (dats m 0 c).arrAt 4 cfg0.N = fun i : S4096x1024.Idx => proj (memArgs m c) (i 0) (i 1) := by
  refine (dats m 0 c).arrAt_eq_of_covers 4 _ (by decide +kernel) fun t hf y => ?_
  have e0 : win0_4.index t 0 = t.val := by rw [(idx t).2.2.2.2.1]; rfl
  have e1 : win0_4.index t 1 = 0 := by rw [(idx t).2.2.2.2.1]; rfl
  have h0 : (win0_4.blk t).view.emb y 0 = row t.val t.isLt (y 0) := Fin.ext (by blk_simp; rw [e0]; simp only [row])
  have h1 : (win0_4.blk t).view.emb y 1 = y 1 := Fin.ext (by blk_simp; rw [e1]; omega)
  blk_simp
  rw [after0_4, h0, h1]
  obtain ⟨r, n, rfl⟩ : ∃ (r : Fin 256) (n : Fin 1024), y = ix2 r n := ⟨_, _, eq_ix2 y⟩
  exact proj_at m c t r n

theorem out_arr : (dats m 0 c).arrAt 5 cfg0.N = fun i : S4096x1024.Idx => out (memArgs m c) (i 0) (i 1) := by
  refine (dats m 0 c).arrAt_eq_of_covers 5 _ (by decide +kernel) fun t hf y => ?_
  have e0 : win0_5.index t 0 = t.val := by rw [(idx t).2.2.2.2.2]; rfl
  have e1 : win0_5.index t 1 = 0 := by rw [(idx t).2.2.2.2.2]; rfl
  have h0 : (win0_5.blk t).view.emb y 0 = row t.val t.isLt (y 0) := Fin.ext (by blk_simp; rw [e0]; simp only [row])
  have h1 : (win0_5.blk t).view.emb y 1 = y 1 := Fin.ext (by blk_simp; rw [e1]; omega)
  blk_simp
  rw [after0_5, h0, h1]
  obtain ⟨r, n, rfl⟩ : ∃ (r : Fin 256) (n : Fin 1024), y = ix2 r n := ⟨_, _, eq_ix2 y⟩
  exact out_at m c t r n

theorem run_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = (fun i : S4096x1024.Idx => proj (memArgs m c) (i 0) (i 1))
      ∧ r.2.mem ((c.tc : Thread nD τ).loc main_v1_1) = (fun i : S4096x1024.Idx => out (memArgs m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (proj_arr m c), (h c).2.1.trans (out_arr m c), (h c).2.2⟩) (Cert.Kernel17Ideal.Value.run_blocks m ρ)

end Kernel

section Reference

open Cert.Reference17Ideal Cert.Reference17Ideal.Gen Cert.Reference17Ideal.Read

variable (x0 : Vec Ideal S4096x1024 .bf16) (x1 : Vec Ideal S1024x1024 .bf16) (x2 : Vec Ideal S4096x1024 .f32) (x3 : Vec Ideal S1024 .f32)

theorem v2_at (t : Fin 4096) (n : Fin 1024) : val_main_v2 (F := Ideal) x0 x1 (ix2 t n) = proj (args x0 x1 x2 x3) t n := by
  pointwise [val_main_v2, val_main_v1, val_main_v0]
  rfl

theorem v10_at (t : Fin 4096) (z : Fin 1) : val_main_v10 (F := Ideal) x0 x1 (ix2 t z) = rowInv (proj (args x0 x1 x2 x3) t) := by
  unfold rowInv rowMsq
  simp only [← v2_at]
  pointwise [val_main_v10, val_main_v9, val_main_v8, val_main_v7, val_main_v6, val_main_v5, val_main_v4, val_main_v3, val_main_cst, val_main_cst_0, val_main_cst_1]
  rfl

theorem v16_at (t : Fin 4096) (n : Fin 1024) : val_main_v16 (F := Ideal) x0 x1 x2 x3 (ix2 t n) = out (args x0 x1 x2 x3) t n := by
  unfold out
  rw [← v10_at x0 x1 x2 x3 t 0, ← v2_at]
  pointwise [val_main_v16, val_main_v15, val_main_v14, val_main_v13, val_main_v12, val_main_v11]
  rfl

theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = (fun i : S4096x1024.Idx => proj (args (m ((c.tc : Thread nD τ).loc main_arg0)) (m ((c.tc : Thread nD τ).loc main_arg1)) (m ((c.tc : Thread nD τ).loc main_arg2)) (m ((c.tc : Thread nD τ).loc main_arg3))) (i 0) (i 1))
      ∧ r.2.mem ((c.tc : Thread nD τ).loc main_v16) = (fun i : S4096x1024.Idx => out (args (m ((c.tc : Thread nD τ).loc main_arg0)) (m ((c.tc : Thread nD τ).loc main_arg1)) (m ((c.tc : Thread nD τ).loc main_arg2)) (m ((c.tc : Thread nD τ).loc main_arg3))) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).1.trans (val_main_v2_eq ..)).trans (funext fun i => (congrArg _ (eq_ix2 i)).trans (v2_at _ _ _ _ _ _)),
      ((h c).2.1.trans (val_main_v16_eq ..)).trans (funext fun i => (congrArg _ (eq_ix2 i)).trans (v16_at _ _ _ _ _ _)),
      (h c).2.2⟩) (Cert.Reference17Ideal.Value.run m ρ)

end Reference

theorem algebraic : Cert.algebraic_Kernel17Ideal_Reference17Ideal (hKernel17Ideal := Cert.Kernel17Ideal.Gen.facts)
    (hReference17Ideal := Cert.Reference17Ideal.Gen.facts) := by
  intro m g m' g' _ hagree
  refine ⟨_, _, run_kernel m g, (θ_run _ _ _).mono (fun r h c => ?_) (run_reference m' g')⟩
  obtain ⟨a0, a1, a2, a3⟩ := hagree c
  obtain ⟨h0, h1, hk⟩ := h c
  rw [a0, a1, a2, a3] at h0 h1
  exact ⟨h0, h1, hk⟩

theorem frame_reference : Cert.quiescent_Reference17Ideal (hReference17Ideal := Cert.Reference17Ideal.Gen.facts) := by
  intro m g _
  exact (θ_run _ _ _).mono (fun r h => ⟨fun c => (h c).2.2, sem_eq_zero_of_no_sems (by decide) r.2⟩) (run_reference m g)

end Cert.ScOut

end
-- ==== Proof.ScInStrip.lean ====
/-
  The short-convolution mixer's pre-norm, input projection, convolution and gate: what both programs compute of their
  four arguments, and what one strip of 128 lanes of a 256-row tile stores. The projection's columns come in eight groups
  of three blocks: the gate after the convolution, the gate before it and the convolved value of the strip's lanes. The
  convolution reads the tile's own rows and the last eight rows of the tile before it.
-/
module

public import proofs.«01_k».proof.Proof.RmsNorm
public import proofs.«01_k».proof.Proof.Gen.Kernel18Ideal.Skeleton
public import Idealize.ShloMosaic.Lib.Pipeline.ValueKit
public import Idealize.ShloMosaic.Lib.Pipeline.ReadBack
public import Idealize.ShloMosaic.Lib.IdealHost

@[expose] public section

set_option maxRecDepth 16384

noncomputable section

namespace Cert.ScIn

open Idealize.ShloMosaic Idealize.ShloMosaic.TcCoe Cert.FfnGrad

/-- The arguments as functions of their coordinates: the norm's input and gain, the weights and the convolution's taps. -/
structure Args where
  x : Fin 4096 → Fin 1024 → EReal
  g : Fin 1024 → EReal
  w : Fin 1024 → Fin 3072 → EReal
  k : Fin 3 → Fin 1024 → EReal

variable (A : Args)

/-- The normalised rows. -/
def hn (t : Fin 4096) (n : Fin 1024) : EReal := A.x t n * rowInv (A.x t) * A.g n

/-- The projection. -/
def bcv (t : Fin 4096) (j : Fin 3072) : EReal := ∑ n, hn A t n * A.w n j

/-- The column of block `p` of lane `c`'s group. -/
def col (p : Fin 3) (c : Fin 1024) : Fin 3072 := ⟨c.val / 128 * 384 + p.val * 128 + c.val % 128, by omega⟩

/-- What the convolution reads. -/
def gated (t : Fin 4096) (c : Fin 1024) : EReal := bcv A t (col 1 c) * bcv A t (col 2 c)

/-- The convolution's input `k` rows back, zero before the sequence. -/
def inp (k : ℕ) (t : Fin 4096) (c : Fin 1024) : EReal := if h : k ≤ t.val then gated A ⟨t.val - k, by omega⟩ c else 0

/-- The rows that the output projection multiplies. -/
def act (t : Fin 4096) (c : Fin 1024) : EReal :=
  bcv A t (col 0 c) * (inp A 2 t c * A.k 0 c + inp A 1 t c * A.k 1 c + inp A 0 t c * A.k 2 c)

/-- Row `t` of tile `T`. -/
def row (T : Fin 16) (t : Fin 256) : Fin 4096 := ⟨T.val * 256 + t.val, by omega⟩

/-- Lane `c` of strip `s`. -/
def lane (s : ℕ) (hs : s < 8) (c : Fin 128) : Fin 1024 := ⟨s * 128 + c.val, by omega⟩

open Cert.Kernel18Ideal Cert.Kernel18Ideal.Gen

/-! ## The projection -/

theorem pay5_at (j : Fin 8) (l : Fin 1024) : (k0_pay5 (F := Ideal)) (ix2 j l) = 0 := by
  pointwise [k0_pay5]

theorem pay3_at (X : Vec Ideal S256x1024 .f32) (G : Vec Ideal S1x1024 .f32) (r : Fin 256) (n : Fin 1024) :
    k0_pay3 X G (ix2 r n) = X (ix2 r n) * (rowInv fun n => X (ix2 r n)) * G (ix2 0 n) := by
  unfold rowInv rowMsq
  pointwise [k0_pay3]
  rfl

theorem pay4_at (X : Vec Ideal S256x1024 .f32) (G : Vec Ideal S1x1024 .f32) (W : Vec Ideal S1024x3072 .bf16) (r : Fin 256) (j : Fin 3072) :
    k0_pay4 X G W (ix2 r j) = ∑ n, k0_pay3 X G (ix2 r n) * W (ix2 n j) := by
  unfold k0_pay4
  generalize k0_pay3 X G = h
  pointwise []

/-! ## One strip -/

section strip

variable (w0 w1 w2 : Vec Ideal S1x128 .f32) (gb gc v : Vec Ideal S256x128 .bf16) (P : FVec Ideal S256x128 .f32) (tl : Vec Ideal S8x128 .f32)

/-- The convolution's input `k` rows back within one strip of a tile: the tile's own rows, else the rows before it. -/
def gin (k : ℕ) (hk : k ≤ 2) (t : Fin 256) (c : Fin 128) : EReal :=
  if h : k ≤ t.val then P (ix2 ⟨t.val - k, by omega⟩ c) else tl (ix2 ⟨8 + t.val - k, by omega⟩ c)

def sconv (t : Fin 256) (c : Fin 128) : EReal :=
  gin P tl 2 (by decide) t c * w0 (ix2 0 c) + gin P tl 1 (by decide) t c * w1 (ix2 0 c) + gin P tl 0 (by decide) t c * w2 (ix2 0 c)

theorem pay6_at (t : Fin 256) (c : Fin 128) : k0_pay6 gb (ix2 t c) = gb (ix2 t c) := by
  pointwise [k0_pay6]

theorem pay7_at (t : Fin 256) (c : Fin 128) : k0_pay7 gc v (ix2 t c) = gc (ix2 t c) * v (ix2 t c) := by
  pointwise [k0_pay7]

/-- The rows before the tile, then its own. -/
def both : FVec Ideal S264x128 .f32 := concatenate S264x128 0 [⟨S8x128, tl⟩, ⟨S256x128, P⟩] concatenates_S8x128_S256x128_S264x128_d0

theorem both_at (j : Fin 264) (c : Fin 128) : both P tl (ix2 j c) =
    if h : j.val < 8 then tl (ix2 ⟨j.val, h⟩ c) else P (ix2 ⟨j.val - 8, by omega⟩ c) := by
  pointwise [both]

/-- The rotated rows, `k` rows back. -/
theorem back_at (k : ℕ) (hk : k ≤ 2) (t : Fin 256) (c : Fin 128) (l : Fin 264) (hl : l.val = 8 + t.val - k) :
    both P tl (ix2 l c) = gin P tl k hk t c := by
  unfold gin
  rw [both_at]
  by_cases h : k ≤ t.val
  · rw [dif_neg (by omega), dif_pos h]
    exact congrArg P (congrArg (ix2 · c) (Fin.ext (by show l.val - 8 = t.val - k; omega)))
  · rw [dif_pos (by omega), dif_neg h]
    exact congrArg tl (congrArg (ix2 · c) (Fin.ext hl))

theorem conv_at (t : Fin 256) (c : Fin 128) :
    P (ix2 t c) * w2 (ix2 0 c) + both P tl (ix2 ⟨(8 + t.val + 264 - 1) % 264, by omega⟩ c) * w1 (ix2 0 c)
        + both P tl (ix2 ⟨(8 + t.val + 264 - 2) % 264, by omega⟩ c) * w0 (ix2 0 c)
      = sconv w0 w1 w2 P tl t c := by
  rw [back_at P tl 1 (by decide) t c _ (by show (8 + t.val + 264 - 1) % 264 = 8 + t.val - 1; omega),
    back_at P tl 2 (by decide) t c _ (by show (8 + t.val + 264 - 2) % 264 = 8 + t.val - 2; omega)]
  rw [add_comm, add_comm (P _ * _), ← add_assoc]
  rfl

theorem pay8_at (B : FVec Ideal S256x128 .f32) (t : Fin 256) (c : Fin 128) : k0_pay8 B P tl w2 w1 w0 (ix2 t c) = B (ix2 t c) * sconv w0 w1 w2 P tl t c := by
  rw [← conv_at]
  unfold k0_pay8
  have e : concatenate S264x128 0 [⟨S8x128, tl⟩, ⟨S256x128, P⟩] concatenates_S8x128_S256x128_S264x128_d0 = both P tl := rfl
  simp only [e]
  generalize both P tl = q
  pointwise []

theorem pay9_at (j : Fin 8) (c : Fin 128) : k0_pay9 P (ix2 j c) = P (ix2 ⟨248 + j.val, by omega⟩ c) := by
  pointwise [k0_pay9]

end strip

/-! ## One tile -/

/-- What one grid point's blocks hold: tile `T` of the arguments. -/
structure Holds (A : Args) (T : Fin 16) (X : Vec Ideal S256x1024 .f32) (G : Vec Ideal S1x1024 .f32) (W : Vec Ideal S1024x3072 .bf16)
    (K : Vec Ideal S8x1024 .f32) : Prop where
  x : ∀ r n, X (ix2 r n) = A.x (row T r) n
  g : ∀ n, G (ix2 0 n) = A.g n
  w : ∀ n j, W (ix2 n j) = A.w n j
  taps : ∀ (k : Fin 3) c, K (ix2 ⟨k.val, by omega⟩ c) = A.k k c

/-- The rows a tile is handed from the tile before it, zero before the sequence. -/
def Tail (A : Args) (T : Fin 16) (tl : Vec Ideal S8x1024 .f32) : Prop :=
  ∀ (j : Fin 8) c, tl (ix2 j c) = if h : 0 < T.val then gated A ⟨T.val * 256 - 8 + j.val, by omega⟩ c else 0

/-- The tile's block of the gated rows. -/
def actT (A : Args) (T : Fin 16) (i : S256x1024.Idx) : EReal := act A (row T (i 0)) (i 1)

/-- The rows the tile hands on. -/
def tailT (A : Args) (T : Fin 16) (i : S8x1024.Idx) : EReal := gated A (row T ⟨248 + (i 0).val, by have := (i 0).isLt; simp at this; omega⟩) (i 1)

section blocks

variable {A : Args} {T : Fin 16} {X : Vec Ideal S256x1024 .f32} {G : Vec Ideal S1x1024 .f32} {W : Vec Ideal S1024x3072 .bf16}
    {K : Vec Ideal S8x1024 .f32} (H : Holds A T X G W K)

include H

theorem hn_of (r : Fin 256) (n : Fin 1024) : k0_pay3 X G (ix2 r n) = hn A (row T r) n := by
  rw [pay3_at]
  simp only [H.x, H.g]
  rfl

theorem bcv_of (r : Fin 256) (j : Fin 3072) : k0_pay4 X G W (ix2 r j) = bcv A (row T r) j := by
  rw [pay4_at]
  simp only [hn_of H, H.w]
  rfl

end blocks

section strip

/-- What the loads of one strip hold: lanes `128 s` to `128 s + 127` of tile `T`. -/
structure Loads (A : Args) (T : Fin 16) (s : ℕ) (hs : s < 8) (w0 w1 w2 : Vec Ideal S1x128 .f32) (gb gc v : Vec Ideal S256x128 .bf16)
    (tl : Vec Ideal S8x128 .f32) : Prop where
  w0 : ∀ c, w0 (ix2 0 c) = A.k 0 (lane s hs c)
  w1 : ∀ c, w1 (ix2 0 c) = A.k 1 (lane s hs c)
  w2 : ∀ c, w2 (ix2 0 c) = A.k 2 (lane s hs c)
  gb : ∀ t c, gb (ix2 t c) = bcv A (row T t) (col 0 (lane s hs c))
  gc : ∀ t c, gc (ix2 t c) = bcv A (row T t) (col 1 (lane s hs c))
  v : ∀ t c, v (ix2 t c) = bcv A (row T t) (col 2 (lane s hs c))
  tl : ∀ j c, tl (ix2 j c) = if h : 0 < T.val then gated A ⟨T.val * 256 - 8 + j.val, by omega⟩ (lane s hs c) else 0

variable {A : Args} {T : Fin 16} {s : ℕ} {hs : s < 8}
variable {w0 w1 w2 : Vec Ideal S1x128 .f32} {gb gc v : Vec Ideal S256x128 .bf16} {tl : Vec Ideal S8x128 .f32}

theorem gated_of (h1 : ∀ t c, gc (ix2 t c) = bcv A (row T t) (col 1 (lane s hs c))) (h2 : ∀ t c, v (ix2 t c) = bcv A (row T t) (col 2 (lane s hs c)))
    (t : Fin 256) (c : Fin 128) : k0_pay7 gc v (ix2 t c) = gated A (row T t) (lane s hs c) := by
  rw [pay7_at, h1, h2]
  rfl

theorem gin_eq (S : Loads A T s hs w0 w1 w2 gb gc v tl) (k : ℕ) (hk : k ≤ 2) (t : Fin 256) (c : Fin 128) :
    gin (k0_pay7 gc v) tl k hk t c = inp A k (row T t) (lane s hs c) := by
  unfold gin inp
  by_cases h : k ≤ t.val
  · rw [dif_pos h, dif_pos (by simp only [row]; omega), gated_of S.gc S.v]
    exact congrArg (gated A · _) (Fin.ext (by simp only [row]; omega))
  · rw [dif_neg h, S.tl]
    by_cases hT : 0 < T.val
    · rw [dif_pos hT, dif_pos (by simp only [row]; omega)]
      exact congrArg (gated A · _) (Fin.ext (by simp only [row]; omega))
    · rw [dif_neg hT, dif_neg (by simp only [row]; omega)]

theorem act_piece (S : Loads A T s hs w0 w1 w2 gb gc v tl) {o : ℕ} (ho : o = s * 128) (i) (y : S256x128.Idx) :
    k0_pay8 (k0_pay6 gb) (k0_pay7 gc v) tl w2 w1 w0 y = actT A T ((Rect.unit (s := S256x1024) ![0, o] S256x128.size i).emb y) := by
  subst ho
  obtain ⟨t, c, rfl⟩ : ∃ t c, y = ix2 t c := ⟨_, _, eq_ix2 y⟩
  have e : (Rect.unit (s := S256x1024) ![0, s * 128] S256x128.size i).emb (ix2 t c) = ix2 t (lane s hs c) := by
    funext a
    apply Fin.ext
    match a with
    | 0 => simp [Rect.emb, Rect.unit]
    | 1 => simp [Rect.emb, Rect.unit, lane]
  rw [pay8_at, e, pay6_at, S.gb]
  simp only [sconv, gin_eq S, S.w0, S.w1, S.w2]
  rfl

theorem tailT_at (j : Fin 8) (c : Fin 128) (q : S8x1024.Idx) (h : q = ix2 j (lane s hs c)) :
    tailT A T q = gated A (row T ⟨248 + j.val, by omega⟩) (lane s hs c) := by
  subst h
  rfl

theorem tail_piece (h1 : ∀ t c, gc (ix2 t c) = bcv A (row T t) (col 1 (lane s hs c))) (h2 : ∀ t c, v (ix2 t c) = bcv A (row T t) (col 2 (lane s hs c)))
    {o : ℕ} (ho : o = s * 128) (i) (y : S8x128.Idx) :
    k0_pay9 (k0_pay7 gc v) y = tailT A T ((Rect.unit (s := S8x1024) ![0, o] S8x128.size i).emb y) := by
  subst ho
  obtain ⟨j, c, rfl⟩ : ∃ j c, y = ix2 j c := ⟨_, _, eq_ix2 y⟩
  refine (pay9_at _ j c).trans ((gated_of h1 h2 _ c).trans (tailT_at j c _ ?_).symm)
  funext a
  apply Fin.ext
  match a with
  | 0 => simp [Rect.emb, Rect.unit]
  | 1 => simp [Rect.emb, Rect.unit, lane]

/-- A load of the strip's block `p` of the projection. -/
theorem ld_bcv {Y : Vec Ideal S256x3072 .bf16} (hY : ∀ r j, Y (ix2 r j) = bcv A (row T r) j) (p : Fin 3) {q : ℕ} (hq : q = s * 384 + p.val * 128) (i)
    (t : Fin 256) (c : Fin 128) :
    View.ld Y (Rect.unit (s := S256x3072) ![0, q] S256x128.size i) (ix2 t c) = bcv A (row T t) (col p (lane s hs c)) := by
  subst hq
  refine (congrArg Y (funext fun a => Fin.ext ?_)).trans (hY t (col p (lane s hs c)))
  match a with
  | 0 => simp [Rect.emb, Rect.unit]
  | 1 => simp [Rect.emb, Rect.unit, lane, col]; omega

section stores

variable {Y : Vec Ideal S256x3072 .bf16} {K : Vec Ideal S8x1024 .f32} (hY : ∀ r j, Y (ix2 r j) = bcv A (row T r) j) {o q0 q1 q2 : ℕ}
    {i0 : ∀ a, (![0, o] : Fin 2 → ℕ) a + S1x128.size a ≤ S8x1024.size a} {i1 : ∀ a, (![1, o] : Fin 2 → ℕ) a + S1x128.size a ≤ S8x1024.size a}
    {i2 : ∀ a, (![2, o] : Fin 2 → ℕ) a + S1x128.size a ≤ S8x1024.size a}
    {i4 : ∀ a, (![0, o] : Fin 2 → ℕ) a + S8x128.size a ≤ S8x1024.size a}
    {j0 : ∀ a, (![0, q0] : Fin 2 → ℕ) a + S256x128.size a ≤ S256x3072.size a}
    {j1 : ∀ a, (![0, q1] : Fin 2 → ℕ) a + S256x128.size a ≤ S256x3072.size a}
    {j2 : ∀ a, (![0, q2] : Fin 2 → ℕ) a + S256x128.size a ≤ S256x3072.size a}
    {i7 : ∀ a, (![0, o] : Fin 2 → ℕ) a + S256x128.size a ≤ S256x1024.size a}

include hY

theorem loads {tl : Vec Ideal S8x1024 .f32} (hK : ∀ (k : Fin 3) c, K (ix2 ⟨k.val, by omega⟩ c) = A.k k c) (ht : Tail A T tl) (hs : s < 8) (ho : o = s * 128) (h0 : q0 = s * 384) (h1 : q1 = s * 384 + 128) (h2 : q2 = s * 384 + 256) :
    Loads A T s hs (View.ld K (Rect.unit ![0, o] S1x128.size i0)) (View.ld K (Rect.unit ![1, o] S1x128.size i1)) (View.ld K (Rect.unit ![2, o] S1x128.size i2))
      (View.ld Y (Rect.unit (s := S256x3072) ![0, q0] S256x128.size j0)) (View.ld Y (Rect.unit (s := S256x3072) ![0, q1] S256x128.size j1))
      (View.ld Y (Rect.unit (s := S256x3072) ![0, q2] S256x128.size j2)) (View.ld tl (Rect.unit ![0, o] S8x128.size i4)) := by
  subst ho
  exact {
    w0 := fun c => by pointwise []; exact hK 0 _
    w1 := fun c => by pointwise []; exact hK 1 _
    w2 := fun c => by pointwise []; exact hK 2 _
    gb := fun t c => ld_bcv hY 0 (by show _ = s * 384 + 0 * 128; omega) j0 t c
    gc := fun t c => ld_bcv hY 1 (by show _ = s * 384 + 1 * 128; omega) j1 t c
    v := fun t c => ld_bcv hY 2 (by show _ = s * 384 + 2 * 128; omega) j2 t c
    tl := fun j c => by pointwise []; exact ht j _ }

/-- A strip's store of the gated rows, put before stores that are blocks of the tile's. -/
theorem act_strip {tl : Vec Ideal S8x1024 .f32} (hK : ∀ (k : Fin 3) c, K (ix2 ⟨k.val, by omega⟩ c) = A.k k c) (ht : Tail A T tl) (hs : s < 8) (ho : o = s * 128) (h0 : q0 = s * 384) (h1 : q1 = s * 384 + 128) (h2 : q2 = s * 384 + 256)
    {L : List (View.Piece (Elt Ideal) S256x1024 .bf16)} (hL : View.PiecesOf (actT A T) L) :
    View.PiecesOf (actT A T) (⟨Rect.unit (s := S256x1024) ![0, o] S256x128.size i7,
      k0_pay8 (F := Ideal) (k0_pay6 (View.ld Y (Rect.unit (s := S256x3072) ![0, q0] S256x128.size j0)))
        (k0_pay7 (View.ld Y (Rect.unit (s := S256x3072) ![0, q1] S256x128.size j1)) (View.ld Y (Rect.unit (s := S256x3072) ![0, q2] S256x128.size j2)))
        (View.ld tl (Rect.unit ![0, o] S8x128.size i4)) (View.ld K (Rect.unit ![2, o] S1x128.size i2)) (View.ld K (Rect.unit ![1, o] S1x128.size i1))
        (View.ld K (Rect.unit ![0, o] S1x128.size i0))⟩ :: L) :=
  ⟨act_piece (loads hY hK ht hs ho h0 h1 h2) ho i7, hL⟩

/-- A strip's store of the rows handed on. -/
theorem tail_strip (hs : s < 8) (ho : o = s * 128) (h1 : q1 = s * 384 + 128) (h2 : q2 = s * 384 + 256)
    {L : List (View.Piece (Elt Ideal) S8x1024 .f32)} (hL : View.PiecesOf (tailT A T) L) :
    View.PiecesOf (tailT A T) (⟨Rect.unit (s := S8x1024) ![0, o] S8x128.size i4,
      k0_pay9 (F := Ideal) (k0_pay7 (View.ld Y (Rect.unit (s := S256x3072) ![0, q1] S256x128.size j1)) (View.ld Y (Rect.unit (s := S256x3072) ![0, q2] S256x128.size j2)))⟩ :: L) :=
  ⟨tail_piece (hs := hs) (fun t c => ld_bcv hY 1 (by show _ = s * 384 + 1 * 128; omega) j1 t c) (fun t c => ld_bcv hY 2 (by show _ = s * 384 + 2 * 128; omega) j2 t c) ho i4, hL⟩

end stores

end strip

end Cert.ScIn

end
-- ==== Proof.ScIn.lean ====
/-
  The short-convolution mixer's pre-norm, input projection, convolution and gate, over the whole sequence: every grid point
  leaves its tile of each output and hands its last rows on, and the reference computes the same three arrays.
-/
module

public import proofs.«01_k».proof.Defs
public import proofs.«01_k».proof.Proof.ScInStrip
public import proofs.«01_k».proof.Proof.Strips
public import proofs.«01_k».proof.Proof.Gen.Kernel18
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit
public import Idealize.ShloMosaic.Lib.Pipeline.ReadBack
public import Idealize.ShloMosaic.Lib.Claim
public import Idealize.ShloMosaic.Lib.Affine
public import Idealize.ShloMosaic.Lib.Decide
public import Idealize.ShloMosaic.Lib.IdealHost
public import Idealize.ShloMosaic.Adequacy
public import Idealize.ShloMosaic.Init

@[expose] public section

set_option maxRecDepth 16384

noncomputable section

namespace Cert.ScIn

open Idealize.ShloMosaic Idealize.ShloMosaic.TcCoe Idealize.SL.Sem Cert.FfnGrad Cert.KernelIdeal.Grad

def args (x0 : Vec Ideal Cert.Reference18Ideal.S4096x1024 .f32) (x1 : Vec Ideal Cert.Reference18Ideal.S1024 .f32)
    (x2 : Vec Ideal Cert.Reference18Ideal.S1024x3072 .bf16) (x3 : Vec Ideal Cert.Reference18Ideal.S3x1024 .f32) : Args where
  x t n := x0 (ix2 t n)
  g n := x1 (ix1 n)
  w n j := x2 (ix2 n j)
  k k c := x3 (ix2 k c)

section Kernel

open Cert.Kernel18Ideal Cert.Kernel18Ideal.Gen

variable (m : (ℓ : Loc nD τ sig) → Buf (Elt Ideal) ℓ) (c : Dev nD)

/-- The arguments in memory. -/
def memArgs : Args := args (m ((c : Thread nD τ).loc main_arg0)) (m ((c : Thread nD τ).loc main_arg1)) (m ((c : Thread nD τ).loc main_arg2))
  (m ((c : Thread nD τ).loc main_arg3))

/-- The tile of a grid point. -/
def tile (t : Fin cfg0.N) : Fin 16 := ⟨t.val, t.isLt⟩

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, _)

theorem V_gain (n : Fin 1024) : V m c main_v0 (ix2 0 n) = (memArgs m c).g n := by
  have e : V m c main_v0 = shapeCast S1x1024 (m ((c : Thread nD τ).loc main_arg1) : Vec Ideal S1024 .f32) shapeCasts_S1024_S1x1024 := rfl
  rw [e]
  pointwise [memArgs, args]

theorem pad_at (X : Vec Ideal S3x1024 .f32) (z : Vec Ideal S_ .f32) (k : Fin 3) (l : Fin 1024) :
    pad S8x1024 ![0, 0] ![5, 0] ![0, 0] X z pads_S3x1024_S8x1024_050_000 h_S_ (ix2 ⟨k.val, by omega⟩ l) = X (ix2 k l) := by
  pointwise []

/-- The taps are padded to eight rows. -/
theorem V_taps (k : Fin 3) (l : Fin 1024) : V m c main_v1 (ix2 ⟨k.val, by omega⟩ l) = (memArgs m c).k k l := by
  obtain ⟨z, e⟩ : ∃ z : Vec Ideal S_ .f32, V m c main_v1 = pad S8x1024 ![0, 0] ![5, 0] ![0, 0] (m ((c : Thread nD τ).loc main_arg3) : Vec Ideal S3x1024 .f32)
      z pads_S3x1024_S8x1024_050_000 h_S_ := ⟨_, rfl⟩
  rw [e]
  exact pad_at _ z k l

variable (t : Fin cfg0.N)

theorem blk0 (r : Fin 256) (n : Fin 1024) : iblk m c 0 t (ix2 r n) = (memArgs m c).x (row (tile t) r) n := by
  show _ = m ((c : Thread nD τ).loc main_arg0) (ix2 (row (tile t) r) n)
  blk_ext [iblk, V, idx t, row, tile]

theorem blk1 (n : Fin 1024) : iblk m c 1 t (ix2 0 n) = (memArgs m c).g n := by
  rw [← V_gain m c]
  blk_ext [iblk, idx t]

theorem blk2 (n : Fin 1024) (j : Fin 3072) : iblk m c 2 t (ix2 n j) = (memArgs m c).w n j := by
  show _ = m ((c : Thread nD τ).loc main_arg2) (ix2 n j)
  blk_ext [iblk, V, idx t]

theorem blk3 (k : Fin 3) (l : Fin 1024) : iblk m c 3 t (ix2 ⟨k.val, by omega⟩ l) = (memArgs m c).k k l := by
  rw [← V_taps m c]
  blk_ext [iblk, idx t]

theorem holds : Holds (memArgs m c) (tile t) (iblk m c 0 t) (iblk m c 1 t) (iblk m c 2 t) (iblk m c 3 t) :=
  ⟨blk0 m c t, blk1 m c t, blk2 m c t, blk3 m c t⟩

/-- No rows come before the first tile. -/
theorem tail_zero (h : t.val % 16 = 0) : Tail (memArgs m c) (tile t) (k0_pay5 (F := Ideal)) := by
  intro j l
  rw [pay5_at]
  have h0 : ¬ 0 < (tile t).val := by have : t.val < 16 := t.isLt; simp only [tile]; omega
  rw [dif_neg h0]

set_option maxHeartbeats 16000000 in
theorem hn_A (h : t.val % 16 = 0) (r : Fin 256) (n : Fin 1024) : (outsAt0 m c t.val t.isLt).2.1 (ix2 r n) = hn (memArgs m c) (row (tile t) r) n := by
  rw [outsAt0_A m c t h]
  frame_open
  simp (disch := decide) only [↓ View.readCov_skip, ↓ View.readCov_cons_toLoadRect, ↓ View.readCov_fill]
  frame_out
  exact hn_of (holds m c t) r n

set_option maxHeartbeats 16000000 in
theorem hn_B (h : ¬ t.val % 16 = 0) (r : Fin 256) (n : Fin 1024) : (outsAt0 m c t.val t.isLt).2.1 (ix2 r n) = hn (memArgs m c) (row (tile t) r) n := by
  rw [outsAt0_B m c t h]
  frame_open
  simp (disch := decide) only [↓ View.readCov_skip, ↓ View.readCov_cons_toLoadRect, ↓ View.readCov_fill]
  frame_out
  exact hn_of (holds m c t) r n

set_option maxHeartbeats 16000000 in
theorem bcv_A (h : t.val % 16 = 0) (r : Fin 256) (n : Fin 3072) : (outsAt0 m c t.val t.isLt).1 (ix2 r n) = bcv (memArgs m c) (row (tile t) r) n := by
  rw [outsAt0_A m c t h]
  frame_open
  simp (disch := decide) only [↓ View.readCov_skip, ↓ View.readCov_cons_toLoadRect, ↓ View.readCov_fill]
  frame_out
  exact bcv_of (holds m c t) r n

set_option maxHeartbeats 16000000 in
theorem bcv_B (h : ¬ t.val % 16 = 0) (r : Fin 256) (n : Fin 3072) : (outsAt0 m c t.val t.isLt).1 (ix2 r n) = bcv (memArgs m c) (row (tile t) r) n := by
  rw [outsAt0_B m c t h]
  frame_open
  simp (disch := decide) only [↓ View.readCov_skip, ↓ View.readCov_cons_toLoadRect, ↓ View.readCov_fill]
  frame_out
  exact bcv_of (holds m c t) r n

set_option maxHeartbeats 16000000 in
theorem tail_A (h : t.val % 16 = 0) : (outsAt0 m c t.val t.isLt).2.2.2 = tailT (memArgs m c) (tile t) := by
  rw [outsAt0_A m c t h]
  frame_open
  simp (disch := decide) only [↓ View.readCov_skip, ↓ View.readCov_cons_toLoadRect, ↓ View.readCov_fill]
  frame_out
  have H := holds m c t
  refine canon_take (s := S8x1024) (e := .f32) (tailT (memArgs m c) (tile t)) 8 _ ?_ (View.cover_of_tiledL _ ![8, 128] (by rfl))
  refine tail_strip (s := 7) (bcv_of H) (by decide) (by decide) (by decide) (by decide) ?_
  refine tail_strip (s := 6) (bcv_of H) (by decide) (by decide) (by decide) (by decide) ?_
  refine tail_strip (s := 5) (bcv_of H) (by decide) (by decide) (by decide) (by decide) ?_
  refine tail_strip (s := 4) (bcv_of H) (by decide) (by decide) (by decide) (by decide) ?_
  refine tail_strip (s := 3) (bcv_of H) (by decide) (by decide) (by decide) (by decide) ?_
  refine tail_strip (s := 2) (bcv_of H) (by decide) (by decide) (by decide) (by decide) ?_
  refine tail_strip (s := 1) (bcv_of H) (by decide) (by decide) (by decide) (by decide) ?_
  refine tail_strip (s := 0) (bcv_of H) (by decide) (by decide) (by decide) (by decide) ?_
  exact trivial

set_option maxHeartbeats 16000000 in
theorem tail_B (h : ¬ t.val % 16 = 0) : (outsAt0 m c t.val t.isLt).2.2.2 = tailT (memArgs m c) (tile t) := by
  rw [outsAt0_B m c t h]
  frame_open
  simp (disch := decide) only [↓ View.readCov_skip, ↓ View.readCov_cons_toLoadRect, ↓ View.readCov_fill]
  frame_out
  have H := holds m c t
  refine canon_take (s := S8x1024) (e := .f32) (tailT (memArgs m c) (tile t)) 8 _ ?_ (View.cover_of_tiledL _ ![8, 128] (by rfl))
  refine tail_strip (s := 7) (bcv_of H) (by decide) (by decide) (by decide) (by decide) ?_
  refine tail_strip (s := 6) (bcv_of H) (by decide) (by decide) (by decide) (by decide) ?_
  refine tail_strip (s := 5) (bcv_of H) (by decide) (by decide) (by decide) (by decide) ?_
  refine tail_strip (s := 4) (bcv_of H) (by decide) (by decide) (by decide) (by decide) ?_
  refine tail_strip (s := 3) (bcv_of H) (by decide) (by decide) (by decide) (by decide) ?_
  refine tail_strip (s := 2) (bcv_of H) (by decide) (by decide) (by decide) (by decide) ?_
  refine tail_strip (s := 1) (bcv_of H) (by decide) (by decide) (by decide) (by decide) ?_
  refine tail_strip (s := 0) (bcv_of H) (by decide) (by decide) (by decide) (by decide) ?_
  exact trivial

theorem tail_eq : (outsAt0 m c t.val t.isLt).2.2.2 = tailT (memArgs m c) (tile t) := by
  by_cases h : t.val % 16 = 0
  · exact tail_A m c t h
  · exact tail_B m c t h

/-- Every later tile is handed the rows before it. -/
theorem tail_prev (h : ¬ t.val % 16 = 0) :
    Tail (memArgs m c) (tile t) (outsAt0 m c (t.val - 1) (Nat.lt_of_le_of_lt (Nat.sub_le _ _) t.isLt)).2.2.2 := by
  intro j l
  have h0 : 0 < (tile t).val := by simp only [tile]; omega
  rw [dif_pos h0]
  refine (congrFun (tail_eq m c ⟨t.val - 1, Nat.lt_of_le_of_lt (Nat.sub_le _ _) t.isLt⟩) (ix2 j l)).trans ?_
  refine congrArg (gated (memArgs m c) · l) (Fin.ext ?_)
  show (t.val - 1) * 256 + (248 + j.val) = t.val * 256 - 8 + j.val
  omega

set_option maxHeartbeats 16000000 in
theorem act_A (h : t.val % 16 = 0) : (outsAt0 m c t.val t.isLt).2.2.1 = actT (memArgs m c) (tile t) := by
  rw [outsAt0_A m c t h]
  frame_open
  simp (disch := decide) only [↓ View.readCov_skip, ↓ View.readCov_cons_toLoadRect, ↓ View.readCov_fill]
  frame_out
  have H := holds m c t
  refine canon_take (s := S256x1024) (e := .bf16) (actT (memArgs m c) (tile t)) 8 _ ?_ (View.cover_of_tiledL _ ![256, 128] (by rfl))
  refine act_strip (s := 7) (bcv_of H) H.taps (tail_zero m c t h) (by decide) (by decide) (by decide) (by decide) (by decide) ?_
  refine act_strip (s := 6) (bcv_of H) H.taps (tail_zero m c t h) (by decide) (by decide) (by decide) (by decide) (by decide) ?_
  refine act_strip (s := 5) (bcv_of H) H.taps (tail_zero m c t h) (by decide) (by decide) (by decide) (by decide) (by decide) ?_
  refine act_strip (s := 4) (bcv_of H) H.taps (tail_zero m c t h) (by decide) (by decide) (by decide) (by decide) (by decide) ?_
  refine act_strip (s := 3) (bcv_of H) H.taps (tail_zero m c t h) (by decide) (by decide) (by decide) (by decide) (by decide) ?_
  refine act_strip (s := 2) (bcv_of H) H.taps (tail_zero m c t h) (by decide) (by decide) (by decide) (by decide) (by decide) ?_
  refine act_strip (s := 1) (bcv_of H) H.taps (tail_zero m c t h) (by decide) (by decide) (by decide) (by decide) (by decide) ?_
  refine act_strip (s := 0) (bcv_of H) H.taps (tail_zero m c t h) (by decide) (by decide) (by decide) (by decide) (by decide) ?_
  exact trivial

set_option maxHeartbeats 16000000 in
theorem act_B (h : ¬ t.val % 16 = 0) : (outsAt0 m c t.val t.isLt).2.2.1 = actT (memArgs m c) (tile t) := by
  rw [outsAt0_B m c t h]
  frame_open
  simp (disch := decide) only [↓ View.readCov_skip, ↓ View.readCov_cons_toLoadRect, ↓ View.readCov_fill]
  frame_out
  simp only [read_unread_whole]
  have H := holds m c t
  refine canon_take (s := S256x1024) (e := .bf16) (actT (memArgs m c) (tile t)) 8 _ ?_ (View.cover_of_tiledL _ ![256, 128] (by rfl))
  refine act_strip (s := 7) (bcv_of H) H.taps (tail_prev m c t h) (by decide) (by decide) (by decide) (by decide) (by decide) ?_
  refine act_strip (s := 6) (bcv_of H) H.taps (tail_prev m c t h) (by decide) (by decide) (by decide) (by decide) (by decide) ?_
  refine act_strip (s := 5) (bcv_of H) H.taps (tail_prev m c t h) (by decide) (by decide) (by decide) (by decide) (by decide) ?_
  refine act_strip (s := 4) (bcv_of H) H.taps (tail_prev m c t h) (by decide) (by decide) (by decide) (by decide) (by decide) ?_
  refine act_strip (s := 3) (bcv_of H) H.taps (tail_prev m c t h) (by decide) (by decide) (by decide) (by decide) (by decide) ?_
  refine act_strip (s := 2) (bcv_of H) H.taps (tail_prev m c t h) (by decide) (by decide) (by decide) (by decide) (by decide) ?_
  refine act_strip (s := 1) (bcv_of H) H.taps (tail_prev m c t h) (by decide) (by decide) (by decide) (by decide) (by decide) ?_
  refine act_strip (s := 0) (bcv_of H) H.taps (tail_prev m c t h) (by decide) (by decide) (by decide) (by decide) (by decide) ?_
  exact trivial

theorem bcv_eq (r : Fin 256) (n : Fin 3072) : (outsAt0 m c t.val t.isLt).1 (ix2 r n) = bcv (memArgs m c) (row (tile t) r) n := by
  by_cases h : t.val % 16 = 0
  · exact bcv_A m c t h r n
  · exact bcv_B m c t h r n

theorem hn_eq (r : Fin 256) (n : Fin 1024) : (outsAt0 m c t.val t.isLt).2.1 (ix2 r n) = hn (memArgs m c) (row (tile t) r) n := by
  by_cases h : t.val % 16 = 0
  · exact hn_A m c t h r n
  · exact hn_B m c t h r n

theorem act_eq : (outsAt0 m c t.val t.isLt).2.2.1 = actT (memArgs m c) (tile t) := by
  by_cases h : t.val % 16 = 0
  · exact act_A m c t h
  · exact act_B m c t h

theorem bcv_arr : (dats m 0 c).arrAt 4 cfg0.N = fun i : S4096x3072.Idx => bcv (memArgs m c) (i 0) (i 1) := by
  refine (dats m 0 c).arrAt_eq_of_covers 4 _ (by decide +kernel) fun t hf y => ?_
  have e0 : win0_4.index t 0 = t.val := by rw [(idx t).2.2.2.2.1]; rfl
  have e1 : win0_4.index t 1 = 0 := by rw [(idx t).2.2.2.2.1]; rfl
  have h0 : (win0_4.blk t).view.emb y 0 = row (tile t) (y 0) := Fin.ext (by blk_simp; rw [e0]; simp only [row, tile])
  have h1 : (win0_4.blk t).view.emb y 1 = y 1 := Fin.ext (by blk_simp; rw [e1]; omega)
  blk_simp
  rw [after0_4, h0, h1]
  obtain ⟨r, n, rfl⟩ : ∃ (r : Fin 256) (n : Fin 3072), y = ix2 r n := ⟨_, _, eq_ix2 y⟩
  exact bcv_eq m c t r n

theorem hn_arr : (dats m 0 c).arrAt 5 cfg0.N = fun i : S4096x1024.Idx => hn (memArgs m c) (i 0) (i 1) := by
  refine (dats m 0 c).arrAt_eq_of_covers 5 _ (by decide +kernel) fun t hf y => ?_
  have e0 : win0_5.index t 0 = t.val := by rw [(idx t).2.2.2.2.2.1]; rfl
  have e1 : win0_5.index t 1 = 0 := by rw [(idx t).2.2.2.2.2.1]; rfl
  have h0 : (win0_5.blk t).view.emb y 0 = row (tile t) (y 0) := Fin.ext (by blk_simp; rw [e0]; simp only [row, tile])
  have h1 : (win0_5.blk t).view.emb y 1 = y 1 := Fin.ext (by blk_simp; rw [e1]; omega)
  blk_simp
  rw [after0_5, h0, h1]
  obtain ⟨r, n, rfl⟩ : ∃ (r : Fin 256) (n : Fin 1024), y = ix2 r n := ⟨_, _, eq_ix2 y⟩
  exact hn_eq m c t r n

theorem act_arr : (dats m 0 c).arrAt 6 cfg0.N = fun i : S4096x1024.Idx => act (memArgs m c) (i 0) (i 1) := by
  refine (dats m 0 c).arrAt_eq_of_covers 6 _ (by decide +kernel) fun t hf y => ?_
  have e0 : win0_6.index t 0 = t.val := by rw [(idx t).2.2.2.2.2.2]; rfl
  have e1 : win0_6.index t 1 = 0 := by rw [(idx t).2.2.2.2.2.2]; rfl
  have h0 : (win0_6.blk t).view.emb y 0 = row (tile t) (y 0) := Fin.ext (by blk_simp; rw [e0]; simp only [row, tile])
  have h1 : (win0_6.blk t).view.emb y 1 = y 1 := Fin.ext (by blk_simp; rw [e1]; omega)
  blk_simp
  rw [after0_6, h0, h1, act_eq]
  rfl

theorem run_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v2_0) = (fun i : S4096x3072.Idx => bcv (memArgs m c) (i 0) (i 1))
      ∧ r.2.mem ((c.tc : Thread nD τ).loc main_v2_1) = (fun i : S4096x1024.Idx => hn (memArgs m c) (i 0) (i 1))
      ∧ r.2.mem ((c.tc : Thread nD τ).loc main_v2_2) = (fun i : S4096x1024.Idx => act (memArgs m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (bcv_arr m c), (h c).2.1.trans (hn_arr m c), (h c).2.2.1.trans (act_arr m c), (h c).2.2.2⟩)
    (Cert.Kernel18Ideal.Value.run_blocks m ρ)

end Kernel

section Reference

open Cert.Reference18Ideal Cert.Reference18Ideal.Gen Cert.Reference18Ideal.Read

variable (x0 : Vec Ideal S4096x1024 .f32) (x1 : Vec Ideal S1024 .f32) (x2 : Vec Ideal S1024x3072 .bf16) (x3 : Vec Ideal S3x1024 .f32)

theorem v7_at (t : Fin 4096) (z : Fin 1) : val_main_v7 (F := Ideal) x0 (ix2 t z) = rowInv ((args x0 x1 x2 x3).x t) := by
  unfold rowInv rowMsq
  pointwise [val_main_v7, val_main_v6, val_main_v5, val_main_v4, val_main_v3, val_main_v2, val_main_v1, val_main_v0, val_main_cst, val_main_cst_0, val_main_cst_1, args]
  rfl

theorem v12_at (t : Fin 4096) (n : Fin 1024) : val_main_v12 (F := Ideal) x0 x1 (ix2 t n) = hn (args x0 x1 x2 x3) t n := by
  unfold hn
  rw [← v7_at x0 x1 x2 x3 t 0]
  pointwise [val_main_v12, val_main_v11, val_main_v10, val_main_v9, val_main_v8, args]

theorem v14_at (t : Fin 4096) (j : Fin 3072) : val_main_v14 (F := Ideal) x0 x1 x2 (ix2 t j) = bcv (args x0 x1 x2 x3) t j := by
  unfold bcv
  simp only [← v12_at]
  pointwise [val_main_v14, val_main_v13, args]

theorem v15_at (t : Fin 4096) (j : Fin 3072) : val_main_v15 (F := Ideal) x0 x1 x2 (ix2 t j) = bcv (args x0 x1 x2 x3) t j := by
  rw [← v14_at]
  pointwise [val_main_v15]

theorem v16_at (t : Fin 4096) (n : Fin 1024) : val_main_v16 (F := Ideal) x0 x1 (ix2 t n) = hn (args x0 x1 x2 x3) t n := by
  rw [← v12_at]
  pointwise [val_main_v16]

theorem v20_at (t : Fin 4096) (c : Fin 1024) : val_main_v20 (F := Ideal) x0 x1 x2 (ix2 t c) = bcv (args x0 x1 x2 x3) t (col 0 c) := by
  rw [← v14_at]
  generalize hf : val_main_v14 (F := Ideal) x0 x1 x2 = f
  pointwise [val_main_v20, val_main_v19, val_main_v18, val_main_v17, hf]
  exact congrArg f (congrArg (ix2 t) (Fin.ext (by simp only [col]; omega)))

theorem v23_at (t : Fin 4096) (c : Fin 1024) : val_main_v23 (F := Ideal) x0 x1 x2 (ix2 t c) = bcv (args x0 x1 x2 x3) t (col 1 c) := by
  rw [← v14_at]
  generalize hf : val_main_v14 (F := Ideal) x0 x1 x2 = f
  pointwise [val_main_v23, val_main_v22, val_main_v21, val_main_v17, hf]
  exact congrArg f (congrArg (ix2 t) (Fin.ext (by simp only [col]; omega)))

theorem v26_at (t : Fin 4096) (c : Fin 1024) : val_main_v26 (F := Ideal) x0 x1 x2 (ix2 t c) = bcv (args x0 x1 x2 x3) t (col 2 c) := by
  rw [← v14_at]
  generalize hf : val_main_v14 (F := Ideal) x0 x1 x2 = f
  pointwise [val_main_v26, val_main_v25, val_main_v24, val_main_v17, hf]
  exact congrArg f (congrArg (ix2 t) (Fin.ext (by simp only [col]; omega)))

theorem v27_at (t : Fin 4096) (c : Fin 1024) : val_main_v27 (F := Ideal) x0 x1 x2 (ix2 t c) = gated (args x0 x1 x2 x3) t c := by
  unfold gated
  rw [← v23_at, ← v26_at]
  pointwise [val_main_v27]

/-- Two rows of zeros come before the sequence. -/
theorem v30_at (t : Fin 4096) (c : Fin 1024) : val_main_v30 (F := Ideal) x0 x1 x2 (ix2 t c) = inp (args x0 x1 x2 x3) 2 t c := by
  unfold inp
  simp only [← v27_at]
  generalize hf : val_main_v27 (F := Ideal) x0 x1 x2 = f
  pointwise [val_main_v30, val_main_v29, val_main_v28, val_main_cst_2, hf]
  split <;> split <;> first | rfl | omega

theorem v36_at (t : Fin 4096) (c : Fin 1024) : val_main_v36 (F := Ideal) x0 x1 x2 (ix2 t c) = inp (args x0 x1 x2 x3) 1 t c := by
  unfold inp
  simp only [← v27_at]
  generalize hf : val_main_v27 (F := Ideal) x0 x1 x2 = f
  pointwise [val_main_v36, val_main_v29, val_main_v28, val_main_cst_2, hf]
  split <;> split <;> first | rfl | omega | exact congrArg f (congrArg (ix2 · c) (Fin.ext (by simp only; omega)))

theorem v43_at (t : Fin 4096) (c : Fin 1024) : val_main_v43 (F := Ideal) x0 x1 x2 (ix2 t c) = inp (args x0 x1 x2 x3) 0 t c := by
  unfold inp
  simp only [← v27_at]
  generalize hf : val_main_v27 (F := Ideal) x0 x1 x2 = f
  pointwise [val_main_v43, val_main_v29, val_main_v28, val_main_cst_2, hf]

theorem v51_at (t : Fin 4096) (c : Fin 1024) : val_main_v51 (F := Ideal) x0 x1 x2 x3 (ix2 t c) = act (args x0 x1 x2 x3) t c := by
  unfold act
  rw [← v20_at, ← v30_at, ← v36_at, ← v43_at]
  pointwise [val_main_v51, val_main_v50, val_main_v49, val_main_v48, val_main_v47, val_main_v46, val_main_v45, val_main_v44, val_main_v42, val_main_v41,
    val_main_v40, val_main_v39, val_main_v38, val_main_v37, val_main_v35, val_main_v34, val_main_v33, val_main_v32, val_main_v31, args]

theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15) = (fun i : S4096x3072.Idx => bcv (args (m ((c.tc : Thread nD τ).loc main_arg0)) (m ((c.tc : Thread nD τ).loc main_arg1)) (m ((c.tc : Thread nD τ).loc main_arg2)) (m ((c.tc : Thread nD τ).loc main_arg3))) (i 0) (i 1))
      ∧ r.2.mem ((c.tc : Thread nD τ).loc main_v16) = (fun i : S4096x1024.Idx => hn (args (m ((c.tc : Thread nD τ).loc main_arg0)) (m ((c.tc : Thread nD τ).loc main_arg1)) (m ((c.tc : Thread nD τ).loc main_arg2)) (m ((c.tc : Thread nD τ).loc main_arg3))) (i 0) (i 1))
      ∧ r.2.mem ((c.tc : Thread nD τ).loc main_v51) = (fun i : S4096x1024.Idx => act (args (m ((c.tc : Thread nD τ).loc main_arg0)) (m ((c.tc : Thread nD τ).loc main_arg1)) (m ((c.tc : Thread nD τ).loc main_arg2)) (m ((c.tc : Thread nD τ).loc main_arg3))) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).1.trans (val_main_v15_eq ..)).trans (funext fun i => (congrArg _ (eq_ix2 i)).trans (v15_at _ _ _ _ _ _)),
      ((h c).2.1.trans (val_main_v16_eq ..)).trans (funext fun i => (congrArg _ (eq_ix2 i)).trans (v16_at _ _ _ _ _ _)),
      ((h c).2.2.1.trans (val_main_v51_eq ..)).trans (funext fun i => (congrArg _ (eq_ix2 i)).trans (v51_at _ _ _ _ _ _)),
      (h c).2.2.2⟩) (Cert.Reference18Ideal.Value.run m ρ)

end Reference

theorem algebraic : Cert.algebraic_Kernel18Ideal_Reference18Ideal (hKernel18Ideal := Cert.Kernel18Ideal.Gen.facts)
    (hReference18Ideal := Cert.Reference18Ideal.Gen.facts) := by
  intro m g m' g' _ hagree
  refine ⟨_, _, _, run_kernel m g, (θ_run _ _ _).mono (fun r h c => ?_) (run_reference m' g')⟩
  obtain ⟨a0, a1, a2, a3⟩ := hagree c
  obtain ⟨h0, h1, h2, hk⟩ := h c
  rw [a0, a1, a2, a3] at h0 h1 h2
  exact ⟨h0, h1, h2, hk⟩

theorem frame_reference : Cert.quiescent_Reference18Ideal (hReference18Ideal := Cert.Reference18Ideal.Gen.facts) := by
  intro m g _
  exact (θ_run _ _ _).mono (fun r h => ⟨fun c => (h c).2.2.2, sem_eq_zero_of_no_sems (by decide) r.2⟩) (run_reference m g)

end Cert.ScIn

end
-- ==== Proof.SsdInStrip.lean ====
/-
  The SSD mixer's pre-norm, input projection, convolution and activation: what both programs compute of their five
  arguments, and what one strip of 128 lanes of a 256-row tile stores. The convolution takes the projection's columns from
  2048 on; it reads the tile's own rows and the last eight rows of the tile before it.
-/
module

public import proofs.«01_k».proof.Proof.RmsNorm
public import proofs.«01_k».proof.Proof.Gen.Kernel19Ideal.Skeleton
public import Idealize.ShloMosaic.Lib.Pipeline.ValueKit
public import Idealize.ShloMosaic.Lib.Pipeline.ReadBack
public import Idealize.ShloMosaic.Lib.IdealHost

@[expose] public section

set_option maxRecDepth 16384

noncomputable section

namespace Cert.SsdIn

open Idealize.ShloMosaic Idealize.ShloMosaic.TcCoe Cert.FfnGrad

/-- The arguments as functions of their coordinates: the norm's input and gain, the weights, and the convolution's taps
and bias. -/
structure Args where
  x : Fin 4096 → Fin 1024 → EReal
  g : Fin 1024 → EReal
  w : Fin 1024 → Fin 6272 → EReal
  k : Fin 4 → Fin 4096 → EReal
  b : Fin 4096 → EReal

variable (A : Args)

/-- The normalised rows. -/
def hn (t : Fin 4096) (n : Fin 1024) : EReal := A.x t n * rowInv (A.x t) * A.g n

/-- The projection. -/
def zx (t : Fin 4096) (j : Fin 6272) : EReal := ∑ n, hn A t n * A.w n j

/-- The projection's column that the convolution's lane `c` reads. -/
def col (c : Fin 4096) : Fin 6272 := ⟨2048 + c.val, by omega⟩

/-- The convolution's input `k` rows back, zero before the sequence. -/
def inp (k : ℕ) (t : Fin 4096) (c : Fin 4096) : EReal := if h : k ≤ t.val then zx A ⟨t.val - k, by omega⟩ (col c) else 0

def conv (t : Fin 4096) (c : Fin 4096) : EReal :=
  inp A 3 t c * A.k 0 c + inp A 2 t c * A.k 1 c + inp A 1 t c * A.k 2 c + inp A 0 t c * A.k 3 c + A.b c

/-- The convolved and activated columns. -/
def act (t : Fin 4096) (c : Fin 4096) : EReal := conv A t c * Ideal.logistic (conv A t c)

/-- Row `t` of tile `T`. -/
def row (T : Fin 16) (t : Fin 256) : Fin 4096 := ⟨T.val * 256 + t.val, by omega⟩

/-- Lane `c` of the strip at offset `o`. -/
def lane (o : ℕ) (ho : o + 128 ≤ 4096) (c : Fin 128) : Fin 4096 := ⟨o + c.val, by omega⟩

open Cert.Kernel19Ideal Cert.Kernel19Ideal.Gen

/-! ## The projection -/

theorem pay4_at (j : Fin 8) (l : Fin 4096) : (k0_pay4 (F := Ideal)) (ix2 j l) = 0 := by
  pointwise [k0_pay4]

theorem pay2_at (X : Vec Ideal S256x1024 .f32) (G : Vec Ideal S1x1024 .f32) (r : Fin 256) (n : Fin 1024) :
    k0_pay2 X G (ix2 r n) = X (ix2 r n) * (rowInv fun n => X (ix2 r n)) * G (ix2 0 n) := by
  unfold rowInv rowMsq
  pointwise [k0_pay2]
  rfl

theorem pay3_at (X : Vec Ideal S256x1024 .f32) (G : Vec Ideal S1x1024 .f32) (W : Vec Ideal S1024x6272 .bf16) (r : Fin 256) (j : Fin 6272) :
    k0_pay3 X G W (ix2 r j) = ∑ n, k0_pay2 X G (ix2 r n) * W (ix2 n j) := by
  unfold k0_pay3
  generalize k0_pay2 X G = h
  pointwise []

/-! ## One strip -/

section strip

variable (w0 w1 w2 w3 cb : Vec Ideal S1x128 .f32) (P : Vec Ideal S256x128 .f32) (tl : Vec Ideal S8x128 .f32)

/-- The convolution's input `k` rows back within one strip of a tile: the tile's own rows, else the rows before it. -/
def gin (k : ℕ) (hk : k ≤ 3) (t : Fin 256) (c : Fin 128) : EReal :=
  if h : k ≤ t.val then P (ix2 ⟨t.val - k, by omega⟩ c) else tl (ix2 ⟨8 + t.val - k, by omega⟩ c)

def sconv (t : Fin 256) (c : Fin 128) : EReal :=
  gin P tl 3 (by decide) t c * w0 (ix2 0 c) + gin P tl 2 (by decide) t c * w1 (ix2 0 c) + gin P tl 1 (by decide) t c * w2 (ix2 0 c)
    + gin P tl 0 (by decide) t c * w3 (ix2 0 c) + cb (ix2 0 c)

theorem pay5_at (t : Fin 256) (c : Fin 128) : k0_pay5 P (ix2 t c) = P (ix2 t c) := by
  pointwise [k0_pay5]

/-- The rows before the tile, then its own. -/
def both : FVec Ideal S264x128 .f32 := concatenate S264x128 0 [⟨S8x128, tl⟩, ⟨S256x128, k0_pay5 P⟩] concatenates_S8x128_S256x128_S264x128_d0

theorem both_at (j : Fin 264) (c : Fin 128) : both P tl (ix2 j c) =
    if h : j.val < 8 then tl (ix2 ⟨j.val, h⟩ c) else P (ix2 ⟨j.val - 8, by omega⟩ c) := by
  pointwise [both, k0_pay5]

/-- The rotated rows, `k` rows back. -/
theorem back_at (k : ℕ) (hk : k ≤ 3) (t : Fin 256) (c : Fin 128) (l : Fin 264) (hl : l.val = 8 + t.val - k) :
    both P tl (ix2 l c) = gin P tl k hk t c := by
  unfold gin
  rw [both_at]
  by_cases h : k ≤ t.val
  · rw [dif_neg (by omega), dif_pos h]
    exact congrArg P (congrArg (ix2 · c) (Fin.ext (by show l.val - 8 = t.val - k; omega)))
  · rw [dif_pos (by omega), dif_neg h]
    exact congrArg tl (congrArg (ix2 · c) (Fin.ext hl))

/-- The kernel adds the taps from the newest row to the oldest. -/
theorem conv_at (t : Fin 256) (c : Fin 128) :
    P (ix2 t c) * w3 (ix2 0 c) + both P tl (ix2 ⟨(8 + t.val + 264 - 1) % 264, by omega⟩ c) * w2 (ix2 0 c)
        + both P tl (ix2 ⟨(8 + t.val + 264 - 2) % 264, by omega⟩ c) * w1 (ix2 0 c)
        + both P tl (ix2 ⟨(8 + t.val + 264 - 3) % 264, by omega⟩ c) * w0 (ix2 0 c) + cb (ix2 0 c)
      = sconv w0 w1 w2 w3 cb P tl t c := by
  rw [back_at P tl 1 (by decide) t c _ (by show (8 + t.val + 264 - 1) % 264 = 8 + t.val - 1; omega),
    back_at P tl 2 (by decide) t c _ (by show (8 + t.val + 264 - 2) % 264 = 8 + t.val - 2; omega),
    back_at P tl 3 (by decide) t c _ (by show (8 + t.val + 264 - 3) % 264 = 8 + t.val - 3; omega)]
  refine congrArg (· + cb (ix2 0 c)) ?_
  rw [add_comm, add_comm (_ + _) (gin P tl 2 _ t c * _), add_comm (P _ * _), ← add_assoc, ← add_assoc]
  rfl

theorem pay8_at (t : Fin 256) (c : Fin 128) : k0_pay8 (k0_pay5 P) tl (k0_pay6 w3) (k0_pay7 w2) w1 w0 cb (ix2 t c)
    = sconv w0 w1 w2 w3 cb P tl t c * Ideal.logistic (sconv w0 w1 w2 w3 cb P tl t c) := by
  rw [← conv_at]
  unfold k0_pay8
  have e : concatenate S264x128 0 [⟨S8x128, tl⟩, ⟨S256x128, k0_pay5 P⟩] concatenates_S8x128_S256x128_S264x128_d0 = both P tl := rfl
  simp only [e]
  generalize both P tl = q
  pointwise [k0_pay5, k0_pay6, k0_pay7]
  rw [zero_sub]
  rfl

theorem pay9_at (j : Fin 8) (c : Fin 128) : k0_pay9 (k0_pay5 P) (ix2 j c) = P (ix2 ⟨248 + j.val, by omega⟩ c) := by
  pointwise [k0_pay9, k0_pay5]

end strip

/-! ## One tile -/

/-- What one grid point's blocks hold: tile `T` of the arguments. -/
structure Holds (A : Args) (T : Fin 16) (X : Vec Ideal S256x1024 .f32) (G : Vec Ideal S1x1024 .f32) (W : Vec Ideal S1024x6272 .bf16)
    (K : Vec Ideal S8x4096 .f32) (B : Vec Ideal S1x4096 .f32) : Prop where
  x : ∀ r n, X (ix2 r n) = A.x (row T r) n
  g : ∀ n, G (ix2 0 n) = A.g n
  w : ∀ n j, W (ix2 n j) = A.w n j
  taps : ∀ (k : Fin 4) c, K (ix2 ⟨k.val, by omega⟩ c) = A.k k c
  bias : ∀ c, B (ix2 0 c) = A.b c

/-- The rows a tile is handed from the tile before it, zero before the sequence. -/
def Tail (A : Args) (T : Fin 16) (tl : Vec Ideal S8x4096 .f32) : Prop :=
  ∀ (j : Fin 8) c, tl (ix2 j c) = if h : 0 < T.val then zx A ⟨T.val * 256 - 8 + j.val, by omega⟩ (col c) else 0

/-- The tile's block of the activated columns. -/
def actT (A : Args) (T : Fin 16) (i : S256x4096.Idx) : EReal := act A (row T (i 0)) (i 1)

/-- The rows the tile hands on. -/
def tailT (A : Args) (T : Fin 16) (i : S8x4096.Idx) : EReal :=
  zx A (row T ⟨248 + (i 0).val, by have := (i 0).isLt; simp at this; omega⟩) (col (i 1))

section blocks

variable {A : Args} {T : Fin 16} {X : Vec Ideal S256x1024 .f32} {G : Vec Ideal S1x1024 .f32} {W : Vec Ideal S1024x6272 .bf16}
    {K : Vec Ideal S8x4096 .f32} {B : Vec Ideal S1x4096 .f32} (H : Holds A T X G W K B)

include H

theorem hn_of (r : Fin 256) (n : Fin 1024) : k0_pay2 X G (ix2 r n) = hn A (row T r) n := by
  rw [pay2_at]
  simp only [H.x, H.g]
  rfl

theorem zx_of (r : Fin 256) (j : Fin 6272) : k0_pay3 X G W (ix2 r j) = zx A (row T r) j := by
  rw [pay3_at]
  simp only [hn_of H, H.w]
  rfl

end blocks

section strip

/-- What the loads of one strip hold: lanes `o` to `o + 127` of tile `T`. -/
structure Loads (A : Args) (T : Fin 16) (o : ℕ) (ho : o + 128 ≤ 4096) (w0 w1 w2 w3 cb : Vec Ideal S1x128 .f32) (P : Vec Ideal S256x128 .f32)
    (tl : Vec Ideal S8x128 .f32) : Prop where
  w0 : ∀ c, w0 (ix2 0 c) = A.k 0 (lane o ho c)
  w1 : ∀ c, w1 (ix2 0 c) = A.k 1 (lane o ho c)
  w2 : ∀ c, w2 (ix2 0 c) = A.k 2 (lane o ho c)
  w3 : ∀ c, w3 (ix2 0 c) = A.k 3 (lane o ho c)
  cb : ∀ c, cb (ix2 0 c) = A.b (lane o ho c)
  P : ∀ t c, P (ix2 t c) = zx A (row T t) (col (lane o ho c))
  tl : ∀ j c, tl (ix2 j c) = if h : 0 < T.val then zx A ⟨T.val * 256 - 8 + j.val, by omega⟩ (col (lane o ho c)) else 0

variable {A : Args} {T : Fin 16} {o : ℕ} {ho : o + 128 ≤ 4096}
variable {w0 w1 w2 w3 cb : Vec Ideal S1x128 .f32} {P : Vec Ideal S256x128 .f32} {tl : Vec Ideal S8x128 .f32}

theorem gin_eq (S : Loads A T o ho w0 w1 w2 w3 cb P tl) (k : ℕ) (hk : k ≤ 3) (t : Fin 256) (c : Fin 128) :
    gin P tl k hk t c = inp A k (row T t) (lane o ho c) := by
  unfold gin inp
  by_cases h : k ≤ t.val
  · rw [dif_pos h, dif_pos (by simp only [row]; omega), S.P]
    exact congrArg (zx A · _) (Fin.ext (by simp only [row]; omega))
  · rw [dif_neg h, S.tl]
    by_cases hT : 0 < T.val
    · rw [dif_pos hT, dif_pos (by simp only [row]; omega)]
      exact congrArg (zx A · _) (Fin.ext (by simp only [row]; omega))
    · rw [dif_neg hT, dif_neg (by simp only [row]; omega)]

theorem act_piece (S : Loads A T o ho w0 w1 w2 w3 cb P tl) (i) (y : S256x128.Idx) :
    k0_pay8 (k0_pay5 P) tl (k0_pay6 w3) (k0_pay7 w2) w1 w0 cb y = actT A T ((Rect.unit (s := S256x4096) ![0, o] S256x128.size i).emb y) := by
  obtain ⟨t, c, rfl⟩ : ∃ t c, y = ix2 t c := ⟨_, _, eq_ix2 y⟩
  have e : (Rect.unit (s := S256x4096) ![0, o] S256x128.size i).emb (ix2 t c) = ix2 t (lane o ho c) := by
    funext a
    apply Fin.ext
    match a with
    | 0 => simp [Rect.emb, Rect.unit]
    | 1 => simp [Rect.emb, Rect.unit, lane]
  rw [pay8_at, e]
  simp only [sconv, gin_eq S, S.w0, S.w1, S.w2, S.w3, S.cb]
  rfl

theorem tailT_at (j : Fin 8) (c : Fin 128) (q : S8x4096.Idx) (h : q = ix2 j (lane o ho c)) :
    tailT A T q = zx A (row T ⟨248 + j.val, by omega⟩) (col (lane o ho c)) := by
  subst h
  rfl

theorem tail_piece (hP : ∀ t c, P (ix2 t c) = zx A (row T t) (col (lane o ho c))) (i) (y : S8x128.Idx) :
    k0_pay9 (k0_pay5 P) y = tailT A T ((Rect.unit (s := S8x4096) ![0, o] S8x128.size i).emb y) := by
  obtain ⟨j, c, rfl⟩ : ∃ j c, y = ix2 j c := ⟨_, _, eq_ix2 y⟩
  refine (pay9_at P j c).trans ((hP _ c).trans (tailT_at (ho := ho) j c _ ?_).symm)
  funext a
  apply Fin.ext
  match a with
  | 0 => simp [Rect.emb, Rect.unit]
  | 1 => simp [Rect.emb, Rect.unit, lane]

/-- A load of the strip's columns of the projection. -/
theorem ld_zx {Y : Vec Ideal S256x6272 .f32} (hY : ∀ r j, Y (ix2 r j) = zx A (row T r) j) {q : ℕ} (hq : q = 2048 + o) (i)
    (t : Fin 256) (c : Fin 128) :
    View.ld Y (Rect.unit (s := S256x6272) ![0, q] S256x128.size i) (ix2 t c) = zx A (row T t) (col (lane o ho c)) := by
  subst hq
  refine (congrArg Y (funext fun a => Fin.ext ?_)).trans (hY t (col (lane o ho c)))
  match a with
  | 0 => simp [Rect.emb, Rect.unit]
  | 1 => simp [Rect.emb, Rect.unit, lane, col]; omega

section stores

variable {Y : Vec Ideal S256x6272 .f32} {K : Vec Ideal S8x4096 .f32} {B : Vec Ideal S1x4096 .f32} (hY : ∀ r j, Y (ix2 r j) = zx A (row T r) j)
    {q : ℕ} {i0 : ∀ a, (![0, o] : Fin 2 → ℕ) a + S1x128.size a ≤ S8x4096.size a}
    {i1 : ∀ a, (![1, o] : Fin 2 → ℕ) a + S1x128.size a ≤ S8x4096.size a} {i2 : ∀ a, (![2, o] : Fin 2 → ℕ) a + S1x128.size a ≤ S8x4096.size a}
    {i3 : ∀ a, (![3, o] : Fin 2 → ℕ) a + S1x128.size a ≤ S8x4096.size a} {ib : ∀ a, (![0, o] : Fin 2 → ℕ) a + S1x128.size a ≤ S1x4096.size a}
    {i4 : ∀ a, (![0, o] : Fin 2 → ℕ) a + S8x128.size a ≤ S8x4096.size a}
    {j0 : ∀ a, (![0, q] : Fin 2 → ℕ) a + S256x128.size a ≤ S256x6272.size a}
    {i7 : ∀ a, (![0, o] : Fin 2 → ℕ) a + S256x128.size a ≤ S256x4096.size a}

include hY

theorem loads {tl : Vec Ideal S8x4096 .f32} (hK : ∀ (k : Fin 4) c, K (ix2 ⟨k.val, by omega⟩ c) = A.k k c) (hB : ∀ c, B (ix2 0 c) = A.b c)
    (ht : Tail A T tl) (ho : o + 128 ≤ 4096) (hq : q = 2048 + o) :
    Loads A T o ho (View.ld K (Rect.unit ![0, o] S1x128.size i0)) (View.ld K (Rect.unit ![1, o] S1x128.size i1)) (View.ld K (Rect.unit ![2, o] S1x128.size i2))
      (View.ld K (Rect.unit ![3, o] S1x128.size i3)) (View.ld B (Rect.unit ![0, o] S1x128.size ib))
      (View.ld Y (Rect.unit (s := S256x6272) ![0, q] S256x128.size j0)) (View.ld tl (Rect.unit ![0, o] S8x128.size i4)) where
  w0 c := by pointwise []; exact hK 0 _
  w1 c := by pointwise []; exact hK 1 _
  w2 c := by pointwise []; exact hK 2 _
  w3 c := by pointwise []; exact hK 3 _
  cb c := by pointwise []; exact hB _
  P t c := ld_zx hY hq j0 t c
  tl j c := by pointwise []; exact ht j _

/-- A strip's store of the activated columns, put before stores that are blocks of the tile's. -/
theorem act_strip {tl : Vec Ideal S8x4096 .f32} (hK : ∀ (k : Fin 4) c, K (ix2 ⟨k.val, by omega⟩ c) = A.k k c) (hB : ∀ c, B (ix2 0 c) = A.b c)
    (ht : Tail A T tl) (ho : o + 128 ≤ 4096) (hq : q = 2048 + o)
    {L : List (View.Piece (Elt Ideal) S256x4096 .f32)} (hL : View.PiecesOf (actT A T) L) :
    View.PiecesOf (actT A T) (⟨Rect.unit (s := S256x4096) ![0, o] S256x128.size i7,
      k0_pay8 (F := Ideal) (k0_pay5 (View.ld Y (Rect.unit (s := S256x6272) ![0, q] S256x128.size j0)))
        (View.ld tl (Rect.unit ![0, o] S8x128.size i4)) (k0_pay6 (View.ld K (Rect.unit ![3, o] S1x128.size i3)))
        (k0_pay7 (View.ld K (Rect.unit ![2, o] S1x128.size i2))) (View.ld K (Rect.unit ![1, o] S1x128.size i1))
        (View.ld K (Rect.unit ![0, o] S1x128.size i0)) (View.ld B (Rect.unit ![0, o] S1x128.size ib))⟩ :: L) :=
  ⟨act_piece (loads hY hK hB ht ho hq) i7, hL⟩

/-- A strip's store of the rows handed on. -/
theorem tail_strip (ho : o + 128 ≤ 4096) (hq : q = 2048 + o) {L : List (View.Piece (Elt Ideal) S8x4096 .f32)} (hL : View.PiecesOf (tailT A T) L) :
    View.PiecesOf (tailT A T) (⟨Rect.unit (s := S8x4096) ![0, o] S8x128.size i4,
      k0_pay9 (F := Ideal) (k0_pay5 (View.ld Y (Rect.unit (s := S256x6272) ![0, q] S256x128.size j0)))⟩ :: L) :=
  ⟨tail_piece (ho := ho) (ld_zx hY hq j0) i4, hL⟩

end stores

end strip

end Cert.SsdIn

end
-- ==== Proof.SsdIn.lean ====
/-
  The SSD mixer's pre-norm, input projection, convolution and activation, over the whole sequence: every grid point leaves
  its tile of each output and hands its last rows on, and the reference computes the same three arrays.
-/
module

public import proofs.«01_k».proof.Defs
public import proofs.«01_k».proof.Proof.SsdInStrip
public import proofs.«01_k».proof.Proof.Strips
public import proofs.«01_k».proof.Proof.Gen.Kernel19
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit
public import Idealize.ShloMosaic.Lib.Pipeline.ReadBack
public import Idealize.ShloMosaic.Lib.Claim
public import Idealize.ShloMosaic.Lib.Affine
public import Idealize.ShloMosaic.Lib.Decide
public import Idealize.ShloMosaic.Lib.IdealHost
public import Idealize.ShloMosaic.Adequacy
public import Idealize.ShloMosaic.Init

@[expose] public section

set_option maxRecDepth 16384

noncomputable section

namespace Cert.SsdIn

open Idealize.ShloMosaic Idealize.ShloMosaic.TcCoe Idealize.SL.Sem Cert.FfnGrad Cert.KernelIdeal.Grad

def args (x0 : Vec Ideal Cert.Reference19Ideal.S4096x1024 .f32) (x1 : Vec Ideal Cert.Reference19Ideal.S1024 .f32)
    (x2 : Vec Ideal Cert.Reference19Ideal.S1024x6272 .bf16) (x3 : Vec Ideal Cert.Reference19Ideal.S4x4096 .f32)
    (x4 : Vec Ideal Cert.Reference19Ideal.S4096 .f32) : Args where
  x t n := x0 (ix2 t n)
  g n := x1 (ix1 n)
  w n j := x2 (ix2 n j)
  k k c := x3 (ix2 k c)
  b c := x4 (ix1 c)

section Kernel

open Cert.Kernel19Ideal Cert.Kernel19Ideal.Gen

variable (m : (ℓ : Loc nD τ sig) → Buf (Elt Ideal) ℓ) (c : Dev nD)

/-- The arguments in memory. -/
def memArgs : Args := args (m ((c : Thread nD τ).loc main_arg0)) (m ((c : Thread nD τ).loc main_arg1)) (m ((c : Thread nD τ).loc main_arg2))
  (m ((c : Thread nD τ).loc main_arg3)) (m ((c : Thread nD τ).loc main_arg4))

/-- The tile of a grid point. -/
def tile (t : Fin cfg0.N) : Fin 16 := ⟨t.val, t.isLt⟩

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

theorem V_gain (n : Fin 1024) : V m c main_v0 (ix2 0 n) = (memArgs m c).g n := by
  have e : V m c main_v0 = shapeCast S1x1024 (m ((c : Thread nD τ).loc main_arg1) : Vec Ideal S1024 .f32) shapeCasts_S1024_S1x1024 := rfl
  rw [e]
  pointwise [memArgs, args]

theorem pad_at (X : Vec Ideal S4x4096 .f32) (z : Vec Ideal S_ .f32) (k : Fin 4) (l : Fin 4096) :
    pad S8x4096 ![0, 0] ![4, 0] ![0, 0] X z pads_S4x4096_S8x4096_040_000 h_S_ (ix2 ⟨k.val, by omega⟩ l) = X (ix2 k l) := by
  pointwise []

/-- The taps are padded to eight rows. -/
theorem V_taps (k : Fin 4) (l : Fin 4096) : V m c main_v1 (ix2 ⟨k.val, by omega⟩ l) = (memArgs m c).k k l := by
  obtain ⟨z, e⟩ : ∃ z : Vec Ideal S_ .f32, V m c main_v1 = pad S8x4096 ![0, 0] ![4, 0] ![0, 0] (m ((c : Thread nD τ).loc main_arg3) : Vec Ideal S4x4096 .f32)
      z pads_S4x4096_S8x4096_040_000 h_S_ := ⟨_, rfl⟩
  rw [e]
  exact pad_at _ z k l

set_option maxRecDepth 100000 in
theorem bias_at (X : Vec Ideal S4096 .f32) (l : Fin 4096) : shapeCast S1x4096 X shapeCasts_S4096_S1x4096 (ix2 0 l) = X (ix1 l) := by
  pointwise []

theorem V_bias (l : Fin 4096) : V m c main_v2 (ix2 0 l) = (memArgs m c).b l := by
  have e : V m c main_v2 = shapeCast S1x4096 (m ((c : Thread nD τ).loc main_arg4) : Vec Ideal S4096 .f32) shapeCasts_S4096_S1x4096 := rfl
  rw [e]
  exact bias_at _ l

variable (t : Fin cfg0.N)

theorem blk0 (r : Fin 256) (n : Fin 1024) : iblk m c 0 t (ix2 r n) = (memArgs m c).x (row (tile t) r) n := by
  show _ = m ((c : Thread nD τ).loc main_arg0) (ix2 (row (tile t) r) n)
  blk_ext [iblk, V, idx t, row, tile]

theorem blk1 (n : Fin 1024) : iblk m c 1 t (ix2 0 n) = (memArgs m c).g n := by
  rw [← V_gain m c]
  blk_ext [iblk, idx t]

theorem blk2 (n : Fin 1024) (j : Fin 6272) : iblk m c 2 t (ix2 n j) = (memArgs m c).w n j := by
  show _ = m ((c : Thread nD τ).loc main_arg2) (ix2 n j)
  blk_ext [iblk, V, idx t]

theorem blk3 (k : Fin 4) (l : Fin 4096) : iblk m c 3 t (ix2 ⟨k.val, by omega⟩ l) = (memArgs m c).k k l := by
  rw [← V_taps m c]
  blk_ext [iblk, idx t]

theorem blk4 (l : Fin 4096) : iblk m c 4 t (ix2 0 l) = (memArgs m c).b l := by
  rw [← V_bias m c]
  blk_ext [iblk, idx t]

theorem holds : Holds (memArgs m c) (tile t) (iblk m c 0 t) (iblk m c 1 t) (iblk m c 2 t) (iblk m c 3 t) (iblk m c 4 t) :=
  ⟨blk0 m c t, blk1 m c t, blk2 m c t, blk3 m c t, blk4 m c t⟩

/-- No rows come before the first tile. -/
theorem tail_zero (h : t.val % 16 = 0) : Tail (memArgs m c) (tile t) (k0_pay4 (F := Ideal)) := by
  intro j l
  rw [pay4_at]
  have h0 : ¬ 0 < (tile t).val := by have : t.val < 16 := t.isLt; simp only [tile]; omega
  rw [dif_neg h0]

set_option maxHeartbeats 16000000 in
theorem hn_A (h : t.val % 16 = 0) (r : Fin 256) (n : Fin 1024) : (outsAt0 m c t.val t.isLt).2.1 (ix2 r n) = hn (memArgs m c) (row (tile t) r) n := by
  rw [outsAt0_A m c t h]
  frame_open
  simp (disch := decide) only [↓ View.readCov_skip, ↓ View.readCov_cons_toLoadRect, ↓ View.readCov_fill]
  frame_out
  exact hn_of (holds m c t) r n

set_option maxHeartbeats 16000000 in
theorem hn_B (h : ¬ t.val % 16 = 0) (r : Fin 256) (n : Fin 1024) : (outsAt0 m c t.val t.isLt).2.1 (ix2 r n) = hn (memArgs m c) (row (tile t) r) n := by
  rw [outsAt0_B m c t h]
  frame_open
  simp (disch := decide) only [↓ View.readCov_skip, ↓ View.readCov_cons_toLoadRect, ↓ View.readCov_fill]
  frame_out
  exact hn_of (holds m c t) r n

set_option maxHeartbeats 16000000 in
theorem zx_A (h : t.val % 16 = 0) (r : Fin 256) (n : Fin 6272) : (outsAt0 m c t.val t.isLt).1 (ix2 r n) = zx (memArgs m c) (row (tile t) r) n := by
  rw [outsAt0_A m c t h]
  frame_open
  simp (disch := decide) only [↓ View.readCov_skip, ↓ View.readCov_cons_toLoadRect, ↓ View.readCov_fill]
  frame_out
  exact zx_of (holds m c t) r n

set_option maxHeartbeats 16000000 in
theorem zx_B (h : ¬ t.val % 16 = 0) (r : Fin 256) (n : Fin 6272) : (outsAt0 m c t.val t.isLt).1 (ix2 r n) = zx (memArgs m c) (row (tile t) r) n := by
  rw [outsAt0_B m c t h]
  frame_open
  simp (disch := decide) only [↓ View.readCov_skip, ↓ View.readCov_cons_toLoadRect, ↓ View.readCov_fill]
  frame_out
  exact zx_of (holds m c t) r n

set_option maxHeartbeats 16000000 in
theorem tail_A (h : t.val % 16 = 0) : (outsAt0 m c t.val t.isLt).2.2.2 = tailT (memArgs m c) (tile t) := by
  rw [outsAt0_A m c t h]
  frame_open
  simp (disch := decide) only [↓ View.readCov_skip, ↓ View.readCov_cons_toLoadRect, ↓ View.readCov_fill]
  frame_out
  have H := holds m c t
  refine canon_take (s := S8x4096) (e := .f32) (tailT (memArgs m c) (tile t)) 32 _ ?_ (View.cover_of_tiledL _ ![8, 128] (by rfl))
  iterate 32 refine tail_strip (zx_of H) (by decide) (by decide) ?_
  exact trivial

set_option maxHeartbeats 16000000 in
theorem tail_B (h : ¬ t.val % 16 = 0) : (outsAt0 m c t.val t.isLt).2.2.2 = tailT (memArgs m c) (tile t) := by
  rw [outsAt0_B m c t h]
  frame_open
  simp (disch := decide) only [↓ View.readCov_skip, ↓ View.readCov_cons_toLoadRect, ↓ View.readCov_fill]
  frame_out
  have H := holds m c t
  refine canon_take (s := S8x4096) (e := .f32) (tailT (memArgs m c) (tile t)) 32 _ ?_ (View.cover_of_tiledL _ ![8, 128] (by rfl))
  iterate 32 refine tail_strip (zx_of H) (by decide) (by decide) ?_
  exact trivial

theorem tail_eq : (outsAt0 m c t.val t.isLt).2.2.2 = tailT (memArgs m c) (tile t) := by
  by_cases h : t.val % 16 = 0
  · exact tail_A m c t h
  · exact tail_B m c t h

/-- Every later tile is handed the rows before it. -/
theorem tail_prev (h : ¬ t.val % 16 = 0) :
    Tail (memArgs m c) (tile t) (outsAt0 m c (t.val - 1) (Nat.lt_of_le_of_lt (Nat.sub_le _ _) t.isLt)).2.2.2 := by
  intro j l
  have h0 : 0 < (tile t).val := by simp only [tile]; omega
  rw [dif_pos h0]
  refine (congrFun (tail_eq m c ⟨t.val - 1, Nat.lt_of_le_of_lt (Nat.sub_le _ _) t.isLt⟩) (ix2 j l)).trans ?_
  refine congrArg (zx (memArgs m c) · (col l)) (Fin.ext ?_)
  show (t.val - 1) * 256 + (248 + j.val) = t.val * 256 - 8 + j.val
  omega

set_option maxHeartbeats 16000000 in
theorem act_A (h : t.val % 16 = 0) : (outsAt0 m c t.val t.isLt).2.2.1 = actT (memArgs m c) (tile t) := by
  rw [outsAt0_A m c t h]
  frame_open
  simp (disch := decide) only [↓ View.readCov_skip, ↓ View.readCov_cons_toLoadRect, ↓ View.readCov_fill]
  frame_out
  have H := holds m c t
  refine canon_take (s := S256x4096) (e := .f32) (actT (memArgs m c) (tile t)) 32 _ ?_ (View.cover_of_tiledL _ ![256, 128] (by rfl))
  iterate 32 refine act_strip (zx_of H) H.taps H.bias (tail_zero m c t h) (by decide) (by decide) ?_
  exact trivial

set_option maxHeartbeats 16000000 in
theorem act_B (h : ¬ t.val % 16 = 0) : (outsAt0 m c t.val t.isLt).2.2.1 = actT (memArgs m c) (tile t) := by
  rw [outsAt0_B m c t h]
  frame_open
  simp (disch := decide) only [↓ View.readCov_skip, ↓ View.readCov_cons_toLoadRect, ↓ View.readCov_fill]
  frame_out
  simp only [read_unread_whole]
  have H := holds m c t
  refine canon_take (s := S256x4096) (e := .f32) (actT (memArgs m c) (tile t)) 32 _ ?_ (View.cover_of_tiledL _ ![256, 128] (by rfl))
  iterate 32 refine act_strip (zx_of H) H.taps H.bias (tail_prev m c t h) (by decide) (by decide) ?_
  exact trivial

theorem zx_eq (r : Fin 256) (n : Fin 6272) : (outsAt0 m c t.val t.isLt).1 (ix2 r n) = zx (memArgs m c) (row (tile t) r) n := by
  by_cases h : t.val % 16 = 0
  · exact zx_A m c t h r n
  · exact zx_B m c t h r n

theorem hn_eq (r : Fin 256) (n : Fin 1024) : (outsAt0 m c t.val t.isLt).2.1 (ix2 r n) = hn (memArgs m c) (row (tile t) r) n := by
  by_cases h : t.val % 16 = 0
  · exact hn_A m c t h r n
  · exact hn_B m c t h r n

theorem act_eq : (outsAt0 m c t.val t.isLt).2.2.1 = actT (memArgs m c) (tile t) := by
  by_cases h : t.val % 16 = 0
  · exact act_A m c t h
  · exact act_B m c t h

theorem zx_arr : (dats m 0 c).arrAt 5 cfg0.N = fun i : S4096x6272.Idx => zx (memArgs m c) (i 0) (i 1) := by
  refine (dats m 0 c).arrAt_eq_of_covers 5 _ (by decide +kernel) fun t hf y => ?_
  have e0 : win0_5.index t 0 = t.val := by rw [(idx t).2.2.2.2.2.1]; rfl
  have e1 : win0_5.index t 1 = 0 := by rw [(idx t).2.2.2.2.2.1]; rfl
  have h0 : (win0_5.blk t).view.emb y 0 = row (tile t) (y 0) := Fin.ext (by blk_simp; rw [e0]; simp only [row, tile])
  have h1 : (win0_5.blk t).view.emb y 1 = y 1 := Fin.ext (by blk_simp; rw [e1]; omega)
  blk_simp
  rw [after0_5, h0, h1]
  obtain ⟨r, n, rfl⟩ : ∃ (r : Fin 256) (n : Fin 6272), y = ix2 r n := ⟨_, _, eq_ix2 y⟩
  exact zx_eq m c t r n

theorem hn_arr : (dats m 0 c).arrAt 6 cfg0.N = fun i : S4096x1024.Idx => hn (memArgs m c) (i 0) (i 1) := by
  refine (dats m 0 c).arrAt_eq_of_covers 6 _ (by decide +kernel) fun t hf y => ?_
  have e0 : win0_6.index t 0 = t.val := by rw [(idx t).2.2.2.2.2.2.1]; rfl
  have e1 : win0_6.index t 1 = 0 := by rw [(idx t).2.2.2.2.2.2.1]; rfl
  have h0 : (win0_6.blk t).view.emb y 0 = row (tile t) (y 0) := Fin.ext (by blk_simp; rw [e0]; simp only [row, tile])
  have h1 : (win0_6.blk t).view.emb y 1 = y 1 := Fin.ext (by blk_simp; rw [e1]; omega)
  blk_simp
  rw [after0_6, h0, h1]
  obtain ⟨r, n, rfl⟩ : ∃ (r : Fin 256) (n : Fin 1024), y = ix2 r n := ⟨_, _, eq_ix2 y⟩
  exact hn_eq m c t r n

theorem act_arr : (dats m 0 c).arrAt 7 cfg0.N = fun i : S4096x4096.Idx => act (memArgs m c) (i 0) (i 1) := by
  refine (dats m 0 c).arrAt_eq_of_covers 7 _ (by decide +kernel) fun t hf y => ?_
  have e0 : win0_7.index t 0 = t.val := by rw [(idx t).2.2.2.2.2.2.2]; rfl
  have e1 : win0_7.index t 1 = 0 := by rw [(idx t).2.2.2.2.2.2.2]; rfl
  have h0 : (win0_7.blk t).view.emb y 0 = row (tile t) (y 0) := Fin.ext (by blk_simp; rw [e0]; simp only [row, tile])
  have h1 : (win0_7.blk t).view.emb y 1 = y 1 := Fin.ext (by blk_simp; rw [e1]; omega)
  blk_simp
  rw [after0_7, h0, h1, act_eq]
  rfl

theorem run_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v3_0) = (fun i : S4096x6272.Idx => zx (memArgs m c) (i 0) (i 1))
      ∧ r.2.mem ((c.tc : Thread nD τ).loc main_v3_1) = (fun i : S4096x1024.Idx => hn (memArgs m c) (i 0) (i 1))
      ∧ r.2.mem ((c.tc : Thread nD τ).loc main_v3_2) = (fun i : S4096x4096.Idx => act (memArgs m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (zx_arr m c), (h c).2.1.trans (hn_arr m c), (h c).2.2.1.trans (act_arr m c), (h c).2.2.2⟩)
    (Cert.Kernel19Ideal.Value.run_blocks m ρ)

end Kernel

section Reference

open Cert.Reference19Ideal Cert.Reference19Ideal.Gen Cert.Reference19Ideal.Read

variable (x0 : Vec Ideal S4096x1024 .f32) (x1 : Vec Ideal S1024 .f32) (x2 : Vec Ideal S1024x6272 .bf16) (x3 : Vec Ideal S4x4096 .f32)
    (x4 : Vec Ideal S4096 .f32)

theorem v7_at (t : Fin 4096) (z : Fin 1) : val_main_v7 (F := Ideal) x0 (ix2 t z) = rowInv ((args x0 x1 x2 x3 x4).x t) := by
  unfold rowInv rowMsq
  pointwise [val_main_v7, val_main_v6, val_main_v5, val_main_v4, val_main_v3, val_main_v2, val_main_v1, val_main_v0, val_main_cst, val_main_cst_0, val_main_cst_1, args]
  rfl

theorem v12_at (t : Fin 4096) (n : Fin 1024) : val_main_v12 (F := Ideal) x0 x1 (ix2 t n) = hn (args x0 x1 x2 x3 x4) t n := by
  unfold hn
  rw [← v7_at x0 x1 x2 x3 x4 t 0]
  pointwise [val_main_v12, val_main_v11, val_main_v10, val_main_v9, val_main_v8, args]

theorem v14_at (t : Fin 4096) (j : Fin 6272) : val_main_v14 (F := Ideal) x0 x1 x2 (ix2 t j) = zx (args x0 x1 x2 x3 x4) t j := by
  unfold zx
  simp only [← v12_at]
  pointwise [val_main_v14, val_main_v13, args]

theorem v15_at (t : Fin 4096) (n : Fin 1024) : val_main_v15 (F := Ideal) x0 x1 (ix2 t n) = hn (args x0 x1 x2 x3 x4) t n := by
  rw [← v12_at]
  pointwise [val_main_v15]

theorem v16_at (t : Fin 4096) (c : Fin 4096) : val_main_v16 (F := Ideal) x0 x1 x2 (ix2 t c) = zx (args x0 x1 x2 x3 x4) t (col c) := by
  rw [← v14_at]
  generalize hf : val_main_v14 (F := Ideal) x0 x1 x2 = f
  pointwise [val_main_v16, hf]
  rfl

/-- Three rows of zeros come before the sequence. -/
theorem v18_at (t : Fin 4099) (c : Fin 4096) : val_main_v18 (F := Ideal) x0 x1 x2 (ix2 t c)
    = if h : t.val < 3 then 0 else zx (args x0 x1 x2 x3 x4) ⟨t.val - 3, by omega⟩ (col c) := by
  simp only [← v16_at]
  generalize hf : val_main_v16 (F := Ideal) x0 x1 x2 = f
  pointwise [val_main_v18, val_main_v17, val_main_cst_2, hf]

/-- Row `t` of the rows from row `3 - k` on is the row `k` rows back. -/
theorem inp_at (k : ℕ) (hk : k ≤ 3) (t : Fin 4096) (c : Fin 4096) (l : Fin 4099) (hl : l.val = 3 - k + t.val) :
    val_main_v18 (F := Ideal) x0 x1 x2 (ix2 l c) = inp (args x0 x1 x2 x3 x4) k t c := by
  rw [v18_at x0 x1 x2 x3 x4]
  unfold inp
  by_cases h : k ≤ t.val
  · rw [dif_neg (by omega), dif_pos h]
    exact congrArg (zx _ · _) (Fin.ext (by show l.val - 3 = t.val - k; omega))
  · rw [dif_pos (by omega), dif_neg h]

theorem v48_at (t : Fin 4096) (c : Fin 4096) : val_main_v48 (F := Ideal) x0 x1 x2 x3 x4 (ix2 t c) = conv (args x0 x1 x2 x3 x4) t c := by
  unfold conv
  rw [← inp_at x0 x1 x2 x3 x4 3 (by decide) t c ⟨t.val, by omega⟩ (by show t.val = 3 - 3 + t.val; omega),
    ← inp_at x0 x1 x2 x3 x4 2 (by decide) t c ⟨1 + t.val, by omega⟩ rfl, ← inp_at x0 x1 x2 x3 x4 1 (by decide) t c ⟨2 + t.val, by omega⟩ rfl,
    ← inp_at x0 x1 x2 x3 x4 0 (by decide) t c ⟨3 + t.val, by omega⟩ rfl]
  generalize hf : val_main_v18 (F := Ideal) x0 x1 x2 = f
  pointwise [val_main_v48, val_main_v47, val_main_v46, val_main_v45, val_main_v44, val_main_v43, val_main_v42, val_main_v41, val_main_v40, val_main_v39,
    val_main_v38, val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20, val_main_v19, args, hf]

theorem v49_at (t : Fin 4096) (c : Fin 4096) : val_main_v49 (F := Ideal) x0 x1 x2 x3 x4 (ix2 t c) = act (args x0 x1 x2 x3 x4) t c := by
  unfold act
  rw [← v48_at]
  pointwise [val_main_v49, val_main_call0_v5, val_main_call0_v4, val_main_call0_v3, val_main_call0_v2, val_main_call0_v1,
    val_main_call0_v0, val_main_call0_cst, val_main_call0_cst_0]
  rfl

theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = (fun i : S4096x6272.Idx => zx (args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (i 0) (i 1))
      ∧ r.2.mem ((c.tc : Thread nD τ).loc main_v15) = (fun i : S4096x1024.Idx => hn (args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (i 0) (i 1))
      ∧ r.2.mem ((c.tc : Thread nD τ).loc main_v49) = (fun i : S4096x4096.Idx => act (args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).1.trans (val_main_v14_eq ..)).trans (funext fun i => (congrArg _ (eq_ix2 i)).trans (v14_at _ _ _ _ _ _ _)),
      ((h c).2.1.trans (val_main_v15_eq ..)).trans (funext fun i => (congrArg _ (eq_ix2 i)).trans (v15_at _ _ _ _ _ _ _)),
      ((h c).2.2.1.trans (val_main_v49_eq ..)).trans (funext fun i => (congrArg _ (eq_ix2 i)).trans (v49_at _ _ _ _ _ _ _)),
      (h c).2.2.2⟩) (Cert.Reference19Ideal.Value.run m ρ)

end Reference

theorem algebraic : Cert.algebraic_Kernel19Ideal_Reference19Ideal (hKernel19Ideal := Cert.Kernel19Ideal.Gen.facts)
    (hReference19Ideal := Cert.Reference19Ideal.Gen.facts) := by
  intro m g m' g' _ hagree
  refine ⟨_, _, _, run_kernel m g, (θ_run _ _ _).mono (fun r h c => ?_) (run_reference m' g')⟩
  obtain ⟨a0, a1, a2, a3, a4⟩ := hagree c
  obtain ⟨h0, h1, h2, hk⟩ := h c
  rw [a0, a1, a2, a3, a4] at h0 h1 h2
  exact ⟨h0, h1, h2, hk⟩

theorem frame_reference : Cert.quiescent_Reference19Ideal (hReference19Ideal := Cert.Reference19Ideal.Gen.facts) := by
  intro m g _
  exact (θ_run _ _ _).mono (fun r h => ⟨fun c => (h c).2.2.2, sem_eq_zero_of_no_sems (by decide) r.2⟩) (run_reference m g)

end Cert.SsdIn

end
-- ==== Proof.lean ====
/-
  The claim, from the two programs' runs: the call leaves, and the reference computes, the functions of the arguments
  that the specification names, when every argument is a real number.
-/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Arrays
public import proofs.«01_k».proof.Proof.Finite
public import proofs.«01_k».proof.Proof.DownDw
public import proofs.«01_k».proof.Proof.UpDw
public import proofs.«01_k».proof.Proof.UpDx
public import proofs.«01_k».proof.Proof.ScMid
public import proofs.«01_k».proof.Proof.Down
public import proofs.«01_k».proof.Proof.Up
public import proofs.«01_k».proof.Proof.SsdInDx
public import proofs.«01_k».proof.Proof.SsdInDw
public import proofs.«01_k».proof.Proof.ScInDx
public import proofs.«01_k».proof.Proof.ScInDw
public import proofs.«01_k».proof.Proof.ScOutDx
public import proofs.«01_k».proof.Proof.ScOutDw
public import proofs.«01_k».proof.Proof.SsdOutDx
public import proofs.«01_k».proof.Proof.SsdOutDw
public import proofs.«01_k».proof.Proof.SsdOut
public import proofs.«01_k».proof.Proof.ScOut
public import proofs.«01_k».proof.Proof.ScIn
public import proofs.«01_k».proof.Proof.SsdIn
public import proofs.«01_k».proof.Proof.RefValue
public import Idealize.ShloMosaic.Adequacy
public import Idealize.ShloMosaic.Init

@[expose] public section

noncomputable section

namespace Cert.Proof

open Idealize.ShloMosaic Idealize.SL.Sem Cert.FfnGrad

section Reference

open Cert.ReferenceIdeal Cert.ReferenceIdeal.Read

theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v119) = val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v120) = val_main_v120 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v121) = val_main_v121 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v118) = val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (val_main_v119_eq _), (h c).2.1.trans (val_main_v120_eq _), (h c).2.2.1.trans (val_main_v121_eq _),
    (h c).2.2.2.1.trans (val_main_v118_eq _), (h c).2.2.2.2⟩) (Cert.ReferenceIdeal.Value.run m ρ)

variable (x0 : Vec Ideal S2x4096x2816 .bf16) (x1 : Vec Ideal S3x2816 .f32) (x2 : Vec Ideal S2816 .f32) (x3 : Vec Ideal S2816x1024 .bf16)
  (x4 : Vec Ideal S1024 .f32) (x5 : Vec Ideal S4096x1024 .f32) (hA : AllReal (Grad.args x0 x1 x2 x3 x4 x5))

include hA in
theorem dup_eq : val_main_v119 (F := Ideal) x0 x1 x2 x3 x4 x5 = fun i : S2x4096x2816.Idx =>
    if (i 0).val = 0 then dup0 (Grad.args x0 x1 x2 x3 x4 x5) (i 1) (i 2) else dup1 (Grad.args x0 x1 x2 x3 x4 x5) (i 1) (i 2) := by
  funext i
  obtain ⟨p, t, l, rfl⟩ : ∃ (p : Fin 2) (t : Fin 4096) (l : Fin 2816), i = ix3 p t l := ⟨_, _, _, eq_ix3 i⟩
  match p with
  | 0 => exact Grad.v119_at x0 x1 x2 x3 x4 x5 hA t l
  | 1 => exact Grad.v119_at' x0 x1 x2 x3 x4 x5 hA t l

include hA in
theorem df_eq : val_main_v120 (F := Ideal) x0 x1 x2 x3 x4 x5 = fun i : S4096x1024.Idx => df (Grad.args x0 x1 x2 x3 x4 x5) (i 0) (i 1) := by
  funext i
  obtain ⟨t, n, rfl⟩ : ∃ (t : Fin 4096) (n : Fin 1024), i = ix2 t n := ⟨_, _, eq_ix2 i⟩
  exact Grad.v70_at x0 x1 x2 x3 x4 x5 hA t n

theorem dg_eq : val_main_v121 (F := Ideal) x0 x1 x2 x3 x5 = fun i : S1x1024.Idx => dg (Grad.args x0 x1 x2 x3 x4 x5) (i 1) := by
  funext i
  obtain ⟨z, n, rfl⟩ : ∃ (z : Fin 1) (n : Fin 1024), i = ix2 z n := ⟨_, _, eq_ix2 i⟩
  exact Grad.v121_at x0 x1 x2 x3 x4 x5 z n

include hA in
theorem stats_eq : val_main_v118 (F := Ideal) x0 x1 x2 x3 x4 x5 = fun i : S8x2816.Idx => stats (Grad.args x0 x1 x2 x3 x4 x5) (i 0) (i 1) := by
  funext i
  obtain ⟨j, l, rfl⟩ : ∃ (j : Fin 8) (l : Fin 2816), i = ix2 j l := ⟨_, _, eq_ix2 i⟩
  exact Grad.v118_at x0 x1 x2 x3 x4 x5 hA j l

end Reference

section Kernel

open Cert.KernelIdeal Cert.KernelIdeal.Gen Cert.KernelIdeal.Grad

theorem run_kernel (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v37_0) = (fun i : S2x4096x2816.Idx => if (i 0).val = 0 then dup0 (memArgs m c) (i 1) (i 2) else dup1 (memArgs m c) (i 1) (i 2))
      ∧ r.2.mem ((c.tc : Thread nD τ).loc main_v37_1) = (fun i : S4096x1024.Idx => df (memArgs m c) (i 0) (i 1))
      ∧ r.2.mem ((c.tc : Thread nD τ).loc main_v37_2) = (fun i : S1x1024.Idx => dg (memArgs m c) (i 1))
      ∧ r.2.mem ((c.tc : Thread nD τ).loc main_v37_3) = (fun i : S8x2816.Idx => stats (memArgs m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (dup_arr m c), (h c).2.1.trans (df_arr m c), (h c).2.2.1.trans (dg_arr m c),
    (h c).2.2.2.1.trans (stats_arr m c), (h c).2.2.2.2⟩) (Cert.KernelIdeal.Value.run_blocks m ρ)

end Kernel

theorem algebraic : Cert.algebraic_KernelIdeal_ReferenceIdeal_pre_all_finite (hKernelIdeal := Cert.KernelIdeal.Gen.facts)
    (hReferenceIdeal := Cert.ReferenceIdeal.Gen.facts) (hPre_all_finite := Cert.Pre_all_finite.facts) := by
  intro m g m' g' hpre hagree
  refine ⟨_, _, _, _, run_kernel m g, (θ_run _ _ _).mono (fun r h c => ?_) (run_reference m' g')⟩
  have hA : AllReal (Cert.KernelIdeal.Grad.memArgs m c) := @Cert.Pre_all_finite.allReal Cert.Pre_all_finite.facts _ _ _ _ _ _ (hpre c)
  obtain ⟨a0, a1, a2, a3, a4, a5⟩ := hagree c
  obtain ⟨h0, h1, h2, h3, hk⟩ := h c
  rw [a0, a1, a2, a3, a4, a5] at h0 h1 h3
  rw [a0, a1, a2, a3, a5] at h2
  exact ⟨h0.trans (dup_eq _ _ _ _ _ _ hA), h1.trans (df_eq _ _ _ _ _ _ hA), h2.trans (dg_eq _ _ _ _ _ _), h3.trans (stats_eq _ _ _ _ _ _ hA), hk⟩

theorem frame_reference : Cert.quiescent_ReferenceIdeal (hReferenceIdeal := Cert.ReferenceIdeal.Gen.facts) := by
  intro m g _
  exact (θ_run _ _ _).mono (fun r h => ⟨fun c => (h c).2.2.2.2, sem_eq_zero_of_no_sems (by decide) r.2⟩) (run_reference m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Pre_all_finite.facts, Cert.UpDx.pre_facts, Cert.SsdInDx.pre_facts, Cert.ScInDx.pre_facts, Cert.ScOutDx.pre_facts, Cert.SsdOutDx.pre_facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, fun m ρ _ => Cert.Kernel2Ideal.Gen.frame m ρ,
    Cert.UpDx.frame_reference, fun m ρ _ => Cert.UpDx.frame_reference m ρ trivial,
    fun m ρ _ => Cert.Kernel3.Gen.frame m ρ, fun m ρ _ => Cert.Kernel3Ideal.Gen.frame m ρ, Cert.UpDw.frame_reference,
    fun m ρ _ => Cert.Kernel4.Gen.frame m ρ, fun m ρ _ => Cert.Kernel4Ideal.Gen.frame m ρ, Cert.DownDw.frame_reference,
    fun m ρ _ => Cert.Kernel5.Gen.frame m ρ, fun m ρ _ => Cert.Kernel5Ideal.Gen.frame m ρ, Cert.ScMid.frame_reference,
    fun m ρ _ => Cert.Kernel6.Gen.frame m ρ, fun m ρ _ => Cert.Kernel6Ideal.Gen.frame m ρ, Cert.Down.frame_reference,
    fun m ρ _ => Cert.Kernel7.Gen.frame m ρ, fun m ρ _ => Cert.Kernel7Ideal.Gen.frame m ρ, Cert.Up.frame_reference,
    fun m ρ _ => Cert.Kernel8.Gen.frame m ρ, fun m ρ _ => Cert.Kernel8Ideal.Gen.frame m ρ, fun m ρ _ => Cert.Kernel8Ideal.Gen.frame m ρ,
    Cert.SsdInDx.frame_reference, fun m ρ _ => Cert.SsdInDx.frame_reference m ρ trivial,
    fun m ρ _ => Cert.Kernel9.Gen.frame m ρ, fun m ρ _ => Cert.Kernel9Ideal.Gen.frame m ρ, Cert.SsdInDw.frame_reference,
    fun m ρ _ => Cert.Kernel10.Gen.frame m ρ, fun m ρ _ => Cert.Kernel10Ideal.Gen.frame m ρ, fun m ρ _ => Cert.Kernel10Ideal.Gen.frame m ρ,
    Cert.ScInDx.frame_reference, fun m ρ _ => Cert.ScInDx.frame_reference m ρ trivial,
    fun m ρ _ => Cert.Kernel11.Gen.frame m ρ, fun m ρ _ => Cert.Kernel11Ideal.Gen.frame m ρ, Cert.ScInDw.frame_reference,
    fun m ρ _ => Cert.Kernel12.Gen.frame m ρ, fun m ρ _ => Cert.Kernel12Ideal.Gen.frame m ρ, fun m ρ _ => Cert.Kernel12Ideal.Gen.frame m ρ,
    Cert.ScOutDx.frame_reference, fun m ρ _ => Cert.ScOutDx.frame_reference m ρ trivial,
    fun m ρ _ => Cert.Kernel13.Gen.frame m ρ, fun m ρ _ => Cert.Kernel13Ideal.Gen.frame m ρ, Cert.ScOutDw.frame_reference,
    fun m ρ _ => Cert.Kernel14.Gen.frame m ρ, fun m ρ _ => Cert.Kernel14Ideal.Gen.frame m ρ, fun m ρ _ => Cert.Kernel14Ideal.Gen.frame m ρ,
    Cert.SsdOutDx.frame_reference, fun m ρ _ => Cert.SsdOutDx.frame_reference m ρ trivial,
    fun m ρ _ => Cert.Kernel15.Gen.frame m ρ, fun m ρ _ => Cert.Kernel15Ideal.Gen.frame m ρ, Cert.SsdOutDw.frame_reference,
    fun m ρ _ => Cert.Kernel16.Gen.frame m ρ, fun m ρ _ => Cert.Kernel16Ideal.Gen.frame m ρ, Cert.SsdOut.frame_reference,
    fun m ρ _ => Cert.Kernel17.Gen.frame m ρ, fun m ρ _ => Cert.Kernel17Ideal.Gen.frame m ρ, Cert.ScOut.frame_reference,
    fun m ρ _ => Cert.Kernel18.Gen.frame m ρ, fun m ρ _ => Cert.Kernel18Ideal.Gen.frame m ρ, Cert.ScIn.frame_reference,
    fun m ρ _ => Cert.Kernel19.Gen.frame m ρ, fun m ρ _ => Cert.Kernel19Ideal.Gen.frame m ρ, Cert.SsdIn.frame_reference,
    trivial, algebraic, trivial, Cert.UpDx.algebraic, trivial, Cert.UpDw.algebraic, trivial, Cert.DownDw.algebraic,
    trivial, Cert.ScMid.algebraic, trivial, Cert.Down.algebraic, trivial, Cert.Up.algebraic,
    trivial, Cert.SsdInDx.algebraic, trivial, Cert.SsdInDw.algebraic, trivial, Cert.ScInDx.algebraic,
    trivial, Cert.ScInDw.algebraic, trivial, Cert.ScOutDx.algebraic, trivial, Cert.ScOutDw.algebraic,
    trivial, Cert.SsdOutDx.algebraic, trivial, Cert.SsdOutDw.algebraic, trivial, Cert.SsdOut.algebraic,
    trivial, Cert.ScOut.algebraic, trivial, Cert.ScIn.algebraic, trivial, Cert.SsdIn.algebraic⟩

end Cert.Proof

end
